-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_fwd_finite [hPre_fwd_finite : Cert.Pre_fwd_finite.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_fwd_finite.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_fwd_finite [hPre_fwd_finite : Cert.Pre_fwd_finite.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_fwd_finite.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyRefIdeal (m : (ℓ : Loc Cert.OutDyRefIdeal.nD Cert.OutDyRefIdeal.τ Cert.OutDyRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_WadaRefIdeal (m : (ℓ : Loc Cert.WadaRefIdeal.nD Cert.WadaRefIdeal.τ Cert.WadaRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1))
      ∧ r.2.sem = fun _ => 0)

def quiescent_SbFwdIdeal_pre_fwd_finite [hSbFwdIdeal : Cert.SbFwdIdeal.Facts] [hPre_fwd_finite : Cert.Pre_fwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_fwd_finite m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1))
      ∧ r.2.sem = fun _ => 0)

def quiescent_SbFwdRefIdeal_pre_fwd_finite [hSbFwdRefIdeal : Cert.SbFwdRefIdeal.Facts] [hPre_fwd_finite : Cert.Pre_fwd_finite.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_fwd_finite m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ r.2.sem = fun _ => 0)

def quiescent_OutDyRefIdeal [hOutDyRefIdeal : Cert.OutDyRefIdeal.Facts] : Prop :=
  ∀ (m : (ℓ : Loc Cert.OutDyRefIdeal.nD Cert.OutDyRefIdeal.τ Cert.OutDyRefIdeal.sig) → Buf (Elt Ideal) ℓ) (g : Dev Cert.OutDyRefIdeal.nD → PrngReg), Pre_OutDyRefIdeal m →
    θ_run (Cert.OutDyRefIdeal.defs (F := Ideal)) (onTc (τ := Cert.OutDyRefIdeal.τ) (Cert.OutDyRefIdeal.main (F := Ideal))) ⟨m, fun _ => 0, g⟩ (fun r => (∀ c : Dev Cert.OutDyRefIdeal.nD,
      r.2.mem ((c.tc : Thread Cert.OutDyRefIdeal.nD Cert.OutDyRefIdeal.τ).loc Cert.OutDyRefIdeal.main_arg0) = m ((c.tc : Thread Cert.OutDyRefIdeal.nD Cert.OutDyRefIdeal.τ).loc Cert.OutDyRefIdeal.main_arg0)
      ∧ r.2.mem ((c.tc : Thread Cert.OutDyRefIdeal.nD Cert.OutDyRefIdeal.τ).loc Cert.OutDyRefIdeal.main_arg1) = m ((c.tc : Thread Cert.OutDyRefIdeal.nD Cert.OutDyRefIdeal.τ).loc Cert.OutDyRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1)
      ∧ r.2.mem ((c.tc : Thread Cert.Wada.nD Cert.Wada.τ).loc Cert.Wada.main_arg2) = m ((c.tc : Thread Cert.Wada.nD Cert.Wada.τ).loc Cert.Wada.main_arg2)
      ∧ r.2.mem ((c.tc : Thread Cert.Wada.nD Cert.Wada.τ).loc Cert.Wada.main_arg3) = m ((c.tc : Thread Cert.Wada.nD Cert.Wada.τ).loc Cert.Wada.main_arg3)
      ∧ r.2.mem ((c.tc : Thread Cert.Wada.nD Cert.Wada.τ).loc Cert.Wada.main_arg4) = m ((c.tc : Thread Cert.Wada.nD Cert.Wada.τ).loc Cert.Wada.main_arg4))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
      ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
      ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
      ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ r.2.sem = fun _ => 0)

def quiescent_WadaRefIdeal [hWadaRefIdeal : Cert.WadaRefIdeal.Facts] : Prop :=
  ∀ (m : (ℓ : Loc Cert.WadaRefIdeal.nD Cert.WadaRefIdeal.τ Cert.WadaRefIdeal.sig) → Buf (Elt Ideal) ℓ) (g : Dev Cert.WadaRefIdeal.nD → PrngReg), Pre_WadaRefIdeal m →
    θ_run (Cert.WadaRefIdeal.defs (F := Ideal)) (onTc (τ := Cert.WadaRefIdeal.τ) (Cert.WadaRefIdeal.main (F := Ideal))) ⟨m, fun _ => 0, g⟩ (fun r => (∀ c : Dev Cert.WadaRefIdeal.nD,
      r.2.mem ((c.tc : Thread Cert.WadaRefIdeal.nD Cert.WadaRefIdeal.τ).loc Cert.WadaRefIdeal.main_arg0) = m ((c.tc : Thread Cert.WadaRefIdeal.nD Cert.WadaRefIdeal.τ).loc Cert.WadaRefIdeal.main_arg0)
      ∧ r.2.mem ((c.tc : Thread Cert.WadaRefIdeal.nD Cert.WadaRefIdeal.τ).loc Cert.WadaRefIdeal.main_arg1) = m ((c.tc : Thread Cert.WadaRefIdeal.nD Cert.WadaRefIdeal.τ).loc Cert.WadaRefIdeal.main_arg1)
      ∧ r.2.mem ((c.tc : Thread Cert.WadaRefIdeal.nD Cert.WadaRefIdeal.τ).loc Cert.WadaRefIdeal.main_arg2) = m ((c.tc : Thread Cert.WadaRefIdeal.nD Cert.WadaRefIdeal.τ).loc Cert.WadaRefIdeal.main_arg2)
      ∧ r.2.mem ((c.tc : Thread Cert.WadaRefIdeal.nD Cert.WadaRefIdeal.τ).loc Cert.WadaRefIdeal.main_arg3) = m ((c.tc : Thread Cert.WadaRefIdeal.nD Cert.WadaRefIdeal.τ).loc Cert.WadaRefIdeal.main_arg3)
      ∧ r.2.mem ((c.tc : Thread Cert.WadaRefIdeal.nD Cert.WadaRefIdeal.τ).loc Cert.WadaRefIdeal.main_arg4) = m ((c.tc : Thread Cert.WadaRefIdeal.nD Cert.WadaRefIdeal.τ).loc Cert.WadaRefIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20))
      ∧ r.2.sem = fun _ => 0)

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v6_0)) (v1 : (c : Dev Cert.NormIdeal.nD) → Buf (Elt Ideal) ((c.tc : Thread Cert.NormIdeal.nD Cert.NormIdeal.τ).loc Cert.NormIdeal.main_v6_1)) (v2 : (c : Dev Cert.NormIdeal.nD) → Buf (Elt Ideal) ((c.tc : Thread Cert.NormIdeal.nD Cert.NormIdeal.τ).loc Cert.NormIdeal.main_v6_2)) (v3 : (c : Dev Cert.NormIdeal.nD) → Buf (Elt Ideal) ((c.tc : Thread Cert.NormIdeal.nD Cert.NormIdeal.τ).loc Cert.NormIdeal.main_v6_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6_0) = v0 c
          ∧ r.2.mem ((c.tc : Thread Cert.NormIdeal.nD Cert.NormIdeal.τ).loc Cert.NormIdeal.main_v6_1) = v1 c
          ∧ r.2.mem ((c.tc : Thread Cert.NormIdeal.nD Cert.NormIdeal.τ).loc Cert.NormIdeal.main_v6_2) = v2 c
          ∧ r.2.mem ((c.tc : Thread Cert.NormIdeal.nD Cert.NormIdeal.τ).loc Cert.NormIdeal.main_v6_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v58) = v0 c
          ∧ r.2.mem ((c.tc : Thread Cert.NormRefIdeal.nD Cert.NormRefIdeal.τ).loc Cert.NormRefIdeal.main_v60) = v1 c
          ∧ r.2.mem ((c.tc : Thread Cert.NormRefIdeal.nD Cert.NormRefIdeal.τ).loc Cert.NormRefIdeal.main_v61) = v2 c
          ∧ r.2.mem ((c.tc : Thread Cert.NormRefIdeal.nD Cert.NormRefIdeal.τ).loc Cert.NormRefIdeal.main_v59) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v8_0)) (v1 : (c : Dev Cert.LossIdeal.nD) → Buf (Elt Ideal) ((c.tc : Thread Cert.LossIdeal.nD Cert.LossIdeal.τ).loc Cert.LossIdeal.main_v8_1)) (v2 : (c : Dev Cert.LossIdeal.nD) → Buf (Elt Ideal) ((c.tc : Thread Cert.LossIdeal.nD Cert.LossIdeal.τ).loc Cert.LossIdeal.main_v8_2)) (v3 : (c : Dev Cert.LossIdeal.nD) → Buf (Elt Ideal) ((c.tc : Thread Cert.LossIdeal.nD Cert.LossIdeal.τ).loc Cert.LossIdeal.main_v8_3)) (v4 : (c : Dev Cert.LossIdeal.nD) → Buf (Elt Ideal) ((c.tc : Thread Cert.LossIdeal.nD Cert.LossIdeal.τ).loc Cert.LossIdeal.main_v8_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v8_0) = v0 c
          ∧ r.2.mem ((c.tc : Thread Cert.LossIdeal.nD Cert.LossIdeal.τ).loc Cert.LossIdeal.main_v8_1) = v1 c
          ∧ r.2.mem ((c.tc : Thread Cert.LossIdeal.nD Cert.LossIdeal.τ).loc Cert.LossIdeal.main_v8_2) = v2 c
          ∧ r.2.mem ((c.tc : Thread Cert.LossIdeal.nD Cert.LossIdeal.τ).loc Cert.LossIdeal.main_v8_3) = v3 c
          ∧ r.2.mem ((c.tc : Thread Cert.LossIdeal.nD Cert.LossIdeal.τ).loc Cert.LossIdeal.main_v8_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v58) = v0 c
          ∧ r.2.mem ((c.tc : Thread Cert.LossRefIdeal.nD Cert.LossRefIdeal.τ).loc Cert.LossRefIdeal.main_v65) = v1 c
          ∧ r.2.mem ((c.tc : Thread Cert.LossRefIdeal.nD Cert.LossRefIdeal.τ).loc Cert.LossRefIdeal.main_v66) = v2 c
          ∧ r.2.mem ((c.tc : Thread Cert.LossRefIdeal.nD Cert.LossRefIdeal.τ).loc Cert.LossRefIdeal.main_v67) = v3 c
          ∧ r.2.mem ((c.tc : Thread Cert.LossRefIdeal.nD Cert.LossRefIdeal.τ).loc Cert.LossRefIdeal.main_v69) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Sb_SbIdeal : Prop :=
  IdealRules.named_const.Statement Cert.SbIdeal.κ "logit" .f32 0x3E0293EE#32 (((11863283 / 134217728) * (Real.log 2)⁻¹ : ℝ) : EReal)
  ∧ IdealRules.named_const.Statement Cert.SbIdeal.κ "mask" .f32 0xF149F2CA#32 ⊥
  ∧ IdealRules.named_const.Statement Cert.SbIdeal.κ "log2e" .f32 0x3FB8AA3B#32 (((Real.log 2)⁻¹ : ℝ) : EReal)

def algebraic_SbIdeal_SbRefIdeal_on_sb_written_pre_sb_finite [hSbIdeal : Cert.SbIdeal.Facts] [hSbRefIdeal : Cert.SbRefIdeal.Facts] [hPre_sb_finite : Cert.Pre_sb_finite.Facts] [hOn_sb_written : Cert.On_sb_written.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v59_0)) (v1 : (c : Dev Cert.SbIdeal.nD) → Buf (Elt Ideal) ((c.tc : Thread Cert.SbIdeal.nD Cert.SbIdeal.τ).loc Cert.SbIdeal.main_v59_1)),
      θ_run (Cert.SbIdeal.defs (F := Ideal)) (onTc (τ := Cert.SbIdeal.τ) (Cert.SbIdeal.main (F := Ideal))) ⟨m, fun _ => 0, g⟩ (fun r => ∀ c : Dev Cert.SbIdeal.nD,
          (∀ i : (⟨4, ![8, 2, 2048, 2048]⟩ : Shape).Idx, (Cert.On_sb_written.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).1 i = 1#1 → r.2.mem ((c.tc : Thread Cert.SbIdeal.nD Cert.SbIdeal.τ).loc Cert.SbIdeal.main_v59_0) i = v0 c i)
          ∧ (∀ i : (⟨3, ![2, 1, 2048]⟩ : Shape).Idx, (Cert.On_sb_written.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).2 i = 1#1 → r.2.mem ((c.tc : Thread Cert.SbIdeal.nD Cert.SbIdeal.τ).loc Cert.SbIdeal.main_v59_1) i = v1 c i)
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          (∀ i : (⟨4, ![8, 2, 2048, 2048]⟩ : Shape).Idx, (Cert.On_sb_written.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).1 i = 1#1 → r.2.mem ((c.tc : Thread Cert.SbRefIdeal.nD Cert.SbRefIdeal.τ).loc Cert.SbRefIdeal.main_v104) i = v0 c i)
          ∧ (∀ i : (⟨3, ![2, 1, 2048]⟩ : Shape).Idx, (Cert.On_sb_written.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).2 i = 1#1 → r.2.mem ((c.tc : Thread Cert.SbRefIdeal.nD Cert.SbRefIdeal.τ).loc Cert.SbRefIdeal.main_v55) i = v1 c i)
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_SbFwd_SbFwdIdeal : Prop :=
  IdealRules.named_const.Statement Cert.SbFwdIdeal.κ "dead" .f32 0xC3200000#32 ⊥
  ∧ IdealRules.named_const.Statement Cert.SbFwdIdeal.κ "logit" .f32 0x3E0293EE#32 (((11863283 / 134217728) * (Real.log 2)⁻¹ : ℝ) : EReal)
  ∧ IdealRules.named_const.Statement Cert.SbFwdIdeal.κ "mask" .f32 0xF149F2CA#32 ⊥
  ∧ IdealRules.named_const.Statement Cert.SbFwdIdeal.κ "log2e" .f32 0x3FB8AA3B#32 (((Real.log 2)⁻¹ : ℝ) : EReal)

def algebraic_SbFwdIdeal_SbFwdRefIdeal_on_fwd_written_pre_fwd_finite [hSbFwdIdeal : Cert.SbFwdIdeal.Facts] [hSbFwdRefIdeal : Cert.SbFwdRefIdeal.Facts] [hPre_fwd_finite : Cert.Pre_fwd_finite.Facts] [hOn_fwd_written : Cert.On_fwd_written.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_fwd_finite m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)) →
    ∃ (v0 : (c : Dev Cert.SbFwdIdeal.nD) → Buf (Elt Ideal) ((c.tc : Thread Cert.SbFwdIdeal.nD Cert.SbFwdIdeal.τ).loc Cert.SbFwdIdeal.main_v2_0)) (v1 : (c : Dev Cert.SbFwdIdeal.nD) → Buf (Elt Ideal) ((c.tc : Thread Cert.SbFwdIdeal.nD Cert.SbFwdIdeal.τ).loc Cert.SbFwdIdeal.main_v2_1)) (v2 : (c : Dev Cert.SbFwdIdeal.nD) → Buf (Elt Ideal) ((c.tc : Thread Cert.SbFwdIdeal.nD Cert.SbFwdIdeal.τ).loc Cert.SbFwdIdeal.main_v2_2)) (v3 : (c : Dev Cert.SbFwdIdeal.nD) → Buf (Elt Ideal) ((c.tc : Thread Cert.SbFwdIdeal.nD Cert.SbFwdIdeal.τ).loc Cert.SbFwdIdeal.main_v2_3)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          (∀ i : (⟨3, ![2, 2048, 2048]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).1 i = 1#1 → r.2.mem ((c.tc : Thread Cert.SbFwdIdeal.nD Cert.SbFwdIdeal.τ).loc Cert.SbFwdIdeal.main_v2_0) i = v0 c i)
          ∧ (∀ i : (⟨3, ![2, 2048, 2048]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).2.1 i = 1#1 → r.2.mem ((c.tc : Thread Cert.SbFwdIdeal.nD Cert.SbFwdIdeal.τ).loc Cert.SbFwdIdeal.main_v2_1) i = v1 c i)
          ∧ (∀ i : (⟨4, ![2, 2, 2048, 2048]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).2.2.1 i = 1#1 → r.2.mem ((c.tc : Thread Cert.SbFwdIdeal.nD Cert.SbFwdIdeal.τ).loc Cert.SbFwdIdeal.main_v2_2) i = v2 c i)
          ∧ (∀ i : (⟨4, ![2, 16, 1, 4]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).2.2.2 i = 1#1 → r.2.mem ((c.tc : Thread Cert.SbFwdIdeal.nD Cert.SbFwdIdeal.τ).loc Cert.SbFwdIdeal.main_v2_3) i = v3 c i)
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          (∀ i : (⟨3, ![2, 2048, 2048]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).1 i = 1#1 → r.2.mem ((c.tc : Thread Cert.SbFwdRefIdeal.nD Cert.SbFwdRefIdeal.τ).loc Cert.SbFwdRefIdeal.main_v30) i = v0 c i)
          ∧ (∀ i : (⟨3, ![2, 2048, 2048]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).2.1 i = 1#1 → r.2.mem ((c.tc : Thread Cert.SbFwdRefIdeal.nD Cert.SbFwdRefIdeal.τ).loc Cert.SbFwdRefIdeal.main_v50) i = v1 c i)
          ∧ (∀ i : (⟨4, ![2, 2, 2048, 2048]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).2.2.1 i = 1#1 → r.2.mem ((c.tc : Thread Cert.SbFwdRefIdeal.nD Cert.SbFwdRefIdeal.τ).loc Cert.SbFwdRefIdeal.main_v77) i = v2 c i)
          ∧ (∀ i : (⟨4, ![2, 16, 1, 4]⟩ : Shape).Idx, (Cert.On_fwd_written.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))).2.2.2 i = 1#1 → r.2.mem ((c.tc : Thread Cert.SbFwdRefIdeal.nD Cert.SbFwdRefIdeal.τ).loc Cert.SbFwdRefIdeal.main_v73) i = v3 c i)
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v6)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v6) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v25) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v3) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDy_OutDyIdeal : Prop :=
  True

def algebraic_OutDyIdeal_OutDyRefIdeal [hOutDyIdeal : Cert.OutDyIdeal.Facts] [hOutDyRefIdeal : Cert.OutDyRefIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyRefIdeal.nD Cert.OutDyRefIdeal.τ Cert.OutDyRefIdeal.sig) → Buf (Elt Ideal) ℓ) (g' : Dev Cert.OutDyRefIdeal.nD → PrngReg), Pre_OutDyIdeal m →
    (∀ c : Dev Cert.OutDyIdeal.nD,
      m' ((c.tc : Thread Cert.OutDyRefIdeal.nD Cert.OutDyRefIdeal.τ).loc Cert.OutDyRefIdeal.main_arg0) = m ((c.tc : Thread Cert.OutDyIdeal.nD Cert.OutDyIdeal.τ).loc Cert.OutDyIdeal.main_arg0)
      ∧ m' ((c.tc : Thread Cert.OutDyRefIdeal.nD Cert.OutDyRefIdeal.τ).loc Cert.OutDyRefIdeal.main_arg1) = m ((c.tc : Thread Cert.OutDyIdeal.nD Cert.OutDyIdeal.τ).loc Cert.OutDyIdeal.main_arg1)) →
    ∃ (v0 : (c : Dev Cert.OutDyIdeal.nD) → Buf (Elt Ideal) ((c.tc : Thread Cert.OutDyIdeal.nD Cert.OutDyIdeal.τ).loc Cert.OutDyIdeal.main_v3)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v3) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ θ_run (Cert.OutDyRefIdeal.defs (F := Ideal)) (onTc (τ := Cert.OutDyRefIdeal.τ) (Cert.OutDyRefIdeal.main (F := Ideal))) ⟨m', fun _ => 0, g'⟩ (fun r => ∀ c : Dev Cert.OutDyRefIdeal.nD,
          r.2.mem ((c.tc : Thread Cert.OutDyRefIdeal.nD Cert.OutDyRefIdeal.τ).loc Cert.OutDyRefIdeal.main_v4) = v0 c
          ∧ r.2.mem ((c.tc : Thread Cert.OutDyRefIdeal.nD Cert.OutDyRefIdeal.τ).loc Cert.OutDyRefIdeal.main_arg0) = m' ((c.tc : Thread Cert.OutDyRefIdeal.nD Cert.OutDyRefIdeal.τ).loc Cert.OutDyRefIdeal.main_arg0)
          ∧ r.2.mem ((c.tc : Thread Cert.OutDyRefIdeal.nD Cert.OutDyRefIdeal.τ).loc Cert.OutDyRefIdeal.main_arg1) = m' ((c.tc : Thread Cert.OutDyRefIdeal.nD Cert.OutDyRefIdeal.τ).loc Cert.OutDyRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v5)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v5) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v5)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v5) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v6)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v6) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Wada_WadaIdeal : Prop :=
  True

def algebraic_WadaIdeal_WadaRefIdeal [hWadaIdeal : Cert.WadaIdeal.Facts] [hWadaRefIdeal : Cert.WadaRefIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.WadaRefIdeal.nD Cert.WadaRefIdeal.τ Cert.WadaRefIdeal.sig) → Buf (Elt Ideal) ℓ) (g' : Dev Cert.WadaRefIdeal.nD → PrngReg), Pre_WadaIdeal m →
    (∀ c : Dev Cert.WadaIdeal.nD,
      m' ((c.tc : Thread Cert.WadaRefIdeal.nD Cert.WadaRefIdeal.τ).loc Cert.WadaRefIdeal.main_arg0) = m ((c.tc : Thread Cert.WadaIdeal.nD Cert.WadaIdeal.τ).loc Cert.WadaIdeal.main_arg0)
      ∧ m' ((c.tc : Thread Cert.WadaRefIdeal.nD Cert.WadaRefIdeal.τ).loc Cert.WadaRefIdeal.main_arg1) = m ((c.tc : Thread Cert.WadaIdeal.nD Cert.WadaIdeal.τ).loc Cert.WadaIdeal.main_arg1)
      ∧ m' ((c.tc : Thread Cert.WadaRefIdeal.nD Cert.WadaRefIdeal.τ).loc Cert.WadaRefIdeal.main_arg2) = m ((c.tc : Thread Cert.WadaIdeal.nD Cert.WadaIdeal.τ).loc Cert.WadaIdeal.main_arg2)
      ∧ m' ((c.tc : Thread Cert.WadaRefIdeal.nD Cert.WadaRefIdeal.τ).loc Cert.WadaRefIdeal.main_arg3) = m ((c.tc : Thread Cert.WadaIdeal.nD Cert.WadaIdeal.τ).loc Cert.WadaIdeal.main_arg3)
      ∧ m' ((c.tc : Thread Cert.WadaRefIdeal.nD Cert.WadaRefIdeal.τ).loc Cert.WadaRefIdeal.main_arg4) = m ((c.tc : Thread Cert.WadaIdeal.nD Cert.WadaIdeal.τ).loc Cert.WadaIdeal.main_arg4)) →
    ∃ (v0 : (c : Dev Cert.WadaIdeal.nD) → Buf (Elt Ideal) ((c.tc : Thread Cert.WadaIdeal.nD Cert.WadaIdeal.τ).loc Cert.WadaIdeal.main_v1_0)) (v1 : (c : Dev Cert.WadaIdeal.nD) → Buf (Elt Ideal) ((c.tc : Thread Cert.WadaIdeal.nD Cert.WadaIdeal.τ).loc Cert.WadaIdeal.main_v1_1)) (v2 : (c : Dev Cert.WadaIdeal.nD) → Buf (Elt Ideal) ((c.tc : Thread Cert.WadaIdeal.nD Cert.WadaIdeal.τ).loc Cert.WadaIdeal.main_v1_2)) (v3 : (c : Dev Cert.WadaIdeal.nD) → Buf (Elt Ideal) ((c.tc : Thread Cert.WadaIdeal.nD Cert.WadaIdeal.τ).loc Cert.WadaIdeal.main_v1_3)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v1_0) = v0 c
          ∧ r.2.mem ((c.tc : Thread Cert.WadaIdeal.nD Cert.WadaIdeal.τ).loc Cert.WadaIdeal.main_v1_1) = v1 c
          ∧ r.2.mem ((c.tc : Thread Cert.WadaIdeal.nD Cert.WadaIdeal.τ).loc Cert.WadaIdeal.main_v1_2) = v2 c
          ∧ r.2.mem ((c.tc : Thread Cert.WadaIdeal.nD Cert.WadaIdeal.τ).loc Cert.WadaIdeal.main_v1_3) = v3 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
          ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
          ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
          ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ θ_run (Cert.WadaRefIdeal.defs (F := Ideal)) (onTc (τ := Cert.WadaRefIdeal.τ) (Cert.WadaRefIdeal.main (F := Ideal))) ⟨m', fun _ => 0, g'⟩ (fun r => ∀ c : Dev Cert.WadaRefIdeal.nD,
          r.2.mem ((c.tc : Thread Cert.WadaRefIdeal.nD Cert.WadaRefIdeal.τ).loc Cert.WadaRefIdeal.main_v3) = v0 c
          ∧ r.2.mem ((c.tc : Thread Cert.WadaRefIdeal.nD Cert.WadaRefIdeal.τ).loc Cert.WadaRefIdeal.main_v27) = v1 c
          ∧ r.2.mem ((c.tc : Thread Cert.WadaRefIdeal.nD Cert.WadaRefIdeal.τ).loc Cert.WadaRefIdeal.main_v8) = v2 c
          ∧ r.2.mem ((c.tc : Thread Cert.WadaRefIdeal.nD Cert.WadaRefIdeal.τ).loc Cert.WadaRefIdeal.main_v14) = v3 c
          ∧ r.2.mem ((c.tc : Thread Cert.WadaRefIdeal.nD Cert.WadaRefIdeal.τ).loc Cert.WadaRefIdeal.main_arg0) = m' ((c.tc : Thread Cert.WadaRefIdeal.nD Cert.WadaRefIdeal.τ).loc Cert.WadaRefIdeal.main_arg0)
          ∧ r.2.mem ((c.tc : Thread Cert.WadaRefIdeal.nD Cert.WadaRefIdeal.τ).loc Cert.WadaRefIdeal.main_arg1) = m' ((c.tc : Thread Cert.WadaRefIdeal.nD Cert.WadaRefIdeal.τ).loc Cert.WadaRefIdeal.main_arg1)
          ∧ r.2.mem ((c.tc : Thread Cert.WadaRefIdeal.nD Cert.WadaRefIdeal.τ).loc Cert.WadaRefIdeal.main_arg2) = m' ((c.tc : Thread Cert.WadaRefIdeal.nD Cert.WadaRefIdeal.τ).loc Cert.WadaRefIdeal.main_arg2)
          ∧ r.2.mem ((c.tc : Thread Cert.WadaRefIdeal.nD Cert.WadaRefIdeal.τ).loc Cert.WadaRefIdeal.main_arg3) = m' ((c.tc : Thread Cert.WadaRefIdeal.nD Cert.WadaRefIdeal.τ).loc Cert.WadaRefIdeal.main_arg3)
          ∧ r.2.mem ((c.tc : Thread Cert.WadaRefIdeal.nD Cert.WadaRefIdeal.τ).loc Cert.WadaRefIdeal.main_arg4) = m' ((c.tc : Thread Cert.WadaRefIdeal.nD Cert.WadaRefIdeal.τ).loc Cert.WadaRefIdeal.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)) →
    ∃ (v0 : (c : Dev Cert.SmallIdeal.nD) → Buf (Elt Ideal) ((c.tc : Thread Cert.SmallIdeal.nD Cert.SmallIdeal.τ).loc Cert.SmallIdeal.main_v21_0)) (v1 : (c : Dev Cert.SmallIdeal.nD) → Buf (Elt Ideal) ((c.tc : Thread Cert.SmallIdeal.nD Cert.SmallIdeal.τ).loc Cert.SmallIdeal.main_v21_1)) (v2 : (c : Dev Cert.SmallIdeal.nD) → Buf (Elt Ideal) ((c.tc : Thread Cert.SmallIdeal.nD Cert.SmallIdeal.τ).loc Cert.SmallIdeal.main_v21_2)) (v3 : (c : Dev Cert.SmallIdeal.nD) → Buf (Elt Ideal) ((c.tc : Thread Cert.SmallIdeal.nD Cert.SmallIdeal.τ).loc Cert.SmallIdeal.main_v21_3)) (v4 : (c : Dev Cert.SmallIdeal.nD) → Buf (Elt Ideal) ((c.tc : Thread Cert.SmallIdeal.nD Cert.SmallIdeal.τ).loc Cert.SmallIdeal.main_v21_4)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v21_0) = v0 c
          ∧ r.2.mem ((c.tc : Thread Cert.SmallIdeal.nD Cert.SmallIdeal.τ).loc Cert.SmallIdeal.main_v21_1) = v1 c
          ∧ r.2.mem ((c.tc : Thread Cert.SmallIdeal.nD Cert.SmallIdeal.τ).loc Cert.SmallIdeal.main_v21_2) = v2 c
          ∧ r.2.mem ((c.tc : Thread Cert.SmallIdeal.nD Cert.SmallIdeal.τ).loc Cert.SmallIdeal.main_v21_3) = v3 c
          ∧ r.2.mem ((c.tc : Thread Cert.SmallIdeal.nD Cert.SmallIdeal.τ).loc Cert.SmallIdeal.main_v21_4) = v4 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v13) = v0 c
          ∧ r.2.mem ((c.tc : Thread Cert.SmallRefIdeal.nD Cert.SmallRefIdeal.τ).loc Cert.SmallRefIdeal.main_v61) = v1 c
          ∧ r.2.mem ((c.tc : Thread Cert.SmallRefIdeal.nD Cert.SmallRefIdeal.τ).loc Cert.SmallRefIdeal.main_v42) = v2 c
          ∧ r.2.mem ((c.tc : Thread Cert.SmallRefIdeal.nD Cert.SmallRefIdeal.τ).loc Cert.SmallRefIdeal.main_v48) = v3 c
          ∧ r.2.mem ((c.tc : Thread Cert.SmallRefIdeal.nD Cert.SmallRefIdeal.τ).loc Cert.SmallRefIdeal.main_v62) = v4 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20))

def Claim : Prop :=
  ∃ (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hSb : Cert.Sb.Facts) (hSbIdeal : Cert.SbIdeal.Facts) (hSbRefIdeal : Cert.SbRefIdeal.Facts) (hSbFwd : Cert.SbFwd.Facts) (hSbFwdIdeal : Cert.SbFwdIdeal.Facts) (hSbFwdRefIdeal : Cert.SbFwdRefIdeal.Facts) (hNormFwd : Cert.NormFwd.Facts) (hNormFwdIdeal : Cert.NormFwdIdeal.Facts) (hNormFwdRefIdeal : Cert.NormFwdRefIdeal.Facts) (hMod : Cert.Mod.Facts) (hModIdeal : Cert.ModIdeal.Facts) (hModRefIdeal : Cert.ModRefIdeal.Facts) (hOut : Cert.Out.Facts) (hOutIdeal : Cert.OutIdeal.Facts) (hOutRefIdeal : Cert.OutRefIdeal.Facts) (hOutDy : Cert.OutDy.Facts) (hOutDyIdeal : Cert.OutDyIdeal.Facts) (hOutDyRefIdeal : Cert.OutDyRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hAdam : Cert.Adam.Facts) (hAdamIdeal : Cert.AdamIdeal.Facts) (hAdamRefIdeal : Cert.AdamRefIdeal.Facts) (hWada : Cert.Wada.Facts) (hWadaIdeal : Cert.WadaIdeal.Facts) (hWadaRefIdeal : Cert.WadaRefIdeal.Facts) (hSmall : Cert.Small.Facts) (hSmallIdeal : Cert.SmallIdeal.Facts) (hSmallRefIdeal : Cert.SmallRefIdeal.Facts) (hPre_norm_finite : Cert.Pre_norm_finite.Facts) (hPre_loss_finite : Cert.Pre_loss_finite.Facts) (hPre_sb_finite : Cert.Pre_sb_finite.Facts) (hPre_fwd_finite : Cert.Pre_fwd_finite.Facts) (hOn_sb_written : Cert.On_sb_written.Facts) (hOn_fwd_written : Cert.On_fwd_written.Facts),
    quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_SbFwd (hSbFwd := hSbFwd)
    ∧ quiescent_SbFwdIdeal (hSbFwdIdeal := hSbFwdIdeal)
    ∧ quiescent_SbFwdIdeal_pre_fwd_finite (hSbFwdIdeal := hSbFwdIdeal) (hPre_fwd_finite := hPre_fwd_finite)
    ∧ quiescent_SbFwdRefIdeal (hSbFwdRefIdeal := hSbFwdRefIdeal)
    ∧ quiescent_SbFwdRefIdeal_pre_fwd_finite (hSbFwdRefIdeal := hSbFwdRefIdeal) (hPre_fwd_finite := hPre_fwd_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_Mod (hMod := hMod)
    ∧ quiescent_ModIdeal (hModIdeal := hModIdeal)
    ∧ quiescent_ModRefIdeal (hModRefIdeal := hModRefIdeal)
    ∧ quiescent_Out (hOut := hOut)
    ∧ quiescent_OutIdeal (hOutIdeal := hOutIdeal)
    ∧ quiescent_OutRefIdeal (hOutRefIdeal := hOutRefIdeal)
    ∧ quiescent_OutDy (hOutDy := hOutDy)
    ∧ quiescent_OutDyIdeal (hOutDyIdeal := hOutDyIdeal)
    ∧ quiescent_OutDyRefIdeal (hOutDyRefIdeal := hOutDyRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_Adam (hAdam := hAdam)
    ∧ quiescent_AdamIdeal (hAdamIdeal := hAdamIdeal)
    ∧ quiescent_AdamRefIdeal (hAdamRefIdeal := hAdamRefIdeal)
    ∧ quiescent_Wada (hWada := hWada)
    ∧ quiescent_WadaIdeal (hWadaIdeal := hWadaIdeal)
    ∧ quiescent_WadaRefIdeal (hWadaRefIdeal := hWadaRefIdeal)
    ∧ quiescent_Small (hSmall := hSmall)
    ∧ quiescent_SmallIdeal (hSmallIdeal := hSmallIdeal)
    ∧ quiescent_SmallRefIdeal (hSmallRefIdeal := hSmallRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Sb_SbIdeal
    ∧ algebraic_SbIdeal_SbRefIdeal_on_sb_written_pre_sb_finite (hSbIdeal := hSbIdeal) (hSbRefIdeal := hSbRefIdeal) (hPre_sb_finite := hPre_sb_finite) (hOn_sb_written := hOn_sb_written)
    ∧ preserves_SbFwd_SbFwdIdeal
    ∧ algebraic_SbFwdIdeal_SbFwdRefIdeal_on_fwd_written_pre_fwd_finite (hSbFwdIdeal := hSbFwdIdeal) (hSbFwdRefIdeal := hSbFwdRefIdeal) (hPre_fwd_finite := hPre_fwd_finite) (hOn_fwd_written := hOn_fwd_written)
    ∧ preserves_NormFwd_NormFwdIdeal
    ∧ algebraic_NormFwdIdeal_NormFwdRefIdeal (hNormFwdIdeal := hNormFwdIdeal) (hNormFwdRefIdeal := hNormFwdRefIdeal)
    ∧ preserves_Mod_ModIdeal
    ∧ algebraic_ModIdeal_ModRefIdeal (hModIdeal := hModIdeal) (hModRefIdeal := hModRefIdeal)
    ∧ preserves_Out_OutIdeal
    ∧ algebraic_OutIdeal_OutRefIdeal (hOutIdeal := hOutIdeal) (hOutRefIdeal := hOutRefIdeal)
    ∧ preserves_OutDy_OutDyIdeal
    ∧ algebraic_OutDyIdeal_OutDyRefIdeal (hOutDyIdeal := hOutDyIdeal) (hOutDyRefIdeal := hOutDyRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_Adam_AdamIdeal
    ∧ algebraic_AdamIdeal_AdamRefIdeal (hAdamIdeal := hAdamIdeal) (hAdamRefIdeal := hAdamRefIdeal)
    ∧ preserves_Wada_WadaIdeal
    ∧ algebraic_WadaIdeal_WadaRefIdeal (hWadaIdeal := hWadaIdeal) (hWadaRefIdeal := hWadaRefIdeal)
    ∧ preserves_Small_SmallIdeal
    ∧ algebraic_SmallIdeal_SmallRefIdeal (hSmallIdeal := hSmallIdeal) (hSmallRefIdeal := hSmallRefIdeal)
-- ==== On_fwd_written.lean ====
abbrev S2x2048x16384 : Shape := ⟨3, ![2, 2048, 16384]⟩
abbrev S1x2048 : Shape := ⟨2, ![1, 2048]⟩
abbrev S2x2x2048x2048 : Shape := ⟨4, ![2, 2, 2048, 2048]⟩
abbrev S_ : Shape := ⟨0, ![]⟩
abbrev S2x2048x2048 : Shape := ⟨3, ![2, 2048, 2048]⟩
abbrev S2x16x1x4 : Shape := ⟨4, ![2, 16, 1, 4]⟩

class Facts : Prop where
  bcast_S_S2x2048x2048 : S_.BroadcastsInDim S2x2048x2048 (![] : Fin 0 → Fin S2x2048x2048.rank)
  bcast_S_S2x2x2048x2048 : S_.BroadcastsInDim S2x2x2048x2048 (![] : Fin 0 → Fin S2x2x2048x2048.rank)
  bcast_S_S2x16x1x4 : S_.BroadcastsInDim S2x16x1x4 (![] : Fin 0 → Fin S2x16x1x4.rank)

variable [Facts]

def fn {F : FTy → Type} [FloatOps F] (main_arg0 : FVec F S2x2048x16384 .f32) (main_arg1 : FVec F S1x2048 .f32) : IVec S2x2048x2048 1 × IVec S2x2048x2048 1 × IVec S2x2x2048x2048 1 × IVec S2x16x1x4 1 :=
  let main_v0 : IVec S2x2x2048x2048 32 := iotaInDim S2x2x2048x2048 32 0
  let main_c : IVec S_ 1 := constantI S_ 1 1#1
  let main_v1 : IVec S2x2048x2048 1 := broadcastInDim S2x2048x2048 ![] bcast_S_S2x2048x2048 main_c
  let main_c_0 : IVec S_ 32 := constantI S_ 32 1#32
  let main_v2 : IVec S2x2x2048x2048 32 := broadcastInDim S2x2x2048x2048 ![] bcast_S_S2x2x2048x2048 main_c_0
  let main_v3 : IVec S2x2x2048x2048 1 := cmpi .slt main_v0 main_v2
  let main_c_1 : IVec S_ 1 := constantI S_ 1 1#1
  let main_v4 : IVec S2x16x1x4 1 := broadcastInDim S2x16x1x4 ![] bcast_S_S2x16x1x4 main_c_1
  (main_v1, main_v1, main_v3, main_v4)
-- ==== On_sb_written.lean ====
abbrev S2x2048x16384 : Shape := ⟨3, ![2, 2048, 16384]⟩
abbrev S2x2048x4096 : Shape := ⟨3, ![2, 2048, 4096]⟩
abbrev S1x2048 : Shape := ⟨2, ![1, 2048]⟩
abbrev S8x2x2048x2048 : Shape := ⟨4, ![8, 2, 2048, 2048]⟩
abbrev S_ : Shape := ⟨0, ![]⟩
abbrev S2x1x2048 : Shape := ⟨3, ![2, 1, 2048]⟩

class Facts : Prop where
  bcast_S_S8x2x2048x2048 : S_.BroadcastsInDim S8x2x2048x2048 (![] : Fin 0 → Fin S8x2x2048x2048.rank)
  bcast_S_S2x1x2048 : S_.BroadcastsInDim S2x1x2048 (![] : Fin 0 → Fin S2x1x2048.rank)

variable [Facts]

def fn {F : FTy → Type} [FloatOps F] (main_arg0 : FVec F S2x2048x16384 .f32) (main_arg1 : FVec F S2x2048x4096 .f32) (main_arg2 : FVec F S1x2048 .f32) : IVec S8x2x2048x2048 1 × IVec S2x1x2048 1 :=
  let main_v0 : IVec S8x2x2048x2048 32 := iotaInDim S8x2x2048x2048 32 0
  let main_c : IVec S_ 32 := constantI S_ 32 4#32
  let main_v1 : IVec S8x2x2048x2048 32 := broadcastInDim S8x2x2048x2048 ![] bcast_S_S8x2x2048x2048 main_c
  let main_v2 : IVec S8x2x2048x2048 1 := cmpi .slt main_v0 main_v1
  let main_c_0 : IVec S_ 1 := constantI S_ 1 1#1
  let main_v3 : IVec S2x1x2048 1 := broadcastInDim S2x1x2048 ![] bcast_S_S2x1x2048 main_c_0
  (main_v2, main_v3)
-- ==== Pre_fwd_finite.lean ====
abbrev S2x2048x16384 : Shape := ⟨3, ![2, 2048, 16384]⟩
abbrev S1x2048 : Shape := ⟨2, ![1, 2048]⟩
abbrev S_ : Shape := ⟨0, ![]⟩

class Facts : Prop where
  bcast_S_S2x2048x16384 : S_.BroadcastsInDim S2x2048x16384 (![] : Fin 0 → Fin S2x2048x16384.rank)
  reducesTo_S2x2048x16384_S_d0_1_2 : S2x2048x16384.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S2x2048x16384 .f32) (main_arg1 : FVec F S1x2048 .f32) : IVec S_ 1 :=
  let main_v0 : FVec F S2x2048x16384 .f32 := Host.absf main_arg0
  let main_cst : FVec F S_ .f32 := constant S_ .f32 0x7F800000#32
  let main_v1 : FVec F S2x2048x16384 .f32 := broadcastInDim S2x2048x16384 ![] bcast_S_S2x2048x16384 main_cst
  let main_v2 : IVec S2x2048x16384 1 := cmpf .olt main_v0 main_v1
  let main_c : IVec S_ 1 := constantI S_ 1 1#1
  let main_v3 : IVec S_ 1 := (fun x v => Host.reduce IntOp.andi x v reducesTo_S2x2048x16384_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  main_v8
-- ==== Pre_loss_finite.lean ====
abbrev S2x2048x4096 : Shape := ⟨3, ![2, 2048, 4096]⟩
abbrev S4096x4096 : Shape := ⟨2, ![4096, 4096]⟩
abbrev S2x12288 : Shape := ⟨2, ![2, 12288]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2x12288 : S_.BroadcastsInDim S2x12288 (![] : Fin 0 → Fin S2x12288.rank)
  reducesTo_S2x12288_S_d0_1 : S2x12288.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2x2048x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S2x2048x4096 .f32 := Host.absf main_arg4
  let main_cst_6 : FVec F S_ .f32 := constant S_ .f32 0x7F800000#32
  let main_v20 : FVec F S2x2048x4096 .f32 := broadcastInDim S2x2048x4096 ![] bcast_S_S2x2048x4096 main_cst_6
  let main_v21 : IVec S2x2048x4096 1 := cmpf .olt main_v19 main_v20
  let main_c_7 : IVec S_ 1 := constantI S_ 1 1#1
  let main_v22 : IVec S_ 1 := (fun x v => Host.reduce IntOp.andi x v reducesTo_S2x2048x4096_S_d0_1_2 h_S_) main_v21 main_c_7
  let main_v23 : IVec S_ 1 := andi main_v18 main_v22
  main_v23

def fn {F : FTy → Type} [FloatOps F] (main_arg0 : FVec F S2x2048x4096 .f32) (main_arg1 : FVec F S4096x4096 .f32) (main_arg2 : FVec F S2x12288 .f32) (main_arg3 : FVec F S4096 .f32) (main_arg4 : FVec F S2x2048x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2x12288 .f32 := Host.absf main_arg2
  let main_cst_2 : FVec F S_ .f32 := constant S_ .f32 0x7F800000#32
  let main_v10 : FVec F S2x12288 .f32 := broadcastInDim S2x12288 ![] bcast_S_S2x12288 main_cst_2
  let main_v11 : IVec S2x12288 1 := cmpf .olt main_v9 main_v10
  let main_c_3 : IVec S_ 1 := constantI S_ 1 1#1
  let main_v12 : IVec S_ 1 := (fun x v => Host.reduce IntOp.andi x v reducesTo_S2x12288_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Pre_norm_finite.lean ====
abbrev S2x2048x4096 : Shape := ⟨3, ![2, 2048, 4096]⟩
abbrev S1x4096 : Shape := ⟨2, ![1, 4096]⟩
abbrev S2x12288 : Shape := ⟨2, ![2, 12288]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S2x12288 : S_.BroadcastsInDim S2x12288 (![] : Fin 0 → Fin S2x12288.rank)
  reducesTo_S2x12288_S_d0_1 : S2x12288.ReducesTo [0, 1] S_

variable [Facts]

def fn_part1 {F : FTy → Type} [FloatOps F] (main_v13 : IVec S_ 1) (main_v16 : IVec S2x12288 1) : IVec S_ 1 :=
  let main_c_5 : IVec S_ 1 := constantI S_ 1 1#1
  let main_v17 : IVec S_ 1 := (fun x v => Host.reduce IntOp.andi x v reducesTo_S2x12288_S_d0_1 h_S_) main_v16 main_c_5
  let main_v18 : IVec S_ 1 := andi main_v13 main_v17
  main_v18

def fn {F : FTy → Type} [FloatOps F] (main_arg0 : FVec F S2x2048x4096 .f32) (main_arg1 : FVec F S2x2048x4096 .f32) (main_arg2 : FVec F S2x2048x4096 .f32) (main_arg3 : FVec F S1x4096 .f32) (main_arg4 : FVec F S2x12288 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S2x12288 .f32 := Host.absf main_arg4
  let main_cst_4 : FVec F S_ .f32 := constant S_ .f32 0x7F800000#32
  let main_v15 : FVec F S2x12288 .f32 := broadcastInDim S2x12288 ![] bcast_S_S2x12288 main_cst_4
  let main_v16 : IVec S2x12288 1 := cmpf .olt main_v14 main_v15
  fn_part1 (F := F) main_v13 main_v16
-- ==== Pre_sb_finite.lean ====
abbrev S2x2048x16384 : Shape := ⟨3, ![2, 2048, 16384]⟩
abbrev S2x2048x4096 : Shape := ⟨3, ![2, 2048, 4096]⟩
abbrev S1x2048 : Shape := ⟨2, ![1, 2048]⟩
abbrev S_ : Shape := ⟨0, ![]⟩

class Facts : Prop where
  bcast_S_S2x2048x16384 : S_.BroadcastsInDim S2x2048x16384 (![] : Fin 0 → Fin S2x2048x16384.rank)
  reducesTo_S2x2048x16384_S_d0_1_2 : S2x2048x16384.ReducesTo [0, 1, 2] S_
  h_S_ : 0 < S_.numel
  bcast_S_S2x2048x4096 : S_.BroadcastsInDim S2x2048x4096 (![] : Fin 0 → Fin S2x2048x4096.rank)
  reducesTo_S2x2048x4096_S_d0_1_2 : S2x2048x4096.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S2x2048x16384 .f32) (main_arg1 : FVec F S2x2048x4096 .f32) (main_arg2 : FVec F S1x2048 .f32) : IVec S_ 1 :=
  let main_v0 : FVec F S2x2048x16384 .f32 := Host.absf main_arg0
  let main_cst : FVec F S_ .f32 := constant S_ .f32 0x7F800000#32
  let main_v1 : FVec F S2x2048x16384 .f32 := broadcastInDim S2x2048x16384 ![] bcast_S_S2x2048x16384 main_cst
  let main_v2 : IVec S2x2048x16384 1 := cmpf .olt main_v0 main_v1
  let main_c : IVec S_ 1 := constantI S_ 1 1#1
  let main_v3 : IVec S_ 1 := (fun x v => Host.reduce IntOp.andi x v reducesTo_S2x2048x16384_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Norm.lean ====
abbrev S2x2048x4096 : Shape := ⟨3, ![2, 2048, 4096]⟩
abbrev S1x4096 : Shape := ⟨2, ![1, 4096]⟩
abbrev S2x12288 : Shape := ⟨2, ![2, 12288]⟩
abbrev S2x4096 : Shape := ⟨2, ![2, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 15
  | .vmem => 16
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x2048x4096, .f32⟩
  | .hbm, ⟨3, _⟩ => ⟨S1x4096, .f32⟩
  | .hbm, ⟨4, _⟩ => ⟨S2x12288, .f32⟩
  | .hbm, ⟨5, _⟩ => ⟨S2x4096, .f32⟩
  | .hbm, ⟨6, _⟩ => ⟨S2x1x4096, .f32⟩
  | .hbm, ⟨7, _⟩ => ⟨S2x4096, .f32⟩
  | .hbm, ⟨8, _⟩ => ⟨S2x1x4096, .f32⟩
  | .hbm, ⟨9, _⟩ => ⟨S2x4096, .f32⟩
  | .hbm, ⟨10, _⟩ => ⟨S2x1x4096, .f32⟩
  | .hbm, ⟨11, _⟩ => ⟨S2x2048x4096, .f32⟩
  | .hbm, ⟨12, _⟩ => ⟨S2x1x4096, .f32⟩
  | .hbm, ⟨13, _⟩ => ⟨S2x1x4096, .f32⟩
  | .hbm, ⟨14, _⟩ => ⟨S1x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x256x4096, .f32⟩
  | .local _ .vmem, ⟨10, _⟩ => ⟨S1x256x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== NormRefIdeal.lean ====
abbrev S2x2048x4096 : Shape := ⟨3, ![2, 2048, 4096]⟩
abbrev S1x4096 : Shape := ⟨2, ![1, 4096]⟩
abbrev S2x12288 : Shape := ⟨2, ![2, 12288]⟩
abbrev S2x4096 : Shape := ⟨2, ![2, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S2x1x4096 : Shape := ⟨3, ![2, 1, 4096]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x2048x4096, .f32⟩
  | .hbm, ⟨3, _⟩ => ⟨S1x4096, .f32⟩
  | .hbm, ⟨4, _⟩ => ⟨S2x12288, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S4096, .f32⟩
  | .hbm, ⟨9, _⟩ => ⟨S2x2048x4096, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x4096, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | .hbm, ⟨29, _⟩ => ⟨S2x1x4096, .f32⟩
  | .hbm, ⟨30, _⟩ => ⟨S_, .f32⟩
  | .hbm, ⟨31, _⟩ => ⟨S2x1x4096, .f32⟩
  | .hbm, ⟨32, _⟩ => ⟨S2x1x4096, .f32⟩
  | .hbm, ⟨33, _⟩ => ⟨S2x2048x4096, .f32⟩
  | .hbm, ⟨34, _⟩ => ⟨S2x2048x4096, .f32⟩
  | .hbm, ⟨35, _⟩ => ⟨S2x1x4096, .f32⟩
  | .hbm, ⟨36, _⟩ => ⟨S2x2048x4096, .f32⟩
  | .hbm, ⟨37, _⟩ => ⟨S2x2048x4096, .f32⟩
  | .hbm, ⟨38, _⟩ => ⟨S2x2048x4096, .f32⟩
  | .hbm, ⟨39, _⟩ => ⟨S_, .f32⟩
  | .hbm, ⟨40, _⟩ => ⟨S2x4096, .f32⟩
  | .hbm, ⟨41, _⟩ => ⟨S2x1x4096, .f32⟩
  | .hbm, ⟨42, _⟩ => ⟨S_, .f32⟩
  | .hbm, ⟨43, _⟩ => ⟨S2x4096, .f32⟩
  | .hbm, ⟨44, _⟩ => ⟨S2x2048x4096, .f32⟩
  | .hbm, ⟨45, _⟩ => ⟨S_, .f32⟩
  | .hbm, ⟨46, _⟩ => ⟨S2x4096, .f32⟩
  | .hbm, ⟨47, _⟩ => ⟨S2x1x4096, .f32⟩
  | .hbm, ⟨48, _⟩ => ⟨S2x2048x4096, .f32⟩
  | .hbm, ⟨49, _⟩ => ⟨S2x2048x4096, .f32⟩
  | .hbm, ⟨50, _⟩ => ⟨S_, .f32⟩
  | .hbm, ⟨51, _⟩ => ⟨S2x4096, .f32⟩
  | .hbm, ⟨52, _⟩ => ⟨S2x2048x4096, .f32⟩
  | .hbm, ⟨53, _⟩ => ⟨S_, .f32⟩
  | .hbm, ⟨54, _⟩ => ⟨S4096, .f32⟩
  | .hbm, ⟨55, _⟩ => ⟨S1x1x4096, .f32⟩
  | .hbm, ⟨56, _⟩ => ⟨S2x2048x4096, .f32⟩
  | .hbm, ⟨57, _⟩ => ⟨S2x2048x4096, .f32⟩
  | .hbm, ⟨58, _⟩ => ⟨S_, .f32⟩
  | .hbm, ⟨59, _⟩ => ⟨S4096, .f32⟩
  | .hbm, ⟨60, _⟩ => ⟨S2x2048x4096, .f32⟩
  | .hbm, ⟨61, _⟩ => ⟨S_, .f32⟩
  | .hbm, ⟨62, _⟩ => ⟨S2x2048, .f32⟩
  | .hbm, ⟨63, _⟩ => ⟨S2x2048x1, .f32⟩
  | .hbm, ⟨64, _⟩ => ⟨S2x2048x4096, .f32⟩
  | .hbm, ⟨65, _⟩ => ⟨S2x2048x4096, .f32⟩
  | .hbm, ⟨66, _⟩ => ⟨S2x2048x4096, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x4096, .f32⟩
  | .hbm, ⟨74, _⟩ => ⟨S2x2048x4096, .f32⟩
  | .hbm, ⟨75, _⟩ => ⟨S2x2048x4096, .f32⟩
  | .hbm, ⟨76, _⟩ => ⟨S2x2048x4096, .f32⟩
  | .hbm, ⟨77, _⟩ => ⟨S2x2048x4096, .f32⟩
  | .hbm, ⟨78, _⟩ => ⟨S1x4096, .f32⟩
  | .hbm, ⟨79, _⟩ => ⟨S2x1x4096, .f32⟩
  | .hbm, ⟨80, _⟩ => ⟨S2x1x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Loss.lean ====
abbrev S2x2048x4096 : Shape := ⟨3, ![2, 2048, 4096]⟩
abbrev S4096x4096 : Shape := ⟨2, ![4096, 4096]⟩
abbrev S2x12288 : Shape := ⟨2, ![2, 12288]⟩
abbrev S4096 : Shape := ⟨1, ![4096]⟩
abbrev S2x4096 : Shape := ⟨2, ![2, 4096]⟩
abbrev S2x1x4096 : Shape := ⟨3, ![2, 1, 4096]⟩
abbrev S1x4096 : Shape := ⟨2, ![1, 4096]⟩
abbrev S1x128 : Shape := ⟨2, ![1, 128]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 17
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S2x12288, .f32⟩
  | .hbm, ⟨3, _⟩ => ⟨S4096, .f32⟩
  | .hbm, ⟨4, _⟩ => ⟨S2x2048x4096, .f32⟩
  | .hbm, ⟨5, _⟩ => ⟨S2x4096, .f32⟩
  | .hbm, ⟨6, _⟩ => ⟨S2x1x4096, .f32⟩
  | .hbm, ⟨7, _⟩ => ⟨S2x4096, .f32⟩
  | .hbm, ⟨8, _⟩ => ⟨S2x1x4096, .f32⟩
  | .hbm, ⟨9, _⟩ => ⟨S2x4096, .f32⟩
  | .hbm, ⟨10, _⟩ => ⟨S2x1x4096, .f32⟩
  | .hbm, ⟨11, _⟩ => ⟨S2x2048x4096, .f32⟩
  | .hbm, ⟨12, _⟩ => ⟨S1x4096, .f32⟩
  | .hbm, ⟨13, _⟩ => ⟨S2x2048x4096, .f32⟩
  | .hbm, ⟨14, _⟩ => ⟨S2x2048x4096, .bf16⟩
  | .hbm, ⟨15, _⟩ => ⟨S2x1x4096, .f32⟩
  | .hbm, ⟨16, _⟩ => ⟨S1x4096, .f32⟩
  | .hbm, ⟨17, _⟩ => ⟨S1x128, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x256x4096, .f32⟩
  | .local _ .vmem, ⟨10, _⟩ => ⟨S1x256x4096, .f32⟩
  | .local _ .vmem, ⟨11, _⟩ => ⟨S1x256x4096, .bf16⟩
  | .local _ .vmem, ⟨12, _⟩ => ⟨S1x256x4096, .bf16⟩
  | .local _ .vmem, ⟨13, _⟩ => ⟨S1x1x4096, .f32⟩
  | .local _ .vmem, ⟨14, _⟩ => ⟨S1x1x4096, .f32⟩
  | .local _ .vmem, ⟨15, _⟩ => ⟨S1x4096, .f32⟩
  | .local _ .vmem, ⟨16, _⟩ => ⟨S1x128, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== LossRefIdeal.lean ====
abbrev S2x2048x4096 : Shape := ⟨3, ![2, 2048, 4096]⟩
abbrev S4096x4096 : Shape := ⟨2, ![4096, 4096]⟩
abbrev S2x12288 : Shape := ⟨2, ![2, 12288]⟩
abbrev S4096 : Shape := ⟨1, ![4096]⟩
abbrev S2x4096 : Shape := ⟨2, ![2, 4096]⟩
abbrev S2x1x4096 : Shape := ⟨3, ![2, 1, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S1x4096 : Shape := ⟨2, ![1, 4096]⟩
abbrev S1x1 : Shape := ⟨2, ![1, 1]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S2x12288, .f32⟩
  | .hbm, ⟨3, _⟩ => ⟨S4096, .f32⟩
  | .hbm, ⟨4, _⟩ => ⟨S2x2048x4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x2048x4096, .f32⟩
  | .hbm, ⟨9, _⟩ => ⟨S2x1x4096, .f32⟩
  | .hbm, ⟨10, _⟩ => ⟨S2x2048x4096, .f32⟩
  | .hbm, ⟨11, _⟩ => ⟨S2x2048x4096, .f32⟩
  | .hbm, ⟨12, _⟩ => ⟨S2x2048x4096, .f32⟩
  | .hbm, ⟨13, _⟩ => ⟨S2x2048x4096, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x4096, .f32⟩
  | .hbm, ⟨29, _⟩ => ⟨S2x2048x4096, .f32⟩
  | .hbm, ⟨30, _⟩ => ⟨S1x1x4096, .f32⟩
  | .hbm, ⟨31, _⟩ => ⟨S2x2048x4096, .f32⟩
  | .hbm, ⟨32, _⟩ => ⟨S2x2048x4096, .f32⟩
  | .hbm, ⟨33, _⟩ => ⟨S2x2048x4096, .f32⟩
  | .hbm, ⟨34, _⟩ => ⟨S2x2048x4096, .f32⟩
  | .hbm, ⟨35, _⟩ => ⟨S_, .f32⟩
  | .hbm, ⟨36, _⟩ => ⟨S2x2048x4096, .f32⟩
  | .hbm, ⟨37, _⟩ => ⟨S2x2048x4096, .f32⟩
  | .hbm, ⟨38, _⟩ => ⟨S_, .f32⟩
  | .hbm, ⟨39, _⟩ => ⟨S2x2048, .f32⟩
  | .hbm, ⟨40, _⟩ => ⟨S_, .f32⟩
  | .hbm, ⟨41, _⟩ => ⟨S2x2048, .f32⟩
  | .hbm, ⟨42, _⟩ => ⟨S2x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2x2048, .f32⟩
  | .hbm, ⟨51, _⟩ => ⟨S_, .f32⟩
  | .hbm, ⟨52, _⟩ => ⟨S2x2048, .f32⟩
  | .hbm, ⟨53, _⟩ => ⟨S2x2048, .f32⟩
  | .hbm, ⟨54, _⟩ => ⟨S2x2048x4096, .f32⟩
  | .hbm, ⟨55, _⟩ => ⟨S2x2048x4096, .f32⟩
  | .hbm, ⟨56, _⟩ => ⟨S2x2048x4096, .f32⟩
  | .hbm, ⟨57, _⟩ => ⟨S_, .f32⟩
  | .hbm, ⟨58, _⟩ => ⟨S4096, .f32⟩
  | .hbm, ⟨59, _⟩ => ⟨S1x1x4096, .f32⟩
  | .hbm, ⟨60, _⟩ => ⟨S2x2048x4096, .f32⟩
  | .hbm, ⟨61, _⟩ => ⟨S2x2048x4096, .f32⟩
  | .hbm, ⟨62, _⟩ => ⟨S_, .f32⟩
  | .hbm, ⟨63, _⟩ => ⟨S4096, .f32⟩
  | .hbm, ⟨64, _⟩ => ⟨S2x2048x4096, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S2x2048x4096, .f32⟩
  | .hbm, ⟨69, _⟩ => ⟨S2x2048x4096, .f32⟩
  | .hbm, ⟨70, _⟩ => ⟨S2x2048x1, .f32⟩
  | .hbm, ⟨71, _⟩ => ⟨S_, .f32⟩
  | .hbm, ⟨72, _⟩ => ⟨S2x2048x1, .f32⟩
  | .hbm, ⟨73, _⟩ => ⟨S2x2048x1, .f32⟩
  | .hbm, ⟨74, _⟩ => ⟨S_, .f32⟩
  | .hbm, ⟨75, _⟩ => ⟨S2x2048, .f32⟩
  | .hbm, ⟨76, _⟩ => ⟨S2x2048x4096, .f32⟩
  | .hbm, ⟨77, _⟩ => ⟨S2x2048x4096, .f32⟩
  | .hbm, ⟨78, _⟩ => ⟨S2x2048x4096, .f32⟩
  | .hbm, ⟨79, _⟩ => ⟨S2x2048x4096, .f32⟩
  | .hbm, ⟨80, _⟩ => ⟨S2x2048x4096, .f32⟩
  | .hbm, ⟨81, _⟩ => ⟨S2x2048x4096, .f32⟩
  | .hbm, ⟨82, _⟩ => ⟨S2x2048x4096, .f32⟩
  | .hbm, ⟨83, _⟩ => ⟨S2x2048x4096, .f32⟩
  | .hbm, ⟨84, _⟩ => ⟨S_, .f32⟩
  | .hbm, ⟨85, _⟩ => ⟨S2x4096, .f32⟩
  | .hbm, ⟨86, _⟩ => ⟨S2x1x4096, .f32⟩
  | .hbm, ⟨87, _⟩ => ⟨S_, .f32⟩
  | .hbm, ⟨88, _⟩ => ⟨S2x4096, .f32⟩
  | .hbm, ⟨89, _⟩ => ⟨S2x2048x4096, .bf16⟩
  | .hbm, ⟨90, _⟩ => ⟨S2x1x4096, .f32⟩
  | .hbm, ⟨91, _⟩ => ⟨S1x4096, .f32⟩
  | .hbm, ⟨92, _⟩ => ⟨S1x1, .f32⟩
  | .hbm, ⟨93, _⟩ => ⟨S1x128, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Sb.lean ====
abbrev S2x2048x16384 : Shape := ⟨3, ![2, 2048, 16384]⟩
abbrev S2x2048x4096 : Shape := ⟨3, ![2, 2048, 4096]⟩
abbrev S1x2048 : Shape := ⟨2, ![1, 2048]⟩
abbrev S2x2048x2048 : Shape := ⟨3, ![2, 2048, 2048]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2x16x2048 : Shape := ⟨3, ![2, 16, 2048]⟩
abbrev S2x2048x16 : Shape := ⟨3, ![2, 2048, 16]⟩
abbrev S2x2048x16x1 : Shape := ⟨4, ![2, 2048, 16, 1]⟩
abbrev S4 : Shape := ⟨1, ![4]⟩
abbrev S2x16x1x4 : Shape := ⟨4, ![2, 16, 1, 4]⟩
abbrev S2x2048x8x2048 : Shape := ⟨4, ![2, 2048, 8, 2048]⟩
abbrev S8x2x2048x2048 : Shape := ⟨4, ![8, 2, 2048, 2048]⟩
abbrev S2x2048x2x2048 : Shape := ⟨4, ![2, 2048, 2, 2048]⟩
abbrev S2x2x2048x2048 : Shape := ⟨4, ![2, 2, 2048, 2048]⟩
abbrev S2x1x2048 : Shape := ⟨3, ![2, 1, 2048]⟩
abbrev S1x1x2048x128 : Shape := ⟨4, ![1, 1, 2048, 128]⟩
abbrev S1x2048x128 : Shape := ⟨3, ![1, 2048, 128]⟩
abbrev S1x128 : Shape := ⟨2, ![1, 128]⟩
abbrev S1x1x1x4 : Shape := ⟨4, ![1, 1, 1, 4]⟩
abbrev S4x1x2048x128 : Shape := ⟨4, ![4, 1, 2048, 128]⟩
abbrev S1x1x128 : Shape := ⟨3, ![1, 1, 128]⟩
abbrev S2048x128 : Shape := ⟨2, ![2048, 128]⟩
abbrev S256x256 : Shape := ⟨2, ![256, 256]⟩
abbrev S512x256 : Shape := ⟨2, ![512, 256]⟩
abbrev S1x512x128 : Shape := ⟨3, ![1, 512, 128]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S128 : Shape := ⟨1, ![128]⟩
abbrev S1x1x1x1 : Shape := ⟨4, ![1, 1, 1, 1]⟩
abbrev S1x1x256x128 : Shape := ⟨4, ![1, 1, 256, 128]⟩
abbrev S256x128 : Shape := ⟨2, ![256, 128]⟩

abbrev nBuf : Space → Nat
  | .hbm => 128
  | .vmem => 23
  | .smem => 2
  | _ => 0

abbrev bufTy : (tb : Table) → Fin (tcTables nBuf tb) → BufTy
  | .hbm, ⟨0, _⟩ => ⟨S2x2048x16384, .f32⟩
  | .hbm, ⟨1, _⟩ => ⟨S2x2048x4096, .f32⟩
  | .hbm, ⟨2, _⟩ => ⟨S1x2048, .f32⟩
  | .hbm, ⟨3, _⟩ => ⟨S2x2048x2048, .f32⟩
  | .hbm, ⟨4, _⟩ => ⟨S2x2048x16x128, .f32⟩
  | .hbm, ⟨5, _⟩ => ⟨S2x16x2048x128, .f32⟩
  | .hbm, ⟨6, _⟩ => ⟨S2x2048x2048, .f32⟩
  | .hbm, ⟨7, _⟩ => ⟨S2x2048x16x128, .f32⟩
  | .hbm, ⟨8, _⟩ => ⟨S2x16x2048x128, .f32⟩
  | .hbm, ⟨9, _⟩ => ⟨S2x2048x2048, .f32⟩
  | .hbm, ⟨10, _⟩ => ⟨S2x2048x16x128, .f32⟩
  | .hbm, ⟨11, _⟩ => ⟨S2x16x2048x128, .f32⟩
  | .hbm, ⟨12, _⟩ => ⟨S2x16x2048x2048, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .i1⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S_, .f32⟩
  | .hbm, ⟨41, _⟩ => ⟨S2x16x2048x2048, .i1⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .i1⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S_, .f32⟩
  | .hbm, ⟨61, _⟩ => ⟨S_, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S2x16x2048x2048, .f32⟩
  | .hbm, ⟨66, _⟩ => ⟨S_, .f32⟩
  | .hbm, ⟨67, _⟩ => ⟨S_, .f32⟩
  | .hbm, ⟨68, _⟩ => ⟨S2x16x2048x2048, .i1⟩
  | .hbm, ⟨69, _⟩ => ⟨S2x16x2048x2048, .f32⟩
  | .hbm, ⟨70, _⟩ => ⟨S2x16x2048x2048, .f32⟩
  | .hbm, ⟨71, _⟩ => ⟨S2x16x2048x128, .f32⟩
  | .hbm, ⟨72, _⟩ => ⟨S2x2048x16x128, .f32⟩
  | .hbm, ⟨73, _⟩ => ⟨S2x2048x2048, .f32⟩
  | .hbm, ⟨74, _⟩ => ⟨S2x16x2048x2048, .f32⟩
  | .hbm, ⟨75, _⟩ => ⟨S_, .f32⟩
  | .hbm, ⟨76, _⟩ => ⟨S2x16x2048x2048, .f32⟩
  | .hbm, ⟨77, _⟩ => ⟨S2x16x2048x2048, .f32⟩
  | .hbm, ⟨78, _⟩ => ⟨S2048, .i32⟩
  | .hbm, ⟨79, _⟩ => ⟨S1x2048, .i32⟩
  | .hbm, ⟨80, _⟩ => ⟨S2048x1, .i32⟩
  | .hbm, ⟨81, _⟩ => ⟨S2048x2048, .i32⟩
  | .hbm, ⟨82, _⟩ => ⟨S2048x2048, .i32⟩
  | .hbm, ⟨83, _⟩ => ⟨S2048x2048, .i1⟩
  | .hbm, ⟨84, _⟩ => ⟨S2x16x2048x2048, .f32⟩
  | .hbm, ⟨85, _⟩ => ⟨S2x16x2048x2048, .f32⟩
  | .hbm, ⟨86, _⟩ => ⟨S_, .f32⟩
  | .hbm, ⟨87, _⟩ => ⟨S2x16x2048x2048, .f32⟩
  | .hbm, ⟨88, _⟩ => ⟨S2x16x2048x2048, .f32⟩
  | .hbm, ⟨89, _⟩ => ⟨S2x16x2048x2048, .f32⟩
  | .hbm, ⟨90, _⟩ => ⟨S2x16x2048x2048, .f32⟩
  | .hbm, ⟨91, _⟩ => ⟨S2x16x2048x2048, .i1⟩
  | .hbm, ⟨92, _⟩ => ⟨S2x16x2048x2048, .f32⟩
  | .hbm, ⟨93, _⟩ => ⟨S2x16x2048x2048, .f32⟩
  | .hbm, ⟨94, _⟩ => ⟨S2x16x2048x2048, .f32⟩
  | .hbm, ⟨95, _⟩ => ⟨S2x16x2048x2048, .f32⟩
  | .hbm, ⟨96, _⟩ => ⟨S2x16x2048x2048, .f32⟩
  | .hbm, ⟨97, _⟩ => ⟨S2x16x2048x2048, .f32⟩
  | .hbm, ⟨98, _⟩ => ⟨S2x16x2048x2048, .f32⟩
  | .hbm, ⟨99, _⟩ => ⟨S2x16x2048x2048, .f32⟩
  | .hbm, ⟨100, _⟩ => ⟨S2x16x2048x2048, .f32⟩
  | .hbm, ⟨101, _⟩ => ⟨S_, .f32⟩
  | .hbm, ⟨102, _⟩ => ⟨S_, .f32⟩
  | .hbm, ⟨103, _⟩ => ⟨S2x16x2048x2048, .i1⟩
  | .hbm, ⟨104, _⟩ => ⟨S2x16x2048x2048, .f32⟩
  | .hbm, ⟨105, _⟩ => ⟨S2x16x2048x2048, .f32⟩
  | .hbm, ⟨106, _⟩ => ⟨S_, .f32⟩
  | .hbm, ⟨107, _⟩ => ⟨S2x16x2048, .f32⟩
  | .hbm, ⟨108, _⟩ => ⟨S_, .f32⟩
  | .hbm, ⟨109, _⟩ => ⟨S_, .f32⟩
  | .hbm, ⟨110, _⟩ => ⟨S2x16x2048, .f32⟩
  | .hbm, ⟨111, _⟩ => ⟨S2x16x2048, .f32⟩
  | .hbm, ⟨112, _⟩ => ⟨S2x2048x16, .f32⟩
  | .hbm, ⟨113, _⟩ => ⟨S2x2048x16x1, .f32⟩
  | .hbm, ⟨114, _⟩ => ⟨S2x2048x16x128, .f32⟩
  | .hbm, ⟨115, _⟩ => ⟨S2x2048x2048, .f32⟩
  | .hbm, ⟨116, _⟩ => ⟨S4, .i32⟩
  | .hbm, ⟨117, _⟩ => ⟨S_, .i32⟩
  | .hbm, ⟨118, _⟩ => ⟨S4, .i32⟩
  | .hbm, ⟨119, _⟩ => ⟨S4, .i32⟩
  | .hbm, ⟨120, _⟩ => ⟨S4, .f32⟩
  | .hbm, ⟨121, _⟩ => ⟨S2x16x1x4, .f32⟩
  | .hbm, ⟨122, _⟩ => ⟨S2x2048x8x2048, .f32⟩
  | .hbm, ⟨123, _⟩ => ⟨S8x2x2048x2048, .f32⟩
  | .hbm, ⟨124, _⟩ => ⟨S2x2048x2x2048, .f32⟩
  | .hbm, ⟨125, _⟩ => ⟨S2x2x2048x2048, .f32⟩
  | .hbm, ⟨126, _⟩ => ⟨S8x2x2048x2048, .bf16⟩
  | .hbm, ⟨127, _⟩ => ⟨S2x1x2048, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x1x2048x128, .f32⟩
  | .local _ .vmem, ⟨13, _⟩ => ⟨S1x1x2048x128, .f32⟩
  | .local _ .vmem, ⟨14, _⟩ => ⟨S1x128, .f32⟩
  | .local _ .vmem, ⟨15, _⟩ => ⟨S1x128, .f32⟩
  | .local _ .vmem, ⟨16, _⟩ => ⟨S4x1x2048x128, .bf16⟩
  | .local _ .vmem, ⟨17, _⟩ => ⟨S4x1x2048x128, .bf16⟩
  | .local _ .vmem, ⟨18, _⟩ => ⟨S1x1x128, .f32⟩
  | .local _ .vmem, ⟨19, _⟩ => ⟨S1x1x128, .f32⟩
  | .local _ .vmem, ⟨20, _⟩ => ⟨S2048x128, .bf16⟩
  | .local _ .vmem, ⟨21, _⟩ => ⟨S2048x128, .f32⟩
  | .local _ .vmem, ⟨22, _⟩ => ⟨S2048x128, .f32⟩
  | .local _ .smem, ⟨0, _⟩ => ⟨S1x1x1x4, .f32⟩
  | .local _ .smem, ⟨1, _⟩ => ⟨S1x1x1x4, .f32⟩
  | _, _ => ⟨S2x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_v0 : Ref sig .tc := ⟨.hbm, 44, rfl⟩
abbrev main_call2_call0_cst : Ref sig .tc := ⟨.hbm, 45, rfl⟩
abbrev main_call2_call0_v0 : Ref sig .tc := ⟨.hbm, 46, rfl⟩
abbrev main_call2_call0_v1 : Ref sig .tc := ⟨.hbm, 47, rfl⟩
abbrev main_call2_call0_v2 : Ref sig .tc := ⟨.hbm, 48, rfl⟩
abbrev main_call2_call0_v3 : Ref sig .tc := ⟨.hbm, 49, rfl⟩
abbrev main_call2_call0_v4 : Ref sig .tc := ⟨.hbm, 50, rfl⟩
abbrev main_call2_call0_v5 : Ref sig .tc := ⟨.hbm, 51, rfl⟩
abbrev main_call2_call0_v6 : Ref sig .tc := ⟨.hbm, 52, rfl⟩
abbrev main_call2_call0_v7 : Ref sig .tc := ⟨.hbm, 53, rfl⟩
abbrev main_call2_call0_v8 : Ref sig .tc := ⟨.hbm, 54, rfl⟩
abbrev main_call2_call0_v9 : Ref sig .tc := ⟨.hbm, 55, rfl⟩
abbrev main_call2_call0_v10 : Ref sig .tc := ⟨.hbm, 56, rfl⟩
abbrev main_call2_call0_v11 : Ref sig .tc := ⟨.hbm, 57, rfl⟩
abbrev main_call2_v1 : Ref sig .tc := ⟨.hbm, 58, rfl⟩
abbrev main_v21 : Ref sig .tc := ⟨.hbm, 59, rfl⟩
abbrev main_call3_cst : Ref sig .tc := ⟨.hbm, 60, rfl⟩
abbrev main_call3_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_2 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_call5_v0 : Ref sig .tc := ⟨.hbm, 85, rfl⟩
abbrev main_call5_call0_cst : Ref sig .tc := ⟨.hbm, 86, rfl⟩
abbrev main_call5_call0_v0 : Ref sig .tc := ⟨.hbm, 87, rfl⟩
abbrev main_call5_call0_v1 : Ref sig .tc := ⟨.hbm, 88, rfl⟩
abbrev main_call5_call0_v2 : Ref sig .tc := ⟨.hbm, 89, rfl⟩
abbrev main_call5_call0_v3 : Ref sig .tc := ⟨.hbm, 90, rfl⟩
abbrev main_call5_call0_v4 : Ref sig .tc := ⟨.hbm, 91, rfl⟩
abbrev main_call5_call0_v5 : Ref sig .tc := ⟨.hbm, 92, rfl⟩
abbrev main_call5_call0_v6 : Ref sig .tc := ⟨.hbm, 93, rfl⟩
abbrev main_call5_call0_v7 : Ref sig .tc := ⟨.hbm, 94, rfl⟩
abbrev main_call5_call0_v8 : Ref sig .tc := ⟨.hbm, 95, rfl⟩
abbrev main_call5_call0_v9 : Ref sig .tc := ⟨.hbm, 96, rfl⟩
abbrev main_call5_call0_v10 : Ref sig .tc := ⟨.hbm, 97, rfl⟩
abbrev main_call5_call0_v11 : Ref sig .tc := ⟨.hbm, 98, rfl⟩
abbrev main_call5_v1 : Ref sig .tc := ⟨.hbm, 99, rfl⟩
abbrev main_v40 : Ref sig .tc := ⟨.hbm, 100, rfl⟩
abbrev main_cst_3 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v41 : Ref sig .tc := ⟨.hbm, 105, rfl⟩
abbrev main_cst_4 : Ref sig .tc := ⟨.hbm, 106, rfl⟩
abbrev main_v42 : Ref sig .tc := ⟨.hbm, 107, rfl⟩
abbrev main_cst_5 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_c : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59_0 : Ref sig .tc := ⟨.hbm, 126, rfl⟩
abbrev main_v59_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg8_0 : Ref sig .tc := ⟨.smem, 0, rfl⟩
abbrev cc0_stg8_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  v39
def k0_off1 (k0_t1 : Fin k0_t1_loop.trips) : Fin 3 → Nat :=
  let c0_26 : Index := 0#32
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v41 : Index := Scalar.indexCast v40
  let c0_27 : Index := 0#32
  ![0, v41.toNat, 0]
def k0_off2 (k0_t1 : Fin k0_t1_loop.trips) : Fin 4 → Nat :=
  let c0_28 : Index := 0#32
  let c0_29 : Index := 0#32
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v44 : Index := Scalar.indexCast v40
  let c0_30 : Index := 0#32
  ![0, 0, v44.toNat, 0]
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v102 : Index := Scalar.indexCast v40
  let c0_48 : Index := 0#32
  ![v102.toNat, 0]
def k0_off4 (k0_t1 : Fin k0_t1_loop.trips) : Fin 4 → Nat :=
  let c3_i32 : BitVec 32 := 3#32
  let c0_i32_45 : BitVec 32 := 0#32
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v102 : Index := Scalar.indexCast v40
  let c0_i32_47 : BitVec 32 := 0#32
  ![3, 0, v102.toNat, 0]
@[reducible] def k0_t2_loop : Scf.Loop 32 :=
  let c0_i32_12 : BitVec 32 := 0#32
  let c4_i32_13 : BitVec 32 := 4#32
  let v28 : BitVec 32 := Scalar.addi c0_i32_12 c4_i32_13
  let c1_i32_14 : BitVec 32 := 1#32
  ⟨c0_i32_12, v28, c1_i32_14⟩
def k0_mult2 (k0_t2 : Fin k0_t2_loop.trips) : BitVec 32 :=
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  v39
def k0_off5 (k0_t2 : Fin k0_t2_loop.trips) : Fin 4 → Nat :=
  let c0_26 : Index := 0#32
  let c0_27 : Index := 0#32
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v41 : Index := Scalar.indexCast v40
  let c0_28 : Index := 0#32
  ![0, 0, v41.toNat, 0]
def k0_off6 (k0_t2 : Fin k0_t2_loop.trips) : Fin 2 → Nat :=
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v45 : Index := Scalar.indexCast v40
  let c0_29 : Index := 0#32
  ![v45.toNat, 0]
def k0_off7 (k0_t2 : Fin k0_t2_loop.trips) : Fin 3 → Nat :=
  let c0_30 : Index := 0#32
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v47 : Index := Scalar.indexCast v40
  let c0_31 : Index := 0#32
  ![0, v47.toNat, 0]
def k0_off8 (k0_t2 : Fin k0_t2_loop.trips) : Fin 4 → Nat :=
  let c0_33 : Index := 0#32
  let c0_34 : Index := 0#32
  let c0_35 : Index := 0#32
  let c0_i32_12 : BitVec 32 := 0#32
  let c1_i32_14 : BitVec 32 := 1#32
  let arg16 : BitVec 32 := Scf.iv c0_i32_12 c1_i32_14 k0_t2
  let v52 : Index := Scalar.indexCast arg16
  ![0, 0, 0, v52.toNat]
@[reducible] def k0_t3_loop (k0_t2 : Fin k0_t2_loop.trips) (v54 : BitVec 32) : Scf.Loop 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_42 : BitVec 32 := 1#32
  ⟨v59, v66, c1_i32_42⟩

def k0_mult3 (k0_t2 : Fin k0_t2_loop.trips) (v54 : BitVec 32) (k0_t3 : Fin (k0_t3_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32 : BitVec 32 := 2#32
  let v74 : BitVec 32 := Scalar.muli arg17 c2_i32
  let c0_i32_48 : BitVec 32 := 0#32
  let v75 : BitVec 32 := Scalar.addi v74 c0_i32_48
  let c256_i32 : BitVec 32 := 256#32
  let v78 : BitVec 32 := Scalar.muli v75 c256_i32
  v78
def k0_mult4 (k0_t2 : Fin k0_t2_loop.trips) (v54 : BitVec 32) (k0_t3 : Fin (k0_t3_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32_49 : BitVec 32 := 2#32
  let v76 : BitVec 32 := Scalar.muli arg17 c2_i32_49
  let c1_i32_50 : BitVec 32 := 1#32
  let v77 : BitVec 32 := Scalar.addi v76 c1_i32_50
  let c256_i32_51 : BitVec 32 := 256#32
  let v80 : BitVec 32 := Scalar.muli v77 c256_i32_51
  v80
def k0_off9 (k0_t2 : Fin k0_t2_loop.trips) (v54 : BitVec 32) (k0_t3 : Fin (k0_t3_loop k0_t2 v54).trips) (c0_i32_48 : BitVec 32) : Fin 4 → Nat :=
  let c0_52 : Index := 0#32
  let c0_53 : Index := 0#32
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v82 : Index := Scalar.indexCast v79
  let c0_54 : Index := 0#32
  ![0, 0, v82.toNat, 0]
def k0_off10 (k0_t2 : Fin k0_t2_loop.trips) (v54 : BitVec 32) (k0_t3 : Fin (k0_t3_loop k0_t2 v54).trips) (c0_i32_48 : BitVec 32) : Fin 2 → Nat :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v240 : Index := Scalar.indexCast v79
  let c0_108 : Index := 0#32
  ![v240.toNat, 0]
@[reducible] def k0_t4_loop (k0_t2 : Fin k0_t2_loop.trips) (v54 : BitVec 32) : Scf.Loop 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let v63 : BitVec 32 := Scalar.addi v59 v62
  let c1_i32_43 : BitVec 32 := 1#32
  ⟨v66, v63, c1_i32_43⟩
def k0_mult5 (k0_t2 : Fin k0_t2_loop.trips) (v54 : BitVec 32) (k0_t4 : Fin (k0_t4_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32 : BitVec 32 := 2#32
  let v74 : BitVec 32 := Scalar.muli arg17 c2_i32
  let c0_i32_48 : BitVec 32 := 0#32
  let v75 : BitVec 32 := Scalar.addi v74 c0_i32_48
  let c256_i32 : BitVec 32 := 256#32
  let v78 : BitVec 32 := Scalar.muli v75 c256_i32
  v78
def k0_mult6 (k0_t2 : Fin k0_t2_loop.trips) (v54 : BitVec 32) (k0_t4 : Fin (k0_t4_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32_49 : BitVec 32 := 2#32
  let v76 : BitVec 32 := Scalar.muli arg17 c2_i32_49
  let c1_i32_50 : BitVec 32 := 1#32
  let v77 : BitVec 32 := Scalar.addi v76 c1_i32_50
  let c256_i32_51 : BitVec 32 := 256#32
  let v80 : BitVec 32 := Scalar.muli v77 c256_i32_51
  v80
def k0_off11 (k0_t2 : Fin k0_t2_loop.trips) (v54 : BitVec 32) (k0_t4 : Fin (k0_t4_loop k0_t2 v54).trips) (c0_i32_48 : BitVec 32) : Fin 4 → Nat :=
  let c0_52 : Index := 0#32
  let c0_53 : Index := 0#32
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v82 : Index := Scalar.indexCast v79
  let c0_54 : Index := 0#32
  ![0, 0, v82.toNat, 0]
def k0_off12 (k0_t2 : Fin k0_t2_loop.trips) (v54 : BitVec 32) (k0_t4 : Fin (k0_t4_loop k0_t2 v54).trips) (c0_i32_48 : BitVec 32) : Fin 2 → Nat :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v240 : Index := Scalar.indexCast v79
  let c0_108 : Index := 0#32
  ![v240.toNat, 0]

def k0_chk1 (k0_t2 : Fin k0_t2_loop.trips) (v54 : BitVec 32) : Prop :=
  ((k0_t3_loop k0_t2 v54).OK) ∧
  (∀ k0_t3 : Fin (k0_t3_loop k0_t2 v54).trips, 256 ∣ (k0_mult3 k0_t2 v54 k0_t3).toNat) ∧
  (∀ k0_t3 : Fin (k0_t3_loop k0_t2 v54).trips, 256 ∣ (k0_mult4 k0_t2 v54 k0_t3).toNat) ∧
  (∀ k0_t3 : Fin (k0_t3_loop k0_t2 v54).trips, ∀ (r : Fin 2), ∀ a, (k0_off9 k0_t2 v54 k0_t3 (BitVec.ofNat 32 r.val)) a + S1x1x256x128.size a ≤ S1x1x2048x128.size a) ∧
  (∀ k0_t3 : Fin (k0_t3_loop k0_t2 v54).trips, ∀ (r : Fin 2), ∀ a, (k0_off10 k0_t2 v54 k0_t3 (BitVec.ofNat 32 r.val)) a + S256x128.size a ≤ S2048x128.size a) ∧
  ((k0_t4_loop k0_t2 v54).OK) ∧
  (∀ k0_t4 : Fin (k0_t4_loop k0_t2 v54).trips, 256 ∣ (k0_mult5 k0_t2 v54 k0_t4).toNat) ∧
  (∀ k0_t4 : Fin (k0_t4_loop k0_t2 v54).trips, 256 ∣ (k0_mult6 k0_t2 v54 k0_t4).toNat) ∧
  (∀ k0_t4 : Fin (k0_t4_loop k0_t2 v54).trips, ∀ (r : Fin 2), ∀ a, (k0_off11 k0_t2 v54 k0_t4 (BitVec.ofNat 32 r.val)) a + S1x1x256x128.size a ≤ S1x1x2048x128.size a) ∧
  (∀ k0_t4 : Fin (k0_t4_loop k0_t2 v54).trips, ∀ (r : Fin 2), ∀ a, (k0_off12 k0_t2 v54 k0_t4 (BitVec.ofNat 32 r.val)) a + S256x128.size a ≤ S2048x128.size a)
theorem k0_t3_ok : ∀ (k0_t2 : Fin k0_t2_loop.trips) (v54 : BitVec 32) (k0_hw1 : k0_chk1 k0_t2 v54), (k0_t3_loop k0_t2 v54).OK := fun k0_t2 v54 k0_hw1 => k0_hw1.1
theorem k0_mult3_dvd : ∀ (k0_t2 : Fin k0_t2_loop.trips) (v54 : BitVec 32) (k0_hw1 : k0_chk1 k0_t2 v54) (k0_t3 : Fin (k0_t3_loop k0_t2 v54).trips), 256 ∣ (k0_mult3 k0_t2 v54 k0_t3).toNat := fun k0_t2 v54 k0_hw1 k0_t3 => k0_hw1.2.1 k0_t3
theorem k0_mult4_dvd : ∀ (k0_t2 : Fin k0_t2_loop.trips) (v54 : BitVec 32) (k0_hw1 : k0_chk1 k0_t2 v54) (k0_t3 : Fin (k0_t3_loop k0_t2 v54).trips), 256 ∣ (k0_mult4 k0_t2 v54 k0_t3).toNat := fun k0_t2 v54 k0_hw1 k0_t3 => k0_hw1.2.2.1 k0_t3
theorem k0_off9_inb : ∀ (k0_t2 : Fin k0_t2_loop.trips) (v54 : BitVec 32) (k0_hw1 : k0_chk1 k0_t2 v54) (k0_t3 : Fin (k0_t3_loop k0_t2 v54).trips), ∀ (r : Fin 2), ∀ a, (k0_off9 k0_t2 v54 k0_t3 (BitVec.ofNat 32 r.val)) a + S1x1x256x128.size a ≤ S1x1x2048x128.size a := fun k0_t2 v54 k0_hw1 k0_t3 r => k0_hw1.2.2.2.1 k0_t3 r
theorem k0_off10_inb : ∀ (k0_t2 : Fin k0_t2_loop.trips) (v54 : BitVec 32) (k0_hw1 : k0_chk1 k0_t2 v54) (k0_t3 : Fin (k0_t3_loop k0_t2 v54).trips), ∀ (r : Fin 2), ∀ a, (k0_off10 k0_t2 v54 k0_t3 (BitVec.ofNat 32 r.val)) a + S256x128.size a ≤ S2048x128.size a := fun k0_t2 v54 k0_hw1 k0_t3 r => k0_hw1.2.2.2.2.1 k0_t3 r
theorem k0_t4_ok : ∀ (k0_t2 : Fin k0_t2_loop.trips) (v54 : BitVec 32) (k0_hw1 : k0_chk1 k0_t2 v54), (k0_t4_loop k0_t2 v54).OK := fun k0_t2 v54 k0_hw1 => k0_hw1.2.2.2.2.2.1
theorem k0_mult5_dvd : ∀ (k0_t2 : Fin k0_t2_loop.trips) (v54 : BitVec 32) (k0_hw1 : k0_chk1 k0_t2 v54) (k0_t4 : Fin (k0_t4_loop k0_t2 v54).trips), 256 ∣ (k0_mult5 k0_t2 v54 k0_t4).toNat := fun k0_t2 v54 k0_hw1 k0_t4 => k0_hw1.2.2.2.2.2.2.1 k0_t4
theorem k0_mult6_dvd : ∀ (k0_t2 : Fin k0_t2_loop.trips) (v54 : BitVec 32) (k0_hw1 : k0_chk1 k0_t2 v54) (k0_t4 : Fin (k0_t4_loop k0_t2 v54).trips), 256 ∣ (k0_mult6 k0_t2 v54 k0_t4).toNat := fun k0_t2 v54 k0_hw1 k0_t4 => k0_hw1.2.2.2.2.2.2.2.1 k0_t4
theorem k0_off11_inb : ∀ (k0_t2 : Fin k0_t2_loop.trips) (v54 : BitVec 32) (k0_hw1 : k0_chk1 k0_t2 v54) (k0_t4 : Fin (k0_t4_loop k0_t2 v54).trips), ∀ (r : Fin 2), ∀ a, (k0_off11 k0_t2 v54 k0_t4 (BitVec.ofNat 32 r.val)) a + S1x1x256x128.size a ≤ S1x1x2048x128.size a := fun k0_t2 v54 k0_hw1 k0_t4 r => k0_hw1.2.2.2.2.2.2.2.2.1 k0_t4 r
theorem k0_off12_inb : ∀ (k0_t2 : Fin k0_t2_loop.trips) (v54 : BitVec 32) (k0_hw1 : k0_chk1 k0_t2 v54) (k0_t4 : Fin (k0_t4_loop k0_t2 v54).trips), ∀ (r : Fin 2), ∀ a, (k0_off12 k0_t2 v54 k0_t4 (BitVec.ofNat 32 r.val)) a + S256x128.size a ≤ S2048x128.size a := fun k0_t2 v54 k0_hw1 k0_t4 r => k0_hw1.2.2.2.2.2.2.2.2.2 k0_t4 r

def k0_off13 (k0_t2 : Fin k0_t2_loop.trips) : Fin 2 → Nat :=
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v72 : Index := Scalar.indexCast v40
  let c0_47 : Index := 0#32
  ![v72.toNat, 0]
def k0_off14 (k0_t2 : Fin k0_t2_loop.trips) : Fin 4 → Nat :=
  let c0_i32_11 : BitVec 32 := 0#32
  let c0_i32_44 : BitVec 32 := 0#32
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v72 : Index := Scalar.indexCast v40
  let c0_i32_46 : BitVec 32 := 0#32
  ![0, 0, v72.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .smem S1x1x1x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SbIdeal.lean ====
variable {F : FTy → Type} [FloatOps F] [Named F]
def κ : String → Option EReal := fun
  | "log2e" => some (((Real.log 2)⁻¹ : ℝ) : EReal)
  | "logit" => some (((11863283 / 134217728) * (Real.log 2)⁻¹ : ℝ) : EReal)
  | "mask" => some ⊥
  | _ => none
-- ==== SbRefIdeal.lean ====
abbrev S2x2048x16384 : Shape := ⟨3, ![2, 2048, 16384]⟩
abbrev S2x2048x4096 : Shape := ⟨3, ![2, 2048, 4096]⟩
abbrev S1x2048 : Shape := ⟨2, ![1, 2048]⟩
abbrev S2x2048x2048 : Shape := ⟨3, ![2, 2048, 2048]⟩
abbrev S2x1x2048 : Shape := ⟨3, ![2, 1, 2048]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x2048 : Shape := ⟨2, ![2, 2048]⟩
abbrev S2x16x128x2048 : Shape := ⟨4, ![2, 16, 128, 2048]⟩
abbrev S1x2x2048x2048 : Shape := ⟨4, ![1, 2, 2048, 2048]⟩
abbrev S4x2x2048x2048 : Shape := ⟨4, ![4, 2, 2048, 2048]⟩
abbrev S8x2x2048x2048 : Shape := ⟨4, ![8, 2, 2048, 2048]⟩

abbrev nBuf : Space → Nat
  | .hbm => 252
  | .vmem => 0
  | .smem => 0
  | _ => 0

abbrev hbmTy0_0 (i : Nat) : BufTy := match i % 128 with
  | 0 => ⟨S2x2048x16384, .f32⟩
  | 1 => ⟨S2x2048x4096, .f32⟩
  | 2 => ⟨S1x2048, .f32⟩
  | 3 => ⟨S2x2048x2048, .f32⟩
  | 4 => ⟨S2x2048x2048, .f32⟩
  | 5 => ⟨S2x2048x2048, .f32⟩
  | 6 => ⟨S2x2048x2048, .f32⟩
  | 7 => ⟨S2x1x2048, .f32⟩
  | 8 => ⟨S2x2048x16x128, .f32⟩
  | 9 => ⟨S2x16x2048x128, .f32⟩
  | 10 => ⟨S2x2048x16x128, .f32⟩
  | 11 => ⟨S2x16x2048x128, .f32⟩
  | 12 => ⟨S2x2048x16x128, .f32⟩
  | 13 => ⟨S2x16x2048x128, .f32⟩
  | 14 => ⟨S2x16x2048x2048, .f32⟩
  | 15 => ⟨S_, .f32⟩
  | 16 => ⟨S2x16x2048x2048, .f32⟩
  | 17 => ⟨S2x16x2048x2048, .f32⟩
  | 18 => ⟨S2048, .i32⟩
  | 19 => ⟨S1x2048, .i32⟩
  | 20 => ⟨S2048x1, .i32⟩
  | 21 => ⟨S2048x2048, .i32⟩
  | 22 => ⟨S2048x2048, .i32⟩
  | 23 => ⟨S2048x2048, .i1⟩
  | 24 => ⟨S2x16x2048x2048, .f32⟩
  | 25 => ⟨S2x16x2048x2048, .f32⟩
  | 26 => ⟨S_, .f32⟩
  | 27 => ⟨S2x16x2048x2048, .f32⟩
  | 28 => ⟨S2x16x2048x2048, .f32⟩
  | 29 => ⟨S2x16x2048x2048, .f32⟩
  | 30 => ⟨S2x16x2048x2048, .f32⟩
  | 31 => ⟨S2x16x2048x2048, .i1⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S_, .f32⟩
  | 41 => ⟨S2x16x2048x2048, .f32⟩
  | 42 => ⟨S2x16x2048x2048, .i1⟩
  | 43 => ⟨S_, .f32⟩
  | 44 => ⟨S2x16x2048x2048, .f32⟩
  | 45 => ⟨S2x16x2048x2048, .f32⟩
  | 46 => ⟨S_, .f32⟩
  | 47 => ⟨S2x16x2048x2048, .f32⟩
  | 48 => ⟨S2x16x2048x2048, .i1⟩
  | 49 => ⟨S_, .f32⟩
  | 50 => ⟨S2x16x2048x2048, .f32⟩
  | 51 => ⟨S2x16x2048x2048, .f32⟩
  | 52 => ⟨S2x16x2048x2048, .f32⟩
  | 53 => ⟨S2x16x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S2x16x2048x2048, .f32⟩
  | 62 => ⟨S2x16x2048x2048, .i1⟩
  | 63 => ⟨S_, .f32⟩
  | 64 => ⟨S2x16x2048x2048, .f32⟩
  | 65 => ⟨S2x16x2048x2048, .f32⟩
  | 66 => ⟨S2x16x2048x2048, .f32⟩
  | 67 => ⟨S2x16x2048x2048, .f32⟩
  | 68 => ⟨S2x16x2048x2048, .f32⟩
  | 69 => ⟨S_, .f32⟩
  | 70 => ⟨S2x16x2048x2048, .f32⟩
  | 71 => ⟨S2x16x2048x2048, .f32⟩
  | 72 => ⟨S2x16x2048x2048, .f32⟩
  | 73 => ⟨S_, .f32⟩
  | 74 => ⟨S_, .f32⟩
  | 75 => ⟨S2x16x2048x2048, .i1⟩
  | 76 => ⟨S2x16x2048x2048, .f32⟩
  | 77 => ⟨S2x16x2048x2048, .f32⟩
  | 78 => ⟨S_, .f32⟩
  | 79 => ⟨S2x16x2048x2048, .f32⟩
  | 80 => ⟨S2x16x2048x2048, .f32⟩
  | 81 => ⟨S_, .f32⟩
  | 82 => ⟨S2x16x2048x2048, .f32⟩
  | 83 => ⟨S2x16x2048x2048, .f32⟩
  | 84 => ⟨S2x16x2048x2048, .f32⟩
  | 85 => ⟨S2x16x2048x2048, .f32⟩
  | 86 => ⟨S2x16x2048x2048, .i1⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .f32⟩
  | 92 => ⟨S2x16x2048x2048, .f32⟩
  | 93 => ⟨S2x16x2048x2048, .f32⟩
  | 94 => ⟨S2x16x2048x2048, .f32⟩
  | 95 => ⟨S_, .f32⟩
  | 96 => ⟨S2x16x2048x2048, .f32⟩
  | 97 => ⟨S2x16x2048x2048, .i1⟩
  | 98 => ⟨S_, .f32⟩
  | 99 => ⟨S2x16x2048x2048, .f32⟩
  | 100 => ⟨S2x16x2048x2048, .f32⟩
  | 101 => ⟨S_, .f32⟩
  | 102 => ⟨S2x16x2048x2048, .f32⟩
  | 103 => ⟨S2x16x2048x2048, .i1⟩
  | 104 => ⟨S_, .f32⟩
  | 105 => ⟨S2x16x2048x2048, .f32⟩
  | 106 => ⟨S2x16x2048x2048, .f32⟩
  | 107 => ⟨S2x16x2048x2048, .f32⟩
  | 108 => ⟨S2x16x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S2x16x2048x2048, .f32⟩
  | 117 => ⟨S2x16x2048x2048, .i1⟩
  | 118 => ⟨S_, .f32⟩
  | 119 => ⟨S2x16x2048x2048, .f32⟩
  | 120 => ⟨S2x16x2048x2048, .f32⟩
  | 121 => ⟨S2x16x2048x2048, .f32⟩
  | 122 => ⟨S2x16x2048x2048, .f32⟩
  | 123 => ⟨S2x16x2048x2048, .f32⟩
  | 124 => ⟨S_, .f32⟩
  | 125 => ⟨S2x16x2048x2048, .f32⟩
  | 126 => ⟨S2x16x2048x2048, .f32⟩
  | 127 => ⟨S2x16x2048x2048, .f32⟩
  | _ => ⟨S2x2048x16384, .f32⟩

abbrev hbmTy0_1 (i : Nat) : BufTy := match i % 128 with
  | 0 => ⟨S_, .f32⟩
  | 1 => ⟨S_, .f32⟩
  | 2 => ⟨S2x16x2048x2048, .f32⟩
  | 3 => ⟨S2x16x2048x2048, .f32⟩
  | 4 => ⟨S2x16x2048x2048, .f32⟩
  | 5 => ⟨S2x16x2048x2048, .f32⟩
  | 6 => ⟨S_, .f32⟩
  | 7 => ⟨S_, .f32⟩
  | 8 => ⟨S2x16x2048x2048, .i1⟩
  | 9 => ⟨S2x16x2048x2048, .f32⟩
  | 10 => ⟨S2x16x2048x2048, .f32⟩
  | 11 => ⟨S_, .f32⟩
  | 12 => ⟨S2x16x2048x2048, .f32⟩
  | 13 => ⟨S2x16x2048x128, .f32⟩
  | 14 => ⟨S2x16x2048x128, .f32⟩
  | 15 => ⟨S_, .f32⟩
  | 16 => ⟨S2x16x2048, .f32⟩
  | 17 => ⟨S2x16x2048x1, .f32⟩
  | 18 => ⟨S_, .f32⟩
  | 19 => ⟨S2x16x2048x1, .f32⟩
  | 20 => ⟨S2x16x2048x1, .f32⟩
  | 21 => ⟨S_, .f32⟩
  | 22 => ⟨S2x16x2048x1, .f32⟩
  | 23 => ⟨S2x16x2048x1, .f32⟩
  | 24 => ⟨S2x16x2048x1, .f32⟩
  | 25 => ⟨S2x16x2048x1, .f32⟩
  | 26 => ⟨S_, .f32⟩
  | 27 => ⟨S2x16x2048x1, .f32⟩
  | 28 => ⟨S2x16x2048x1, .f32⟩
  | 29 => ⟨S2x16x2048x128, .f32⟩
  | 30 => ⟨S2x16x2048x128, .f32⟩
  | 31 => ⟨S2x2048x16x128, .f32⟩
  | 32 => ⟨S2x2048x2048, .f32⟩
  | 33 => ⟨S2x2048x2048, .f32⟩
  | 34 => ⟨S2x2048x2048, .f32⟩
  | 35 => ⟨S2x2048x2048, .f32⟩
  | 36 => ⟨S2x2048x2048, .f32⟩
  | 37 => ⟨S_, .f32⟩
  | 38 => ⟨S2x2048x2048, .f32⟩
  | 39 => ⟨S2x2048x2048, .f32⟩
  | 40 => ⟨S_, .f32⟩
  | 41 => ⟨S2x2048x2048, .f32⟩
  | 42 => ⟨S2x2048x2048, .f32⟩
  | 43 => ⟨S_, .f32⟩
  | 44 => ⟨S2x2048x2048, .f32⟩
  | 45 => ⟨S2x2048x2048, .f32⟩
  | 46 => ⟨S2x2048x2048, .f32⟩
  | 47 => ⟨S2x2048x2048, .f32⟩
  | 48 => ⟨S2x2048x2048, .f32⟩
  | 49 => ⟨S2x2048x2048, .f32⟩
  | 50 => ⟨S2x2048x2048, .f32⟩
  | 51 => ⟨S2x2048x2048, .f32⟩
  | 52 => ⟨S2x2048x2048, .f32⟩
  | 53 => ⟨S2x2048x2048, .f32⟩
  | 54 => ⟨S2x2048x2048, .f32⟩
  | 55 => ⟨S2x2048x2048, .f32⟩
  | 56 => ⟨S2x2048x2048, .f32⟩
  | 57 => ⟨S_, .f32⟩
  | 58 => ⟨S2x2048, .f32⟩
  | 59 => ⟨S2x1x2048, .f32⟩
  | 60 => ⟨S2x2048x2048, .f32⟩
  | 61 => ⟨S2x2048x2048, .f32⟩
  | 62 => ⟨S2x2048x16x128, .f32⟩
  | 63 => ⟨S2x16x2048x128, .f32⟩
  | 64 => ⟨S2x16x2048x128, .f32⟩
  | 65 => ⟨S_, .f32⟩
  | 66 => ⟨S2x16x2048, .f32⟩
  | 67 => ⟨S2x16x2048x1, .f32⟩
  | 68 => ⟨S2x16x2048x128, .f32⟩
  | 69 => ⟨S2x16x2048x128, .f32⟩
  | 70 => ⟨S2x16x2048x1, .f32⟩
  | 71 => ⟨S_, .f32⟩
  | 72 => ⟨S2x16x2048x1, .f32⟩
  | 73 => ⟨S2x16x2048x1, .f32⟩
  | 74 => ⟨S_, .f32⟩
  | 75 => ⟨S2x16x2048, .f32⟩
  | 76 => ⟨S2x16x2048x128, .f32⟩
  | 77 => ⟨S2x16x2048x128, .f32⟩
  | 78 => ⟨S2x16x2048x128, .f32⟩
  | 79 => ⟨S2x16x2048x128, .f32⟩
  | 80 => ⟨S2x16x2048x128, .f32⟩
  | 81 => ⟨S2x16x128x2048, .f32⟩
  | 82 => ⟨S2x16x2048x128, .f32⟩
  | 83 => ⟨S2x16x2048x2048, .f32⟩
  | 84 => ⟨S_, .f32⟩
  | 85 => ⟨S2x16x2048x2048, .f32⟩
  | 86 => ⟨S2x16x2048x2048, .f32⟩
  | 87 => ⟨S2x16x2048x2048, .f32⟩
  | 88 => ⟨S2x16x2048x2048, .f32⟩
  | 89 => ⟨S_, .f32⟩
  | 90 => ⟨S_, .f32⟩
  | 91 => ⟨S2x16x2048x2048, .f32⟩
  | 92 => ⟨S2x16x2048x2048, .f32⟩
  | 93 => ⟨S2x16x2048x2048, .f32⟩
  | 94 => ⟨S2x16x2048x2048, .f32⟩
  | 95 => ⟨S2x16x2048x2048, .f32⟩
  | 96 => ⟨S_, .f32⟩
  | 97 => ⟨S2x16x2048x2048, .f32⟩
  | 98 => ⟨S2x16x2048x2048, .f32⟩
  | 99 => ⟨S2x16x2048x2048, .f32⟩
  | 100 => ⟨S2x16x2048x2048, .f32⟩
  | 101 => ⟨S2x16x2048x2048, .f32⟩
  | 102 => ⟨S2x16x2048x2048, .f32⟩
  | 103 => ⟨S2x16x2048x2048, .f32⟩
  | 104 => ⟨S_, .f32⟩
  | 105 => ⟨S2x16x2048x2048, .f32⟩
  | 106 => ⟨S2x16x2048x2048, .f32⟩
  | 107 => ⟨S2x16x2048x128, .f32⟩
  | 108 => ⟨S2x16x2048x128, .f32⟩
  | 109 => ⟨S2x2048x16x128, .f32⟩
  | 110 => ⟨S2x2048x2048, .f32⟩
  | 111 => ⟨S2x2048x16x128, .f32⟩
  | 112 => ⟨S2x2048x2048, .f32⟩
  | 113 => ⟨S2x2048x16x128, .f32⟩
  | 114 => ⟨S2x2048x2048, .f32⟩
  | 115 => ⟨S1x2x2048x2048, .f32⟩
  | 116 => ⟨S1x2x2048x2048, .f32⟩
  | 117 => ⟨S1x2x2048x2048, .f32⟩
  | 118 => ⟨S1x2x2048x2048, .f32⟩
  | 119 => ⟨S4x2x2048x2048, .f32⟩
  | 120 => ⟨S4x2x2048x2048, .bf16⟩
  | 121 => ⟨S_, .bf16⟩
  | 122 => ⟨S4x2x2048x2048, .bf16⟩
  | 123 => ⟨S8x2x2048x2048, .bf16⟩
  | _ => ⟨S2x2048x16384, .f32⟩

abbrev hbmTy (i : Nat) : BufTy := match i / 128 with
  | 0 => hbmTy0_0 i
  | 1 => hbmTy0_1 i
  | _ => ⟨S2x2048x16384, .f32⟩

abbrev bufTy : (tb : Table) → Fin (tcTables nBuf tb) → BufTy
  | .hbm, ⟨i, _⟩ => hbmTy i
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v21_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v21_2 : Ref sig .tc := ⟨.hbm, 71, rfl⟩
abbrev main_v21_0 : Ref sig .tc := ⟨.hbm, 72, rfl⟩
abbrev main_cst_0 : Ref sig .tc := ⟨.hbm, 73, rfl⟩
abbrev main_call1_v0 : Ref sig .tc := ⟨.hbm, 74, rfl⟩
abbrev main_v22_1 : Ref sig .tc := ⟨.hbm, 75, rfl⟩
abbrev main_call1_v2 : Ref sig .tc := ⟨.hbm, 76, rfl⟩
abbrev main_v22_0 : Ref sig .tc := ⟨.hbm, 77, rfl⟩
abbrev main_call1_cst : Ref sig .tc := ⟨.hbm, 78, rfl⟩
abbrev main_v22_2 : Ref sig .tc := ⟨.hbm, 79, rfl⟩
abbrev main_call2_v0 : Ref sig .tc := ⟨.hbm, 80, rfl⟩
abbrev main_call2_call0_cst : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_call0_v2 : Ref sig .tc := ⟨.hbm, 84, rfl⟩
abbrev main_call2_call0_v3 : Ref sig .tc := ⟨.hbm, 85, rfl⟩
abbrev main_call2_call0_v4 : Ref sig .tc := ⟨.hbm, 86, rfl⟩
abbrev main_call2_call0_v5 : Ref sig .tc := ⟨.hbm, 87, rfl⟩
abbrev main_call2_call0_v6 : Ref sig .tc := ⟨.hbm, 88, rfl⟩
abbrev main_call2_call0_v7 : Ref sig .tc := ⟨.hbm, 89, rfl⟩
abbrev main_call2_call0_v8 : Ref sig .tc := ⟨.hbm, 90, rfl⟩
abbrev main_call2_call0_v9 : Ref sig .tc := ⟨.hbm, 91, rfl⟩
abbrev main_call2_call0_v10 : Ref sig .tc := ⟨.hbm, 92, rfl⟩
abbrev main_call2_call0_v11 : Ref sig .tc := ⟨.hbm, 93, rfl⟩
abbrev main_call2_v1_0 : Ref sig .tc := ⟨.hbm, 94, rfl⟩
abbrev main_call2_call0_cst_0 : Ref sig .tc := ⟨.hbm, 95, rfl⟩
abbrev main_call2_call0_v13 : Ref sig .tc := ⟨.hbm, 96, rfl⟩
abbrev main_call2_call0_v14 : Ref sig .tc := ⟨.hbm, 97, rfl⟩
abbrev main_call2_call0_cst_1 : Ref sig .tc := ⟨.hbm, 98, rfl⟩
abbrev main_call2_call0_v15 : Ref sig .tc := ⟨.hbm, 99, rfl⟩
abbrev main_call2_call0_v16 : Ref sig .tc := ⟨.hbm, 100, rfl⟩
abbrev main_call2_call0_cst_2 : Ref sig .tc := ⟨.hbm, 101, rfl⟩
abbrev main_call2_call0_v17 : Ref sig .tc := ⟨.hbm, 102, rfl⟩
abbrev main_call2_call0_v18 : Ref sig .tc := ⟨.hbm, 103, rfl⟩
abbrev main_call2_call0_cst_3 : Ref sig .tc := ⟨.hbm, 104, rfl⟩
abbrev main_call2_call0_v19 : Ref sig .tc := ⟨.hbm, 105, rfl⟩
abbrev main_call2_call0_v20 : Ref sig .tc := ⟨.hbm, 106, rfl⟩
abbrev main_call2_call0_v21 : Ref sig .tc := ⟨.hbm, 107, rfl⟩
abbrev main_v23_1 : Ref sig .tc := ⟨.hbm, 108, rfl⟩
abbrev main_call2_call0_cst_4 : Ref sig .tc := ⟨.hbm, 109, rfl⟩
abbrev main_call2_call0_cst_5 : Ref sig .tc := ⟨.hbm, 110, rfl⟩
abbrev main_call2_call0_v23 : Ref sig .tc := ⟨.hbm, 111, rfl⟩
abbrev main_call2_call0_cst_6 : Ref sig .tc := ⟨.hbm, 112, rfl⟩
abbrev main_call2_call0_cst_7 : Ref sig .tc := ⟨.hbm, 113, rfl⟩
abbrev main_call2_call0_v24 : Ref sig .tc := ⟨.hbm, 114, rfl⟩
abbrev main_call2_call0_cst_8 : Ref sig .tc := ⟨.hbm, 115, rfl⟩
abbrev main_call2_call0_v25 : Ref sig .tc := ⟨.hbm, 116, rfl⟩
abbrev main_call2_call0_v26 : Ref sig .tc := ⟨.hbm, 117, rfl⟩
abbrev main_call2_call0_cst_9 : Ref sig .tc := ⟨.hbm, 118, rfl⟩
abbrev main_call2_call0_v27 : Ref sig .tc := ⟨.hbm, 119, rfl⟩
abbrev main_call2_call0_v28 : Ref sig .tc := ⟨.hbm, 120, rfl⟩
abbrev main_call2_call0_v29 : Ref sig .tc := ⟨.hbm, 121, rfl⟩
abbrev main_call2_call0_v30 : Ref sig .tc := ⟨.hbm, 122, rfl⟩
abbrev main_call2_call0_v31 : Ref sig .tc := ⟨.hbm, 123, rfl⟩
abbrev main_call2_call0_cst_10 : Ref sig .tc := ⟨.hbm, 124, rfl⟩
abbrev main_call2_call0_v32 : Ref sig .tc := ⟨.hbm, 125, rfl⟩
abbrev main_v23_2 : Ref sig .tc := ⟨.hbm, 126, rfl⟩
abbrev main_v23_0 : Ref sig .tc := ⟨.hbm, 127, rfl⟩
abbrev main_call3_cst : Ref sig .tc := ⟨.hbm, 128, rfl⟩
abbrev main_call3_v0 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_cst_1 : Ref sig .tc := ⟨.hbm, 134, rfl⟩
abbrev main_call4_v0 : Ref sig .tc := ⟨.hbm, 135, rfl⟩
abbrev main_v28_1 : Ref sig .tc := ⟨.hbm, 136, rfl⟩
abbrev main_call4_v2 : Ref sig .tc := ⟨.hbm, 137, rfl⟩
abbrev main_v28_0 : Ref sig .tc := ⟨.hbm, 138, rfl⟩
abbrev main_call4_cst : Ref sig .tc := ⟨.hbm, 139, rfl⟩
abbrev main_v28_2 : Ref sig .tc := ⟨.hbm, 140, rfl⟩
abbrev main_v29 : Ref sig .tc := ⟨.hbm, 141, rfl⟩
abbrev main_v30 : Ref sig .tc := ⟨.hbm, 142, rfl⟩
abbrev main_cst_2 : Ref sig .tc := ⟨.hbm, 143, rfl⟩
abbrev main_v31 : Ref sig .tc := ⟨.hbm, 144, rfl⟩
abbrev main_v32 : Ref sig .tc := ⟨.hbm, 145, rfl⟩
abbrev main_cst_3 : Ref sig .tc := ⟨.hbm, 146, rfl⟩
abbrev main_v33 : Ref sig .tc := ⟨.hbm, 147, rfl⟩
abbrev main_v34 : Ref sig .tc := ⟨.hbm, 148, rfl⟩
abbrev main_cst_4 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_cst_5 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_v47_2 : Ref sig .tc := ⟨.hbm, 170, rfl⟩
abbrev main_call5_cst_1 : Ref sig .tc := ⟨.hbm, 171, rfl⟩
abbrev main_call5_v6 : Ref sig .tc := ⟨.hbm, 172, rfl⟩
abbrev main_call5_v7 : Ref sig .tc := ⟨.hbm, 173, rfl⟩
abbrev main_v47_1 : Ref sig .tc := ⟨.hbm, 174, rfl⟩
abbrev main_v47_0 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_v52 : Ref sig .tc := ⟨.hbm, 183, rfl⟩
abbrev main_v53 : Ref sig .tc := ⟨.hbm, 184, rfl⟩
abbrev main_cst_6 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_v60 : Ref sig .tc := ⟨.hbm, 192, rfl⟩
abbrev main_cst_7 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_cst_8 : Ref sig .tc := ⟨.hbm, 199, rfl⟩
abbrev main_v66 : Ref sig .tc := ⟨.hbm, 200, rfl⟩
abbrev main_v67 : Ref sig .tc := ⟨.hbm, 201, rfl⟩
abbrev main_cst_9 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_call7_cst : Ref sig .tc := ⟨.hbm, 212, rfl⟩
abbrev main_call7_v0 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev main_call8_cst : Ref sig .tc := ⟨.hbm, 217, rfl⟩
abbrev main_call8_v0 : Ref sig .tc := ⟨.hbm, 218, rfl⟩
abbrev main_v80 : Ref sig .tc := ⟨.hbm, 219, rfl⟩
abbrev main_v81 : Ref sig .tc := ⟨.hbm, 220, rfl⟩
abbrev main_call9_v0 : Ref sig .tc := ⟨.hbm, 221, rfl⟩
abbrev main_call9_v1 : Ref sig .tc := ⟨.hbm, 222, rfl⟩
abbrev main_v82 : Ref sig .tc := ⟨.hbm, 223, rfl⟩
abbrev main_call10_cst : Ref sig .tc := ⟨.hbm, 224, rfl⟩
abbrev main_call10_v0 : Ref sig .tc := ⟨.hbm, 225, rfl⟩
abbrev main_v83 : Ref sig .tc := ⟨.hbm, 226, rfl⟩
abbrev main_call11_v0 : Ref sig .tc := ⟨.hbm, 227, rfl⟩
abbrev main_call11_v1 : Ref sig .tc := ⟨.hbm, 228, rfl⟩
abbrev main_v84 : Ref sig .tc := ⟨.hbm, 229, rfl⟩
abbrev main_v85 : Ref sig .tc := ⟨.hbm, 230, rfl⟩
abbrev main_v86 : Ref sig .tc := ⟨.hbm, 231, rfl⟩
abbrev main_cst_10 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩
abbrev main_v101 : Ref sig .tc := ⟨.hbm, 247, rfl⟩
abbrev main_v102 : Ref sig .tc := ⟨.hbm, 248, rfl⟩
abbrev main_cst_11 : Ref sig .tc := ⟨.hbm, 249, rfl⟩
abbrev main_v103 : Ref sig .tc := ⟨.hbm, 250, rfl⟩
abbrev main_v104 : Ref sig .tc := ⟨.hbm, 251, rfl⟩

abbrev nD : Nat := 1
abbrev τ : Topo := Topo.v7x

variable {F : FTy → Type} [FloatOps F]
-- ==== SbFwd.lean ====
abbrev S2x2048x16384 : Shape := ⟨3, ![2, 2048, 16384]⟩
abbrev S1x2048 : Shape := ⟨2, ![1, 2048]⟩
abbrev S2x2048x8x2048 : Shape := ⟨4, ![2, 2048, 8, 2048]⟩
abbrev S8x2x2048x2048 : Shape := ⟨4, ![8, 2, 2048, 2048]⟩
abbrev S2x2048x2048 : Shape := ⟨3, ![2, 2048, 2048]⟩
abbrev S2x2x2048x2048 : Shape := ⟨4, ![2, 2, 2048, 2048]⟩
abbrev S2x16x1x4 : Shape := ⟨4, ![2, 16, 1, 4]⟩
abbrev S1x1x2048x128 : Shape := ⟨4, ![1, 1, 2048, 128]⟩
abbrev S1x128 : Shape := ⟨2, ![1, 128]⟩
abbrev S1x2048x128 : Shape := ⟨3, ![1, 2048, 128]⟩
abbrev S1x1x1x4 : Shape := ⟨4, ![1, 1, 1, 4]⟩
abbrev S256x256 : Shape := ⟨2, ![256, 256]⟩
abbrev S512x256 : Shape := ⟨2, ![512, 256]⟩
abbrev S1x1x512x128 : Shape := ⟨4, ![1, 1, 512, 128]⟩
abbrev S512x128 : Shape := ⟨2, ![512, 128]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1x256x128 : Shape := ⟨4, ![1, 1, 256, 128]⟩
abbrev S256x128 : Shape := ⟨2, ![256, 128]⟩
abbrev S512 : Shape := ⟨1, ![512]⟩
abbrev S1x512x128 : Shape := ⟨3, ![1, 512, 128]⟩
abbrev S1x1x1x1 : Shape := ⟨4, ![1, 1, 1, 1]⟩

abbrev nBuf : Space → Nat
  | .hbm => 8
  | .vmem => 16
  | .smem => 2
  | _ => 0

abbrev bufTy : (tb : Table) → Fin (tcTables nBuf tb) → BufTy
  | .hbm, ⟨0, _⟩ => ⟨S2x2048x16384, .f32⟩
  | .hbm, ⟨1, _⟩ => ⟨S1x2048, .f32⟩
  | .hbm, ⟨2, _⟩ => ⟨S2x2048x8x2048, .f32⟩
  | .hbm, ⟨3, _⟩ => ⟨S8x2x2048x2048, .f32⟩
  | .hbm, ⟨4, _⟩ => ⟨S2x2048x2048, .f32⟩
  | .hbm, ⟨5, _⟩ => ⟨S2x2048x2048, .f32⟩
  | .hbm, ⟨6, _⟩ => ⟨S2x2x2048x2048, .bf16⟩
  | .hbm, ⟨7, _⟩ => ⟨S2x16x1x4, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x128, .f32⟩
  | .local _ .vmem, ⟨9, _⟩ => ⟨S1x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x1x2048x128, .bf16⟩
  | .local _ .vmem, ⟨15, _⟩ => ⟨S1x1x2048x128, .bf16⟩
  | .local _ .smem, ⟨0, _⟩ => ⟨S1x1x1x4, .f32⟩
  | .local _ .smem, ⟨1, _⟩ => ⟨S1x1x1x4, .f32⟩
  | _, _ => ⟨S2x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.smem, 0, rfl⟩
abbrev cc0_stg8_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v10 : BitVec 32 := Scalar.addi c0_i32 c4_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v11 : BitVec 32 := Scalar.muli arg11 c512_i32
  v11
def k0_off1 (k0_t1 : Fin k0_t1_loop.trips) : Fin 4 → Nat :=
  let c0_2 : Index := 0#32
  let c0_3 : Index := 0#32
  let c0_i32 : BitVec 32 := 0#32
  let c1_i32 : BitVec 32 := 1#32
  let arg11 : BitVec 32 := Scf.iv c0_i32 c1_i32 k0_t1
  let c512_i32 : BitVec 32 := 512#32
  let v11 : BitVec 32 := Scalar.muli arg11 c512_i32
  let v12 : BitVec 32 := v11
  let v13 : Index := Scalar.indexCast v12
  let c0_4 : Index := 0#32
  ![0, 0, v13.toNat, 0]
def k0_mult2 (k0_t1 : Fin k0_t1_loop.trips) (arg12 : BitVec 32) : BitVec 32 :=
  let c0_i32 : BitVec 32 := 0#32
  let c1_i32 : BitVec 32 := 1#32
  let arg11 : BitVec 32 := Scf.iv c0_i32 c1_i32 k0_t1
  let c1_i32_5 : BitVec 32 := 1#32
  let v17 : BitVec 32 := Scalar.addi arg11 c1_i32_5
  let c2_i32 : BitVec 32 := 2#32
  let v18 : BitVec 32 := Scalar.muli v17 c2_i32
  let c1_i32_27 : BitVec 32 := 1#32
  let v64 : BitVec 32 := Scalar.subi v18 c1_i32_27
  let c2_i32_28 : BitVec 32 := 2#32
  let v65 : BitVec 32 := Scalar.muli arg12 c2_i32_28
  let c0_i32_29 : BitVec 32 := 0#32
  let v66 : BitVec 32 := Scalar.addi v65 c0_i32_29
  let v67 : BitVec 32 := Scalar.subi v64 v66
  let c256_i32 : BitVec 32 := 256#32
  let v72 : BitVec 32 := Scalar.muli v67 c256_i32
  v72

def k0_mult3 (k0_t1 : Fin k0_t1_loop.trips) (arg12 : BitVec 32) : BitVec 32 :=
  let c0_i32 : BitVec 32 := 0#32
  let c1_i32 : BitVec 32 := 1#32
  let arg11 : BitVec 32 := Scf.iv c0_i32 c1_i32 k0_t1
  let c1_i32_5 : BitVec 32 := 1#32
  let v17 : BitVec 32 := Scalar.addi arg11 c1_i32_5
  let c2_i32 : BitVec 32 := 2#32
  let v18 : BitVec 32 := Scalar.muli v17 c2_i32
  let c1_i32_30 : BitVec 32 := 1#32
  let v68 : BitVec 32 := Scalar.subi v18 c1_i32_30
  let c2_i32_31 : BitVec 32 := 2#32
  let v69 : BitVec 32 := Scalar.muli arg12 c2_i32_31
  let c1_i32_32 : BitVec 32 := 1#32
  let v70 : BitVec 32 := Scalar.addi v69 c1_i32_32
  let v71 : BitVec 32 := Scalar.subi v68 v70
  let c256_i32_33 : BitVec 32 := 256#32
  let v74 : BitVec 32 := Scalar.muli v71 c256_i32_33
  v74
def k0_off2 (k0_t1 : Fin k0_t1_loop.trips) (arg12 : BitVec 32) (c0_i32_29 : BitVec 32) : Fin 4 → Nat :=
  let c0_34 : Index := 0#32
  let c0_35 : Index := 0#32
  let c0_i32 : BitVec 32 := 0#32
  let c1_i32 : BitVec 32 := 1#32
  let arg11 : BitVec 32 := Scf.iv c0_i32 c1_i32 k0_t1
  let c1_i32_5 : BitVec 32 := 1#32
  let v17 : BitVec 32 := Scalar.addi arg11 c1_i32_5
  let c2_i32 : BitVec 32 := 2#32
  let v18 : BitVec 32 := Scalar.muli v17 c2_i32
  let c1_i32_27 : BitVec 32 := 1#32
  let v64 : BitVec 32 := Scalar.subi v18 c1_i32_27
  let c2_i32_28 : BitVec 32 := 2#32
  let v65 : BitVec 32 := Scalar.muli arg12 c2_i32_28
  let v66 : BitVec 32 := Scalar.addi v65 c0_i32_29
  let v67 : BitVec 32 := Scalar.subi v64 v66
  let c256_i32 : BitVec 32 := 256#32
  let v72 : BitVec 32 := Scalar.muli v67 c256_i32
  let v73 : BitVec 32 := v72
  let v76 : Index := Scalar.indexCast v73
  let c0_36 : Index := 0#32
  ![0, 0, v76.toNat, 0]

def k0_chk1 (k0_t1 : Fin k0_t1_loop.trips) (arg12 : BitVec 32) : Prop :=
  (256 ∣ (k0_mult2 k0_t1 arg12).toNat) ∧
  (256 ∣ (k0_mult3 k0_t1 arg12).toNat) ∧
  (∀ (r : Fin 2), ∀ a, (k0_off2 k0_t1 arg12 (BitVec.ofNat 32 r.val)) a + S1x1x256x128.size a ≤ S1x1x2048x128.size a)
theorem k0_mult2_dvd : ∀ (k0_t1 : Fin k0_t1_loop.trips) (arg12 : BitVec 32) (k0_hw1 : k0_chk1 k0_t1 arg12), 256 ∣ (k0_mult2 k0_t1 arg12).toNat := fun k0_t1 arg12 k0_hw1 => k0_hw1.1
theorem k0_mult3_dvd : ∀ (k0_t1 : Fin k0_t1_loop.trips) (arg12 : BitVec 32) (k0_hw1 : k0_chk1 k0_t1 arg12), 256 ∣ (k0_mult3 k0_t1 arg12).toNat := fun k0_t1 arg12 k0_hw1 => k0_hw1.2.1
theorem k0_off2_inb : ∀ (k0_t1 : Fin k0_t1_loop.trips) (arg12 : BitVec 32) (k0_hw1 : k0_chk1 k0_t1 arg12), ∀ (r : Fin 2), ∀ a, (k0_off2 k0_t1 arg12 (BitVec.ofNat 32 r.val)) a + S1x1x256x128.size a ≤ S1x1x2048x128.size a := fun k0_t1 arg12 k0_hw1 r => k0_hw1.2.2 r

def k0_off3 (k0_t1 : Fin k0_t1_loop.trips) : Fin 3 → Nat :=
  let c0_8 : Index := 0#32
  let c0_i32 : BitVec 32 := 0#32
  let c1_i32 : BitVec 32 := 1#32
  let arg11 : BitVec 32 := Scf.iv c0_i32 c1_i32 k0_t1
  let c512_i32 : BitVec 32 := 512#32
  let v11 : BitVec 32 := Scalar.muli arg11 c512_i32
  let v12 : BitVec 32 := v11
  let v22 : Index := Scalar.indexCast v12
  let c0_9 : Index := 0#32
  ![0, v22.toNat, 0]
def k0_off4 (k0_t1 : Fin k0_t1_loop.trips) : Fin 4 → Nat :=
  let c0_24 : Index := 0#32
  let c0_25 : Index := 0#32
  let c0_26 : Index := 0#32
  let c0_i32 : BitVec 32 := 0#32
  let c1_i32 : BitVec 32 := 1#32
  let arg11 : BitVec 32 := Scf.iv c0_i32 c1_i32 k0_t1
  let v62 : Index := Scalar.indexCast arg11
  ![0, 0, 0, v62.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .smem S1x1x1x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SbFwdIdeal.lean ====
variable {F : FTy → Type} [FloatOps F] [Named F]
def κ : String → Option EReal := fun
  | "dead" => some ⊥
  | "log2e" => some (((Real.log 2)⁻¹ : ℝ) : EReal)
  | "logit" => some (((11863283 / 134217728) * (Real.log 2)⁻¹ : ℝ) : EReal)
  | "mask" => some ⊥
  | _ => none
-- ==== SbFwdRefIdeal.lean ====
abbrev S2x2048x16384 : Shape := ⟨3, ![2, 2048, 16384]⟩
abbrev S1x2048 : Shape := ⟨2, ![1, 2048]⟩
abbrev S2x2048x2048 : Shape := ⟨3, ![2, 2048, 2048]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2x16x2048 : Shape := ⟨3, ![2, 16, 2048]⟩
abbrev S2x2048x16 : Shape := ⟨3, ![2, 2048, 16]⟩
abbrev S2x2048x16x1 : Shape := ⟨4, ![2, 2048, 16, 1]⟩
abbrev S2x16x2048x1 : Shape := ⟨4, ![2, 16, 2048, 1]⟩
abbrev S1x1x2048 : Shape := ⟨3, ![1, 1, 2048]⟩
abbrev S4 : Shape := ⟨1, ![4]⟩
abbrev S2x16x1x4 : Shape := ⟨4, ![2, 16, 1, 4]⟩
abbrev S1x2x2048x2048 : Shape := ⟨4, ![1, 2, 2048, 2048]⟩
abbrev S2x2x2048x2048 : Shape := ⟨4, ![2, 2, 2048, 2048]⟩

abbrev nBuf : Space → Nat
  | .hbm => 156
  | .vmem => 0
  | .smem => 0
  | _ => 0

abbrev hbmTy0_0 (i : Nat) : BufTy := match i % 128 with
  | 0 => ⟨S2x2048x16384, .f32⟩
  | 1 => ⟨S1x2048, .f32⟩
  | 2 => ⟨S2x2048x2048, .f32⟩
  | 3 => ⟨S2x2048x2048, .f32⟩
  | 4 => ⟨S2x2048x2048, .f32⟩
  | 5 => ⟨S2x2048x2048, .f32⟩
  | 6 => ⟨S2x2048x16x128, .f32⟩
  | 7 => ⟨S2x16x2048x128, .f32⟩
  | 8 => ⟨S2x2048x16x128, .f32⟩
  | 9 => ⟨S2x16x2048x128, .f32⟩
  | 10 => ⟨S2x2048x16x128, .f32⟩
  | 11 => ⟨S2x16x2048x128, .f32⟩
  | 12 => ⟨S2x16x2048x2048, .f32⟩
  | 13 => ⟨S_, .f32⟩
  | 14 => ⟨S2x16x2048x2048, .f32⟩
  | 15 => ⟨S2x16x2048x2048, .f32⟩
  | 16 => ⟨S2048, .i32⟩
  | 17 => ⟨S1x2048, .i32⟩
  | 18 => ⟨S2048x1, .i32⟩
  | 19 => ⟨S2048x2048, .i32⟩
  | 20 => ⟨S2048x2048, .i32⟩
  | 21 => ⟨S2048x2048, .i1⟩
  | 22 => ⟨S2x16x2048x2048, .f32⟩
  | 23 => ⟨S2x16x2048x2048, .f32⟩
  | 24 => ⟨S_, .f32⟩
  | 25 => ⟨S2x16x2048x2048, .f32⟩
  | 26 => ⟨S2x16x2048x2048, .f32⟩
  | 27 => ⟨S2x16x2048x2048, .f32⟩
  | 28 => ⟨S2x16x2048x2048, .f32⟩
  | 29 => ⟨S2x16x2048x2048, .i1⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S_, .f32⟩
  | 40 => ⟨S_, .f32⟩
  | 41 => ⟨S2x16x2048x2048, .i1⟩
  | 42 => ⟨S2x16x2048x2048, .f32⟩
  | 43 => ⟨S2x16x2048x2048, .f32⟩
  | 44 => ⟨S2x16x2048x2048, .f32⟩
  | 45 => ⟨S_, .f32⟩
  | 46 => ⟨S2x16x2048x2048, .f32⟩
  | 47 => ⟨S2x16x2048x2048, .f32⟩
  | 48 => ⟨S2x16x2048x2048, .f32⟩
  | 49 => ⟨S2x16x2048x2048, .f32⟩
  | 50 => ⟨S2x16x2048x2048, .i1⟩
  | 51 => ⟨S2x16x2048x2048, .f32⟩
  | 52 => ⟨S2x16x2048x2048, .f32⟩
  | 53 => ⟨S2x16x2048x2048, .f32⟩
  | 54 => ⟨S2x16x2048x2048, .f32⟩
  | 55 => ⟨S2x16x2048x2048, .f32⟩
  | 56 => ⟨S2x16x2048x2048, .f32⟩
  | 57 => ⟨S2x16x2048x2048, .f32⟩
  | 58 => ⟨S2x16x2048x2048, .f32⟩
  | 59 => ⟨S2x16x2048x2048, .f32⟩
  | 60 => ⟨S_, .f32⟩
  | 61 => ⟨S_, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S_, .f32⟩
  | 67 => ⟨S_, .f32⟩
  | 68 => ⟨S2x16x2048x2048, .i1⟩
  | 69 => ⟨S2x16x2048x2048, .f32⟩
  | 70 => ⟨S2x16x2048x2048, .f32⟩
  | 71 => ⟨S2x16x2048x128, .f32⟩
  | 72 => ⟨S2x2048x16x128, .f32⟩
  | 73 => ⟨S2x2048x2048, .f32⟩
  | 74 => ⟨S2x16x2048x2048, .f32⟩
  | 75 => ⟨S_, .f32⟩
  | 76 => ⟨S2x16x2048x2048, .f32⟩
  | 77 => ⟨S2x16x2048x2048, .f32⟩
  | 78 => ⟨S2048, .i32⟩
  | 79 => ⟨S1x2048, .i32⟩
  | 80 => ⟨S2048x1, .i32⟩
  | 81 => ⟨S2048x2048, .i32⟩
  | 82 => ⟨S2048x2048, .i32⟩
  | 83 => ⟨S2048x2048, .i1⟩
  | 84 => ⟨S2x16x2048x2048, .f32⟩
  | 85 => ⟨S2x16x2048x2048, .f32⟩
  | 86 => ⟨S_, .f32⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .i1⟩
  | 92 => ⟨S2x16x2048x2048, .f32⟩
  | 93 => ⟨S2x16x2048x2048, .f32⟩
  | 94 => ⟨S2x16x2048x2048, .f32⟩
  | 95 => ⟨S2x16x2048x2048, .f32⟩
  | 96 => ⟨S2x16x2048x2048, .f32⟩
  | 97 => ⟨S2x16x2048x2048, .f32⟩
  | 98 => ⟨S2x16x2048x2048, .f32⟩
  | 99 => ⟨S2x16x2048x2048, .f32⟩
  | 100 => ⟨S2x16x2048x2048, .f32⟩
  | 101 => ⟨S_, .f32⟩
  | 102 => ⟨S_, .f32⟩
  | 103 => ⟨S2x16x2048x2048, .i1⟩
  | 104 => ⟨S2x16x2048x2048, .f32⟩
  | 105 => ⟨S2x16x2048x2048, .f32⟩
  | 106 => ⟨S_, .f32⟩
  | 107 => ⟨S2x16x2048, .f32⟩
  | 108 => ⟨S_, .f32⟩
  | 109 => ⟨S_, .f32⟩
  | 110 => ⟨S2x16x2048, .f32⟩
  | 111 => ⟨S2x16x2048, .f32⟩
  | 112 => ⟨S2x2048x16, .f32⟩
  | 113 => ⟨S2x2048x16x1, .f32⟩
  | 114 => ⟨S2x2048x16x128, .f32⟩
  | 115 => ⟨S2x2048x2048, .f32⟩
  | 116 => ⟨S2x16x2048x128, .f32⟩
  | 117 => ⟨S_, .f32⟩
  | 118 => ⟨S2x16x2048, .f32⟩
  | 119 => ⟨S2x16x2048x1, .f32⟩
  | 120 => ⟨S_, .f32⟩
  | 121 => ⟨S2x16x2048x1, .f32⟩
  | 122 => ⟨S2x16x2048x1, .f32⟩
  | 123 => ⟨S_, .f32⟩
  | 124 => ⟨S2x16x2048x1, .f32⟩
  | 125 => ⟨S2x16x2048x1, .f32⟩
  | 126 => ⟨S2x16x2048x1, .f32⟩
  | 127 => ⟨S2x16x2048x128, .f32⟩
  | _ => ⟨S2x2048x16384, .f32⟩

abbrev hbmTy0_1 (i : Nat) : BufTy := match i % 128 with
  | 0 => ⟨S2x16x2048x128, .f32⟩
  | 1 => ⟨S2x2048x16x128, .f32⟩
  | 2 => ⟨S2x2048x2048, .f32⟩
  | 3 => ⟨S1x1x2048, .f32⟩
  | 4 => ⟨S2x2048x2048, .f32⟩
  | 5 => ⟨S2x2048x2048, .f32⟩
  | 6 => ⟨S2x2048x2048, .f32⟩
  | 7 => ⟨S2x2048x2048, .f32⟩
  | 8 => ⟨S_, .f32⟩
  | 9 => ⟨S2x2048x2048, .f32⟩
  | 10 => ⟨S2x2048x2048, .f32⟩
  | 11 => ⟨S_, .f32⟩
  | 12 => ⟨S2x2048x2048, .f32⟩
  | 13 => ⟨S2x2048x2048, .f32⟩
  | 14 => ⟨S2x2048x2048, .f32⟩
  | 15 => ⟨S2x2048x2048, .f32⟩
  | 16 => ⟨S2x2048x2048, .bf16⟩
  | 17 => ⟨S4, .i32⟩
  | 18 => ⟨S_, .i32⟩
  | 19 => ⟨S4, .i32⟩
  | 20 => ⟨S4, .i32⟩
  | 21 => ⟨S4, .f32⟩
  | 22 => ⟨S2x16x1x4, .f32⟩
  | 23 => ⟨S_, .bf16⟩
  | 24 => ⟨S2x2048x2048, .bf16⟩
  | 25 => ⟨S1x2x2048x2048, .bf16⟩
  | 26 => ⟨S1x2x2048x2048, .bf16⟩
  | 27 => ⟨S2x2x2048x2048, .bf16⟩
  | _ => ⟨S2x2048x16384, .f32⟩

abbrev hbmTy (i : Nat) : BufTy := match i / 128 with
  | 0 => hbmTy0_0 i
  | 1 => hbmTy0_1 i
  | _ => ⟨S2x2048x16384, .f32⟩

abbrev bufTy : (tb : Table) → Fin (tcTables nBuf tb) → BufTy
  | .hbm, ⟨i, _⟩ => hbmTy i
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_v0 : Ref sig .tc := ⟨.hbm, 44, rfl⟩
abbrev main_call2_call0_cst : Ref sig .tc := ⟨.hbm, 45, rfl⟩
abbrev main_call2_call0_v0 : Ref sig .tc := ⟨.hbm, 46, rfl⟩
abbrev main_call2_call0_v1 : Ref sig .tc := ⟨.hbm, 47, rfl⟩
abbrev main_call2_call0_v2 : Ref sig .tc := ⟨.hbm, 48, rfl⟩
abbrev main_call2_call0_v3 : Ref sig .tc := ⟨.hbm, 49, rfl⟩
abbrev main_call2_call0_v4 : Ref sig .tc := ⟨.hbm, 50, rfl⟩
abbrev main_call2_call0_v5 : Ref sig .tc := ⟨.hbm, 51, rfl⟩
abbrev main_call2_call0_v6 : Ref sig .tc := ⟨.hbm, 52, rfl⟩
abbrev main_call2_call0_v7 : Ref sig .tc := ⟨.hbm, 53, rfl⟩
abbrev main_call2_call0_v8 : Ref sig .tc := ⟨.hbm, 54, rfl⟩
abbrev main_call2_call0_v9 : Ref sig .tc := ⟨.hbm, 55, rfl⟩
abbrev main_call2_call0_v10 : Ref sig .tc := ⟨.hbm, 56, rfl⟩
abbrev main_call2_call0_v11 : Ref sig .tc := ⟨.hbm, 57, rfl⟩
abbrev main_call2_v1 : Ref sig .tc := ⟨.hbm, 58, rfl⟩
abbrev main_v22 : Ref sig .tc := ⟨.hbm, 59, rfl⟩
abbrev main_call3_cst : Ref sig .tc := ⟨.hbm, 60, rfl⟩
abbrev main_call3_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_call5_v0 : Ref sig .tc := ⟨.hbm, 85, rfl⟩
abbrev main_call5_call0_cst : Ref sig .tc := ⟨.hbm, 86, rfl⟩
abbrev main_call5_call0_v0 : Ref sig .tc := ⟨.hbm, 87, rfl⟩
abbrev main_call5_call0_v1 : Ref sig .tc := ⟨.hbm, 88, rfl⟩
abbrev main_call5_call0_v2 : Ref sig .tc := ⟨.hbm, 89, rfl⟩
abbrev main_call5_call0_v3 : Ref sig .tc := ⟨.hbm, 90, rfl⟩
abbrev main_call5_call0_v4 : Ref sig .tc := ⟨.hbm, 91, rfl⟩
abbrev main_call5_call0_v5 : Ref sig .tc := ⟨.hbm, 92, rfl⟩
abbrev main_call5_call0_v6 : Ref sig .tc := ⟨.hbm, 93, rfl⟩
abbrev main_call5_call0_v7 : Ref sig .tc := ⟨.hbm, 94, rfl⟩
abbrev main_call5_call0_v8 : Ref sig .tc := ⟨.hbm, 95, rfl⟩
abbrev main_call5_call0_v9 : Ref sig .tc := ⟨.hbm, 96, rfl⟩
abbrev main_call5_call0_v10 : Ref sig .tc := ⟨.hbm, 97, rfl⟩
abbrev main_call5_call0_v11 : Ref sig .tc := ⟨.hbm, 98, rfl⟩
abbrev main_call5_v1 : Ref sig .tc := ⟨.hbm, 99, rfl⟩
abbrev main_v41 : Ref sig .tc := ⟨.hbm, 100, rfl⟩
abbrev main_cst_3 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v42 : Ref sig .tc := ⟨.hbm, 105, rfl⟩
abbrev main_cst_4 : Ref sig .tc := ⟨.hbm, 106, rfl⟩
abbrev main_v43 : Ref sig .tc := ⟨.hbm, 107, rfl⟩
abbrev main_cst_5 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_cst_6 : Ref sig .tc := ⟨.hbm, 117, rfl⟩
abbrev main_v52 : Ref sig .tc := ⟨.hbm, 118, rfl⟩
abbrev main_v53 : Ref sig .tc := ⟨.hbm, 119, rfl⟩
abbrev main_cst_7 : Ref sig .tc := ⟨.hbm, 120, rfl⟩
abbrev main_v54 : Ref sig .tc := ⟨.hbm, 121, rfl⟩
abbrev main_v55 : Ref sig .tc := ⟨.hbm, 122, rfl⟩
abbrev main_cst_8 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_call7_v0 : Ref sig .tc := ⟨.hbm, 134, rfl⟩
abbrev main_call7_v1 : Ref sig .tc := ⟨.hbm, 135, rfl⟩
abbrev main_call7_cst : Ref sig .tc := ⟨.hbm, 136, rfl⟩
abbrev main_call7_v2 : Ref sig .tc := ⟨.hbm, 137, rfl⟩
abbrev main_call7_v3 : Ref sig .tc := ⟨.hbm, 138, rfl⟩
abbrev main_call7_cst_0 : Ref sig .tc := ⟨.hbm, 139, rfl⟩
abbrev main_call7_v4 : Ref sig .tc := ⟨.hbm, 140, rfl⟩
abbrev main_call7_v5 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_c : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_9 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩

abbrev nD : Nat := 1
abbrev τ : Topo := Topo.v7x

variable {F : FTy → Type} [FloatOps F]
-- ==== NormFwd.lean ====
abbrev S2x2048x4096 : Shape := ⟨3, ![2, 2048, 4096]⟩
abbrev S1x4096 : Shape := ⟨2, ![1, 4096]⟩
abbrev S2x12288 : Shape := ⟨2, ![2, 12288]⟩
abbrev S2x4096 : Shape := ⟨2, ![2, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S1x4096, .f32⟩
  | .hbm, ⟨2, _⟩ => ⟨S2x12288, .f32⟩
  | .hbm, ⟨3, _⟩ => ⟨S2x4096, .f32⟩
  | .hbm, ⟨4, _⟩ => ⟨S2x1x4096, .f32⟩
  | .hbm, ⟨5, _⟩ => ⟨S2x4096, .f32⟩
  | .hbm, ⟨6, _⟩ => ⟨S2x1x4096, .f32⟩
  | .hbm, ⟨7, _⟩ => ⟨S2x4096, .f32⟩
  | .hbm, ⟨8, _⟩ => ⟨S2x1x4096, .f32⟩
  | .hbm, ⟨9, _⟩ => ⟨S2x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormFwdRefIdeal.lean ====
abbrev S2x2048x4096 : Shape := ⟨3, ![2, 2048, 4096]⟩
abbrev S1x4096 : Shape := ⟨2, ![1, 4096]⟩
abbrev S2x12288 : Shape := ⟨2, ![2, 12288]⟩
abbrev S2x4096 : Shape := ⟨2, ![2, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S2x1x4096 : Shape := ⟨3, ![2, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1x4096, .f32⟩
  | .hbm, ⟨2, _⟩ => ⟨S2x12288, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S4096, .f32⟩
  | .hbm, ⟨7, _⟩ => ⟨S2x2048x4096, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x4096, .f32⟩
  | .hbm, ⟨19, _⟩ => ⟨S2x2048x4096, .f32⟩
  | .hbm, ⟨20, _⟩ => ⟨S1x1x4096, .f32⟩
  | .hbm, ⟨21, _⟩ => ⟨S2x2048x4096, .f32⟩
  | .hbm, ⟨22, _⟩ => ⟨S2x2048x4096, .f32⟩
  | .hbm, ⟨23, _⟩ => ⟨S2x1x4096, .f32⟩
  | .hbm, ⟨24, _⟩ => ⟨S_, .f32⟩
  | .hbm, ⟨25, _⟩ => ⟨S2x1x4096, .f32⟩
  | .hbm, ⟨26, _⟩ => ⟨S2x1x4096, .f32⟩
  | .hbm, ⟨27, _⟩ => ⟨S2x2048x4096, .f32⟩
  | .hbm, ⟨28, _⟩ => ⟨S2x2048x4096, .f32⟩
  | .hbm, ⟨29, _⟩ => ⟨S2x1x4096, .f32⟩
  | .hbm, ⟨30, _⟩ => ⟨S2x2048x4096, .f32⟩
  | .hbm, ⟨31, _⟩ => ⟨S2x2048x4096, .f32⟩
  | .hbm, ⟨32, _⟩ => ⟨S2x2048x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Mod.lean ====
abbrev S16x4096 : Shape := ⟨2, ![16, 4096]⟩
abbrev S4096x3072 : Shape := ⟨2, ![4096, 3072]⟩
abbrev S1x3072 : Shape := ⟨2, ![1, 3072]⟩
abbrev S16x3072 : Shape := ⟨2, ![16, 3072]⟩
abbrev S16x1024 : Shape := ⟨2, ![16, 1024]⟩
abbrev S1024x512 : Shape := ⟨2, ![1024, 512]⟩
abbrev S1x512 : Shape := ⟨2, ![1, 512]⟩
abbrev S16x512 : Shape := ⟨2, ![16, 512]⟩

abbrev nBuf : Space → Nat
  | .hbm => 4
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S1x3072, .f32⟩
  | .hbm, ⟨3, _⟩ => ⟨S16x3072, .f32⟩
  | .local _ .vmem, ⟨0, _⟩ => ⟨S16x1024, .f32⟩
  | .local _ .vmem, ⟨1, _⟩ => ⟨S16x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== ModRefIdeal.lean ====
abbrev S16x4096 : Shape := ⟨2, ![16, 4096]⟩
abbrev S4096x3072 : Shape := ⟨2, ![4096, 3072]⟩
abbrev S1x3072 : Shape := ⟨2, ![1, 3072]⟩
abbrev S_ : Shape := ⟨0, ![]⟩
abbrev S16x3072 : Shape := ⟨2, ![16, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S1x3072, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x3072, .f32⟩
  | .hbm, ⟨13, _⟩ => ⟨S16x3072, .f32⟩
  | .hbm, ⟨14, _⟩ => ⟨S16x3072, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Out.lean ====
abbrev S2x2048x4096 : Shape := ⟨3, ![2, 2048, 4096]⟩
abbrev S4096x4096 : Shape := ⟨2, ![4096, 4096]⟩
abbrev S4096x2x2048 : Shape := ⟨3, ![4096, 2, 2048]⟩
abbrev S2x4096x2048 : Shape := ⟨3, ![2, 4096, 2048]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x2x2048, .f32⟩
  | .hbm, ⟨3, _⟩ => ⟨S2x4096x2048, .f32⟩
  | .hbm, ⟨4, _⟩ => ⟨S2x4096x2048, .bf16⟩
  | .hbm, ⟨5, _⟩ => ⟨S4096x4096, .bf16⟩
  | .hbm, ⟨6, _⟩ => ⟨S4096x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S2x2048x4096 : Shape := ⟨3, ![2, 2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S2x2048x4096, .f32⟩
  | .hbm, ⟨3, _⟩ => ⟨S4096x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDy.lean ====
abbrev S2x2048x4096 : Shape := ⟨3, ![2, 2048, 4096]⟩
abbrev S4096x4096 : Shape := ⟨2, ![4096, 4096]⟩
abbrev S2x4096x2048 : Shape := ⟨3, ![2, 4096, 2048]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S2x4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024x1024, .f32⟩
  | .local _ .vmem, ⟨5, _⟩ => ⟨S1x1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDyRefIdeal.lean ====
abbrev S2x2048x4096 : Shape := ⟨3, ![2, 2048, 4096]⟩
abbrev S4096x4096 : Shape := ⟨2, ![4096, 4096]⟩
abbrev S_ : Shape := ⟨0, ![]⟩
abbrev S4096x2x2048 : Shape := ⟨3, ![4096, 2, 2048]⟩
abbrev S2x4096x2048 : Shape := ⟨3, ![2, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S_, .f32⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S4096x2x2048, .f32⟩
  | .hbm, ⟨7, _⟩ => ⟨S2x4096x2048, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2x2048x4096 : Shape := ⟨3, ![2, 2048, 4096]⟩
abbrev S4096x2x2048 : Shape := ⟨3, ![4096, 2, 2048]⟩
abbrev S2x4096x2048 : Shape := ⟨3, ![2, 4096, 2048]⟩
abbrev S4096x4096 : Shape := ⟨2, ![4096, 4096]⟩
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096x2x2048, .f32⟩
  | .hbm, ⟨3, _⟩ => ⟨S2x4096x2048, .f32⟩
  | .hbm, ⟨4, _⟩ => ⟨S2x4096x2048, .bf16⟩
  | .hbm, ⟨5, _⟩ => ⟨S4096x4096, .f32⟩
  | .hbm, ⟨6, _⟩ => ⟨S4096x4096, .bf16⟩
  | .hbm, ⟨7, _⟩ => ⟨S4096x4096, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2x2048x4096 : Shape := ⟨3, ![2, 2048, 4096]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S_, .f32⟩
  | .hbm, ⟨3, _⟩ => ⟨S4096x4096, .f32⟩
  | .hbm, ⟨4, _⟩ => ⟨S2x2048x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2x2048x4096 : Shape := ⟨3, ![2, 2048, 4096]⟩
abbrev S2x2048x16384 : Shape := ⟨3, ![2, 2048, 16384]⟩
abbrev S4096x4096 : Shape := ⟨2, ![4096, 4096]⟩
abbrev S4096x8x2048 : Shape := ⟨3, ![4096, 8, 2048]⟩
abbrev S8x4096x2048 : Shape := ⟨3, ![8, 4096, 2048]⟩
abbrev S4x4096x4096 : Shape := ⟨3, ![4, 4096, 4096]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S2x2048x16384, .f32⟩
  | .hbm, ⟨2, _⟩ => ⟨S4096x4096, .f32⟩
  | .hbm, ⟨3, _⟩ => ⟨S4096x4096, .bf16⟩
  | .hbm, ⟨4, _⟩ => ⟨S4096x8x2048, .f32⟩
  | .hbm, ⟨5, _⟩ => ⟨S8x4096x2048, .f32⟩
  | .hbm, ⟨6, _⟩ => ⟨S8x4096x2048, .bf16⟩
  | .hbm, ⟨7, _⟩ => ⟨S4x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2x2048x4096 : Shape := ⟨3, ![2, 2048, 4096]⟩
abbrev S2x2048x16384 : Shape := ⟨3, ![2, 2048, 16384]⟩
abbrev S_ : Shape := ⟨0, ![]⟩
abbrev S4096x16384 : Shape := ⟨2, ![4096, 16384]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x16384, .f32⟩
  | .hbm, ⟨2, _⟩ => ⟨S_, .f32⟩
  | .hbm, ⟨3, _⟩ => ⟨S4096x16384, .f32⟩
  | .hbm, ⟨4, _⟩ => ⟨S2x2048x16384, .f32⟩
  | .hbm, ⟨5, _⟩ => ⟨S16384x4096, .f32⟩
  | .hbm, ⟨6, _⟩ => ⟨S4096x16384, .f32⟩
  | .hbm, ⟨7, _⟩ => ⟨S4096x4x4096, .f32⟩
  | .hbm, ⟨8, _⟩ => ⟨S4x4096x4096, .f32⟩
  | .hbm, ⟨9, _⟩ => ⟨S4x4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S2x2048x16384 : Shape := ⟨3, ![2, 2048, 16384]⟩
abbrev S4096x16384 : Shape := ⟨2, ![4096, 16384]⟩
abbrev S4096x8x2048 : Shape := ⟨3, ![4096, 8, 2048]⟩
abbrev S8x4096x2048 : Shape := ⟨3, ![8, 4096, 2048]⟩
abbrev S4096x4x4096 : Shape := ⟨3, ![4096, 4, 4096]⟩
abbrev S4x4096x4096 : Shape := ⟨3, ![4, 4096, 4096]⟩
abbrev S4096x4096 : Shape := ⟨2, ![4096, 4096]⟩
abbrev S2x1024x2048 : Shape := ⟨3, ![2, 1024, 2048]⟩
abbrev S1x1024x4096 : Shape := ⟨3, ![1, 1024, 4096]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x16384, .f32⟩
  | .hbm, ⟨1, _⟩ => ⟨S4096x16384, .f32⟩
  | .hbm, ⟨2, _⟩ => ⟨S4096x8x2048, .f32⟩
  | .hbm, ⟨3, _⟩ => ⟨S8x4096x2048, .f32⟩
  | .hbm, ⟨4, _⟩ => ⟨S8x4096x2048, .bf16⟩
  | .hbm, ⟨5, _⟩ => ⟨S4096x4x4096, .f32⟩
  | .hbm, ⟨6, _⟩ => ⟨S4x4096x4096, .f32⟩
  | .hbm, ⟨7, _⟩ => ⟨S4x4096x4096, .bf16⟩
  | .hbm, ⟨8, _⟩ => ⟨S4096x4096, .f32⟩
  | .local _ .vmem, ⟨0, _⟩ => ⟨S2x1024x2048, .bf16⟩
  | .local _ .vmem, ⟨1, _⟩ => ⟨S2x1024x2048, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2x2048x16384 : Shape := ⟨3, ![2, 2048, 16384]⟩
abbrev S4096x16384 : Shape := ⟨2, ![4096, 16384]⟩
abbrev S_ : Shape := ⟨0, ![]⟩
abbrev S2x2048x4096 : Shape := ⟨3, ![2, 2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x16384, .f32⟩
  | .hbm, ⟨1, _⟩ => ⟨S4096x16384, .f32⟩
  | .hbm, ⟨2, _⟩ => ⟨S_, .f32⟩
  | .hbm, ⟨3, _⟩ => ⟨S2x2048x4096, .f32⟩
  | .hbm, ⟨4, _⟩ => ⟨S2x2048x16384, .f32⟩
  | .hbm, ⟨5, _⟩ => ⟨S2x2048x4096, .f32⟩
  | .hbm, ⟨6, _⟩ => ⟨S4096x4096, .f32⟩
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adam.lean ====
abbrev S4096x4096 : Shape := ⟨2, ![4096, 4096]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Wada.lean ====
abbrev S16x4096 : Shape := ⟨2, ![16, 4096]⟩
abbrev S16x3072 : Shape := ⟨2, ![16, 3072]⟩
abbrev S4096x3072 : Shape := ⟨2, ![4096, 3072]⟩
abbrev S4096x16 : Shape := ⟨2, ![4096, 16]⟩
abbrev S512x16 : Shape := ⟨2, ![512, 16]⟩
abbrev S16x1024 : Shape := ⟨2, ![16, 1024]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S16x4096, .f32⟩
  | .hbm, ⟨1, _⟩ => ⟨S16x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x16, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .local _ .vmem, ⟨0, _⟩ => ⟨S512x16, .f32⟩
  | .local _ .vmem, ⟨1, _⟩ => ⟨S512x16, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WadaRefIdeal.lean ====
abbrev S16x4096 : Shape := ⟨2, ![16, 4096]⟩
abbrev S16x3072 : Shape := ⟨2, ![16, 3072]⟩
abbrev S4096x3072 : Shape := ⟨2, ![4096, 3072]⟩
abbrev S_ : Shape := ⟨0, ![]⟩
abbrev S3072x4096 : Shape := ⟨2, ![3072, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16x4096, .f32⟩
  | .hbm, ⟨9, _⟩ => ⟨S16x4096, .f32⟩
  | .hbm, ⟨10, _⟩ => ⟨S_, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x3072, .f32⟩
  | .hbm, ⟨15, _⟩ => ⟨S3072x4096, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Small.lean ====
abbrev S8x2x12288 : Shape := ⟨3, ![8, 2, 12288]⟩
abbrev S8x2x2048 : Shape := ⟨3, ![8, 2, 2048]⟩
abbrev S8x1x4096 : Shape := ⟨3, ![8, 1, 4096]⟩
abbrev S8x1x128 : Shape := ⟨3, ![8, 1, 128]⟩
abbrev S1x12288 : Shape := ⟨2, ![1, 12288]⟩
abbrev S1x4096 : Shape := ⟨2, ![1, 4096]⟩
abbrev S4096 : Shape := ⟨1, ![4096]⟩
abbrev S1x2048 : Shape := ⟨2, ![1, 2048]⟩
abbrev S8x2x4096 : Shape := ⟨3, ![8, 2, 4096]⟩
abbrev S_ : Shape := ⟨0, ![]⟩
abbrev S8x1x8192 : Shape := ⟨3, ![8, 1, 8192]⟩
abbrev S8x1x12288 : Shape := ⟨3, ![8, 1, 12288]⟩
abbrev S3x12288 : Shape := ⟨2, ![3, 12288]⟩
abbrev S8x3x12288 : Shape := ⟨3, ![8, 3, 12288]⟩
abbrev S8x8x12288 : Shape := ⟨3, ![8, 8, 12288]⟩
abbrev S2x12288 : Shape := ⟨2, ![2, 12288]⟩
abbrev S1x128 : Shape := ⟨2, ![1, 128]⟩
abbrev S1x1x12288 : Shape := ⟨3, ![1, 1, 12288]⟩
abbrev S1x1x128 : Shape := ⟨3, ![1, 1, 128]⟩

abbrev nBuf : Space → Nat
  | .hbm => 60
  | .vmem => 9
  | .smem => 0
  | _ => 0

abbrev bufTy : (tb : Table) → Fin (tcTables nBuf tb) → BufTy
  | .hbm, ⟨0, _⟩ => ⟨S8x2x12288, .f32⟩
  | .hbm, ⟨1, _⟩ => ⟨S8x2x2048, .f32⟩
  | .hbm, ⟨2, _⟩ => ⟨S8x2x2048, .f32⟩
  | .hbm, ⟨3, _⟩ => ⟨S8x1x4096, .f32⟩
  | .hbm, ⟨4, _⟩ => ⟨S8x1x4096, .f32⟩
  | .hbm, ⟨5, _⟩ => ⟨S8x1x128, .f32⟩
  | .hbm, ⟨6, _⟩ => ⟨S1x12288, .f32⟩
  | .hbm, ⟨7, _⟩ => ⟨S1x4096, .f32⟩
  | .hbm, ⟨8, _⟩ => ⟨S4096, .f32⟩
  | .hbm, ⟨9, _⟩ => ⟨S1x2048, .f32⟩
  | .hbm, ⟨10, _⟩ => ⟨S1x2048, .f32⟩
  | .hbm, ⟨11, _⟩ => ⟨S1x12288, .f32⟩
  | .hbm, ⟨12, _⟩ => ⟨S1x4096, .f32⟩
  | .hbm, ⟨13, _⟩ => ⟨S4096, .f32⟩
  | .hbm, ⟨14, _⟩ => ⟨S1x2048, .f32⟩
  | .hbm, ⟨15, _⟩ => ⟨S1x2048, .f32⟩
  | .hbm, ⟨16, _⟩ => ⟨S1x12288, .f32⟩
  | .hbm, ⟨17, _⟩ => ⟨S1x4096, .f32⟩
  | .hbm, ⟨18, _⟩ => ⟨S4096, .f32⟩
  | .hbm, ⟨19, _⟩ => ⟨S1x2048, .f32⟩
  | .hbm, ⟨20, _⟩ => ⟨S1x2048, .f32⟩
  | .hbm, ⟨21, _⟩ => ⟨S8x2x4096, .f32⟩
  | .hbm, ⟨22, _⟩ => ⟨S_, .i32⟩
  | .hbm, ⟨23, _⟩ => ⟨S_, .f32⟩
  | .hbm, ⟨24, _⟩ => ⟨S8x2x12288, .f32⟩
  | .hbm, ⟨25, _⟩ => ⟨S8x1x8192, .f32⟩
  | .hbm, ⟨26, _⟩ => ⟨S_, .i32⟩
  | .hbm, ⟨27, _⟩ => ⟨S_, .f32⟩
  | .hbm, ⟨28, _⟩ => ⟨S8x2x12288, .f32⟩
  | .hbm, ⟨29, _⟩ => ⟨S_, .i32⟩
  | .hbm, ⟨30, _⟩ => ⟨S_, .f32⟩
  | .hbm, ⟨31, _⟩ => ⟨S8x1x12288, .f32⟩
  | .hbm, ⟨32, _⟩ => ⟨S8x2x12288, .f32⟩
  | .hbm, ⟨33, _⟩ => ⟨S_, .f32⟩
  | .hbm, ⟨34, _⟩ => ⟨S3x12288, .f32⟩
  | .hbm, ⟨35, _⟩ => ⟨S8x3x12288, .f32⟩
  | .hbm, ⟨36, _⟩ => ⟨S8x8x12288, .f32⟩
  | .hbm, ⟨37, _⟩ => ⟨S1x4096, .f32⟩
  | .hbm, ⟨38, _⟩ => ⟨S1x12288, .f32⟩
  | .hbm, ⟨39, _⟩ => ⟨S_, .i32⟩
  | .hbm, ⟨40, _⟩ => ⟨S_, .f32⟩
  | .hbm, ⟨41, _⟩ => ⟨S1x12288, .f32⟩
  | .hbm, ⟨42, _⟩ => ⟨S2x12288, .f32⟩
  | .hbm, ⟨43, _⟩ => ⟨S1x4096, .f32⟩
  | .hbm, ⟨44, _⟩ => ⟨S1x12288, .f32⟩
  | .hbm, ⟨45, _⟩ => ⟨S_, .i32⟩
  | .hbm, ⟨46, _⟩ => ⟨S_, .f32⟩
  | .hbm, ⟨47, _⟩ => ⟨S1x12288, .f32⟩
  | .hbm, ⟨48, _⟩ => ⟨S2x12288, .f32⟩
  | .hbm, ⟨49, _⟩ => ⟨S1x4096, .f32⟩
  | .hbm, ⟨50, _⟩ => ⟨S1x12288, .f32⟩
  | .hbm, ⟨51, _⟩ => ⟨S_, .i32⟩
  | .hbm, ⟨52, _⟩ => ⟨S_, .f32⟩
  | .hbm, ⟨53, _⟩ => ⟨S1x12288, .f32⟩
  | .hbm, ⟨54, _⟩ => ⟨S2x12288, .f32⟩
  | .hbm, ⟨55, _⟩ => ⟨S2x12288, .f32⟩
  | .hbm, ⟨56, _⟩ => ⟨S2x12288, .f32⟩
  | .hbm, ⟨57, _⟩ => ⟨S2x12288, .f32⟩
  | .hbm, ⟨58, _⟩ => ⟨S2x12288, .f32⟩
  | .hbm, ⟨59, _⟩ => ⟨S1x128, .f32⟩
  | .local _ .vmem, ⟨0, _⟩ => ⟨S8x8x12288, .f32⟩
  | .local _ .vmem, ⟨1, _⟩ => ⟨S2x12288, .f32⟩
  | .local _ .vmem, ⟨2, _⟩ => ⟨S2x12288, .f32⟩
  | .local _ .vmem, ⟨3, _⟩ => ⟨S2x12288, .f32⟩
  | .local _ .vmem, ⟨4, _⟩ => ⟨S2x12288, .f32⟩
  | .local _ .vmem, ⟨5, _⟩ => ⟨S2x12288, .f32⟩
  | .local _ .vmem, ⟨6, _⟩ => ⟨S2x12288, .f32⟩
  | .local _ .vmem, ⟨7, _⟩ => ⟨S2x12288, .f32⟩
  | .local _ .vmem, ⟨8, _⟩ => ⟨S1x128, .f32⟩
  | _, _ => ⟨S8x2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_v3 : Ref sig .tc := ⟨.hbm, 28, rfl⟩
abbrev main_c_1 : Ref sig .tc := ⟨.hbm, 29, rfl⟩
abbrev main_call2_v0 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_call3_v0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_call4_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_4 : Ref sig .tc := ⟨.hbm, 51, rfl⟩
abbrev main_call5_v0 : Ref sig .tc := ⟨.hbm, 52, rfl⟩
abbrev main_v19 : Ref sig .tc := ⟨.hbm, 53, rfl⟩
abbrev main_v20 : Ref sig .tc := ⟨.hbm, 54, rfl⟩
abbrev main_v21_0 : Ref sig .tc := ⟨.hbm, 55, rfl⟩
abbrev main_v21_1 : Ref sig .tc := ⟨.hbm, 56, rfl⟩
abbrev main_v21_2 : Ref sig .tc := ⟨.hbm, 57, rfl⟩
abbrev main_v21_3 : Ref sig .tc := ⟨.hbm, 58, rfl⟩
abbrev main_v21_4 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x8x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SmallRefIdeal.lean ====
abbrev S8x2x12288 : Shape := ⟨3, ![8, 2, 12288]⟩
abbrev S8x2x2048 : Shape := ⟨3, ![8, 2, 2048]⟩
abbrev S8x1x4096 : Shape := ⟨3, ![8, 1, 4096]⟩
abbrev S8x1x128 : Shape := ⟨3, ![8, 1, 128]⟩
abbrev S1x12288 : Shape := ⟨2, ![1, 12288]⟩
abbrev S1x4096 : Shape := ⟨2, ![1, 4096]⟩
abbrev S4096 : Shape := ⟨1, ![4096]⟩
abbrev S1x2048 : Shape := ⟨2, ![1, 2048]⟩
abbrev S_ : Shape := ⟨0, ![]⟩
abbrev S8x12288 : Shape := ⟨2, ![8, 12288]⟩
abbrev S12288 : Shape := ⟨1, ![12288]⟩
abbrev S8x2048 : Shape := ⟨2, ![8, 2048]⟩
abbrev S2048 : Shape := ⟨1, ![2048]⟩
abbrev S2x12288 : Shape := ⟨2, ![2, 12288]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8x2x12288, .f32⟩
  | .hbm, ⟨1, _⟩ => ⟨S8x2x2048, .f32⟩
  | .hbm, ⟨2, _⟩ => ⟨S8x2x2048, .f32⟩
  | .hbm, ⟨3, _⟩ => ⟨S8x1x4096, .f32⟩
  | .hbm, ⟨4, _⟩ => ⟨S8x1x4096, .f32⟩
  | .hbm, ⟨5, _⟩ => ⟨S8x1x128, .f32⟩
  | .hbm, ⟨6, _⟩ => ⟨S1x12288, .f32⟩
  | .hbm, ⟨7, _⟩ => ⟨S1x4096, .f32⟩
  | .hbm, ⟨8, _⟩ => ⟨S4096, .f32⟩
  | .hbm, ⟨9, _⟩ => ⟨S1x2048, .f32⟩
  | .hbm, ⟨10, _⟩ => ⟨S1x2048, .f32⟩
  | .hbm, ⟨11, _⟩ => ⟨S1x12288, .f32⟩
  | .hbm, ⟨12, _⟩ => ⟨S1x4096, .f32⟩
  | .hbm, ⟨13, _⟩ => ⟨S4096, .f32⟩
  | .hbm, ⟨14, _⟩ => ⟨S1x2048, .f32⟩
  | .hbm, ⟨15, _⟩ => ⟨S1x2048, .f32⟩
  | .hbm, ⟨16, _⟩ => ⟨S1x12288, .f32⟩
  | .hbm, ⟨17, _⟩ => ⟨S1x4096, .f32⟩
  | .hbm, ⟨18, _⟩ => ⟨S4096, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S8x12288, .f32⟩
  | .hbm, ⟨23, _⟩ => ⟨S_, .f32⟩
  | .hbm, ⟨24, _⟩ => ⟨S12288, .f32⟩
  | .hbm, ⟨25, _⟩ => ⟨S_, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S2048, .f32⟩
  | .hbm, ⟨37, _⟩ => ⟨S4096, .f32⟩
  | .hbm, ⟨38, _⟩ => ⟨S4096, .f32⟩
  | .hbm, ⟨39, _⟩ => ⟨S12288, .f32⟩
  | .hbm, ⟨40, _⟩ => ⟨S1x12288, .f32⟩
  | .hbm, ⟨41, _⟩ => ⟨S1x12288, .f32⟩
  | .hbm, ⟨42, _⟩ => ⟨S2x12288, .f32⟩
  | .hbm, ⟨43, _⟩ => ⟨S12288, .f32⟩
  | .hbm, ⟨44, _⟩ => ⟨S4096, .f32⟩
  | .hbm, ⟨45, _⟩ => ⟨S2048, .f32⟩
  | .hbm, ⟨46, _⟩ => ⟨S2048, .f32⟩
  | .hbm, ⟨47, _⟩ => ⟨S12288, .f32⟩
  | .hbm, ⟨48, _⟩ => ⟨S1x12288, .f32⟩
  | .hbm, ⟨49, _⟩ => ⟨S1x12288, .f32⟩
  | .hbm, ⟨50, _⟩ => ⟨S2x12288, .f32⟩
  | .hbm, ⟨51, _⟩ => ⟨S12288, .f32⟩
  | .hbm, ⟨52, _⟩ => ⟨S4096, .f32⟩
  | .hbm, ⟨53, _⟩ => ⟨S2048, .f32⟩
  | .hbm, ⟨54, _⟩ => ⟨S2048, .f32⟩
  | .hbm, ⟨55, _⟩ => ⟨S12288, .f32⟩
  | .hbm, ⟨56, _⟩ => ⟨S1x12288, .f32⟩
  | .hbm, ⟨57, _⟩ => ⟨S1x12288, .f32⟩
  | .hbm, ⟨58, _⟩ => ⟨S2x12288, .f32⟩
  | .hbm, ⟨59, _⟩ => ⟨S12288, .f32⟩
  | .hbm, ⟨60, _⟩ => ⟨S4096, .f32⟩
  | .hbm, ⟨61, _⟩ => ⟨S2048, .f32⟩
  | .hbm, ⟨62, _⟩ => ⟨S2048, .f32⟩
  | .hbm, ⟨63, _⟩ => ⟨S12288, .f32⟩
  | .hbm, ⟨64, _⟩ => ⟨S1x12288, .f32⟩
  | .hbm, ⟨65, _⟩ => ⟨S1x12288, .f32⟩
  | .hbm, ⟨66, _⟩ => ⟨S2x12288, .f32⟩
  | .hbm, ⟨67, _⟩ => ⟨S_, .f32⟩
  | .hbm, ⟨68, _⟩ => ⟨S2x12288, .f32⟩
  | .hbm, ⟨69, _⟩ => ⟨S2x12288, .f32⟩
  | .hbm, ⟨70, _⟩ => ⟨S_, .f32⟩
  | .hbm, ⟨71, _⟩ => ⟨S2x12288, .f32⟩
  | .hbm, ⟨72, _⟩ => ⟨S2x12288, .f32⟩
  | .hbm, ⟨73, _⟩ => ⟨S2x12288, .f32⟩
  | .hbm, ⟨74, _⟩ => ⟨S_, .f32⟩
  | .hbm, ⟨75, _⟩ => ⟨S2x12288, .f32⟩
  | .hbm, ⟨76, _⟩ => ⟨S2x12288, .f32⟩
  | .hbm, ⟨77, _⟩ => ⟨S2x12288, .f32⟩
  | .hbm, ⟨78, _⟩ => ⟨S_, .f32⟩
  | .hbm, ⟨79, _⟩ => ⟨S2x12288, .f32⟩
  | .hbm, ⟨80, _⟩ => ⟨S2x12288, .f32⟩
  | .hbm, ⟨81, _⟩ => ⟨S2x12288, .f32⟩
  | .hbm, ⟨82, _⟩ => ⟨S_, .f32⟩
  | .hbm, ⟨83, _⟩ => ⟨S2x12288, .f32⟩
  | .hbm, ⟨84, _⟩ => ⟨S2x12288, .f32⟩
  | .hbm, ⟨85, _⟩ => ⟨S_, .f32⟩
  | .hbm, ⟨86, _⟩ => ⟨S2x12288, .f32⟩
  | .hbm, ⟨87, _⟩ => ⟨S2x12288, .f32⟩
  | .hbm, ⟨88, _⟩ => ⟨S2x12288, .f32⟩
  | .hbm, ⟨89, _⟩ => ⟨S_, .f32⟩
  | .hbm, ⟨90, _⟩ => ⟨S2x12288, .f32⟩
  | .hbm, ⟨91, _⟩ => ⟨S2x12288, .f32⟩
  | .hbm, ⟨92, _⟩ => ⟨S2x12288, .f32⟩
  | .hbm, ⟨93, _⟩ => ⟨S_, .f32⟩
  | .hbm, ⟨94, _⟩ => ⟨S2x12288, .f32⟩
  | .hbm, ⟨95, _⟩ => ⟨S2x12288, .f32⟩
  | .hbm, ⟨96, _⟩ => ⟨S2x12288, .f32⟩
  | .hbm, ⟨97, _⟩ => ⟨S_, .f32⟩
  | .hbm, ⟨98, _⟩ => ⟨S2x12288, .f32⟩
  | .hbm, ⟨99, _⟩ => ⟨S2x12288, .f32⟩
  | .hbm, ⟨100, _⟩ => ⟨S_, .f32⟩
  | .hbm, ⟨101, _⟩ => ⟨S1x128, .f32⟩
  | _, _ => ⟨S8x2x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_cst_1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_cst_3 : Ref sig .tc := ⟨.hbm, 29, rfl⟩
abbrev main_v4 : Ref sig .tc := ⟨.hbm, 30, rfl⟩
abbrev main_cst_4 : Ref sig .tc := ⟨.hbm, 31, rfl⟩
abbrev main_v5 : Ref sig .tc := ⟨.hbm, 32, rfl⟩
abbrev main_cst_5 : Ref sig .tc := ⟨.hbm, 33, rfl⟩
abbrev main_v6 : Ref sig .tc := ⟨.hbm, 34, rfl⟩
abbrev main_cst_6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩

abbrev nD : Nat := 1
abbrev τ : Topo := Topo.v7x

variable {F : FTy → Type} [FloatOps F]
-- ==== Proof.NormRun.lean ====
module

public import proofs.«01_k».proof.Proof.Gen.NormIdeal.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.NormIdeal.Grad

open Cert.NormIdeal Cert.NormIdeal.Gen Idealize.ShloMosaic Idealize.ShloMosaic.TcCoe Idealize.SL.Sem

variable (m : (ℓ : Loc nD τ sig) → Buf (Elt Ideal) ℓ)

/-- The five arguments of the launch, entry by entry. -/
abbrev X (c : Dev nD) (b : Fin 2) (s : Fin 2048) (d : Fin 4096) : EReal := m ((c : Thread nD τ).loc main_arg0) (ix3 b s d)
@[inherit_doc X]
abbrev DH (c : Dev nD) (b : Fin 2) (s : Fin 2048) (d : Fin 4096) : EReal := m ((c : Thread nD τ).loc main_arg1) (ix3 b s d)
@[inherit_doc X]
abbrev DX (c : Dev nD) (b : Fin 2) (s : Fin 2048) (d : Fin 4096) : EReal := m ((c : Thread nD τ).loc main_arg2) (ix3 b s d)
@[inherit_doc X]
abbrev GN (c : Dev nD) (d : Fin 4096) : EReal := m ((c : Thread nD τ).loc main_arg3) (ix2 0 d)
@[inherit_doc X]
abbrev SC (c : Dev nD) (b : Fin 2) (d : Fin 4096) : EReal :=
  m ((c : Thread nD τ).loc main_arg4) (ix2 b ⟨4096 + d.val, by omega⟩)

/-- The reciprocal root mean square of a row. -/
def rs (x : Fin 4096 → EReal) : EReal :=
  Ideal.rsqrt (Ideal.div (∑ k, x k * x k) (Ideal.ofBits FTy.f32 0x45800000#32) + Ideal.ofBits FTy.f32 0x358637BD#32)

/-- What the launch adds to the incoming gradient of a row `x` whose normalised row has gradient `t`. -/
def gxTerm (x t : Fin 4096 → EReal) (d : Fin 4096) : EReal :=
  rs x * t d - x d * (rs x * rs x * rs x) * Ideal.div (∑ k, t k * x k) (Ideal.ofBits FTy.f32 0x45800000#32)

theorem outs_gx (c : Dev nD) (t : Fin cfg0.N) :
    (outsAt0 m c t.val t.isLt).1 = k0_pay1 (k0_pay13 (k0_pay5 (iblk m c 0 t)) (k0_pay6 (iblk m c 1 t)) (iblk m c 3 t)
      (k0_pay7 (iblk m c 0 t)) (iblk m c 4 t)) (iblk m c 2 t) := by
  by_cases h0 : t.val % 8 = 0
  · by_cases h1 : t.val % 16 = 0
    · rw [outsAt0_A m c t h0 h1]; frame_out
    · rw [outsAt0_C m c t h0 h1]; frame_out
  · rw [outsAt0_B m c t h0 (by omega)]; frame_out

theorem pay_gx (x dh dx : Vec Ideal S1x256x4096 .f32) (g : Vec Ideal S1x4096 .f32) (s : Vec Ideal S1x1x4096 .f32)
    (i : Fin 256) (d : Fin 4096) :
    k0_pay1 (k0_pay13 (k0_pay5 x) (k0_pay6 dh) g (k0_pay7 x) s) dx (ix3 0 i d)
      = dx (ix3 0 i d) + gxTerm (fun k => x (ix3 0 i k))
          (fun k => dh (ix3 0 i k) * (1 + s (ix3 0 0 k)) * g (ix2 0 k)) d := by
  simp only [gxTerm, rs]
  pointwise [k0_pay1, k0_pay13, k0_pay5, k0_pay6, k0_pay7, k0_pay11]

theorem pay_dshift (dh : Vec Ideal S1x256x4096 .f32) (a : Vec Ideal S1x1x4096 .f32) (d : Fin 4096) :
    k0_pay9 dh a (ix3 0 0 d) = a (ix3 0 0 d) + ∑ i : Fin 256, dh (ix3 0 i d) := by
  pointwise [k0_pay9, k0_pay6]

theorem pay_dscale (x dh : Vec Ideal S1x256x4096 .f32) (g : Vec Ideal S1x4096 .f32) (a : Vec Ideal S1x1x4096 .f32)
    (d : Fin 4096) :
    k0_pay10 (k0_pay6 dh) g (k0_pay8 x) a (ix3 0 0 d)
      = a (ix3 0 0 d) + ∑ i : Fin 256, dh (ix3 0 i d) * (x (ix3 0 i d) * rs (fun k => x (ix3 0 i k)) * g (ix2 0 d)) := by
  simp only [rs]
  pointwise [k0_pay10, k0_pay5, k0_pay6, k0_pay7, k0_pay8]

theorem pay_dg (x dh : Vec Ideal S1x256x4096 .f32) (a : Vec Ideal S1x4096 .f32) (s : Vec Ideal S1x1x4096 .f32)
    (d : Fin 4096) :
    k0_pay12 (k0_pay6 dh) (k0_pay8 x) s a (ix2 0 d)
      = a (ix2 0 d) + ∑ i : Fin 256, dh (ix3 0 i d) * (1 + s (ix3 0 0 d)) * (x (ix3 0 i d) * rs (fun k => x (ix3 0 i k))) := by
  simp only [rs]
  pointwise [k0_pay12, k0_pay11, k0_pay5, k0_pay6, k0_pay7, k0_pay8]

theorem pay_zero (d : Fin 4096) : k0_pay2 (F := Ideal) (ix3 0 0 d) = 0 ∧ k0_pay3 (F := Ideal) (ix3 0 0 d) = 0
    ∧ k0_pay4 (F := Ideal) (ix2 0 d) = 0 := by
  refine ⟨?_, ?_, ?_⟩ <;> pointwise [k0_pay2, k0_pay3, k0_pay4]

theorem scale_entry (c : Dev nD) (b : Fin 2) (d : Fin 4096) : V m c main_v3 (ix3 b 0 d) = SC m c b d := by
  simp only [SC]
  entry_read; pointwise []

theorem idx : ∀ t : Fin cfg0.N, win0_0.index t = ![t.val / 8, t.val % 8, 0] ∧ win0_1.index t = ![t.val / 8, t.val % 8, 0] ∧
    win0_2.index t = ![t.val / 8, t.val % 8, 0] ∧ win0_3.index t = ![0, 0] ∧ win0_4.index t = ![t.val / 8, 0, 0] ∧
    win0_5.index t = ![t.val / 8, t.val % 8, 0] ∧ win0_6.index t = ![t.val / 8, 0, 0] ∧
    win0_7.index t = ![t.val / 8, 0, 0] ∧ win0_8.index t = ![0, 0] := by
  decide +kernel

theorem lt16 (t : Fin cfg0.N) : t.val < 16 := lt_of_lt_of_eq t.isLt (show cfg0.N = 16 from N_0)

/-- The batch of a grid point, and a row of its tile. -/
def bOf (t : Fin cfg0.N) : Fin 2 := ⟨t.val / 8, by have := lt16 t; omega⟩
@[inherit_doc bOf]
def sOf (t : Fin cfg0.N) (i : Fin 256) : Fin 2048 := ⟨256 * (t.val % 8) + i.val, by omega⟩

theorem iblk0 (c : Dev nD) (t : Fin cfg0.N) (i : Fin 256) (d : Fin 4096) :
    iblk m c 0 t (ix3 0 i d) = X m c (bOf t) (sOf t i) d := by
  simp only [X, bOf, sOf]
  blk_point [iblk, V, idx t]
theorem iblk1 (c : Dev nD) (t : Fin cfg0.N) (i : Fin 256) (d : Fin 4096) :
    iblk m c 1 t (ix3 0 i d) = DH m c (bOf t) (sOf t i) d := by
  simp only [DH, bOf, sOf]
  blk_point [iblk, V, idx t]
theorem iblk2 (c : Dev nD) (t : Fin cfg0.N) (i : Fin 256) (d : Fin 4096) :
    iblk m c 2 t (ix3 0 i d) = DX m c (bOf t) (sOf t i) d := by
  simp only [DX, bOf, sOf]
  blk_point [iblk, V, idx t]
theorem iblk3 (c : Dev nD) (t : Fin cfg0.N) (d : Fin 4096) : iblk m c 3 t (ix2 0 d) = GN m c d := by
  simp only [GN]
  blk_point [iblk, V, idx t]
theorem iblk4 (c : Dev nD) (t : Fin cfg0.N) (d : Fin 4096) : iblk m c 4 t (ix3 0 0 d) = SC m c (bOf t) d := by
  rw [← scale_entry]
  simp only [bOf]
  blk_point [iblk, idx t]

/-- The gradient of the normalised row, times the learned weights. -/
def tRow (c : Dev nD) (b : Fin 2) (s : Fin 2048) (d : Fin 4096) : EReal := DH m c b s d * (1 + SC m c b d) * GN m c d

theorem tile_sum (t : Fin cfg0.N) (f : Fin 2 → Fin 2048 → EReal) (h : ∀ s : Fin 8, 8 * (t.val / 8) + s.val < cfg0.N) :
    ∑ s : Fin 8, ∑ i : Fin 256, f (bOf ⟨8 * (t.val / 8) + s.val, h s⟩) (sOf ⟨8 * (t.val / 8) + s.val, h s⟩ i)
      = ∑ r, f (bOf t) r := by
  refine Fin.sum_mul_add_congr (f := f (bOf t)) fun s k hl => ?_
  congr 1 <;> (apply Fin.ext; simp only [bOf, sOf]; omega)

theorem grid_sum (f : Fin 2 → Fin 2048 → EReal) :
    ∑ t : Fin cfg0.N, ∑ i : Fin 256, f (bOf t) (sOf t i) = ∑ b, ∑ r, f b r := by
  refine Fin.sum_points_lanes_congr 8 fun t k ha hl => ?_
  congr 1
  apply Fin.ext; simp only [sOf]; omega

theorem sum_dshift (c : Dev nD) (t : Fin cfg0.N) (ht : t.val % 8 = 7) (d : Fin 4096) :
    (outsAt0 m c t.val t.isLt).2.1 (ix3 0 0 d) = ∑ s, DH m c (bOf t) s d := by
  have key := Pipeline.eq_sum_fin_of_reset_step_apply_of_flush
    (fun n h (d : Fin 4096) => (outsAt0 m c n h).2.1 (ix3 0 0 d)) 8 (fun _ => (0 : EReal))
    (fun t d => ∑ i : Fin 256, DH m c (bOf t) (sOf t i) d) (fun t h d => by
      by_cases h1 : t.val % 16 = 0
      · rw [outsAt0_A m c t h h1]; frame_out; rw [pay_dshift, (pay_zero d).1]; simp only [iblk1]
      · rw [outsAt0_C m c t h h1]; frame_out; rw [pay_dshift, (pay_zero d).1]; simp only [iblk1])
    (fun t h d => by rw [outsAt0_B m c t h (by omega)]; frame_out; rw [pay_dshift]; simp only [iblk1]) t ht d
  exact key.trans ((zero_add _).trans (tile_sum t (fun b s => DH m c b s d) _))

/-- One row's share of the gradient of the scale. -/
def scaleTerm (c : Dev nD) (b : Fin 2) (s : Fin 2048) (d : Fin 4096) : EReal :=
  DH m c b s d * (X m c b s d * rs (X m c b s) * GN m c d)

theorem sum_dscale (c : Dev nD) (t : Fin cfg0.N) (ht : t.val % 8 = 7) (d : Fin 4096) :
    (outsAt0 m c t.val t.isLt).2.2.1 (ix3 0 0 d) = ∑ s, scaleTerm m c (bOf t) s d := by
  have key := Pipeline.eq_sum_fin_of_reset_step_apply_of_flush
    (fun n h (d : Fin 4096) => (outsAt0 m c n h).2.2.1 (ix3 0 0 d)) 8 (fun _ => (0 : EReal))
    (fun t d => ∑ i : Fin 256, scaleTerm m c (bOf t) (sOf t i) d) (fun t h d => by
      by_cases h1 : t.val % 16 = 0
      · rw [outsAt0_A m c t h h1]; frame_out; rw [pay_dscale, (pay_zero d).2.1]; simp only [iblk0, iblk1, iblk3, scaleTerm]
      · rw [outsAt0_C m c t h h1]; frame_out; rw [pay_dscale, (pay_zero d).2.1]; simp only [iblk0, iblk1, iblk3, scaleTerm])
    (fun t h d => by
      rw [outsAt0_B m c t h (by omega)]; frame_out; rw [pay_dscale]; simp only [iblk0, iblk1, iblk3, scaleTerm]) t ht d
  exact key.trans ((zero_add _).trans (tile_sum t (fun b s => scaleTerm m c b s d) _))

/-- One row's share of the gradient of the norm's weights. -/
def gTerm (c : Dev nD) (b : Fin 2) (s : Fin 2048) (d : Fin 4096) : EReal :=
  DH m c b s d * (1 + SC m c b d) * (X m c b s d * rs (X m c b s))

theorem sum_dg (c : Dev nD) (t : Fin cfg0.N) (ht : t.val + 1 = cfg0.N) (d : Fin 4096) :
    (outsAt0 m c t.val t.isLt).2.2.2 (ix2 0 d) = ∑ b, ∑ s, gTerm m c b s d := by
  have key := Pipeline.eq_sum_fin_of_reset_step_apply_last
    (fun n h (d : Fin 4096) => (outsAt0 m c n h).2.2.2 (ix2 0 d)) 16 (fun _ => (0 : EReal))
    (fun t d => ∑ i : Fin 256, gTerm m c (bOf t) (sOf t i) d) (fun t h d => by
      rw [outsAt0_A m c t (by omega) h]; frame_out; rw [pay_dg, (pay_zero d).2.2]; simp only [iblk0, iblk1, iblk4, gTerm])
    (fun t h d => by
      by_cases h0 : t.val % 8 = 0
      · rw [outsAt0_C m c t h0 h]; frame_out; rw [pay_dg]; simp only [iblk0, iblk1, iblk4, gTerm]
      · rw [outsAt0_B m c t h0 h]; frame_out; rw [pay_dg]; simp only [iblk0, iblk1, iblk4, gTerm])
    (le_of_eq (show cfg0.N = 16 from N_0)) t ht d
  exact key.trans ((zero_add _).trans (grid_sum (fun b s => gTerm m c b s d)))

theorem emb5 (t : Fin cfg0.N) (i : Fin 256) (d : Fin 4096) :
    ((View.whole main_v6_0).slice (win0_5.rect t)).emb (ix3 0 i d) = ix3 (bOf t) (sOf t i) d := by
  simp only [bOf, sOf]
  blk_ext [idx t]

theorem final_gx (c : Dev nD) : (dats m 0 c).arrAt 5 cfg0.N
    = fun j : S2x2048x4096.Idx => DX m c (j 0) (j 1) (j 2) + gxTerm (X m c (j 0) (j 1)) (tRow m c (j 0) (j 1)) (j 2) := by
  refine (dats m 0 c).arrAt_eq_of_covers 5 _ (by decide +kernel) fun t hf y => ?_
  blk_simp
  rw [after0_5, outs_gx]
  idx_vars y
  obtain rfl : y0 = 0 := Subsingleton.elim _ _
  rw [pay_gx, emb5]
  simp only [iblk0, iblk1, iblk2, iblk3, iblk4]
  rfl

theorem final_dshift (c : Dev nD) : (dats m 0 c).arrAt 6 cfg0.N
    = fun j : S2x1x4096.Idx => ∑ s, DH m c (j 0) s (j 2) := by
  refine (dats m 0 c).arrAt_eq_of_covers 6 _ (by decide +kernel) fun t hf y => ?_
  blk_simp
  rw [after0_6]
  idx_vars y
  obtain rfl : y0 = 0 := Subsingleton.elim _ _
  obtain rfl : y1 = 0 := Subsingleton.elim _ _
  have e : (win0_6.blk t).view.emb (ix3 0 0 y2) = ix3 (bOf t) 0 y2 := by simp only [bOf]; blk_ext [idx t]
  rw [e]
  exact sum_dshift m c t ((flush0_6 t).mp hf) y2

theorem final_dscale (c : Dev nD) : (dats m 0 c).arrAt 7 cfg0.N
    = fun j : S2x1x4096.Idx => ∑ s, scaleTerm m c (j 0) s (j 2) := by
  refine (dats m 0 c).arrAt_eq_of_covers 7 _ (by decide +kernel) fun t hf y => ?_
  blk_simp
  rw [after0_7]
  idx_vars y
  obtain rfl : y0 = 0 := Subsingleton.elim _ _
  obtain rfl : y1 = 0 := Subsingleton.elim _ _
  have e : (win0_7.blk t).view.emb (ix3 0 0 y2) = ix3 (bOf t) 0 y2 := by simp only [bOf]; blk_ext [idx t]
  rw [e]
  exact sum_dscale m c t ((flush0_7 t).mp hf) y2

theorem final_dg (c : Dev nD) : (dats m 0 c).arrAt 8 cfg0.N
    = fun j : S1x4096.Idx => ∑ b, ∑ s, gTerm m c b s (j 1) := by
  refine (dats m 0 c).arrAt_eq_of_after_last 8 t0_15 (by decide +kernel) _ fun j => ?_
  blk_simp
  rw [after0_8]
  idx_vars j
  obtain rfl : j0 = 0 := Subsingleton.elim _ _
  exact sum_dg m c t0_15 rfl j1

end Cert.NormIdeal.Grad
-- ==== Proof.Reals.lean ====
module

public import Idealize.ShloMosaic.Lib.Pipeline.ValueKit
public import Idealize.ShloMosaic.Lib.Pointwise
public import Idealize.ShloMosaic.Lib.IdealHost
public import Idealize.ShloMosaic.Lib.ReduceAll
public import Idealize.ShloMosaic.PureOps.Ideal.Laws

@[expose] public section

set_option maxRecDepth 16384

noncomputable section

namespace Cert.Reals

open Idealize.ShloMosaic

/-- A host sum over the first two of three axes, at an entry. -/
theorem reduce_two {A B C : Nat} {t : Shape} (h : (⟨3, ![A, B, C]⟩ : Shape).ReducesTo [0, 1] t)
    (x : (⟨3, ![A, B, C]⟩ : Shape).Idx → EReal) (init : EReal) (j : t.Idx) (d : Fin C)
    (hd : ∀ a b c, h.drop (ix3 a b c) = j ↔ c = d) :
    Ideal.hostReduceAdd h x init j = init + ∑ a, ∑ b, x (ix3 a b d) := by
  unfold Ideal.hostReduceAdd
  rw [Finset.sum_filter, sum_idx3]
  refine congrArg (init + ·) (Finset.sum_congr rfl fun a _ => Finset.sum_congr rfl fun b _ => ?_)
  simp [hd]

/-- The float words of the constants, as reals. -/
theorem word_4096 : Ideal.ofBits FTy.f32 0x45800000#32 = ((4096 : ℝ) : EReal) := by
  simp [Ideal.ofBits, Ideal.ieee, -EReal.coe_mul]; norm_num
@[inherit_doc word_4096]
theorem word_neg_half : Ideal.ofBits FTy.f32 0xBF000000#32 = ((-(1 / 2) : ℝ) : EReal) := by
  simp [Ideal.ofBits, Ideal.ieee, -EReal.coe_mul]; norm_num
@[inherit_doc word_4096]
theorem word_eps : ∃ e : ℝ, 0 < e ∧ Ideal.ofBits FTy.f32 0x358637BD#32 = (e : EReal) := by
  refine ⟨8796093 * (2 : ℝ) ^ (-43 : ℤ), by positivity, ?_⟩
  simp [Ideal.ofBits, Ideal.ieee, -EReal.coe_mul]
  try norm_num

/-- A sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number below `⊤` in absolute value is a real one. -/
theorem real_of_abs_lt {x : EReal} (h : max x (-x) < ⊤) : ∃ r : ℝ, x = r := by
  induction x with
  | bot => simp at h
  | top => simp at h
  | coe r => exact ⟨r, rfl⟩

/-- What a precondition "all entries below infinity in absolute value" says of one array. -/
theorem finite_all {s t u z : Shape} {axes : List (Fin s.rank)} [Subsingleton t.Idx] (x : FVec Ideal s .f32)
    (dims : Fin z.rank → Fin s.rank) (hb : z.BroadcastsInDim s dims) (init : u.Idx → BitVec 1) (h : s.ReducesTo axes t)
    (hu : 0 < u.numel) (j : t.Idx)
    (e : Host.reduce IntOp.andi (cmpf .olt (Host.absf x) (broadcastInDim s dims hb (constant z .f32 0x7F800000#32)))
      init h hu j = 1#1) (i : s.Idx) : ∃ r : ℝ, x i = r := by
  have h1 := Host.reduce_andi_all _ init h hu j e i
  have h2 : Ideal.cmp .olt (max (x i) (-x i)) (Ideal.ofBits FTy.f32 0x7F800000#32) = 1#1 := h1
  rw [show Ideal.ofBits FTy.f32 0x7F800000#32 = ⊤ by simp [Ideal.ofBits, Ideal.ieee]] at h2
  refine real_of_abs_lt ?_
  by_contra hn
  simp [Ideal.cmp, hn] at h2

theorem andi_one {z : Shape} {a b : IVec z 1} {j : z.Idx} (h : andi a b j = 1#1) : a j = 1#1 ∧ b j = 1#1 := by
  have h' : IntOp.andi (a j) (b j) = 1#1 := h
  revert h'
  generalize a j = p
  generalize b j = q
  revert p q
  decide

end Cert.Reals
-- ==== Proof.NormRef.lean ====
module

public import proofs.«01_k».proof.Proof.NormRun
public import proofs.«01_k».proof.Proof.Gen.NormRefIdeal.Read
public import Idealize.ShloMosaic.Lib.IdealHost
public import proofs.«01_k».proof.Proof.Reals

@[expose] public section

set_option maxRecDepth 16384

noncomputable section

namespace Cert.NormRefIdeal.Grad

open Cert.NormRefIdeal Cert.NormRefIdeal.Gen Cert.NormRefIdeal.Read Idealize.ShloMosaic Idealize.ShloMosaic.TcCoe Idealize.SL.Sem

variable (x dh dx : (⟨S2x2048x4096, .f32⟩ : BufTy).Contents (Elt Ideal)) (g : (⟨S1x4096, .f32⟩ : BufTy).Contents (Elt Ideal))
   (md : (⟨S2x12288, .f32⟩ : BufTy).Contents (Elt Ideal))

/-- The mean square of a row plus epsilon, its reciprocal root, and the factor of the row in its own gradient. -/
def ms (x : Fin 4096 → EReal) : EReal :=
  Ideal.div (∑ k, x k * x k) (Ideal.ofBits FTy.f32 0x45800000#32) + Ideal.ofBits FTy.f32 0x358637BD#32
@[inherit_doc ms]
def fac (x t : Fin 4096 → EReal) : EReal :=
  Ideal.div ((∑ k, x k * t k) * (Ideal.ofBits FTy.f32 0xBF000000#32 * Ideal.div (Ideal.rsqrt (ms x)) (ms x)))
    (Ideal.ofBits FTy.f32 0x45800000#32)

theorem fin_one {f : Fin 1 → EReal} : ∑ k, f k = f 0 := by simp

theorem msq (b : Fin 2) (s : Fin 2048) : val_main_v10 x (ix3 b s 0) = ms fun k => x (ix3 b s k) := by
  simp only [ms]
  pointwise [val_main_v10, val_main_v9, val_main_cst_1, val_main_v8, val_main_v7, val_main_cst_0, val_main_v6,
    val_main_v5, val_main_cst, val_main_v4]

theorem rsq (b : Fin 2) (s : Fin 2048) : val_main_v11 x (ix3 b s 0) = Ideal.rsqrt (ms fun k => x (ix3 b s k)) := by
  rw [← msq]
  pointwise [val_main_v11]

theorem trow (b : Fin 2) (s : Fin 2048) (d : Fin 4096) : val_main_v42 dh g md (ix3 b s d)
    = dh (ix3 b s d) * (1 + md (ix2 b ⟨4096 + d.val, by omega⟩)) * g (ix2 0 d) := by
  pointwise [val_main_v42, val_main_v41, val_main_v17, val_main_v3, val_main_v36, val_main_v35, val_main_v22, val_main_v21, val_main_v20, val_main_cst_3, val_main_v1, val_main_v28]
theorem factor (b : Fin 2) (s : Fin 2048) (d : Fin 4096) : val_main_v54 x dh g md (ix3 b s d)
    = fac (fun k => x (ix3 b s k)) (fun k => val_main_v42 dh g md (ix3 b s k)) := by
  simp only [fac]
  pointwise [val_main_v54, val_main_v53, val_main_cst_12, val_main_v52, val_main_v51, val_main_cst_11, val_main_v50, val_main_v46, val_main_v45, val_main_v44, val_main_cst_10, val_main_v14, val_main_v13, val_main_cst_2, val_main_v12]
  simp only [fin_one, rsq, msq]
theorem gx (b : Fin 2) (s : Fin 2048) (d : Fin 4096) : val_main_v58 x dh dx g md (ix3 b s d)
    = dx (ix3 b s d) + val_main_v42 dh g md (ix3 b s d) * val_main_v11 x (ix3 b s 0)
       + x (ix3 b s d) * val_main_v54 x dh g md (ix3 b s d) + val_main_v54 x dh g md (ix3 b s d) * x (ix3 b s d) := by
  pointwise [val_main_v58, val_main_v57, val_main_v56, val_main_v55, val_main_v49, val_main_v48, val_main_v47]
theorem dshift (b : Fin 2) (d : Fin 4096) : val_main_v60 dh (ix3 b 0 d) = ∑ s, dh (ix3 b s d) := by
  pointwise [val_main_v60, val_main_v31, val_main_v30, val_main_v29, val_main_cst_4, val_main_cst_5, val_main_v28]
  simp only [fin_one]
theorem dscale (b : Fin 2) (d : Fin 4096) : val_main_v61 x dh g (ix3 b 0 d)
    = ∑ s, x (ix3 b s d) * val_main_v11 x (ix3 b s 0) * g (ix2 0 d) * dh (ix3 b s d) := by
  pointwise [val_main_v61, val_main_v37, val_main_v34, val_main_v33, val_main_v32, val_main_v19, val_main_v18, val_main_v17, val_main_v3, val_main_v16, val_main_v15, val_main_v28, val_main_cst_6, val_main_cst_7]
  simp only [fin_one]
theorem dg (d : Fin 4096) : val_main_v59 x dh md (ix2 0 d)
    = ∑ b, ∑ s, x (ix3 b s d) * val_main_v11 x (ix3 b s 0) * (dh (ix3 b s d) * (1 + md (ix2 b ⟨4096 + d.val, by omega⟩))) := by
  have hd1 : ∀ a b c, reducesTo_S1x1x4096_S4096_d0_1.drop (ix3 a b c) = ix1 d ↔ c = d := fun a b c =>
    ⟨fun h => congrFun h 0, fun h => h ▸ (by funext i; match i with | ⟨0, _⟩ => rfl)⟩
  have hd2 : ∀ a b c, reducesTo_S2x2048x4096_S4096_d0_1.drop (ix3 a b c) = ix1 d ↔ c = d := fun a b c =>
    ⟨fun h => congrFun h 0, fun h => h ▸ (by funext i; match i with | ⟨0, _⟩ => rfl)⟩
  pointwise [val_main_v59, val_main_v43]
  rw [Reals.reduce_two _ _ _ _ d hd1]
  pointwise [val_main_v40, val_main_v39, val_main_cst_9]
  rw [Reals.reduce_two _ _ _ _ d hd2]
  pointwise [val_main_v38, val_main_v36, val_main_v35, val_main_v22, val_main_v21, val_main_v20, val_main_cst_3, val_main_v1, val_main_v16, val_main_v15, val_main_v28, val_main_cst_8]
  simp only [fin_one]

/-- The two forms of a row's gradient agree on real rows. -/
theorem gx_eq (a : EReal) (xr tr : Fin 4096 → ℝ) (d : Fin 4096) :
    a + NormIdeal.Grad.gxTerm (fun k => (xr k : EReal)) (fun k => (tr k : EReal)) d
      = a + (tr d : EReal) * Ideal.rsqrt (ms fun k => (xr k : EReal)) + (xr d : EReal) * fac (fun k => xr k) (fun k => tr k)
        + fac (fun k => xr k) (fun k => tr k) * (xr d : EReal) := by
  obtain ⟨e, he, hw⟩ := Reals.word_eps
  have hv : 0 < (∑ k, xr k * xr k) * (1 / 4096) + e :=
    add_pos_of_nonneg_of_pos (mul_nonneg (Finset.sum_nonneg fun k _ => mul_self_nonneg _) (by norm_num)) he
  have hms : ms (fun k => (xr k : EReal)) = (((∑ k, xr k * xr k) * (1 / 4096) + e : ℝ) : EReal) := by
    simp only [ms, hw, Reals.word_4096, ← EReal.coe_mul, ← Reals.coe_sum]
    rw [Ideal.div_coe (by norm_num)]
    rw [EReal.coe_add, EReal.coe_mul]
  generalize (∑ k, xr k * xr k) * (1 / 4096) + e = v at hv hms
  have hr : Ideal.rsqrt (v : EReal) = (((√v)⁻¹ : ℝ) : EReal) := by
    rw [Ideal.rsqrt_coe, if_neg (not_lt.2 hv.le), if_neg hv.ne']
  have hrs : NormIdeal.Grad.rs (fun k => (xr k : EReal)) = (((√v)⁻¹ : ℝ) : EReal) := by
    rw [← hr, ← hms]; rfl
  have hq : (√v)⁻¹ * (√v)⁻¹ = 1 / v := by
    rw [← mul_inv, Real.mul_self_sqrt hv.le, one_div]
  simp only [NormIdeal.Grad.gxTerm, fac, hrs, hms, hr, Reals.word_4096, Reals.word_neg_half, Ideal.div_coe hv.ne',
    Ideal.div_coe (show (4096 : ℝ) ≠ 0 by norm_num), ← EReal.coe_mul, ← Reals.coe_sum, ← EReal.coe_sub, add_assoc,
    ← EReal.coe_add]
  refine congrArg (fun w : ℝ => a + (w : EReal)) ?_
  rw [Finset.sum_congr rfl fun k _ => mul_comm (tr k) (xr k)]
  generalize ∑ k, xr k * tr k = S
  generalize (√v)⁻¹ = r at hq
  rw [hq]
  ring

end Cert.NormRefIdeal.Grad
-- ==== Proof.NormClaim.lean ====
module

public import proofs.«01_k».proof.Defs
public import proofs.«01_k».proof.Proof.Gen.Norm.Frame
public import proofs.«01_k».proof.Proof.Gen.NormRefIdeal.Run
public import proofs.«01_k».proof.Proof.Gen.Pre_norm_finite
public import proofs.«01_k».proof.Proof.NormRef
public import Idealize.ShloMosaic.Lib.Quiescent

@[expose] public section

set_option maxRecDepth 16384

noncomputable section

namespace Cert.NormClaim

open Idealize.ShloMosaic Idealize.ShloMosaic.TcCoe Idealize.SL.Sem
open Cert.NormIdeal.Grad (X DH DX GN SC)

theorem frame : Cert.quiescent_Norm := fun m g _ => Cert.Norm.Gen.frame m g
theorem frame_ideal : Cert.quiescent_NormIdeal := fun m g _ => Cert.NormIdeal.Gen.frame m g
theorem frame_ideal_pre : Cert.quiescent_NormIdeal_pre_norm_finite := fun m g _ => Cert.NormIdeal.Gen.frame m g

theorem frame_ref : Cert.quiescent_NormRefIdeal := fun m g _ =>
  (θ_run Cert.NormRefIdeal.defs _ _).mono (fun _ h => ⟨fun c => (h c).2.2.2.2, sem_eq_zero_of_no_sems rfl _⟩)
    (Cert.NormRefIdeal.Value.run (F := Ideal) m g)
theorem frame_ref_pre : Cert.quiescent_NormRefIdeal_pre_norm_finite := fun m g _ => frame_ref m g trivial

/-- Under the precondition four of the arguments hold reals. -/
theorem reals (m : (ℓ : Loc Cert.NormIdeal.nD Cert.NormIdeal.τ Cert.NormIdeal.sig) → Buf (Elt Ideal) ℓ)
    (h : Cert.Pre_NormIdeal_norm_finite m) (c : Dev Cert.NormIdeal.nD) :
    (∀ b s d, ∃ r : ℝ, X m c b s d = r) ∧ (∀ b s d, ∃ r : ℝ, DH m c b s d = r) ∧ (∀ d, ∃ r : ℝ, GN m c d = r)
      ∧ ∀ b d, ∃ r : ℝ, SC m c b d = r := by
  have h1 := congrFun (h c) (fun a => a.elim0)
  dsimp only [Cert.Pre_norm_finite.fn, Cert.Pre_norm_finite.fn_part1] at h1
  obtain ⟨h1, h4⟩ := Reals.andi_one h1
  obtain ⟨h1, h3⟩ := Reals.andi_one h1
  obtain ⟨h1, h2⟩ := Reals.andi_one h1
  haveI : Subsingleton Cert.Pre_norm_finite.S_.Idx := ⟨fun a b => funext fun i => i.elim0⟩
  exact ⟨fun b s d => Reals.finite_all _ _ _ _ _ _ _ h1 _, fun b s d => Reals.finite_all _ _ _ _ _ _ _ h2 _,
    fun d => Reals.finite_all _ _ _ _ _ _ _ h3 _, fun b d => Reals.finite_all _ _ _ _ _ _ _ h4 _⟩

section
variable (m : (ℓ : Loc Cert.NormIdeal.nD Cert.NormIdeal.τ Cert.NormIdeal.sig) → Buf (Elt Ideal) ℓ)
  (c : Dev Cert.NormIdeal.nD)

open Cert.NormRefIdeal.Read Cert.NormRefIdeal.Grad

theorem gx_agree (h : Cert.Pre_NormIdeal_norm_finite m) :
    (Cert.NormIdeal.Gen.dats m 0 c).arrAt 5 Cert.NormIdeal.cfg0.N
      = val_main_v58 (m ((c.tc : Thread _ _).loc Cert.NormIdeal.main_arg0)) (m ((c.tc : Thread _ _).loc Cert.NormIdeal.main_arg1))
          (m ((c.tc : Thread _ _).loc Cert.NormIdeal.main_arg2)) (m ((c.tc : Thread _ _).loc Cert.NormIdeal.main_arg3))
          (m ((c.tc : Thread _ _).loc Cert.NormIdeal.main_arg4)) := by
  rw [Cert.NormIdeal.Grad.final_gx]
  funext j
  idx_vars j
  obtain ⟨hx, hd, hg, hs⟩ := reals m h c
  choose xr hx using hx
  choose dr hd using hd
  choose gr hg using hg
  choose sr hs using hs
  refine Eq.trans ?_ (gx _ _ _ _ _ j0 j1 j2).symm
  rw [factor, rsq]
  have ht : ∀ k, val_main_v42 (F := Ideal) (m ((c.tc : Thread _ _).loc Cert.NormIdeal.main_arg1))
      (m ((c.tc : Thread _ _).loc Cert.NormIdeal.main_arg3)) (m ((c.tc : Thread _ _).loc Cert.NormIdeal.main_arg4)) (ix3 j0 j1 k)
      = ((dr j0 j1 k * (1 + sr j0 k) * gr k : ℝ) : EReal) := fun k => by
    refine (trow _ _ _ j0 j1 k).trans ?_
    refine (congrArg₂ (· * ·) (congrArg₂ (· * ·) (hd j0 j1 k) (congrArg (1 + ·) (hs j0 k))) (hg k)).trans ?_
    norm_cast
  have ht' : Cert.NormIdeal.Grad.tRow m c j0 j1 = fun k => ((dr j0 j1 k * (1 + sr j0 k) * gr k : ℝ) : EReal) :=
    funext fun k => (trow _ _ _ j0 j1 k).symm.trans (ht k)
  simp only [ht]
  have hx' : X m c j0 j1 = fun k => ((xr j0 j1 k : ℝ) : EReal) := funext fun k => hx j0 j1 k
  show DX m c j0 j1 j2 + Cert.NormIdeal.Grad.gxTerm (X m c j0 j1) (Cert.NormIdeal.Grad.tRow m c j0 j1) j2 =
    DX m c j0 j1 j2 + _ * Ideal.rsqrt (ms (X m c j0 j1)) + X m c j0 j1 j2 * fac (X m c j0 j1) _
      + fac (X m c j0 j1) _ * X m c j0 j1 j2
  rw [ht', hx']
  exact gx_eq _ _ _ _

theorem dshift_agree : (Cert.NormIdeal.Gen.dats m 0 c).arrAt 6 Cert.NormIdeal.cfg0.N
    = val_main_v60 (m ((c.tc : Thread _ _).loc Cert.NormIdeal.main_arg1)) := by
  rw [Cert.NormIdeal.Grad.final_dshift]
  funext j
  idx_vars j
  obtain rfl : j1 = 0 := Subsingleton.elim _ _
  exact (dshift _ j0 j2).symm

theorem dscale_agree : (Cert.NormIdeal.Gen.dats m 0 c).arrAt 7 Cert.NormIdeal.cfg0.N
    = val_main_v61 (m ((c.tc : Thread _ _).loc Cert.NormIdeal.main_arg0)) (m ((c.tc : Thread _ _).loc Cert.NormIdeal.main_arg1))
        (m ((c.tc : Thread _ _).loc Cert.NormIdeal.main_arg3)) := by
  rw [Cert.NormIdeal.Grad.final_dscale]
  funext j
  idx_vars j
  obtain rfl : j1 = 0 := Subsingleton.elim _ _
  refine Eq.trans ?_ (dscale _ _ _ j0 j2).symm
  refine Finset.sum_congr rfl fun s _ => ?_
  rw [rsq]
  exact mul_comm _ _

theorem dg_agree : (Cert.NormIdeal.Gen.dats m 0 c).arrAt 8 Cert.NormIdeal.cfg0.N
    = val_main_v59 (m ((c.tc : Thread _ _).loc Cert.NormIdeal.main_arg0)) (m ((c.tc : Thread _ _).loc Cert.NormIdeal.main_arg1))
        (m ((c.tc : Thread _ _).loc Cert.NormIdeal.main_arg4)) := by
  rw [Cert.NormIdeal.Grad.final_dg]
  funext j
  idx_vars j
  obtain rfl : j0 = 0 := Subsingleton.elim _ _
  refine Eq.trans ?_ (dg _ _ _ j1).symm
  refine Finset.sum_congr rfl fun b _ => Finset.sum_congr rfl fun s _ => ?_
  rw [rsq]
  exact mul_comm _ _

end

theorem algebraic : Cert.algebraic_NormIdeal_NormRefIdeal_pre_norm_finite := by
  intro m g m' g' hpre hag
  refine ⟨fun c => (Cert.NormIdeal.Gen.dats m 0 c).arrAt 5 Cert.NormIdeal.cfg0.N,
    fun c => (Cert.NormIdeal.Gen.dats m 0 c).arrAt 6 Cert.NormIdeal.cfg0.N,
    fun c => (Cert.NormIdeal.Gen.dats m 0 c).arrAt 7 Cert.NormIdeal.cfg0.N,
    fun c => (Cert.NormIdeal.Gen.dats m 0 c).arrAt 8 Cert.NormIdeal.cfg0.N,
    Cert.NormIdeal.Value.run_blocks m g,
    (θ_run Cert.NormRefIdeal.defs _ _).mono (fun r h c => ?_) (Cert.NormRefIdeal.Value.run (F := Ideal) m' g')⟩
  obtain ⟨h0, h1, h2, h3, hargs⟩ := h c
  obtain ⟨a0, a1, a2, a3, a4⟩ := hag c
  refine ⟨h0.trans ?_, h1.trans ?_, h2.trans ?_, h3.trans ?_, hargs⟩
  · rw [Cert.NormRefIdeal.Read.val_main_v58_eq, a0, a1, a2, a3, a4]
    exact (gx_agree m c hpre).symm
  · rw [a1]
    exact (dshift_agree m c).symm
  · rw [a0, a1, a3]
    exact (dscale_agree m c).symm
  · rw [a0, a1, a4]
    exact (dg_agree m c).symm

end Cert.NormClaim
-- ==== Proof.LossRun.lean ====
module

public import proofs.«01_k».proof.Proof.Gen.LossIdeal.Value
public import proofs.«01_k».proof.Proof.NormRun

@[expose] public section

set_option maxRecDepth 16384

noncomputable section

namespace Cert.LossIdeal.Grad

open Cert.LossIdeal Cert.LossIdeal.Gen Idealize.ShloMosaic Idealize.ShloMosaic.TcCoe Idealize.SL.Sem
open Cert.NormIdeal.Grad (rs gxTerm)

variable (m : (ℓ : Loc nD τ sig) → Buf (Elt Ideal) ℓ)

/-- The five arguments of the launch, entry by entry: the residual stream, the layer's output, the gate in the
    modulation, the gain, the target. -/
abbrev X (c : Dev nD) (b : Fin 2) (s : Fin 2048) (d : Fin 4096) : EReal := m ((c : Thread nD τ).loc main_arg0) (ix3 b s d)
@[inherit_doc X]
abbrev O (c : Dev nD) (b : Fin 2) (s : Fin 2048) (d : Fin 4096) : EReal :=
  m ((c : Thread nD τ).loc main_arg1) (ix2 ⟨b.val * 2048 + s.val, by omega⟩ d)
@[inherit_doc X]
abbrev GT (c : Dev nD) (b : Fin 2) (d : Fin 4096) : EReal :=
  m ((c : Thread nD τ).loc main_arg2) (ix2 b ⟨8192 + d.val, by omega⟩)
@[inherit_doc X]
abbrev GF (c : Dev nD) (d : Fin 4096) : EReal := m ((c : Thread nD τ).loc main_arg3) (ix1 d)
@[inherit_doc X]
abbrev T (c : Dev nD) (b : Fin 2) (s : Fin 2048) (d : Fin 4096) : EReal := m ((c : Thread nD τ).loc main_arg4) (ix3 b s d)

/-- A row's distance from its target, from the row `x` before the norm. -/
def errRow (x g t : Fin 4096 → EReal) (k : Fin 4096) : EReal := x k * rs x * g k - t k
/-- The mean square of such a row. -/
def msqRow (e : Fin 4096 → EReal) : EReal := Ideal.div (∑ k, e k * e k) (Ideal.ofBits FTy.f32 0x45800000#32)
/-- The gradient of the normed row before and after its gain. -/
def finRow (e : Fin 4096 → EReal) (k : Fin 4096) : EReal := e k * Ideal.ofBits FTy.f32 0x39800000#32
@[inherit_doc finRow]
def uRow (e g : Fin 4096 → EReal) (k : Fin 4096) : EReal := finRow e k * g k

section
variable (x o : Vec Ideal S1x256x4096 .f32) (gt : Vec Ideal S1x1x4096 .f32) (g : Vec Ideal S1x4096 .f32)
  (tg : Vec Ideal S1x256x4096 .f32)

/-- One row of the tile after the gated output is added, and its distance from the target. -/
def x1T (i : Fin 256) (k : Fin 4096) : EReal := x (ix3 0 i k) + gt (ix3 0 0 k) * o (ix3 0 i k)
@[inherit_doc x1T]
def errT (i : Fin 256) : Fin 4096 → EReal := errRow (x1T x o gt i) (fun k => g (ix2 0 k)) (fun k => tg (ix3 0 i k))

/-- The tile of residual gradients. -/
abbrev dxT : FVec Ideal S256x4096 .f32 :=
  k0_pay17 (k0_pay9 g) (k0_pay10 o gt x) (k0_pay11 o gt x) (k0_pay13 o gt g x tg)

theorem pay_x1 (i : Fin 256) (d : Fin 4096) : k0_pay10 o gt x (ix2 i d) = x1T x o gt i d := by
  simp only [x1T]
  pointwise [k0_pay10, k0_pay8, k0_pay7]

theorem pay_rs (i : Fin 256) : k0_pay11 o gt x (ix2 i 0) = rs (x1T x o gt i) := by
  simp only [rs, ← pay_x1]
  pointwise [k0_pay11]

theorem pay_err (i : Fin 256) (d : Fin 4096) : k0_pay13 o gt g x tg (ix2 i d) = errT x o gt g tg i d := by
  simp only [errT, errRow, ← pay_rs, ← pay_x1]
  pointwise [k0_pay13, k0_pay12, k0_pay9]

theorem pay_dx (i : Fin 256) (d : Fin 4096) : dxT x o gt g tg (ix2 i d)
    = gxTerm (x1T x o gt i) (uRow (errT x o gt g tg i) fun k => g (ix2 0 k)) d := by
  simp only [gxTerm, uRow, finRow, ← pay_err, ← pay_rs, ← pay_x1]
  pointwise [k0_pay17, k0_pay15, k0_pay9]

theorem pay_dx1 (v : FVec Ideal S256x4096 .f32) (i : Fin 256) (d : Fin 4096) : k0_pay1 v (ix3 0 i d) = v (ix2 i d) := by
  pointwise [k0_pay1]

theorem pay_dout (v : FVec Ideal S256x4096 .f32) (i : Fin 256) (d : Fin 4096) :
    k0_pay3 (k0_pay8 gt) v (ix3 0 i d) = gt (ix3 0 0 d) * v (ix2 i d) := by
  pointwise [k0_pay3, k0_pay8]

theorem pay_dgate (v : FVec Ideal S256x4096 .f32) (a : Vec Ideal S1x1x4096 .f32) (d : Fin 4096) :
    k0_pay2 (k0_pay7 o) v a (ix3 0 0 d) = a (ix3 0 0 d) + ∑ i : Fin 256, v (ix2 i d) * o (ix3 0 i d) := by
  pointwise [k0_pay2, k0_pay7]

theorem pay_dg (a : Vec Ideal S1x4096 .f32) (d : Fin 4096) :
    k0_pay16 (k0_pay12 o gt x) (k0_pay13 o gt g x tg) a (ix2 0 d) = a (ix2 0 d)
      + ∑ i : Fin 256, finRow (errT x o gt g tg i) d * (x1T x o gt i d * rs (x1T x o gt i)) := by
  simp only [finRow, ← pay_err, ← pay_rs, ← pay_x1]
  pointwise [k0_pay16, k0_pay15, k0_pay12]

theorem pay_loss (v : FVec Ideal S256x4096 .f32) (a : Vec Ideal S1x128 .f32) (l : Fin 128) :
    k0_pay14 v a (ix2 0 l) = a (ix2 0 l)
      + Ideal.ofBits FTy.f32 0x3F000000#32 * ∑ i : Fin 256, msqRow fun k => v (ix2 i k) := by
  simp only [msqRow]
  pointwise [k0_pay14]
  simp only [Finset.univ_unique, Finset.sum_singleton]

end

theorem pay_zero (d : Fin 4096) (l : Fin 128) : k0_pay4 (F := Ideal) (ix3 0 0 d) = 0 ∧ k0_pay5 (F := Ideal) (ix2 0 d) = 0
    ∧ k0_pay6 (F := Ideal) (ix2 0 l) = 0 := by
  refine ⟨?_, ?_, ?_⟩ <;> pointwise [k0_pay4, k0_pay5, k0_pay6]

/-- The tile of residual gradients at a grid point. -/
abbrev dxAt (c : Dev nD) (t : Fin cfg0.N) : FVec Ideal S256x4096 .f32 :=
  dxT (iblk m c 0 t) (iblk m c 1 t) (iblk m c 2 t) (iblk m c 3 t) (iblk m c 4 t)

theorem outs_dx (c : Dev nD) (t : Fin cfg0.N) : (outsAt0 m c t.val t.isLt).1 = k0_pay1 (dxAt m c t)
    ∧ (outsAt0 m c t.val t.isLt).2.1 = k0_pay3 (k0_pay8 (iblk m c 2 t)) (dxAt m c t) := by
  by_cases h0 : t.val % 8 = 0
  · by_cases h1 : t.val % 16 = 0
    · rw [outsAt0_A m c t h0 h1]; constructor <;> frame_out
    · rw [outsAt0_C m c t h0 h1]; constructor <;> frame_out
  · rw [outsAt0_B m c t h0 (by omega)]; constructor <;> frame_out

theorem gate_entry (c : Dev nD) (b : Fin 2) (d : Fin 4096) : V m c main_v5 (ix3 b 0 d) = GT m c b d := by
  simp only [GT]
  entry_read; pointwise []
theorem out_entry (c : Dev nD) (b : Fin 2) (s : Fin 2048) (d : Fin 4096) : V m c main_v6 (ix3 b s d) = O m c b s d := by
  simp only [O]
  entry_read; pointwise []
theorem gain_entry (c : Dev nD) (d : Fin 4096) : V m c main_v7 (ix2 0 d) = GF m c d := by
  simp only [GF]
  entry_read; pointwise []

theorem idx : ∀ t : Fin cfg0.N, win0_0.index t = ![t.val / 8, t.val % 8, 0] ∧ win0_1.index t = ![t.val / 8, t.val % 8, 0] ∧
    win0_2.index t = ![t.val / 8, 0, 0] ∧ win0_3.index t = ![0, 0] ∧ win0_4.index t = ![t.val / 8, t.val % 8, 0] ∧
    win0_5.index t = ![t.val / 8, t.val % 8, 0] ∧ win0_6.index t = ![t.val / 8, t.val % 8, 0] ∧
    win0_7.index t = ![t.val / 8, 0, 0] ∧ win0_8.index t = ![0, 0] ∧ win0_9.index t = ![0, 0] := by
  decide +kernel

theorem lt16 (t : Fin cfg0.N) : t.val < 16 := lt_of_lt_of_eq t.isLt (show cfg0.N = 16 from N_0)

/-- The batch of a grid point, and a row of its tile. -/
def bOf (t : Fin cfg0.N) : Fin 2 := ⟨t.val / 8, by have := lt16 t; omega⟩
@[inherit_doc bOf]
def sOf (t : Fin cfg0.N) (i : Fin 256) : Fin 2048 := ⟨256 * (t.val % 8) + i.val, by omega⟩

theorem iblk0 (c : Dev nD) (t : Fin cfg0.N) (i : Fin 256) (d : Fin 4096) :
    iblk m c 0 t (ix3 0 i d) = X m c (bOf t) (sOf t i) d := by
  simp only [X, bOf, sOf]
  blk_point [iblk, V, idx t]
theorem iblk1 (c : Dev nD) (t : Fin cfg0.N) (i : Fin 256) (d : Fin 4096) :
    iblk m c 1 t (ix3 0 i d) = O m c (bOf t) (sOf t i) d := by
  rw [← out_entry]
  simp only [bOf, sOf]
  blk_point [iblk, idx t]
theorem iblk2 (c : Dev nD) (t : Fin cfg0.N) (d : Fin 4096) : iblk m c 2 t (ix3 0 0 d) = GT m c (bOf t) d := by
  rw [← gate_entry]
  simp only [bOf]
  blk_point [iblk, idx t]
theorem iblk3 (c : Dev nD) (t : Fin cfg0.N) (d : Fin 4096) : iblk m c 3 t (ix2 0 d) = GF m c d := by
  rw [← gain_entry]
  blk_point [iblk, idx t]
theorem iblk4 (c : Dev nD) (t : Fin cfg0.N) (i : Fin 256) (d : Fin 4096) :
    iblk m c 4 t (ix3 0 i d) = T m c (bOf t) (sOf t i) d := by
  simp only [T, bOf, sOf]
  blk_point [iblk, V, idx t]

/-- A row of the residual stream after the gated output is added, its distance from the target, and its gradient. -/
def x1 (c : Dev nD) (b : Fin 2) (s : Fin 2048) (k : Fin 4096) : EReal := X m c b s k + GT m c b k * O m c b s k
@[inherit_doc x1]
def err (c : Dev nD) (b : Fin 2) (s : Fin 2048) : Fin 4096 → EReal := errRow (x1 m c b s) (GF m c) (T m c b s)
@[inherit_doc x1]
def dx (c : Dev nD) (b : Fin 2) (s : Fin 2048) (d : Fin 4096) : EReal :=
  gxTerm (x1 m c b s) (uRow (err m c b s) (GF m c)) d

theorem x1_at (c : Dev nD) (t : Fin cfg0.N) (i : Fin 256) :
    x1T (iblk m c 0 t) (iblk m c 1 t) (iblk m c 2 t) i = x1 m c (bOf t) (sOf t i) := by
  funext k
  simp only [x1T, x1, iblk0, iblk1, iblk2]

theorem err_at (c : Dev nD) (t : Fin cfg0.N) (i : Fin 256) :
    errT (iblk m c 0 t) (iblk m c 1 t) (iblk m c 2 t) (iblk m c 3 t) (iblk m c 4 t) i = err m c (bOf t) (sOf t i) := by
  simp only [errT, err, x1_at, iblk3, iblk4]

theorem dx_at (c : Dev nD) (t : Fin cfg0.N) (i : Fin 256) (d : Fin 4096) :
    dxAt m c t (ix2 i d) = dx m c (bOf t) (sOf t i) d := by
  rw [dxAt, pay_dx, x1_at, err_at]
  simp only [dx, iblk3]

theorem tile_sum (t : Fin cfg0.N) (f : Fin 2 → Fin 2048 → EReal) (h : ∀ s : Fin 8, 8 * (t.val / 8) + s.val < cfg0.N) :
    ∑ s : Fin 8, ∑ i : Fin 256, f (bOf ⟨8 * (t.val / 8) + s.val, h s⟩) (sOf ⟨8 * (t.val / 8) + s.val, h s⟩ i)
      = ∑ r, f (bOf t) r := by
  refine Fin.sum_mul_add_congr (f := f (bOf t)) fun s k hl => ?_
  congr 1 <;> (apply Fin.ext; simp only [bOf, sOf]; omega)

theorem grid_sum (f : Fin 2 → Fin 2048 → EReal) :
    ∑ t : Fin cfg0.N, ∑ i : Fin 256, f (bOf t) (sOf t i) = ∑ b, ∑ r, f b r := by
  refine Fin.sum_points_lanes_congr 8 fun t k ha hl => ?_
  congr 1
  apply Fin.ext; simp only [sOf]; omega

theorem sum_dgate (c : Dev nD) (t : Fin cfg0.N) (ht : t.val % 8 = 7) (d : Fin 4096) :
    (outsAt0 m c t.val t.isLt).2.2.1 (ix3 0 0 d) = ∑ s, dx m c (bOf t) s d * O m c (bOf t) s d := by
  have key := Pipeline.eq_sum_fin_of_reset_step_apply_of_flush
    (fun n h (d : Fin 4096) => (outsAt0 m c n h).2.2.1 (ix3 0 0 d)) 8 (fun _ => (0 : EReal))
    (fun t d => ∑ i : Fin 256, dx m c (bOf t) (sOf t i) d * O m c (bOf t) (sOf t i) d) (fun t h d => by
      by_cases h1 : t.val % 16 = 0
      · rw [outsAt0_A m c t h h1]; frame_out; rw [pay_dgate, (pay_zero d 0).1]; simp only [iblk1, dx_at]
      · rw [outsAt0_C m c t h h1]; frame_out; rw [pay_dgate, (pay_zero d 0).1]; simp only [iblk1, dx_at])
    (fun t h d => by rw [outsAt0_B m c t h (by omega)]; frame_out; rw [pay_dgate]; simp only [iblk1, dx_at]) t ht d
  exact key.trans ((zero_add _).trans (tile_sum t (fun b s => dx m c b s d * O m c b s d) _))

/-- One row's share of the gradient of the gain. -/
def gTerm (c : Dev nD) (b : Fin 2) (s : Fin 2048) (d : Fin 4096) : EReal :=
  finRow (err m c b s) d * (x1 m c b s d * rs (x1 m c b s))

theorem sum_dg (c : Dev nD) (t : Fin cfg0.N) (ht : t.val + 1 = cfg0.N) (d : Fin 4096) :
    (outsAt0 m c t.val t.isLt).2.2.2.1 (ix2 0 d) = ∑ b, ∑ s, gTerm m c b s d := by
  have key := Pipeline.eq_sum_fin_of_reset_step_apply_last
    (fun n h (d : Fin 4096) => (outsAt0 m c n h).2.2.2.1 (ix2 0 d)) 16 (fun _ => (0 : EReal))
    (fun t d => ∑ i : Fin 256, gTerm m c (bOf t) (sOf t i) d) (fun t h d => by
      rw [outsAt0_A m c t (by omega) h]; frame_out; rw [pay_dg, (pay_zero d 0).2.1]; simp only [err_at, x1_at, gTerm])
    (fun t h d => by
      by_cases h0 : t.val % 8 = 0
      · rw [outsAt0_C m c t h0 h]; frame_out; rw [pay_dg]; simp only [err_at, x1_at, gTerm]
      · rw [outsAt0_B m c t h0 h]; frame_out; rw [pay_dg]; simp only [err_at, x1_at, gTerm])
    (le_of_eq (show cfg0.N = 16 from N_0)) t ht d
  exact key.trans ((zero_add _).trans (grid_sum (fun b s => gTerm m c b s d)))

/-- A tile's share of the loss. -/
def lossTile (c : Dev nD) (t : Fin cfg0.N) : EReal :=
  Ideal.ofBits FTy.f32 0x3F000000#32 * ∑ i : Fin 256, msqRow (err m c (bOf t) (sOf t i))

theorem sum_loss (c : Dev nD) (t : Fin cfg0.N) (ht : t.val + 1 = cfg0.N) (l : Fin 128) :
    (outsAt0 m c t.val t.isLt).2.2.2.2 (ix2 0 l) = ∑ t, lossTile m c t := by
  have key := Pipeline.eq_sum_fin_of_reset_step_apply_last
    (fun n h (l : Fin 128) => (outsAt0 m c n h).2.2.2.2 (ix2 0 l)) 16 (fun _ => (0 : EReal))
    (fun t l => lossTile m c t) (fun t h l => by
      rw [outsAt0_A m c t (by omega) h]; frame_out; rw [pay_loss, (pay_zero 0 l).2.2]
      simp only [pay_err, err_at, lossTile])
    (fun t h l => by
      by_cases h0 : t.val % 8 = 0
      · rw [outsAt0_C m c t h0 h]; frame_out; rw [pay_loss]; simp only [pay_err, err_at, lossTile]
      · rw [outsAt0_B m c t h0 h]; frame_out; rw [pay_loss]; simp only [pay_err, err_at, lossTile])
    (le_of_eq (show cfg0.N = 16 from N_0)) t ht l
  exact key.trans (zero_add _)

theorem emb5 (t : Fin cfg0.N) (i : Fin 256) (d : Fin 4096) :
    ((View.whole main_v8_0).slice (win0_5.rect t)).emb (ix3 0 i d) = ix3 (bOf t) (sOf t i) d := by
  simp only [bOf, sOf]
  blk_ext [idx t]
theorem emb6 (t : Fin cfg0.N) (i : Fin 256) (d : Fin 4096) :
    ((View.whole main_v8_1).slice (win0_6.rect t)).emb (ix3 0 i d) = ix3 (bOf t) (sOf t i) d := by
  simp only [bOf, sOf]
  blk_ext [idx t]

theorem final_dx (c : Dev nD) : (dats m 0 c).arrAt 5 cfg0.N = fun j : S2x2048x4096.Idx => dx m c (j 0) (j 1) (j 2) := by
  refine (dats m 0 c).arrAt_eq_of_covers 5 _ (by decide +kernel) fun t hf y => ?_
  blk_simp
  rw [after0_5, (outs_dx m c t).1]
  idx_vars y
  obtain rfl : y0 = 0 := Subsingleton.elim _ _
  rw [pay_dx1, emb5, dx_at]
  rfl

theorem final_dout (c : Dev nD) : (dats m 0 c).arrAt 6 cfg0.N
    = fun j : S2x2048x4096.Idx => GT m c (j 0) (j 2) * dx m c (j 0) (j 1) (j 2) := by
  refine (dats m 0 c).arrAt_eq_of_covers 6 _ (by decide +kernel) fun t hf y => ?_
  blk_simp
  rw [after0_6, (outs_dx m c t).2]
  idx_vars y
  obtain rfl : y0 = 0 := Subsingleton.elim _ _
  rw [pay_dout, emb6, dx_at, iblk2]
  rfl

theorem final_dgate (c : Dev nD) : (dats m 0 c).arrAt 7 cfg0.N
    = fun j : S2x1x4096.Idx => ∑ s, dx m c (j 0) s (j 2) * O m c (j 0) s (j 2) := by
  refine (dats m 0 c).arrAt_eq_of_covers 7 _ (by decide +kernel) fun t hf y => ?_
  blk_simp
  rw [after0_7]
  idx_vars y
  obtain rfl : y0 = 0 := Subsingleton.elim _ _
  obtain rfl : y1 = 0 := Subsingleton.elim _ _
  have e : (win0_7.blk t).view.emb (ix3 0 0 y2) = ix3 (bOf t) 0 y2 := by simp only [bOf]; blk_ext [idx t]
  rw [e]
  exact sum_dgate m c t ((flush0_7 t).mp hf) y2

theorem final_dg (c : Dev nD) : (dats m 0 c).arrAt 8 cfg0.N
    = fun j : S1x4096.Idx => ∑ b, ∑ s, gTerm m c b s (j 1) := by
  refine (dats m 0 c).arrAt_eq_of_after_last 8 t0_15 (by decide +kernel) _ fun j => ?_
  blk_simp
  rw [after0_8]
  idx_vars j
  obtain rfl : j0 = 0 := Subsingleton.elim _ _
  exact sum_dg m c t0_15 rfl j1

theorem final_loss (c : Dev nD) : (dats m 0 c).arrAt 9 cfg0.N = fun j : S1x128.Idx => ∑ t, lossTile m c t := by
  refine (dats m 0 c).arrAt_eq_of_after_last 9 t0_15 (by decide +kernel) _ fun j => ?_
  blk_simp
  rw [after0_9]
  idx_vars j
  obtain rfl : j0 = 0 := Subsingleton.elim _ _
  exact sum_loss m c t0_15 rfl j1

end Cert.LossIdeal.Grad
-- ==== Proof.LossRef.lean ====
module

public import proofs.«01_k».proof.Proof.LossRun
public import proofs.«01_k».proof.Proof.NormRef
public import proofs.«01_k».proof.Proof.Gen.LossRefIdeal.Read

@[expose] public section

set_option maxRecDepth 16384

noncomputable section

namespace Cert.LossRefIdeal.Grad

open Cert.LossRefIdeal Cert.LossRefIdeal.Gen Cert.LossRefIdeal.Read Idealize.ShloMosaic Idealize.ShloMosaic.TcCoe Idealize.SL.Sem
open Cert.NormRefIdeal.Grad (ms fac fin_one)

variable (x : (⟨S2x2048x4096, .f32⟩ : BufTy).Contents (Elt Ideal)) (o : (⟨S4096x4096, .f32⟩ : BufTy).Contents (Elt Ideal))
   (md : (⟨S2x12288, .f32⟩ : BufTy).Contents (Elt Ideal)) (g : (⟨S4096, .f32⟩ : BufTy).Contents (Elt Ideal))
   (tg : (⟨S2x2048x4096, .f32⟩ : BufTy).Contents (Elt Ideal))

theorem x1 (b : Fin 2) (s : Fin 2048) (d : Fin 4096) : val_main_v7 x o md (ix3 b s d)
    = x (ix3 b s d) + md (ix2 b ⟨8192 + d.val, by omega⟩) * o (ix2 ⟨b.val * 2048 + s.val, by omega⟩ d) := by
  pointwise [val_main_v7, val_main_v6, val_main_v5, val_main_v4, val_main_v3, val_main_v2]

theorem msq (b : Fin 2) (s : Fin 2048) : val_main_v14 x o md (ix3 b s 0) = ms fun k => val_main_v7 x o md (ix3 b s k) := by
  simp only [ms]
  pointwise [val_main_v14, val_main_v13, val_main_cst_1, val_main_v12, val_main_v11, val_main_cst_0, val_main_v10,
    val_main_v9, val_main_cst, val_main_v8]

theorem rsq (b : Fin 2) (s : Fin 2048) : val_main_v15 x o md (ix3 b s 0)
    = Ideal.rsqrt (ms fun k => val_main_v7 x o md (ix3 b s k)) := by
  rw [← msq]
  pointwise [val_main_v15]

theorem err (b : Fin 2) (s : Fin 2048) (d : Fin 4096) : val_main_v24 x o md g tg (ix3 b s d)
    = val_main_v7 x o md (ix3 b s d) * val_main_v15 x o md (ix3 b s 0) * g (ix1 d) - tg (ix3 b s d) := by
  pointwise [val_main_v24, val_main_v23, val_main_v22, val_main_v21, val_main_v20, val_main_v19]

theorem fin (b : Fin 2) (s : Fin 2048) (d : Fin 4096) : val_main_v38 x o md g tg (ix3 b s d)
    = Ideal.div (Ideal.ofBits FTy.f32 0x3F000000#32 * Ideal.ofBits FTy.f32 0x3F800000#32) (Ideal.ofBits FTy.f32 0x45800000#32)
      * (Ideal.ofBits FTy.f32 0x40000000#32 * val_main_v24 x o md g tg (ix3 b s d)) := by
  pointwise [val_main_v38, val_main_v37, val_main_v36, val_main_v35, val_main_cst_10, val_main_v34, val_main_v33,
    val_main_cst_8, val_main_cst_9, val_main_v27, val_main_v26, val_main_cst_3]

theorem trow (b : Fin 2) (s : Fin 2048) (d : Fin 4096) : val_main_v43 x o md g tg (ix3 b s d)
    = val_main_v38 x o md g tg (ix3 b s d) * g (ix1 d) := by
  pointwise [val_main_v43, val_main_v42, val_main_v21]

theorem factor (b : Fin 2) (s : Fin 2048) (d : Fin 4096) : val_main_v54 x o md g tg (ix3 b s d)
    = fac (fun k => val_main_v7 x o md (ix3 b s k)) (fun k => val_main_v43 x o md g tg (ix3 b s k)) := by
  simp only [fac]
  pointwise [val_main_v54, val_main_v53, val_main_cst_15, val_main_v52, val_main_v51, val_main_cst_14, val_main_v50,
    val_main_v47, val_main_v46, val_main_v45, val_main_cst_13, val_main_v18, val_main_v17, val_main_cst_2, val_main_v16]
  simp only [fin_one, rsq, msq]

theorem dx (b : Fin 2) (s : Fin 2048) (d : Fin 4096) : val_main_v58 x o md g tg (ix3 b s d)
    = val_main_v43 x o md g tg (ix3 b s d) * val_main_v15 x o md (ix3 b s 0)
       + val_main_v7 x o md (ix3 b s d) * val_main_v54 x o md g tg (ix3 b s d)
       + val_main_v54 x o md g tg (ix3 b s d) * val_main_v7 x o md (ix3 b s d) := by
  pointwise [val_main_v58, val_main_v57, val_main_v56, val_main_v55, val_main_v49, val_main_v48]

theorem dout (b : Fin 2) (s : Fin 2048) (d : Fin 4096) : val_main_v65 x o md g tg (ix3 b s d)
    = md (ix2 b ⟨8192 + d.val, by omega⟩) * val_main_v58 x o md g tg (ix3 b s d) := by
  pointwise [val_main_v65, val_main_v60, val_main_v59, val_main_v4, val_main_v2]

theorem dgate (b : Fin 2) (d : Fin 4096) : val_main_v66 x o md g tg (ix3 b 0 d)
    = ∑ s : Fin 2048, val_main_v58 x o md g tg (ix3 b s d) * o (ix2 ⟨b.val * 2048 + s.val, by omega⟩ d) := by
  pointwise [val_main_v66, val_main_v64, val_main_cst_17, val_main_v63, val_main_v62, val_main_cst_16, val_main_v61,
    val_main_v3]
  simp only [fin_one]

theorem dg (d : Fin 4096) : val_main_v67 x o md g tg (ix2 0 d)
    = ∑ b, ∑ s, val_main_v7 x o md (ix3 b s d) * val_main_v15 x o md (ix3 b s 0) * val_main_v38 x o md g tg (ix3 b s d) := by
  have hd1 : ∀ a b c, reducesTo_S1x1x4096_S4096_d0_1.drop (ix3 a b c) = ix1 d ↔ c = d := fun a b c =>
    ⟨fun h => congrFun h 0, fun h => h ▸ (by funext i; match i with | ⟨0, _⟩ => rfl)⟩
  have hd2 : ∀ a b c, reducesTo_S2x2048x4096_S4096_d0_1.drop (ix3 a b c) = ix1 d ↔ c = d := fun a b c =>
    ⟨fun h => congrFun h 0, fun h => h ▸ (by funext i; match i with | ⟨0, _⟩ => rfl)⟩
  pointwise [val_main_v67, val_main_v44]
  rw [Reals.reduce_two _ _ _ _ d hd1]
  pointwise [val_main_v41, val_main_cst_12, val_main_v40]
  rw [Reals.reduce_two _ _ _ _ d hd2]
  pointwise [val_main_v39, val_main_v20, val_main_v19, val_main_cst_11]
  simp only [fin_one]

theorem loss (l : Fin 128) : val_main_v69 x o md g tg (ix2 0 l)
    = Ideal.ofBits FTy.f32 0x3F000000#32 * ∑ b, ∑ s, LossIdeal.Grad.msqRow fun k => val_main_v24 x o md g tg (ix3 b s k) := by
  simp only [LossIdeal.Grad.msqRow]
  pointwise [val_main_v69, val_main_v68, val_main_v32, val_main_cst_7]
  rw [val_main_v31_apply, sum_idx2]
  pointwise [val_main_cst_6, val_main_v30, val_main_v29, val_main_cst_5, val_main_v28, val_main_cst_4, val_main_v25]

end Cert.LossRefIdeal.Grad
-- ==== Proof.LossClaim.lean ====
module

public import proofs.«01_k».proof.Defs
public import proofs.«01_k».proof.Proof.Gen.Loss.Frame
public import proofs.«01_k».proof.Proof.Gen.LossRefIdeal.Run
public import proofs.«01_k».proof.Proof.Gen.Pre_loss_finite
public import proofs.«01_k».proof.Proof.LossRef
public import Idealize.ShloMosaic.Lib.Quiescent

@[expose] public section

set_option maxRecDepth 16384

noncomputable section

namespace Cert.LossClaim

open Idealize.ShloMosaic Idealize.ShloMosaic.TcCoe Idealize.SL.Sem
open Cert.NormIdeal.Grad (rs gxTerm)
open Cert.NormRefIdeal.Grad (ms fac gx_eq)
open Cert.LossIdeal.Grad

theorem frame : Cert.quiescent_Loss := fun m g _ => Cert.Loss.Gen.frame m g
theorem frame_ideal : Cert.quiescent_LossIdeal := fun m g _ => Cert.LossIdeal.Gen.frame m g
theorem frame_ideal_pre : Cert.quiescent_LossIdeal_pre_loss_finite := fun m g _ => Cert.LossIdeal.Gen.frame m g

theorem frame_ref : Cert.quiescent_LossRefIdeal := fun m g _ =>
  (θ_run Cert.LossRefIdeal.defs _ _).mono (fun _ h => ⟨fun c => (h c).2.2.2.2.2, sem_eq_zero_of_no_sems rfl _⟩)
    (Cert.LossRefIdeal.Value.run (F := Ideal) m g)
theorem frame_ref_pre : Cert.quiescent_LossRefIdeal_pre_loss_finite := fun m g _ => frame_ref m g trivial

section words

theorem word_half : Ideal.ofBits FTy.f32 0x3F000000#32 = ((1 / 2 : ℝ) : EReal) := by
  simp [Ideal.ofBits, Ideal.ieee, -EReal.coe_mul]; norm_num
theorem word_one : Ideal.ofBits FTy.f32 0x3F800000#32 = ((1 : ℝ) : EReal) := by
  simp [Ideal.ofBits, Ideal.ieee, -EReal.coe_mul]; norm_num
theorem word_two : Ideal.ofBits FTy.f32 0x40000000#32 = ((2 : ℝ) : EReal) := by
  simp [Ideal.ofBits, Ideal.ieee, -EReal.coe_mul]; norm_num
theorem word_inv_4096 : Ideal.ofBits FTy.f32 0x39800000#32 = ((1 / 4096 : ℝ) : EReal) := by
  simp [Ideal.ofBits, Ideal.ieee, -EReal.coe_mul]; norm_num

/-- The two forms of the derivative of half a mean of squares. -/
theorem fin_eq (e : ℝ) :
    Ideal.div (Ideal.ofBits FTy.f32 0x3F000000#32 * Ideal.ofBits FTy.f32 0x3F800000#32) (Ideal.ofBits FTy.f32 0x45800000#32)
      * (Ideal.ofBits FTy.f32 0x40000000#32 * (e : EReal)) = ((e * (1 / 4096) : ℝ) : EReal) := by
  rw [word_half, word_one, word_two, Reals.word_4096, Ideal.div_coe (by norm_num)]
  simp only [← EReal.coe_mul]
  refine congrArg (fun w : ℝ => (w : EReal)) ?_
  ring

/-- The reciprocal root mean square of a real row is real. -/
theorem rs_real (xr : Fin 4096 → ℝ) : ∃ r : ℝ, rs (fun k => (xr k : EReal)) = r := by
  obtain ⟨e, he, hw⟩ := Reals.word_eps
  have hv : 0 < (∑ k, xr k * xr k) * (1 / 4096) + e :=
    add_pos_of_nonneg_of_pos (mul_nonneg (Finset.sum_nonneg fun k _ => mul_self_nonneg _) (by norm_num)) he
  refine ⟨(√((∑ k, xr k * xr k) * (1 / 4096) + e))⁻¹, ?_⟩
  simp only [rs, hw, Reals.word_4096, ← EReal.coe_mul, ← Reals.coe_sum]
  rw [Ideal.div_coe (by norm_num), ← EReal.coe_mul, ← EReal.coe_add, Ideal.rsqrt_coe, if_neg (not_lt.2 hv.le), if_neg hv.ne']

theorem msq_real (er : Fin 4096 → ℝ) :
    msqRow (fun k => (er k : EReal)) = (((∑ k, er k * er k) * (1 / 4096) : ℝ) : EReal) := by
  simp only [msqRow, Reals.word_4096, ← EReal.coe_mul, ← Reals.coe_sum]
  rw [Ideal.div_coe (by norm_num), EReal.coe_mul]

end words

variable (m : (ℓ : Loc Cert.LossIdeal.nD Cert.LossIdeal.τ Cert.LossIdeal.sig) → Buf (Elt Ideal) ℓ)
  (c : Dev Cert.LossIdeal.nD)

/-- Under the precondition the arguments hold reals. -/
theorem reals (h : Cert.Pre_LossIdeal_loss_finite m) :
    (∀ b s d, ∃ r : ℝ, X m c b s d = r) ∧ (∀ b s d, ∃ r : ℝ, O m c b s d = r) ∧ (∀ b d, ∃ r : ℝ, GT m c b d = r)
      ∧ (∀ d, ∃ r : ℝ, GF m c d = r) ∧ ∀ b s d, ∃ r : ℝ, T m c b s d = r := by
  have h1 := congrFun (h c) (fun a => a.elim0)
  dsimp only [Cert.Pre_loss_finite.fn, Cert.Pre_loss_finite.fn_part1] at h1
  obtain ⟨h1, h5⟩ := Reals.andi_one h1
  obtain ⟨h1, h4⟩ := Reals.andi_one h1
  obtain ⟨h1, h3⟩ := Reals.andi_one h1
  obtain ⟨h1, h2⟩ := Reals.andi_one h1
  haveI : Subsingleton Cert.Pre_loss_finite.S_.Idx := ⟨fun a b => funext fun i => i.elim0⟩
  exact ⟨fun b s d => Reals.finite_all _ _ _ _ _ _ _ h1 _, fun b s d => Reals.finite_all _ _ _ _ _ _ _ h2 _,
    fun b d => Reals.finite_all _ _ _ _ _ _ _ h3 _, fun d => Reals.finite_all _ _ _ _ _ _ _ h4 _,
    fun b s d => Reals.finite_all _ _ _ _ _ _ _ h5 _⟩

/-- Under the precondition a row of the residual stream, its distance from the target and the gain are real. -/
theorem rows (h : Cert.Pre_LossIdeal_loss_finite m) (b : Fin 2) (s : Fin 2048) :
    ∃ xr er gr : Fin 4096 → ℝ, (x1 m c b s = fun k => ((xr k : ℝ) : EReal)) ∧ (err m c b s = fun k => ((er k : ℝ) : EReal))
      ∧ GF m c = fun k => ((gr k : ℝ) : EReal) := by
  obtain ⟨hx, ho, hs, hg, ht⟩ := reals m c h
  choose xr hx using hx
  choose or ho using ho
  choose sr hs using hs
  choose gr hg using hg
  choose tr ht using ht
  have h1 : x1 m c b s = fun k => ((xr b s k + sr b k * or b s k : ℝ) : EReal) := by
    funext k
    rw [x1, hx, hs, ho, EReal.coe_add, EReal.coe_mul]
  obtain ⟨r, hr⟩ := rs_real fun k => xr b s k + sr b k * or b s k
  refine ⟨_, fun k => (xr b s k + sr b k * or b s k) * r * gr k - tr b s k, gr, h1, ?_, funext hg⟩
  funext k
  rw [err, errRow, h1, hr, hg, ht, EReal.coe_sub, EReal.coe_mul, EReal.coe_mul]

section
open Cert.LossRefIdeal.Read

/-- Argument 0 of the launch. -/
abbrev A0 := m ((c.tc : Thread _ _).loc Cert.LossIdeal.main_arg0)
/-- Argument 1 of the launch. -/
abbrev A1 := m ((c.tc : Thread _ _).loc Cert.LossIdeal.main_arg1)
/-- Argument 2 of the launch. -/
abbrev A2 := m ((c.tc : Thread _ _).loc Cert.LossIdeal.main_arg2)
/-- Argument 3 of the launch. -/
abbrev A3 := m ((c.tc : Thread _ _).loc Cert.LossIdeal.main_arg3)
/-- Argument 4 of the launch. -/
abbrev A4 := m ((c.tc : Thread _ _).loc Cert.LossIdeal.main_arg4)

theorem ref_x1 (b : Fin 2) (s : Fin 2048) (d : Fin 4096) : val_main_v7 (F := Ideal) (A0 m c) (A1 m c) (A2 m c) (ix3 b s d) = x1 m c b s d :=
  Cert.LossRefIdeal.Grad.x1 _ _ _ b s d

theorem ref_rs (b : Fin 2) (s : Fin 2048) : val_main_v15 (F := Ideal) (A0 m c) (A1 m c) (A2 m c) (ix3 b s 0) = rs (x1 m c b s) := by
  refine (Cert.LossRefIdeal.Grad.rsq _ _ _ b s).trans ?_
  simp only [ref_x1]
  rfl

theorem ref_err (b : Fin 2) (s : Fin 2048) (d : Fin 4096) :
    val_main_v24 (F := Ideal) (A0 m c) (A1 m c) (A2 m c) (A3 m c) (A4 m c) (ix3 b s d) = err m c b s d := by
  refine (Cert.LossRefIdeal.Grad.err _ _ _ _ _ b s d).trans ?_
  rw [ref_x1, ref_rs]
  rfl

variable (h : Cert.Pre_LossIdeal_loss_finite m)
include h

theorem ref_fin (b : Fin 2) (s : Fin 2048) (d : Fin 4096) :
    val_main_v38 (F := Ideal) (A0 m c) (A1 m c) (A2 m c) (A3 m c) (A4 m c) (ix3 b s d) = finRow (err m c b s) d := by
  obtain ⟨xr, er, gr, hx, he, hg⟩ := rows m c h b s
  refine (Cert.LossRefIdeal.Grad.fin _ _ _ _ _ b s d).trans ?_
  rw [ref_err, finRow, he, fin_eq, word_inv_4096, EReal.coe_mul]

theorem ref_u (b : Fin 2) (s : Fin 2048) (d : Fin 4096) :
    val_main_v43 (F := Ideal) (A0 m c) (A1 m c) (A2 m c) (A3 m c) (A4 m c) (ix3 b s d) = uRow (err m c b s) (GF m c) d := by
  refine (Cert.LossRefIdeal.Grad.trow _ _ _ _ _ b s d).trans ?_
  rw [ref_fin m c h]
  rfl

theorem ref_dx (b : Fin 2) (s : Fin 2048) (d : Fin 4096) :
    val_main_v58 (F := Ideal) (A0 m c) (A1 m c) (A2 m c) (A3 m c) (A4 m c) (ix3 b s d) = dx m c b s d := by
  refine (Cert.LossRefIdeal.Grad.dx _ _ _ _ _ b s d).trans ?_
  rw [Cert.LossRefIdeal.Grad.factor]
  simp only [ref_x1, ref_rs, ref_u m c h, dx]
  obtain ⟨xr, er, gr, hx, he, hg⟩ := rows m c h b s
  have hu : uRow (err m c b s) (GF m c) = fun k => ((er k * (1 / 4096) * gr k : ℝ) : EReal) := by
    funext k
    rw [uRow, finRow, he, hg, word_inv_4096, EReal.coe_mul, EReal.coe_mul]
  have key := gx_eq 0 xr (fun k => er k * (1 / 4096) * gr k) d
  rw [zero_add, zero_add] at key
  rw [hu, show (fun k => x1 m c b s k) = fun k => ((xr k : ℝ) : EReal) from hx, hx]
  exact key.symm

theorem dx_agree : (Cert.LossIdeal.Gen.dats m 0 c).arrAt 5 Cert.LossIdeal.cfg0.N = val_main_v58 (F := Ideal) (A0 m c) (A1 m c) (A2 m c) (A3 m c) (A4 m c) := by
  rw [final_dx]
  funext j
  idx_vars j
  exact (ref_dx m c h j0 j1 j2).symm

theorem dout_agree : (Cert.LossIdeal.Gen.dats m 0 c).arrAt 6 Cert.LossIdeal.cfg0.N
    = val_main_v65 (F := Ideal) (A0 m c) (A1 m c) (A2 m c) (A3 m c) (A4 m c) := by
  rw [final_dout]
  funext j
  idx_vars j
  refine Eq.trans ?_ (Cert.LossRefIdeal.Grad.dout _ _ _ _ _ j0 j1 j2).symm
  rw [ref_dx m c h]

theorem dgate_agree : (Cert.LossIdeal.Gen.dats m 0 c).arrAt 7 Cert.LossIdeal.cfg0.N
    = val_main_v66 (F := Ideal) (A0 m c) (A1 m c) (A2 m c) (A3 m c) (A4 m c) := by
  rw [final_dgate]
  funext j
  idx_vars j
  obtain rfl : j1 = 0 := Subsingleton.elim _ _
  refine Eq.trans ?_ (Cert.LossRefIdeal.Grad.dgate _ _ _ _ _ j0 j2).symm
  refine Finset.sum_congr rfl fun s _ => ?_
  rw [ref_dx m c h]

theorem dg_agree : (Cert.LossIdeal.Gen.dats m 0 c).arrAt 8 Cert.LossIdeal.cfg0.N
    = val_main_v67 (F := Ideal) (A0 m c) (A1 m c) (A2 m c) (A3 m c) (A4 m c) := by
  rw [final_dg]
  funext j
  idx_vars j
  obtain rfl : j0 = 0 := Subsingleton.elim _ _
  refine Eq.trans ?_ (Cert.LossRefIdeal.Grad.dg _ _ _ _ _ j1).symm
  refine Finset.sum_congr rfl fun b _ => Finset.sum_congr rfl fun s _ => ?_
  rw [ref_fin m c h, ref_x1, ref_rs]
  exact mul_comm _ _

theorem loss_agree : (Cert.LossIdeal.Gen.dats m 0 c).arrAt 9 Cert.LossIdeal.cfg0.N
    = val_main_v69 (F := Ideal) (A0 m c) (A1 m c) (A2 m c) (A3 m c) (A4 m c) := by
  rw [final_loss]
  funext j
  idx_vars j
  obtain rfl : j0 = 0 := Subsingleton.elim _ _
  refine Eq.trans ?_ (Cert.LossRefIdeal.Grad.loss _ _ _ _ _ j1).symm
  simp only [ref_err]
  have hr : ∀ b s, ∃ r : ℝ, msqRow (err m c b s) = r := fun b s => by
    obtain ⟨xr, er, gr, hx, he, hg⟩ := rows m c h b s
    exact ⟨_, he ▸ msq_real er⟩
  choose lr hl using hr
  have e1 : ∀ t, lossTile m c t = ∑ i : Fin 256, ((1 / 2 * lr (bOf t) (sOf t i) : ℝ) : EReal) := fun t => by
    simp only [lossTile, hl, word_half, ← Reals.coe_sum, ← EReal.coe_mul, Finset.mul_sum]
  rw [Finset.sum_congr rfl fun t _ => e1 t, grid_sum fun b s => ((1 / 2 * lr b s : ℝ) : EReal)]
  simp only [show ∀ b s, msqRow (fun k => err m c b s k) = (lr b s : EReal) from hl, word_half, ← Reals.coe_sum,
    ← EReal.coe_mul, Finset.mul_sum]

end

theorem algebraic : Cert.algebraic_LossIdeal_LossRefIdeal_pre_loss_finite := by
  intro m g m' g' hpre hag
  refine ⟨fun c => (Cert.LossIdeal.Gen.dats m 0 c).arrAt 5 Cert.LossIdeal.cfg0.N,
    fun c => (Cert.LossIdeal.Gen.dats m 0 c).arrAt 6 Cert.LossIdeal.cfg0.N,
    fun c => (Cert.LossIdeal.Gen.dats m 0 c).arrAt 7 Cert.LossIdeal.cfg0.N,
    fun c => (Cert.LossIdeal.Gen.dats m 0 c).arrAt 8 Cert.LossIdeal.cfg0.N,
    fun c => (Cert.LossIdeal.Gen.dats m 0 c).arrAt 9 Cert.LossIdeal.cfg0.N,
    Cert.LossIdeal.Value.run_blocks m g,
    (θ_run Cert.LossRefIdeal.defs _ _).mono (fun r h c => ?_) (Cert.LossRefIdeal.Value.run (F := Ideal) m' g')⟩
  obtain ⟨h0, h1, h2, h3, h4, hargs⟩ := h c
  obtain ⟨b0, b1, b2, b3, b4⟩ := hag c
  refine ⟨h0.trans ?_, h1.trans ?_, h2.trans ?_, h3.trans ?_, h4.trans ?_, hargs⟩
  · rw [Cert.LossRefIdeal.Read.val_main_v58_eq, b0, b1, b2, b3, b4]
    exact (dx_agree m c hpre).symm
  · rw [Cert.LossRefIdeal.Read.val_main_v65_eq, b0, b1, b2, b3, b4]
    exact (dout_agree m c hpre).symm
  · rw [Cert.LossRefIdeal.Read.val_main_v66_eq, b0, b1, b2, b3, b4]
    exact (dgate_agree m c hpre).symm
  · rw [Cert.LossRefIdeal.Read.val_main_v67_eq, b0, b1, b2, b3, b4]
    exact (dg_agree m c hpre).symm
  · rw [Cert.LossRefIdeal.Read.val_main_v69_eq, b0, b1, b2, b3, b4]
    exact (loss_agree m c hpre).symm

end Cert.LossClaim
-- ==== Proof.SbLoops.lean ====
/- The outer loop of the stick-breaking attention's backward call (`k0_t2_loop`: one block of query rows a
   trip), and that the side condition its inner loops assume holds at every word the trip count reads. -/
module

public import proofs.«01_k».proof.Proof.Gen.SbIdeal.Loops

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### The side condition -/

/-- At a word between 1 and 4 the side condition is evaluated. -/
theorem chk_lit : ∀ (k : Fin k0_t2_loop.trips) (w : Fin 4), k0_chk1 k (BitVec.ofNat 32 (w.val + 1)) := by
  decide +kernel

/-- The blocks a trip walks: the word read, at least one block, at most the blocks up to the diagonal. -/
def walked (k : Fin k0_t2_loop.trips) (v : BitVec 32) : BitVec 32 :=
  Scalar.minsi (Scalar.addi (Scf.iv 0#32 1#32 k) 1#32) (Scalar.maxsi 1#32 v)

/-- The side condition reads the word through `walked` only. -/
theorem chk_of_walked {k : Fin k0_t2_loop.trips} {v v' : BitVec 32} (h : walked k v = walked k v')
    (H : k0_chk1 k v') : k0_chk1 k v := by
  revert H
  unfold k0_chk1 k0_t3_loop k0_t4_loop k0_mult3 k0_mult4 k0_mult5 k0_mult6 k0_off9 k0_off10 k0_off11 k0_off12
  unfold k0_t3_loop k0_t4_loop
  dsimp only
  unfold walked at h
  generalize Scalar.minsi (Scalar.addi (Scf.iv 0#32 1#32 k) 1#32) (Scalar.maxsi 1#32 v) = x at h ⊢
  generalize Scalar.minsi (Scalar.addi (Scf.iv 0#32 1#32 k) 1#32) (Scalar.maxsi 1#32 v') = y at h ⊢
  subst h
  exact id

/-- Past four the word is cut by the diagonal. -/
theorem walked_of_ge : ∀ (k : Fin k0_t2_loop.trips), ∀ v : BitVec 32, ¬ v.slt 4#32 → walked k v = walked k 4#32 := by
  intro k v h
  have hk : ∀ k : Fin k0_t2_loop.trips, (Scalar.addi (Scf.iv 0#32 1#32 k) 1#32).toInt ≤ 4 := by decide +kernel
  have hk := hk k
  unfold walked
  generalize Scalar.addi (Scf.iv 0#32 1#32 k) 1#32 = x at hk
  have h4 : (4 : ℤ) ≤ v.toInt := by
    have : (4#32 : BitVec 32).toInt = 4 := by decide
    simp only [BitVec.slt, decide_eq_true_eq, this, not_lt] at h; exact h
  have e1 : (1#32 : BitVec 32).toInt = 1 := by decide
  have e4 : (4#32 : BitVec 32).toInt = 4 := by decide
  simp only [Scalar.minsi, Scalar.maxsi, IntOp.minsi, IntOp.maxsi, BitVec.slt, BitVec.sle, decide_eq_true_eq, e1, e4]
  have := e4
  split_ifs <;> first | rfl | omega | (apply BitVec.eq_of_toInt_eq; omega)

/-- Below two the word counts one block. -/
theorem walked_of_le (k : Fin k0_t2_loop.trips) (v : BitVec 32) (h : v.slt 2#32) : walked k v = walked k 1#32 := by
  unfold walked
  have e1 : (1#32 : BitVec 32).toInt = 1 := by decide
  have h2 : v.toInt < 2 := by
    have : (2#32 : BitVec 32).toInt = 2 := by decide
    simp only [BitVec.slt, decide_eq_true_eq, this] at h; exact h
  have : Scalar.maxsi 1#32 v = Scalar.maxsi 1#32 1#32 := by
    simp only [Scalar.maxsi, IntOp.maxsi, BitVec.slt, BitVec.sle, decide_eq_true_eq, e1]
    split_ifs <;> first | rfl | omega | (apply BitVec.eq_of_toInt_eq; omega)
  rw [this]

/-- THE SIDE CONDITION holds at every word. -/
theorem chk_all (k : Fin k0_t2_loop.trips) (v : BitVec 32) : k0_chk1 k v := by
  by_cases h4 : v.slt 4#32
  · by_cases h2 : v.slt 2#32
    · exact chk_of_walked (walked_of_le k v h2) (chk_lit k 0)
    · have e2 : (2#32 : BitVec 32).toInt = 2 := by decide
      have e3 : (3#32 : BitVec 32).toInt = 3 := by decide
      have e4 : (4#32 : BitVec 32).toInt = 4 := by decide
      simp only [BitVec.slt, decide_eq_true_eq, e2, e4] at h4 h2
      rcases (by omega : v.toInt = 2 ∨ v.toInt = 3) with e | e
      · rw [BitVec.eq_of_toInt_eq (e.trans e2.symm)]; exact chk_lit k 1
      · rw [BitVec.eq_of_toInt_eq (e.trans e3.symm)]; exact chk_lit k 2
  · exact chk_of_walked (walked_of_ge k v h4) (chk_lit k 3)

/-! ### One trip, and the loop -/

/-- The body's operands: a grid point and the buffers it is called with. -/
structure Ops where
  i : grid0.Coords
  (arg2 : Memref sig .tc .vmem S1x1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S1x1x2048x128 .f32) (harg5 : arg5.IsWhole)
  (arg6 : Memref sig .tc .vmem S1x2048x128 .f32) (harg6 : arg6.IsWhole)
  (arg7 : Memref sig .tc .vmem S1x2048x128 .f32) (harg7 : arg7.IsWhole)
  (arg8 : Memref sig .tc .vmem S1x1x2048x128 .f32) (harg8 : arg8.IsWhole)
  (arg9 : Memref sig .tc .vmem S1x128 .f32) (harg9 : arg9.IsWhole)
  (arg10 : Memref sig .tc .smem S1x1x1x4 .f32) (harg10 : arg10.IsWhole)
  (arg11 : Memref sig .tc .vmem S4x1x2048x128 .bf16) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .f32) (harg14 : arg14.IsWhole)
  (arg15 : Memref sig .tc .vmem S2048x128 .f32) (harg15 : arg15.IsWhole)

/-- The contents of the buffers a trip reads and leaves as they are. -/
structure Ins (F : FTy → Type) (o : Ops) where
  x2 : BufTy.Contents (Elt F) o.arg2.view.ty
  x3 : BufTy.Contents (Elt F) o.arg3.view.ty
  x4 : BufTy.Contents (Elt F) o.arg4.view.ty
  x7 : BufTy.Contents (Elt F) o.arg7.view.ty
  x10 : BufTy.Contents (Elt F) o.arg10.view.ty
  x13 : BufTy.Contents (Elt F) o.arg13.view.ty

/-- One trip's region. -/
abbrev t2Body (o : Ops) : Fin k0_t2_loop.trips → Unit → Prog (TpuEff nD τ sig (Elt F) Λ₀ .tc) Unit :=
  k0_t2_body (F := F) o.i o.arg2 o.harg2 o.arg3 o.harg3 o.arg4 o.harg4 o.arg5 o.harg5 o.arg6 o.harg6 o.arg7 o.harg7
    o.arg8 o.harg8 o.arg9 o.harg9 o.arg10 o.harg10 o.arg11 o.harg11 o.arg12 o.harg12 o.arg13 o.harg13 o.arg14 o.harg14
    o.arg15 o.harg15

/-- The buffers a trip reads, at their contents. -/
abbrev Reads (c : Dev nD) (o : Ops) (x : Ins F o) : sProp 𝕄 :=
  iprop((o.arg2.view.loc (c : Thread nD τ) ↦[o.arg2.view.set]{fullShare} x.x2) ∗ (o.arg3.view.loc (c : Thread nD τ) ↦[o.arg3.view.set]{fullShare} x.x3)
    ∗ (o.arg4.view.loc (c : Thread nD τ) ↦[o.arg4.view.set]{fullShare} x.x4) ∗ (o.arg7.view.loc (c : Thread nD τ) ↦[o.arg7.view.set]{fullShare} x.x7)
    ∗ (o.arg10.view.loc (c : Thread nD τ) ↦[o.arg10.view.set]{fullShare} x.x10) ∗ (o.arg13.view.loc (c : Thread nD τ) ↦[o.arg13.view.set]{fullShare} x.x13))

/-- The contents of the running sums of the keys' and of the values' gradients. -/
abbrev C14 (F : FTy → Type) (o : Ops) := BufTy.Contents (Elt F) o.arg14.view.ty
abbrev C15 (F : FTy → Type) (o : Ops) := BufTy.Contents (Elt F) o.arg15.view.ty

/-- What a trip stores into the gradients' block. -/
abbrev Ps (F : FTy → Type) := List (View.Piece (Elt F) S4x1x2048x128 .bf16)

/-- The buffers a trip writes, at given contents. -/
abbrev Writes (c : Dev nD) (o : Ops) (f11 : BufTy.Contents (Elt F) o.arg11.view.ty) (f14 : C14 F o) (f15 : C15 F o) : sProp 𝕄 :=
  iprop((o.arg11.view.loc (c : Thread nD τ) ↦[o.arg11.view.set]{fullShare} f11) ∗ (o.arg14.view.loc (c : Thread nD τ) ↦[o.arg14.view.set]{fullShare} f14)
    ∗ (o.arg15.view.loc (c : Thread nD τ) ↦[o.arg15.view.set]{fullShare} f15))

set_option maxHeartbeats 4000000 in
/-- ONE TRIP: what it stores into the gradients' block and what it leaves in the two running sums, as functions of the
    sums it finds. -/
@[irreducible] def trip (c : Dev nD) (o : Ops) (x : Ins F o) (k : Fin k0_t2_loop.trips) :
    Σ' (L11 : C14 F o → C15 F o → Ps F) (N14 : C14 F o → C15 F o → C14 F o), { N15 : C14 F o → C15 F o → C15 F o //
      ∀ (E : Set ℕ) (f11 : BufTy.Contents (Elt F) o.arg11.view.ty) (f14 : C14 F o) (f15 : C15 F o),
      iprop(Reads c o x ∗ Writes c o f11 f14 f15)
      ⊢ wp frame (wpE (defs₀ (F := F)) Variants.none (c : Thread nD τ) none) E (t2Body (F := F) o k ⟨⟩)
          (fun _ => iprop(Reads c o x ∗ Writes c o (o.arg11.view.writes (Elt F) f11 (L11 f14 f15)) (N14 f14 f15) (N15 f14 f15))) } := by
  refine ⟨?_, ?_, ?_, fun E f11 f14 f15 => ?run⟩
  case run =>
    unfold t2Body k0_t2_body
    simp only [k0_part10_eq_skeleton]
    iintro ⟨⟨H2, H3, H4, H7, H10, H13⟩, H11, H14, H15⟩
    sl_exec (disch := exact chk_all _ _)
    sl_step
    sl_close

/-- The state before trip `k`: the stores into the gradients' block (last first) and the two running sums. -/
def st (c : Dev nD) (o : Ops) (x : Ins F o) (g14 : C14 F o) (g15 : C15 F o) : ℕ → Ps F × C14 F o × C15 F o
  | 0 => ([], g14, g15)
  | k + 1 =>
    if h : k < k0_t2_loop.trips then
      ((trip c o x ⟨k, h⟩).1 (st c o x g14 g15 k).2.1 (st c o x g14 g15 k).2.2 ++ (st c o x g14 g15 k).1,
        (trip c o x ⟨k, h⟩).2.1 (st c o x g14 g15 k).2.1 (st c o x g14 g15 k).2.2,
        (trip c o x ⟨k, h⟩).2.2.1 (st c o x g14 g15 k).2.1 (st c o x g14 g15 k).2.2)
    else st c o x g14 g15 k

theorem st_succ (c : Dev nD) (o : Ops) (x : Ins F o) (g14 : C14 F o) (g15 : C15 F o) (k : Fin k0_t2_loop.trips) :
    st c o x g14 g15 (k.val + 1)
      = ((trip c o x k).1 (st c o x g14 g15 k).2.1 (st c o x g14 g15 k).2.2 ++ (st c o x g14 g15 k).1,
        (trip c o x k).2.1 (st c o x g14 g15 k).2.1 (st c o x g14 g15 k).2.2,
        (trip c o x k).2.2.1 (st c o x g14 g15 k).2.1 (st c o x g14 g15 k).2.2) := by
  rw [st]; exact dif_pos k.isLt

/-- THE INVARIANT before trip `k`. -/
abbrev inv (c : Dev nD) (o : Ops) (x : Ins F o) (g11 : BufTy.Contents (Elt F) o.arg11.view.ty) (g14 : C14 F o) (g15 : C15 F o)
    (k : ℕ) (_ : Unit) : sProp 𝕄 :=
  iprop((o.arg2.view.loc (c : Thread nD τ) ↦[o.arg2.view.set]{fullShare} x.x2) ∗ (o.arg3.view.loc (c : Thread nD τ) ↦[o.arg3.view.set]{fullShare} x.x3)
    ∗ (o.arg4.view.loc (c : Thread nD τ) ↦[o.arg4.view.set]{fullShare} x.x4) ∗ (o.arg7.view.loc (c : Thread nD τ) ↦[o.arg7.view.set]{fullShare} x.x7)
    ∗ (o.arg10.view.loc (c : Thread nD τ) ↦[o.arg10.view.set]{fullShare} x.x10) ∗ (o.arg13.view.loc (c : Thread nD τ) ↦[o.arg13.view.set]{fullShare} x.x13)
    ∗ (∃ f, (o.arg11.view.loc (c : Thread nD τ) ↦[o.arg11.view.set]{fullShare} f) ∗ ⌜f = o.arg11.view.writes (Elt F) g11 (st c o x g14 g15 k).1⌝)
    ∗ (∃ f, (o.arg14.view.loc (c : Thread nD τ) ↦[o.arg14.view.set]{fullShare} f) ∗ ⌜f = (st c o x g14 g15 k).2.1⌝)
    ∗ (∃ f, (o.arg15.view.loc (c : Thread nD τ) ↦[o.arg15.view.set]{fullShare} f) ∗ ⌜f = (st c o x g14 g15 k).2.2⌝))

set_option warn.classDefReducibility false in
/-- THE LOOP by its invariant, the running sums at any contents before it. -/
abbrev loopAt (c : Dev nD) (E : Set ℕ) (o : Ops) (x2 : BufTy.Contents (Elt F) o.arg2.view.ty)
    (x3 : BufTy.Contents (Elt F) o.arg3.view.ty) (x4 : BufTy.Contents (Elt F) o.arg4.view.ty) (x7 : BufTy.Contents (Elt F) o.arg7.view.ty)
    (x10 : BufTy.Contents (Elt F) o.arg10.view.ty) (x13 : BufTy.Contents (Elt F) o.arg13.view.ty)
    (g11 : BufTy.Contents (Elt F) o.arg11.view.ty) (g14 : C14 F o) (g15 : C15 F o) :
    LoopInvTy_k0_t2 (F := F) Unit ℕ (UR sig nD τ) ℕ Variants.none c none E o.i o.arg2 o.harg2 o.arg3 o.harg3 o.arg4 o.harg4 o.arg5 o.harg5
      o.arg6 o.harg6 o.arg7 o.harg7 o.arg8 o.harg8 o.arg9 o.harg9 o.arg10 o.harg10 o.arg11 o.harg11 o.arg12 o.harg12 o.arg13 o.harg13
      o.arg14 o.harg14 o.arg15 o.harg15 where
  inv := inv c o ⟨x2, x3, x4, x7, x10, x13⟩ g11 g14 g15
  step k acc := by
    iintro ⟨H2, H3, H4, H7, H10, H13, ⟨%f11, H11, %h11⟩, ⟨%f14, H14, %h14⟩, ⟨%f15, H15, %h15⟩⟩
    iapply (wp_wand_r Idealize.ShloMosaic.frame (wpE (defs₀ (F := F)) Variants.none (c : Thread nD τ) none) E)
    isplitl [H2 H3 H4 H7 H10 H13 H11 H14 H15]
    · iapply ((trip c o ⟨x2, x3, x4, x7, x10, x13⟩ k).2.2.2 E f11 f14 f15)
      isplitl [H2 H3 H4 H7 H10 H13]
      · isplitl [H2]; · iexact H2
        isplitl [H3]; · iexact H3
        isplitl [H4]; · iexact H4
        isplitl [H7]; · iexact H7
        isplitl [H10]; · iexact H10
        iexact H13
      isplitl [H11]; · iexact H11
      isplitl [H14]; · iexact H14
      iexact H15
    · iintro %yld ⟨⟨H2, H3, H4, H7, H10, H13⟩, H11, H14, H15⟩
      isplitl [H2]; · iexact H2
      isplitl [H3]; · iexact H3
      isplitl [H4]; · iexact H4
      isplitl [H7]; · iexact H7
      isplitl [H10]; · iexact H10
      isplitl [H13]; · iexact H13
      simp only [st_succ]
      isplitl [H11]
      · iexists _; isplitl [H11]; · iexact H11
        ipureintro; rw [h11, h14, h15, ← View.writes_append]
      isplitl [H14]
      · iexists _; isplitl [H14]; · iexact H14
        ipureintro; rw [h14, h15]
      iexists _; isplitl [H15]; · iexact H15
      ipureintro; rw [h14, h15]

/-- The running sums the loop starts from: zero. -/
abbrev zero14 (o : Ops) : C14 F o :=
  o.arg14.view.writes (Elt F) o.arg14.view.junk [⟨Rect.unit ![0, 0] S2048x128.size inb_S2048x128_S2048x128_0_0, k0_pay93⟩]
abbrev zero15 (o : Ops) : C15 F o :=
  o.arg15.view.writes (Elt F) o.arg15.view.junk [⟨Rect.unit ![0, 0] S2048x128.size inb_S2048x128_S2048x128_0_0, k0_pay94⟩]

/-- The loop and what follows it, from the buffers' contents before it. -/
theorem wp_t2 (c : Dev nD) (E : Set ℕ) (o : Ops) (x : Ins F o) (g11 : BufTy.Contents (Elt F) o.arg11.view.ty) (g14 : C14 F o) (g15 : C15 F o)
    {β : Type} {kk : Unit → Prog (TpuEff nD τ sig (Elt F) Λ₀ .tc) β} {Q : β → sProp 𝕄} :
    iprop(Reads c o x ∗ Writes c o g11 g14 g15 ∗ (∀ f14 : C14 F o, ∀ f15 : C15 F o, iprop(⌜f14 = (st c o x g14 g15 k0_t2_loop.trips).2.1 ∧ f15 = (st c o x g14 g15 k0_t2_loop.trips).2.2⌝ ∗ Reads c o x
        ∗ Writes c o (o.arg11.view.writes (Elt F) g11 (st c o x g14 g15 k0_t2_loop.trips).1) f14 f15)
        -∗ wp frame (wpE (defs₀ (F := F)) Variants.none (c : Thread nD τ) none) E (kk ⟨⟩) Q))
      ⊢ wp frame (wpE (defs₀ (F := F)) Variants.none (c : Thread nD τ) none) E (k0_t2_loop.for k0_t2_ok PUnit.unit (t2Body o) >>= kk) Q := by
  iintro ⟨⟨H2, H3, H4, H7, H10, H13⟩, ⟨H11, H14, H15⟩, Hk⟩
  iapply (Scf.wp_for_bind Idealize.ShloMosaic.frame (wpE (defs₀ (F := F)) Variants.none (c : Thread nD τ) none) E _ _ _ k0_t2_ok PUnit.unit (t2Body o)
    (inv c o x g11 g14 g15) (loopAt c E o x.x2 x.x3 x.x4 x.x7 x.x10 x.x13 g11 g14 g15).step) $$ [H2 H3 H4 H7 H10 H13 H11 H14 H15]
  · isplitl [H2]; · iexact H2
    isplitl [H3]; · iexact H3
    isplitl [H4]; · iexact H4
    isplitl [H7]; · iexact H7
    isplitl [H10]; · iexact H10
    isplitl [H13]; · iexact H13
    isplitl [H11]
    · iexists _; isplitl [H11]; · iexact H11
      ipureintro; rfl
    isplitl [H14]
    · iexists _; isplitl [H14]; · iexact H14
      ipureintro; rfl
    iexists _; isplitl [H15]; · iexact H15
    ipureintro; rfl
  iintro %acc ⟨H2, H3, H4, H7, H10, H13, ⟨%f11, H11, %h11⟩, ⟨%f14, H14, %h14⟩, ⟨%f15, H15, %h15⟩⟩
  subst h11
  iapply Hk
  isplitr; · ipureintro; exact ⟨h14, h15⟩
  isplitl [H2 H3 H4 H7 H10 H13]
  · isplitl [H2]; · iexact H2
    isplitl [H3]; · iexact H3
    isplitl [H4]; · iexact H4
    isplitl [H7]; · iexact H7
    isplitl [H10]; · iexact H10
    iexact H13
  isplitl [H11]; · iexact H11
  isplitl [H14]; · iexact H14
  iexact H15

end Cert.SbIdeal.Hand

end
-- ==== Proof.SbFrame.lean ====
/- The stick-breaking attention's backward call, idealized: its body's run at a point, and the launch. -/
module

public import proofs.«01_k».proof.Proof.Gen.SbIdeal.Frame
public import proofs.«01_k».proof.Proof.SbLoops
public import Idealize.ShloMosaic.Lib.Claim

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The blocks the body reads. -/
structure Blk (F : FTy → Type) where
  q : Vec F S1x1x2048x128 .f32
  k : Vec F S1x1x2048x128 .f32
  v : Vec F S1x1x2048x128 .f32
  zg : Vec F S1x1x2048x128 .f32
  o : Vec F S1x2048x128 .f32
  tot : Vec F S1x2048x128 .f32
  dy : Vec F S1x1x2048x128 .f32
  g : Vec F S1x128 .f32
  trips : Vec F S1x1x1x4 .f32

/-- The body's reads at their blocks. -/
abbrev BlkOwns (c : Dev nD) (o : Ops) (b : Blk F) : sProp 𝕄 :=
  iprop(owns (c : Thread nD τ) o.arg2 fullShare b.q ∗ owns (c : Thread nD τ) o.arg3 fullShare b.k ∗ owns (c : Thread nD τ) o.arg4 fullShare b.v
    ∗ owns (c : Thread nD τ) o.arg5 fullShare b.zg ∗ owns (c : Thread nD τ) o.arg6 fullShare b.o ∗ owns (c : Thread nD τ) o.arg7 fullShare b.tot
    ∗ owns (c : Thread nD τ) o.arg8 fullShare b.dy ∗ owns (c : Thread nD τ) o.arg9 fullShare b.g ∗ owns (c : Thread nD τ) o.arg10 fullShare b.trips)

/-- The buffers it may use, at some contents. -/
abbrev Scr (c : Dev nD) (o : Ops) : sProp 𝕄 :=
  iprop((∃ d, owns (c : Thread nD τ) o.arg13 fullShare d) ∗ (∃ d, owns (c : Thread nD τ) o.arg14 fullShare d) ∗ (∃ d, owns (c : Thread nD τ) o.arg15 fullShare d))

/-- The first loop's state before trip `k`. -/
abbrev st1 (c : Dev nD) (o : Ops) (b : Blk F) (k : ℕ) : FVec F S1x128 .f32 × Ps F × List (View.Piece (Elt F) S2048x128 .bf16) :=
  st_k0_t1 (F := F) Variants.none c none o.i o.arg2 o.harg2 o.arg3 o.harg3 o.arg4 o.harg4 o.arg5 o.harg5 o.arg6 o.harg6 o.arg7 o.harg7 o.arg8 o.harg8
    o.arg9 o.harg9 o.arg10 o.harg10 o.arg11 o.harg11 o.arg12 o.harg12 o.arg13 o.harg13 o.arg14 o.harg14 o.arg15 o.harg15
    (o.arg9.view.readAt (Elt F) (Rect.unit ![0, 0] S1x128.size inb_S1x128_S1x128_0_0).toLoadRect (o.harg9.unread b.g))
    (o.harg5.unread b.zg) (o.harg6.unread b.o) (o.harg8.unread b.dy) k0_pay88 k

/-- What the second loop reads. -/
abbrev insAt (c : Dev nD) (o : Ops) (b : Blk F) (f13 : BufTy.Contents (Elt F) o.arg13.view.ty) : Ins F o :=
  ⟨o.harg2.unread b.q, o.harg3.unread b.k, o.harg4.unread b.v, o.harg7.unread b.tot, o.harg10.unread b.trips,
    o.arg13.view.writes (Elt F) f13 (st1 c o b k0_t1_loop.trips).2.2⟩

abbrev ins (c : Dev nD) (o : Ops) (b : Blk F) : Ins F o := insAt c o b o.arg13.view.junk

/-- The second loop's state before trip `k`. -/
abbrev st2 (c : Dev nD) (o : Ops) (b : Blk F) (k : ℕ) : Ps F × C14 F o × C15 F o :=
  st c o (ins c o b) (zero14 o) (zero15 o) k

/-- What the body stores into the gradients' block, last first. -/
def L11 (c : Dev nD) (o : Ops) (b : Blk F) : Ps F :=
  ⟨Rect.unit ![2, 0, 0, 0] S1x1x2048x128.size inb_S4x1x2048x128_S1x1x2048x128_2_0_0_0, k0_pay2 (o.arg15.view.readAt (Elt F)
      (Rect.unit ![0, 0] S2048x128.size inb_S2048x128_S2048x128_0_0).toLoadRect (st2 c o b k0_t2_loop.trips).2.2)⟩
    :: ⟨Rect.unit ![1, 0, 0, 0] S1x1x2048x128.size inb_S4x1x2048x128_S1x1x2048x128_1_0_0_0, k0_pay1 (o.arg14.view.readAt (Elt F)
      (Rect.unit ![0, 0] S2048x128.size inb_S2048x128_S2048x128_0_0).toLoadRect (st2 c o b k0_t2_loop.trips).2.1)⟩
    :: ((st2 c o b k0_t2_loop.trips).1 ++ (st1 c o b k0_t1_loop.trips).2.1)

/-- And into the gain's. -/
def L12 (c : Dev nD) (o : Ops) (b : Blk F) : List (View.Piece (Elt F) S1x1x128 .f32) :=
  [⟨Rect.unit ![0, 0, 0] S1x1x128.size inb_S1x1x128_S1x1x128_0_0_0, k0_pay92 (st1 c o b k0_t1_loop.trips).1⟩]

/-! ### The stores cover -/

theorem off3_eq : ∀ k : Fin k0_t1_loop.trips, k0_off3 k = ![512 * k.val, 0] := by decide +kernel
theorem off4_eq : ∀ k : Fin k0_t1_loop.trips, k0_off4 k = ![3, 0, 512 * k.val, 0] := by decide +kernel
theorem off14_eq : ∀ k : Fin k0_t2_loop.trips, k0_off14 k = ![0, 0, 512 * k.val, 0] := by decide +kernel
theorem trips1 : k0_t1_loop.trips = 4 := by decide +kernel
theorem trips2 : k0_t2_loop.trips = 4 := by decide +kernel

/-- The first loop's trip: what it yields and stores. -/
theorem trip1_eq (c : Dev nD) (o : Ops) (b : Blk F) (k : Fin k0_t1_loop.trips) : ∃ w11 w13, ∃ r,
    st1 c o b (k.val + 1) = (r, ⟨Rect.unit (s := S4x1x2048x128) (k0_off4 k) S1x1x512x128.size (k0_off4_inb k), w11⟩ :: (st1 c o b k).2.1,
      ⟨Rect.unit (s := S2048x128) (k0_off3 k) S512x128.size (k0_off3_inb k), w13⟩ :: (st1 c o b k).2.2) := by
  unfold st1
  rw [st_k0_t1_succ]
  unfold tripR_k0_t1 tripL_k0_t1 trip_k0_t1
  exact ⟨_, _, _, rfl⟩

theorem st1_mem (c : Dev nD) (o : Ops) (b : Blk F) (k : ℕ) (hk : k ≤ k0_t1_loop.trips) (j : Fin k0_t1_loop.trips) (hj : j.val < k) :
    (∃ w, (⟨Rect.unit (s := S4x1x2048x128) (k0_off4 j) S1x1x512x128.size (k0_off4_inb j), w⟩ : View.Piece (Elt F) S4x1x2048x128 .bf16) ∈ (st1 c o b k).2.1)
      ∧ ∃ w, (⟨Rect.unit (s := S2048x128) (k0_off3 j) S512x128.size (k0_off3_inb j), w⟩ : View.Piece (Elt F) S2048x128 .bf16) ∈ (st1 c o b k).2.2 := by
  induction k with
  | zero => omega
  | succ k ih =>
    obtain ⟨w11, w13, r, e⟩ := trip1_eq c o b ⟨k, hk⟩
    rw [show st1 c o b (k + 1) = _ from e]
    by_cases h : j.val = k
    · obtain rfl : j = ⟨k, hk⟩ := Fin.ext h
      exact ⟨⟨w11, List.mem_cons_self⟩, ⟨w13, List.mem_cons_self⟩⟩
    · obtain ⟨⟨a, ha⟩, ⟨d, hd⟩⟩ := ih (by omega) (by omega)
      exact ⟨⟨a, List.mem_cons_of_mem _ ha⟩, ⟨d, List.mem_cons_of_mem _ hd⟩⟩

theorem trip2_eq (c : Dev nD) (o : Ops) (x : Ins F o) (k : Fin k0_t2_loop.trips) (f14 : C14 F o) (f15 : C15 F o) :
    ∃ w, (trip c o x k).1 f14 f15 = [⟨Rect.unit (s := S4x1x2048x128) (k0_off14 k) S1x1x512x128.size (k0_off14_inb k), w⟩] := by
  unfold trip
  exact ⟨_, rfl⟩

theorem st2_mem (c : Dev nD) (o : Ops) (b : Blk F) (k : ℕ) (hk : k ≤ k0_t2_loop.trips) (j : Fin k0_t2_loop.trips) (hj : j.val < k) :
    ∃ w, (⟨Rect.unit (s := S4x1x2048x128) (k0_off14 j) S1x1x512x128.size (k0_off14_inb j), w⟩ : View.Piece (Elt F) S4x1x2048x128 .bf16) ∈ (st2 c o b k).1 := by
  induction k with
  | zero => omega
  | succ k ih =>
    have e := st_succ c o (ins c o b) (zero14 o) (zero15 o) ⟨k, hk⟩
    obtain ⟨w, hw⟩ := trip2_eq c o (ins c o b) ⟨k, hk⟩ (st2 c o b k).2.1 (st2 c o b k).2.2
    rw [show st2 c o b (k + 1) = _ from e, hw]
    by_cases h : j.val = k
    · obtain rfl : j = ⟨k, hk⟩ := Fin.ext h
      exact ⟨w, List.mem_cons_self⟩
    · obtain ⟨a, ha⟩ := ih (by omega) (by omega)
      exact ⟨a, List.mem_cons_of_mem _ ha⟩

theorem cover13 (c : Dev nD) (o : Ops) (b : Blk F) (y : S2048x128.Idx) : ∃ p ∈ (st1 c o b k0_t1_loop.trips).2.2, y ∈ p.1.set := by
  have hy : (y 0).val < 2048 := (y 0).isLt
  have hy1 : (y 1).val < 128 := (y 1).isLt
  have ht := trips1
  obtain ⟨w, hw⟩ := (st1_mem c o b _ le_rfl ⟨(y 0).val / 512, by omega⟩ (by simp only; omega)).2
  refine ⟨_, hw, ?_⟩
  rw [Rect.mem_set_unit]
  intro a
  simp only [off3_eq]
  fin_cases a
  · show 512 * ((y 0).val / 512) ≤ (y 0).val ∧ (y 0).val < 512 * ((y 0).val / 512) + 512
    omega
  · show 0 ≤ (y 1).val ∧ (y 1).val < 0 + 128
    omega

theorem cover11 (c : Dev nD) (o : Ops) (b : Blk F) (y : S4x1x2048x128.Idx) : ∃ p ∈ L11 c o b, y ∈ p.1.set := by
  have h0 : (y 0).val < 4 := (y 0).isLt
  have h1 : (y 1).val < 1 := (y 1).isLt
  have h2 : (y 2).val < 2048 := (y 2).isLt
  have h3 : (y 3).val < 128 := (y 3).isLt
  have ht1 := trips1
  have ht2 := trips2
  rcases (by omega : (y 0).val = 2 ∨ (y 0).val = 1 ∨ (y 0).val = 0 ∨ (y 0).val = 3) with e | e | e | e
  · refine ⟨_, List.mem_cons_self, ?_⟩
    rw [Rect.mem_set_unit]
    intro a
    fin_cases a
    · show 2 ≤ (y 0).val ∧ (y 0).val < 2 + 1; omega
    · show 0 ≤ (y 1).val ∧ (y 1).val < 0 + 1; omega
    · show 0 ≤ (y 2).val ∧ (y 2).val < 0 + 2048; omega
    · show 0 ≤ (y 3).val ∧ (y 3).val < 0 + 128; omega
  · refine ⟨_, List.mem_cons_of_mem _ List.mem_cons_self, ?_⟩
    rw [Rect.mem_set_unit]
    intro a
    fin_cases a
    · show 1 ≤ (y 0).val ∧ (y 0).val < 1 + 1; omega
    · show 0 ≤ (y 1).val ∧ (y 1).val < 0 + 1; omega
    · show 0 ≤ (y 2).val ∧ (y 2).val < 0 + 2048; omega
    · show 0 ≤ (y 3).val ∧ (y 3).val < 0 + 128; omega
  · obtain ⟨w, hw⟩ := st2_mem c o b _ le_rfl ⟨(y 2).val / 512, by omega⟩ (by simp only; omega)
    refine ⟨_, List.mem_cons_of_mem _ (List.mem_cons_of_mem _ (List.mem_append_left _ hw)), ?_⟩
    rw [Rect.mem_set_unit]
    intro a
    simp only [off14_eq]
    fin_cases a
    · show 0 ≤ (y 0).val ∧ (y 0).val < 0 + 1; omega
    · show 0 ≤ (y 1).val ∧ (y 1).val < 0 + 1; omega
    · show 512 * ((y 2).val / 512) ≤ (y 2).val ∧ (y 2).val < 512 * ((y 2).val / 512) + 512; omega
    · show 0 ≤ (y 3).val ∧ (y 3).val < 0 + 128; omega
  · obtain ⟨w, hw⟩ := (st1_mem c o b _ le_rfl ⟨(y 2).val / 512, by omega⟩ (by simp only; omega)).1
    refine ⟨_, List.mem_cons_of_mem _ (List.mem_cons_of_mem _ (List.mem_append_right _ hw)), ?_⟩
    rw [Rect.mem_set_unit]
    intro a
    simp only [off4_eq]
    fin_cases a
    · show 3 ≤ (y 0).val ∧ (y 0).val < 3 + 1; omega
    · show 0 ≤ (y 1).val ∧ (y 1).val < 0 + 1; omega
    · show 512 * ((y 2).val / 512) ≤ (y 2).val ∧ (y 2).val < 512 * ((y 2).val / 512) + 512; omega
    · show 0 ≤ (y 3).val ∧ (y 3).val < 0 + 128; omega

theorem cover12 (c : Dev nD) (o : Ops) (b : Blk F) (y : S1x1x128.Idx) : ∃ p ∈ L12 c o b, y ∈ p.1.set := by
  have h0 : (y 0).val < 1 := (y 0).isLt
  have h1 : (y 1).val < 1 := (y 1).isLt
  have h2 : (y 2).val < 128 := (y 2).isLt
  refine ⟨_, List.mem_cons_self, ?_⟩
  rw [Rect.mem_set_unit]
  intro a
  fin_cases a
  · show 0 ≤ (y 0).val ∧ (y 0).val < 0 + 1; omega
  · show 0 ≤ (y 1).val ∧ (y 1).val < 0 + 1; omega
  · show 0 ≤ (y 2).val ∧ (y 2).val < 0 + 128; omega

/-- The gathered gradient's buffer depends on nothing it held before. -/
theorem writes13 (c : Dev nD) (o : Ops) (b : Blk F) (f13 : BufTy.Contents (Elt F) o.arg13.view.ty) :
    o.arg13.view.writes (Elt F) f13 (st1 c o b k0_t1_loop.trips).2.2 = o.arg13.view.writes (Elt F) o.arg13.view.junk (st1 c o b k0_t1_loop.trips).2.2 := by
  have h := View.read_writes_of_cover (Val := Elt F) o.arg13.view f13 o.arg13.view o.arg13.view.junk _ (cover13 c o b)
  exact (o.harg13.eq_unread h).trans (o.harg13.eq_unread rfl).symm

set_option maxHeartbeats 4000000 in
/-- THE BODY'S RUN. -/
theorem run (c : Dev nD) (o : Ops) (b : Blk F) (E : Set ℕ) (K : PUnit → sProp 𝕄) :
      iprop(BlkOwns c o b ∗ (∃ d, owns (c : Thread nD τ) o.arg11 fullShare d) ∗ (∃ d, owns (c : Thread nD τ) o.arg12 fullShare d) ∗ Scr (F := F) c o
          ∗ (iprop(BlkOwns c o b ∗ (∃ f, o.arg11.view.loc (c : Thread nD τ) ↦[o.arg11.view.set]{fullShare} o.arg11.view.writes (Elt F) f (L11 c o b))
              ∗ (∃ f, o.arg12.view.loc (c : Thread nD τ) ↦[o.arg12.view.set]{fullShare} o.arg12.view.writes (Elt F) f (L12 c o b)) ∗ Scr (F := F) c o) -∗ K ⟨⟩))
        ⊢ wp frame (wpE (defs₀ (F := F)) Variants.none c none) E (cc0_sb_bwd o.i o.arg2 o.harg2 o.arg3 o.harg3 o.arg4 o.harg4 o.arg5 o.harg5
            o.arg6 o.harg6 o.arg7 o.harg7 o.arg8 o.harg8 o.arg9 o.harg9 o.arg10 o.harg10 o.arg11 o.harg11 o.arg12 o.harg12 o.arg13 o.harg13
            o.arg14 o.harg14 o.arg15 o.harg15) K := by
  simp only [cc0_sb_bwd_eq_skeleton]; unfold cc0_sb_bwd_skel
  simp only [k0_part11_eq_skeleton]
  unfold BlkOwns Scr owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨⟨%d13, %f13, -, H13⟩, ⟨%d14, %f14, -, H14⟩, ⟨%d15, %f15, -, H15⟩⟩, Hk⟩
  obtain rfl := o.harg2.eq_unread hf2; obtain rfl := o.harg3.eq_unread hf3; obtain rfl := o.harg4.eq_unread hf4
  obtain rfl := o.harg5.eq_unread hf5; obtain rfl := o.harg6.eq_unread hf6; obtain rfl := o.harg7.eq_unread hf7
  obtain rfl := o.harg8.eq_unread hf8; obtain rfl := o.harg9.eq_unread hf9; obtain rfl := o.harg10.eq_unread hf10
  sl_exec
  iapply (wp_t2 c E o (insAt c o b f13) (o.arg11.view.writes (Elt F) f11 (st1 c o b k0_t1_loop.trips).2.1) (zero14 o) (zero15 o))
  isplitl [H2 H3 H4 H7 H10 H13]
  · isplitl [H2]; · iexact H2
    isplitl [H3]; · iexact H3
    isplitl [H4]; · iexact H4
    isplitl [H7]; · iexact H7
    isplitl [H10]; · iexact H10
    iexact H13
  isplitl [H11 H14 H15]
  · isplitl [H11]; · iexact H11
    isplitl [H14]; · iexact H14
    iexact H15
  iintro %s14 %s15 ⟨%hs, ⟨H2, H3, H4, H7, H10, H13⟩, H11, H14, H15⟩
  rw [show insAt c o b f13 = ins c o b from by rw [insAt, writes13 c o b f13]] at hs
  rw [show insAt c o b f13 = ins c o b from by rw [insAt, writes13 c o b f13], ← View.writes_append]
  sl_exec
  sl_step
  iapply Hk
  isplitl [H2 H3 H4 H5 H6 H7 H8 H9 H10]
  · isplitl [H2]
    · iexists _; isplitr; · ipureintro; exact o.harg2.read_unread _
      iexact H2
    isplitl [H3]
    · iexists _; isplitr; · ipureintro; exact o.harg3.read_unread _
      iexact H3
    isplitl [H4]
    · iexists _; isplitr; · ipureintro; exact o.harg4.read_unread _
      iexact H4
    isplitl [H5]
    · iexists _; isplitr; · ipureintro; exact o.harg5.read_unread _
      iexact H5
    isplitl [H6]
    · iexists _; isplitr; · ipureintro; exact o.harg6.read_unread _
      iexact H6
    isplitl [H7]
    · iexists _; isplitr; · ipureintro; exact o.harg7.read_unread _
      iexact H7
    isplitl [H8]
    · iexists _; isplitr; · ipureintro; exact o.harg8.read_unread _
      iexact H8
    isplitl [H9]
    · iexists _; isplitr; · ipureintro; exact o.harg9.read_unread _
      iexact H9
    iexists _; isplitr; · ipureintro; exact o.harg10.read_unread _
    iexact H10
  obtain ⟨rfl, rfl⟩ := hs
  isplitl [H11]
  · iexists f11; iexact H11
  isplitl [H12]
  · iexists o.arg12.view.junk; iexact H12
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

end Cert.SbIdeal.Hand

end
-- ==== Proof.SbLaunch.lean ====
/- The stick-breaking attention's backward call, idealized: the launch. -/
module

public import proofs.«01_k».proof.Proof.Gen.SbIdeal.Frame
public import proofs.«01_k».proof.Proof.SbFrame
public import Idealize.ShloMosaic.Lib.Claim

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's operands at point `t`. -/
def ops (t : Fin cfg0.N) : Ops where
  i := grid0.coords t
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := win0_5.stage (cfg0.slots t 5)
  harg7 := hstage0_5 ((cfg0.slots t 5).cast nbuf0_5)
  arg8 := win0_6.stage (cfg0.slots t 6)
  harg8 := hstage0_6 ((cfg0.slots t 6).cast nbuf0_6)
  arg9 := win0_7.stage (cfg0.slots t 7)
  harg9 := hstage0_7 ((cfg0.slots t 7).cast nbuf0_7)
  arg10 := win0_8.stage (cfg0.slots t 8)
  harg10 := hstage0_8 ((cfg0.slots t 8).cast nbuf0_8)
  arg11 := win0_9.stage (cfg0.slots t 9)
  harg11 := hstage0_9 ((cfg0.slots t 9).cast nbuf0_9)
  arg12 := win0_10.stage (cfg0.slots t 10)
  harg12 := hstage0_10 ((cfg0.slots t 10).cast nbuf0_10)
  arg13 := Memref.whole cc0_scratch0
  harg13 := Memref.isWhole_whole _
  arg14 := Memref.whole cc0_scratch1
  harg14 := Memref.isWhole_whole _
  arg15 := Memref.whole cc0_scratch2
  harg15 := Memref.isWhole_whole _

/-- The blocks it reads there. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t⟩

/-- What it leaves in its two results' buffers. -/
def out9 (c : Dev nD) (t : Fin cfg0.N) : Vec F S4x1x2048x128 .bf16 :=
  (ops t).arg11.view.read (Elt F) ((ops t).arg11.view.writes (Elt F) (ops t).arg11.view.junk (L11 c (ops t) (blk m c t)))
def out10 (c : Dev nD) (t : Fin cfg0.N) : Vec F S1x1x128 .f32 :=
  (ops t).arg12.view.read (Elt F) ((ops t).arg12.view.writes (Elt F) (ops t).arg12.view.junk (L12 c (ops t) (blk m c t)))

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the launch carries from point to point beside its windows: the scratch buffers and the generator's register. -/
theorem PhiA0_eq (c : Dev nD) (t : Fin cfg0.N) : (Pipeline.ΦA spec0 c : sProp 𝕄) = iprop(Scr (F := F) c (ops t) ∗ (∃ r, prngReg c r)) := by
  unfold Pipeline.ΦA
  rw [scopedRest0_eq]
  simp only [Scr, ops, owns_whole]
  try rfl

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ops t).arg2 fullShare ((dats m 0 c).before 0 t d))
    ∗ (∃ d, owns (c : Thread nD τ) (ops t).arg3 fullShare ((dats m 0 c).before 1 t d))
    ∗ (∃ d, owns (c : Thread nD τ) (ops t).arg4 fullShare ((dats m 0 c).before 2 t d))
    ∗ (∃ d, owns (c : Thread nD τ) (ops t).arg5 fullShare ((dats m 0 c).before 3 t d))
    ∗ (∃ d, owns (c : Thread nD τ) (ops t).arg6 fullShare ((dats m 0 c).before 4 t d))
    ∗ (∃ d, owns (c : Thread nD τ) (ops t).arg7 fullShare ((dats m 0 c).before 5 t d))
    ∗ (∃ d, owns (c : Thread nD τ) (ops t).arg8 fullShare ((dats m 0 c).before 6 t d))
    ∗ (∃ d, owns (c : Thread nD τ) (ops t).arg9 fullShare ((dats m 0 c).before 7 t d))
    ∗ (∃ d, owns (c : Thread nD τ) (ops t).arg10 fullShare ((dats m 0 c).before 8 t d))
    ∗ (∃ d, owns (c : Thread nD τ) (ops t).arg11 fullShare ((dats m 0 c).before 9 t d))
    ∗ (∃ d, owns (c : Thread nD τ) (ops t).arg12 fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ops t).arg2 fullShare ((dats m 0 c).after 0 t)
    ∗ owns (c : Thread nD τ) (ops t).arg3 fullShare ((dats m 0 c).after 1 t)
    ∗ owns (c : Thread nD τ) (ops t).arg4 fullShare ((dats m 0 c).after 2 t)
    ∗ owns (c : Thread nD τ) (ops t).arg5 fullShare ((dats m 0 c).after 3 t)
    ∗ owns (c : Thread nD τ) (ops t).arg6 fullShare ((dats m 0 c).after 4 t)
    ∗ owns (c : Thread nD τ) (ops t).arg7 fullShare ((dats m 0 c).after 5 t)
    ∗ owns (c : Thread nD τ) (ops t).arg8 fullShare ((dats m 0 c).after 6 t)
    ∗ owns (c : Thread nD τ) (ops t).arg9 fullShare ((dats m 0 c).after 7 t)
    ∗ owns (c : Thread nD τ) (ops t).arg10 fullShare ((dats m 0 c).after 8 t)
    ∗ owns (c : Thread nD τ) (ops t).arg11 fullShare ((dats m 0 c).after 9 t)
    ∗ owns (c : Thread nD τ) (ops t).arg12 fullShare ((dats m 0 c).after 10 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq c t,
    after0_0, after0_1, after0_2, after0_3, after0_4, after0_5, after0_6, after0_7, after0_8, after0_9, after0_10]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (ops t) (blk m c t) Set.univ _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexists _; iexact H10
  isplitl [HS]; · iexact HS
  iintro ⟨⟨H0, H1, H2, H3, H4, H5, H6, H7, H8⟩, ⟨%e9, H9⟩, ⟨%e10, H10⟩, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns out9; iexists _; isplitr; swap; · iexact H9
    ipureintro; exact View.read_writes_of_cover _ _ _ _ _ (cover11 c _ _)
  unfold owns out10; iexists _; isplitr; swap; · iexact H10
  ipureintro; exact View.read_writes_of_cover _ _ _ _ _ (cover12 c _ _)

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.SbIdeal.Hand

end
-- ==== Proof.SbBits.lean ====
/- The stick-breaking attention's backward call: the frame of its own text, from its idealization's read at the words. -/
module

public import proofs.«01_k».proof.Defs
public import proofs.«01_k».proof.Proof.Gen.Sb
public import proofs.«01_k».proof.Proof.SbLaunch

@[expose] public section

set_option maxRecDepth 16384

noncomputable section

namespace Cert.SbClaim

open Idealize.ShloMosaic Idealize.ShloMosaic.TcCoe Idealize.SL.Sem

/-- A named constant read at the words: the word the text holds. -/
@[reducible] def words : Named Bits where
  named _ _ {φ} b := Scalar.ofBits φ b

/-- The idealization's frame, read at the words. -/
def FrameWords : Prop :=
  letI := words
  ∀ (m : (ℓ : Loc Cert.SbIdeal.nD Cert.SbIdeal.τ Cert.SbIdeal.sig) → Buf (Elt Bits) ℓ) (g : Dev Cert.SbIdeal.nD → PrngReg), True →
    θ_run (Cert.SbIdeal.defs (F := Bits)) (onTc (τ := Cert.SbIdeal.τ) (Cert.SbIdeal.main (F := Bits))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

theorem frameWords : FrameWords := fun m g _ => @Cert.SbIdeal.Hand.frame Bits _ words m g

/-- The two texts are the same at the words. -/
theorem same : FrameWords = Cert.quiescent_Sb := by sl_kernel_rfl

theorem frame : Cert.quiescent_Sb := same ▸ frameWords

end Cert.SbClaim

end
-- ==== Proof.SbMath.lean ====
module

public import proofs.«01_k».proof.Proof.Reals

@[expose] public section

set_option maxRecDepth 16384

noncomputable section

namespace Cert.SbMath

open Idealize.ShloMosaic Finset

/-- The rows of one head: queries, keys, values, or the gradient of the output. -/
abbrev Mat := ℕ → Fin 128 → ℝ

/-- The scale of the logits: the float word of one over the root of 128. -/
def w : ℝ := 11863283 / 134217728

/-- One entry of a product of rows. -/
def dot (A B : Mat) (r s : ℕ) : ℝ := ∑ d, A r d * B s d

/-- The logit of a query and a key. -/
def zz (Q K : Mat) (r s : ℕ) : ℝ := dot Q K r s * w

/-- The logarithm of one minus the gate, at a key before the query, and nothing elsewhere. -/
def ll (Q K : Mat) (r s : ℕ) : ℝ := if s < r then -Real.log (1 + Real.exp (zz Q K r s)) else 0

/-- The weight of a key: its gate, times one minus the gates of the keys between it and the query. -/
def aa (Q K : Mat) (r s : ℕ) : ℝ :=
  if s < r then Real.exp (-Real.log (1 + Real.exp (-zz Q K r s))
    + (∑ j ∈ range 2048, ll Q K r j - ∑ j ∈ range (s + 1), ll Q K r j)) else 0

/-- A weight times the gradient of it. -/
def gg (Q K V D : Mat) (r s : ℕ) : ℝ := aa Q K r s * dot D V r s

/-- The logistic function. -/
def sg (x : ℝ) : ℝ := 1 / (1 + Real.exp (-x))

/-- The gradient of an entry of the product of queries and keys. -/
def dz (Q K V D : Mat) (r s : ℕ) : ℝ :=
  if s < r then (gg Q K V D r s - sg (zz Q K r s) * (gg Q K V D r s + ∑ j ∈ range s, gg Q K V D r j)) * w else 0

theorem ll_far (Q K : Mat) {r s : ℕ} (h : ¬ s < r) : ll Q K r s = 0 := if_neg h
theorem aa_far (Q K : Mat) {r s : ℕ} (h : ¬ s < r) : aa Q K r s = 0 := if_neg h
theorem dz_far (Q K V D : Mat) {r s : ℕ} (h : ¬ s < r) : dz Q K V D r s = 0 := if_neg h

theorem log_two_pos : 0 < Real.log 2 := Real.log_pos (by norm_num)
theorem log_two_ne : Real.log 2 ≠ 0 := log_two_pos.ne'

theorem exp_pos1 (x : ℝ) : 0 < 1 + Real.exp x := by positivity

/-- The larger of a number and zero, with the small correction, is the logarithm of one plus the exponential. -/
theorem softplus (x : ℝ) : max x 0 + Real.log (1 + Real.exp (-|x|)) = Real.log (1 + Real.exp x) := by
  rcases le_total 0 x with h | h
  · rw [max_eq_left h, abs_of_nonneg h]
    have e : 1 + Real.exp x = Real.exp x * (1 + Real.exp (-x)) := by
      rw [mul_add, mul_one, ← Real.exp_add, add_neg_cancel, Real.exp_zero]; ring
    rw [e, Real.log_mul (Real.exp_pos x).ne' (exp_pos1 _).ne', Real.log_exp]
  · rw [max_eq_right h, abs_of_nonpos h, neg_neg, zero_add]

/-- The two logarithms of a gate and of one minus it differ by the logit. -/
theorem softplus_neg (x : ℝ) : x - Real.log (1 + Real.exp x) = -Real.log (1 + Real.exp (-x)) := by
  have e : 1 + Real.exp x = Real.exp x * (1 + Real.exp (-x)) := by
    rw [mul_add, mul_one, ← Real.exp_add, add_neg_cancel, Real.exp_zero]; ring
  rw [e, Real.log_mul (Real.exp_pos x).ne' (exp_pos1 _).ne', Real.log_exp]; ring

theorem sg_abs (x : ℝ) : (if 0 ≤ x then 1 / (1 + Real.exp (-|x|)) else Real.exp (-|x|) * (1 / (1 + Real.exp (-|x|)))) = sg x := by
  unfold sg
  split_ifs with h
  · rw [abs_of_nonneg h]
  · rw [abs_of_nonpos (le_of_not_ge h), neg_neg]
    have e : 1 + Real.exp (-x) = Real.exp (-x) * (1 + Real.exp x) := by
      rw [mul_add, mul_one, ← Real.exp_add, neg_add_cancel, Real.exp_zero]; ring
    rw [e, one_div, one_div, mul_inv, ← Real.exp_neg, neg_neg]

theorem sg_neg (x : ℝ) : sg (-x) = 1 - sg x := by
  unfold sg
  have e : 1 + Real.exp (-x) = Real.exp (-x) * (1 + Real.exp x) := by
    rw [mul_add, mul_one, ← Real.exp_add, neg_add_cancel, Real.exp_zero]; ring
  have h1 := (exp_pos1 x).ne'
  have h2 := (Real.exp_pos (-x)).ne'
  rw [neg_neg, e]
  field_simp
  linarith [e]

/-- The exponential of a number less its softplus is the logistic function. -/
theorem exp_sub_softplus (x : ℝ) : Real.exp (x - Real.log (1 + Real.exp x)) = sg x := by
  rw [softplus_neg, Real.exp_neg, Real.exp_log (exp_pos1 _), sg, one_div]

/-- A sum over the first entries of a block, after the sum over the blocks before it. -/
theorem sum_block (f : ℕ → ℝ) (C : ℕ) {N : ℕ} (n : ℕ) (hn : n ≤ N) :
    (∑ k : Fin N, if k.val < n then f (C + k.val) else 0) + ∑ j ∈ range C, f j = ∑ j ∈ range (C + n), f j := by
  rw [Fin.sum_univ_eq_sum_range (fun k => if k < n then f (C + k) else 0) N, ← Finset.sum_filter,
    show (range N).filter (fun k => k < n) = range n by ext k; simp; omega, Finset.sum_range_add, add_comm]

theorem sum_whole (f : ℕ → ℝ) (C N : ℕ) :
    ∑ j ∈ range C, f j + ∑ k : Fin N, f (C + k.val) = ∑ j ∈ range (C + N), f j := by
  rw [Fin.sum_univ_eq_sum_range (fun k => f (C + k)) N, Finset.sum_range_add]

/-! ### Entries of a block, as extended reals -/

/-- A logit to base two, or the value at a key that takes no part. -/
def lg (v : Prop) [Decidable v] (x : ℝ) : EReal := if v then ((x * (Real.log 2)⁻¹ : ℝ) : EReal) else ⊥

/-- The exponential of less its absolute value. -/
def ee (T : EReal) : EReal := Ideal.exp2 (0 - max T (-T))

/-- The logarithm to base two of one minus the gate. -/
def l1 (T : EReal) : EReal := 0 - (max T 0 + Ideal.log (1 + ee T) * (((Real.log 2)⁻¹ : ℝ) : EReal))

theorem exp2_coe (x : ℝ) : Ideal.exp2 (x : EReal) = ((Real.exp (Real.log 2 * x) : ℝ) : EReal) := by
  refine congrArg (fun y : ℝ => (y : EReal)) ?_
  exact Real.rpow_def_of_pos (by norm_num) x

theorem log_coe {x : ℝ} (h : 0 < x) : Ideal.log (x : EReal) = ((Real.log x : ℝ) : EReal) := by
  show (if x ≤ 0 then (⊥ : EReal) else (Real.log x : EReal)) = _
  exact if_neg (not_le.2 h)

theorem coe_max (x y : ℝ) : max (x : EReal) (y : EReal) = ((max x y : ℝ) : EReal) :=
  (EReal.coe_strictMono.monotone.map_max (a := x) (b := y)).symm

theorem abs_coe (x : ℝ) : max (x : EReal) (-(x : EReal)) = ((|x| : ℝ) : EReal) := by
  rw [← EReal.coe_neg, coe_max]; rfl

theorem zero_sub_coe (x : ℝ) : (0 : EReal) - (x : EReal) = ((-x : ℝ) : EReal) := by
  rw [← EReal.coe_zero, ← EReal.coe_sub, zero_sub]

theorem ee_coe (x : ℝ) : ee ((x * (Real.log 2)⁻¹ : ℝ) : EReal) = ((Real.exp (-|x|) : ℝ) : EReal) := by
  unfold ee
  rw [abs_coe, zero_sub_coe, exp2_coe, abs_mul, abs_of_pos (inv_pos.2 log_two_pos)]
  refine congrArg (fun y : ℝ => (y : EReal)) (congrArg Real.exp ?_)
  have := log_two_ne
  field_simp

theorem ee_bot : ee ⊥ = 0 := by
  unfold ee
  rw [EReal.neg_bot, max_eq_right bot_le]
  exact rfl

theorem ee_lg (v : Prop) [Decidable v] (x : ℝ) : ee (lg v x) = ((if v then Real.exp (-|x|) else 0 : ℝ) : EReal) := by
  unfold lg
  split_ifs
  · exact ee_coe x
  · rw [ee_bot]; rfl

theorem one_coe : (1 : EReal) = ((1 : ℝ) : EReal) := rfl
theorem zero_coe : (0 : EReal) = ((0 : ℝ) : EReal) := rfl

theorem l1_lg (v : Prop) [Decidable v] (x : ℝ) :
    l1 (lg v x) = (((if v then -Real.log (1 + Real.exp x) else 0) * (Real.log 2)⁻¹ : ℝ) : EReal) := by
  unfold l1
  rw [ee_lg]
  unfold lg
  split_ifs with h
  · rw [zero_coe, coe_max, one_coe, ← EReal.coe_add, log_coe (exp_pos1 _), ← EReal.coe_mul, ← EReal.coe_add,
      ← EReal.coe_sub, ← softplus x]
    refine congrArg (fun y : ℝ => (y : EReal)) ?_
    have : max (x * (Real.log 2)⁻¹) 0 = max x 0 * (Real.log 2)⁻¹ := by
      rw [max_mul_of_nonneg _ _ (inv_pos.2 log_two_pos).le, zero_mul]
    rw [this]; ring
  · rw [max_eq_right bot_le, one_coe, ← EReal.coe_add, log_coe (by norm_num), ← EReal.coe_mul, zero_coe, ← EReal.coe_add,
      ← EReal.coe_sub]
    refine congrArg (fun y : ℝ => (y : EReal)) ?_
    simp

/-- The weight, from the logit, the total and the partial sum. -/
theorem wt_lg (v : Prop) [Decidable v] (x l a b : ℝ) (hl : v → l = -Real.log (1 + Real.exp x)) :
    Ideal.exp2 ((lg v x + ((l * (Real.log 2)⁻¹ : ℝ) : EReal)) +
        (((a * (Real.log 2)⁻¹ : ℝ) : EReal) - ((b * (Real.log 2)⁻¹ : ℝ) : EReal)))
      = ((if v then Real.exp (-Real.log (1 + Real.exp (-x)) + (a - b)) else 0 : ℝ) : EReal) := by
  unfold lg
  split_ifs with h
  · rw [← EReal.coe_add, ← EReal.coe_sub, ← EReal.coe_add, exp2_coe, ← softplus_neg, hl h]
    refine congrArg (fun y : ℝ => (y : EReal)) (congrArg Real.exp ?_)
    have := log_two_ne
    field_simp
    ring
  · rw [EReal.bot_add, EReal.bot_add]; exact rfl

/-- The logistic function of a logit, from its exponential. -/
def sl (T : EReal) : EReal :=
  if 0 ≤ T then Ideal.div 1 (1 + ee T) else ee T * Ideal.div 1 (1 + ee T)

theorem sl_lg (v : Prop) [Decidable v] (x : ℝ) : sl (lg v x) = ((if v then sg x else 0 : ℝ) : EReal) := by
  unfold sl
  rw [ee_lg]
  unfold lg
  split_ifs with h h1 h1
  · rw [one_coe, ← EReal.coe_add, Ideal.div_coe (exp_pos1 _).ne', ← EReal.coe_mul, one_mul, ← sg_abs, if_pos]
    rw [zero_coe, EReal.coe_le_coe_iff] at h1
    exact nonneg_of_mul_nonneg_left h1 (inv_pos.2 log_two_pos)
  · rw [one_coe, ← EReal.coe_add, Ideal.div_coe (exp_pos1 _).ne', ← EReal.coe_mul, ← EReal.coe_mul, one_mul, ← sg_abs, if_neg]
    intro h2
    exact h1 (by rw [zero_coe, EReal.coe_le_coe_iff]; exact mul_nonneg h2 (inv_pos.2 log_two_pos).le)
  · exact absurd h1 (by simp)
  · simp

theorem dz_lg (v : Prop) [Decidable v] (x g G c : ℝ) :
    ((g : EReal) - sl (lg v x) * ((g : EReal) + (G : EReal))) * (c : EReal)
      = (((g - (if v then sg x else 0) * (g + G)) * c : ℝ) : EReal) := by
  rw [sl_lg, ← EReal.coe_add, ← EReal.coe_mul, ← EReal.coe_sub, ← EReal.coe_mul]

/-- A row times the columns of a triangle of ones. -/
theorem tri {N : ℕ} (x : Fin N → ℝ) (p : Fin N → Prop) [DecidablePred p] :
    ∑ k, (x k : EReal) * (if p k then (1 : EReal) else 0) = ((∑ k, if p k then x k else 0 : ℝ) : EReal) := by
  rw [Reals.coe_sum]
  refine Finset.sum_congr rfl fun k _ => ?_
  split_ifs
  · rw [mul_one]
  · rw [mul_zero]; rfl

theorem sub_self_coe (x : ℝ) : (x : EReal) - (x : EReal) = ((0 : ℝ) : EReal) := by
  rw [← EReal.coe_sub, sub_self]

theorem word_w : Ideal.ofBits FTy.f32 0x3DB504F3#32 = ((w : ℝ) : EReal) := by
  unfold w
  simp [Ideal.ofBits, Ideal.ieee, -EReal.coe_mul]; norm_num

theorem word_one : Ideal.ofBits FTy.f32 0x3F800000#32 = 1 := by
  rw [one_coe]
  simp [Ideal.ofBits, Ideal.ieee, -EReal.coe_mul]; norm_num

theorem word_128 : Ideal.ofBits FTy.f32 0x43000000#32 = ((128 : ℝ) : EReal) := by
  simp [Ideal.ofBits, Ideal.ieee, -EReal.coe_mul]; norm_num

end Cert.SbMath
-- ==== Proof.SbBlock.lean ====
module

public import proofs.«01_k».proof.Proof.SbMath
public import proofs.«01_k».proof.Proof.Gen.SbIdeal.Skeleton
public import Idealize.ShloMosaic.Lib.Pipeline.ValueKit
public import Idealize.ShloMosaic.Lib.Pointwise
public import Idealize.ShloMosaic.PureOps.Ideal.Laws
public import Idealize.ShloMosaic.PureOps.IdealRules
public import Idealize.ShloMosaic.Lib.WordCmp

@[expose] public section

set_option maxRecDepth 16384

noncomputable section

namespace Cert.SbIdeal.Hand

open Cert.SbIdeal Cert.SbIdeal.Gen Cert.SbMath Idealize.ShloMosaic Idealize.ShloMosaic.TcCoe Idealize.SL.Sem

/-! ### The named constants -/

theorem logit_at : (Named.named κ "logit" 0x3E0293EE#32 : Ideal FTy.f32) = ((w * (Real.log 2)⁻¹ : ℝ) : EReal) :=
  IdealRules.named_const.ideal_named_scalar _ _ _ _ rfl
theorem mask_at : (Named.named κ "mask" 0xF149F2CA#32 : Ideal FTy.f32) = ⊥ :=
  IdealRules.named_const.ideal_named_scalar _ _ _ _ rfl
theorem log2e_at : (Named.named κ "log2e" 0x3FB8AA3B#32 : Ideal FTy.f32) = (((Real.log 2)⁻¹ : ℝ) : EReal) :=
  IdealRules.named_const.ideal_named_scalar _ _ _ _ rfl

/-! ### The steps of a tile, entry by entry -/

theorem p12 (v : Vec Ideal S1x1x256x128 .f32) (n : Fin 256) (d : Fin 128) : k0_pay12 v (ix2 n d) = v (ix4 0 0 n d) := by
  pointwise [k0_pay12]
theorem p13 (v : Vec Ideal S1x1x256x128 .f32) (n : Fin 256) (d : Fin 128) : k0_pay13 v (ix2 n d) = v (ix4 0 0 n d) := by
  pointwise [k0_pay13]
theorem p14 (q : FVec Ideal S512x128 .bf16) (v : Vec Ideal S1x1x256x128 .f32) (t : Fin 512) (n : Fin 256) :
    k0_pay14 q v (ix2 t n) = ∑ d, q (ix2 t d) * v (ix4 0 0 n d) := by
  pointwise [k0_pay14, k0_pay12]
theorem p15 (q : FVec Ideal S512x128 .bf16) (v : Vec Ideal S1x1x256x128 .f32) (t : Fin 512) (n : Fin 256) :
    k0_pay15 q v (ix2 t n) = ∑ d, q (ix2 t d) * v (ix4 0 0 n d) := by
  pointwise [k0_pay15, k0_pay13]
theorem p16 (q : Vec Ideal S512x128 .bf16) (v : Vec Ideal S1x1x256x128 .f32) (t : Fin 512) (n : Fin 256) :
    k0_pay16 q v (ix2 t n) = ∑ d, q (ix2 t d) * v (ix4 0 0 n d) := by
  pointwise [k0_pay16]
theorem p17 (q : Vec Ideal S512x128 .bf16) (v : Vec Ideal S1x1x256x128 .f32) (t : Fin 512) (n : Fin 256) :
    k0_pay17 q v (ix2 t n) = ∑ d, q (ix2 t d) * v (ix4 0 0 n d) := by
  pointwise [k0_pay17]
/-- The comparison of a tile's mask, in the numbers it stands for. -/
theorem mask_word {a i t n : ℕ} (ha : a < 8) (hi : i < 4) (ht : t < 512) (hn : n < 256) :
    IntOp.cmpi .sgt (BitVec.ofNat 32 t - BitVec.ofNat 32 n) (BitVec.ofNat 32 a * 256#32 - BitVec.ofNat 32 i * 512#32)
      = BitVec.ofBool (decide (256 * a + n < 512 * i + t)) := by
  have h1 : (BitVec.ofNat 32 t - BitVec.ofNat 32 n).toInt = (t : ℤ) - n := by
    rw [BitVec.toInt_sub, WordCmp.toInt_ofNat_of_lt (by omega), WordCmp.toInt_ofNat_of_lt (by omega), Int.bmod_def]
    split <;> omega
  have h2 : (BitVec.ofNat 32 a * 256#32 - BitVec.ofNat 32 i * 512#32).toInt = 256 * (a : ℤ) - 512 * i := by
    rw [← BitVec.ofNat_mul, ← BitVec.ofNat_mul, BitVec.toInt_sub, WordCmp.toInt_ofNat_of_lt (by omega),
      WordCmp.toInt_ofNat_of_lt (by omega), Int.bmod_def]
    split <;> omega
  rw [WordCmp.cmpi_sgt_eq, h1, h2]
  refine congrArg BitVec.ofBool (decide_eq_decide.2 ?_)
  omega
theorem p18 (r : IVec S512x256 32) (k2 : Fin k0_t2_loop.trips) (g v54 a c1 : BitVec 32) (k : Fin (k0_t3_loop k2 v54).trips)
    (t : Fin 512) (n : Fin 256) :
    k0_pay18 r k2 g v54 a c1 k (ix2 t n) = IntOp.cmpi .sgt (r (ix2 t n))
      (Scalar.subi (Scalar.muli (Scalar.addi (Scalar.muli (Scf.iv a c1 k) 2#32) 0#32) 256#32) (Scalar.muli g 512#32)) := by
  pointwise [k0_pay18]
theorem p20 (x : FVec Ideal S512x256 .f32) (b : IVec S512x256 1) (t : Fin 512) (n : Fin 256) :
    k0_pay20 x b k0_pay19 (ix2 t n)
      = if b (ix2 t n) = 1#1 then x (ix2 t n) * ((w * (Real.log 2)⁻¹ : ℝ) : EReal) else ⊥ := by
  pointwise [k0_pay20, k0_pay19, logit_at, mask_at]
  rfl
theorem p21 (x : FVec Ideal S512x256 .f32) (b : IVec S512x256 1) (c : FVec Ideal S512x256 .f32) (t : Fin 512) (n : Fin 256) :
    k0_pay21 x b c (ix2 t n) = ee (k0_pay20 x b c (ix2 t n)) := by
  unfold ee
  pointwise [k0_pay21]
  rfl
theorem p22 (x : FVec Ideal S512x256 .f32) (b : IVec S512x256 1) (c : FVec Ideal S512x256 .f32) (t : Fin 512) (n : Fin 256) :
    k0_pay22 x b c (ix2 t n) = l1 (k0_pay20 x b c (ix2 t n)) := by
  unfold l1
  rw [← p21]
  pointwise [k0_pay22, log2e_at]
theorem p23 (r : IVec S512x256 32) (g a : BitVec 32) (x : FVec Ideal S512x256 .f32) (t : Fin 512) (n : Fin 256) :
    k0_pay23 r g a x (ix2 t n)
      = if IntOp.cmpi .sgt (r (ix2 t n)) (a * 256#32 - g * 512#32) = 1#1 then x (ix2 t n) * ((w * (Real.log 2)⁻¹ : ℝ) : EReal) else ⊥ := by
  pointwise [k0_pay23, logit_at, mask_at]
  rfl
theorem p24 (r : IVec S512x256 32) (g a : BitVec 32) (x : FVec Ideal S512x256 .f32) (t : Fin 512) (n : Fin 256) :
    k0_pay24 r g a x (ix2 t n) = ee (k0_pay23 r g a x (ix2 t n)) := by
  unfold ee
  pointwise [k0_pay24]
  rfl
theorem p25 (r : IVec S512x256 32) (g a : BitVec 32) (x : FVec Ideal S512x256 .f32) (t : Fin 512) (n : Fin 256) :
    k0_pay25 r g a x (ix2 t n) = l1 (k0_pay23 r g a x (ix2 t n)) := by
  unfold l1
  rw [← p24]
  pointwise [k0_pay25, log2e_at]
theorem p26 (x : FVec Ideal S512x256 .f32) (b : IVec S512x256 1) (c : FVec Ideal S512x256 .f32) (t : Fin 512) (n : Fin 256) :
    k0_pay26 x b c (ix2 t n) = k0_pay22 x b c (ix2 t n) := by
  pointwise [k0_pay26]
theorem p27 (x : FVec Ideal S512x256 .f32) (b : IVec S512x256 1) (c : FVec Ideal S512x256 .f32) (t : Fin 512) (n : Fin 256) :
    k0_pay27 x b c (ix2 t n) = k0_pay22 x b c (ix2 t n) - k0_pay22 x b c (ix2 t n) := by
  pointwise [k0_pay27, k0_pay26]
theorem p28 (u : FVec Ideal S256x256 .bf16) (s pre : FVec Ideal S512x1 .f32) (T l : FVec Ideal S512x256 .f32)
    (hi lo : FVec Ideal S512x256 .bf16) (t : Fin 512) (n : Fin 256) :
    k0_pay28 u s pre T l hi lo (constant S512x256 .f32 0x00000000#32) (ix2 t n)
      = Ideal.exp2 ((T (ix2 t n) + l (ix2 t n)) + (s (ix2 t 0) -
          ((∑ k, hi (ix2 t k) * u (ix2 k n) + ∑ k, lo (ix2 t k) * u (ix2 k n)) + pre (ix2 t 0)))) := by
  pointwise [k0_pay28]
  rfl
theorem p31 (u : FVec Ideal S256x256 .bf16) (s pre : FVec Ideal S512x1 .f32) (l0 T l : FVec Ideal S512x256 .f32)
    (t : Fin 512) (n : Fin 256) :
    k0_pay31 u s pre l0 T l (ix2 t n)
      = Ideal.exp2 ((T (ix2 t n) + l (ix2 t n)) + (s (ix2 t 0) -
          ((∑ k, l (ix2 t k) * u (ix2 k n) + ∑ k, (l (ix2 t k) - l (ix2 t k)) * u (ix2 k n))
            + k0_pay30 pre l0 (ix2 t 0)))) := by
  pointwise [k0_pay31]
  rfl
theorem p29 (u : FVec Ideal S256x256 .bf16) (s pre : FVec Ideal S512x1 .f32) (b T l : FVec Ideal S512x256 .f32)
    (hi lo : FVec Ideal S512x256 .bf16) (z : FVec Ideal S512x256 .f32) (t : Fin 512) (n : Fin 256) :
    k0_pay29 u s pre b T l hi lo z (ix2 t n) = k0_pay28 u s pre T l hi lo z (ix2 t n) * b (ix2 t n) := by
  pointwise [k0_pay29]
theorem p32 (u : FVec Ideal S256x256 .bf16) (s pre : FVec Ideal S512x1 .f32) (b l0 T l : FVec Ideal S512x256 .f32)
    (t : Fin 512) (n : Fin 256) :
    k0_pay32 u s pre b l0 T l (ix2 t n) = k0_pay31 u s pre l0 T l (ix2 t n) * b (ix2 t n) := by
  pointwise [k0_pay32]
theorem p30 (pre : FVec Ideal S512x1 .f32) (l : FVec Ideal S512x256 .f32) (t : Fin 512) :
    k0_pay30 pre l (ix2 t 0) = pre (ix2 t 0) + ∑ n, l (ix2 t n) := by
  pointwise [k0_pay30]
theorem p33 (pre : FVec Ideal S512x1 .f32) (l0 l : FVec Ideal S512x256 .f32) (t : Fin 512) :
    k0_pay33 pre l0 l (ix2 t 0) = k0_pay30 pre l0 (ix2 t 0) + ∑ n, l (ix2 t n) := by
  pointwise [k0_pay33]
theorem p34 (u u' : FVec Ideal S256x256 .bf16) (s pre : FVec Ideal S512x1 .f32) (b l0 T l : FVec Ideal S512x256 .f32)
    (t : Fin 512) (n : Fin 256) :
    k0_pay34 u u' s pre b l0 T l (ix2 t n)
      = ∑ k, k0_pay32 u s pre b l0 T l (ix2 t k) * u' (ix2 k n)
        + ∑ k, (k0_pay32 u s pre b l0 T l (ix2 t k) - k0_pay32 u s pre b l0 T l (ix2 t k)) * u' (ix2 k n) := by
  pointwise [k0_pay34]
theorem p35 (u u' : FVec Ideal S256x256 .bf16) (s pre preG : FVec Ideal S512x1 .f32) (b T l : FVec Ideal S512x256 .f32)
    (hi lo : FVec Ideal S512x256 .bf16) (z : FVec Ideal S512x256 .f32) (t : Fin 512) (n : Fin 256) :
    k0_pay35 u u' s pre preG b T l hi lo z (ix2 t n)
      = (∑ k, k0_pay29 u s pre b T l hi lo z (ix2 t k) * u' (ix2 k n)
        + ∑ k, (k0_pay29 u s pre b T l hi lo z (ix2 t k) - k0_pay29 u s pre b T l hi lo z (ix2 t k)) * u' (ix2 k n))
        + preG (ix2 t 0) := by
  pointwise [k0_pay35]
theorem p36 (u : FVec Ideal S256x256 .bf16) (s pre : FVec Ideal S512x1 .f32) (b T l : FVec Ideal S512x256 .f32)
    (hi lo : FVec Ideal S512x256 .bf16) (z : FVec Ideal S512x256 .f32) (t : Fin 512) :
    k0_pay36 u s pre b T l hi lo z (ix2 t 0) = ∑ n, k0_pay29 u s pre b T l hi lo z (ix2 t n) := by
  pointwise [k0_pay36]
theorem p37 (preG s : FVec Ideal S512x1 .f32) (t : Fin 512) : k0_pay37 preG s (ix2 t 0) = preG (ix2 t 0) + s (ix2 t 0) := by
  pointwise [k0_pay37]
theorem p39 (preG s : FVec Ideal S512x1 .f32) (g : FVec Ideal S512x256 .f32) (t : Fin 512) :
    k0_pay39 preG g s (ix2 t 0) = (preG (ix2 t 0) + s (ix2 t 0)) + ∑ n, g (ix2 t n) := by
  pointwise [k0_pay39, k0_pay37]
theorem p38 (T e g G : FVec Ideal S512x256 .f32) (t : Fin 512) (n : Fin 256) (he : e (ix2 t n) = ee (T (ix2 t n))) :
    k0_pay38 T e g G (ix2 t n)
      = (g (ix2 t n) - sl (T (ix2 t n)) * (g (ix2 t n) + G (ix2 t n))) * ((w : ℝ) : EReal) := by
  unfold sl
  rw [← he, ← word_w]
  pointwise [k0_pay38]
theorem p40 (preG s : FVec Ideal S512x1 .f32) (T e g G : FVec Ideal S512x256 .f32) (t : Fin 512) (n : Fin 256)
    (he : e (ix2 t n) = ee (T (ix2 t n))) :
    k0_pay40 preG T e g G s (ix2 t n)
      = (g (ix2 t n) - sl (T (ix2 t n)) * (g (ix2 t n) + (G (ix2 t n) + (preG (ix2 t 0) + s (ix2 t 0))))) * ((w : ℝ) : EReal) := by
  unfold sl
  rw [← he, ← word_w]
  pointwise [k0_pay40, k0_pay37]
theorem p41 (q : FVec Ideal S512x128 .f32) (preG s : FVec Ideal S512x1 .f32) (ka kb : FVec Ideal S256x128 .bf16)
    (Ta ea Tb eb ga gb Gb Ga : FVec Ideal S512x256 .f32) (t : Fin 512) (d : Fin 128) :
    k0_pay41 q preG ka kb Ta ea Tb eb ga gb Gb Ga s (ix2 t d)
      = (q (ix2 t d) + ∑ n, k0_pay38 Ta ea ga Ga (ix2 t n) * ka (ix2 n d))
        + ∑ n, k0_pay40 preG Tb eb gb Gb s (ix2 t n) * kb (ix2 n d) := by
  pointwise [k0_pay41]
theorem p42 (q : FVec Ideal S512x128 .bf16) (T e g G : FVec Ideal S512x256 .f32) (a : Vec Ideal S256x128 .f32)
    (n : Fin 256) (d : Fin 128) :
    k0_pay42 q T e g G a (ix2 n d) = a (ix2 n d) + ∑ t, k0_pay38 T e g G (ix2 t n) * q (ix2 t d) := by
  pointwise [k0_pay42]
theorem p78 (D : Vec Ideal S512x128 .bf16) (A : FVec Ideal S512x256 .f32) (a : Vec Ideal S256x128 .f32)
    (n : Fin 256) (d : Fin 128) : k0_pay78 D A a (ix2 n d) = a (ix2 n d) + ∑ t, A (ix2 t n) * D (ix2 t d) := by
  pointwise [k0_pay78]
theorem p80 (D : Vec Ideal S512x128 .bf16) (A : FVec Ideal S512x256 .f32) (a : Vec Ideal S256x128 .f32)
    (n : Fin 256) (d : Fin 128) : k0_pay80 D A a (ix2 n d) = a (ix2 n d) + ∑ t, A (ix2 t n) * D (ix2 t d) := by
  pointwise [k0_pay80]
theorem p79 (q : Vec Ideal S1x1x512x128 .f32) (Z : FVec Ideal S512x256 .bf16) (a : Vec Ideal S256x128 .f32)
    (n : Fin 256) (d : Fin 128) : k0_pay79 q Z a (ix2 n d) = a (ix2 n d) + ∑ t, Z (ix2 t n) * q (ix4 0 0 t d) := by
  pointwise [k0_pay79, k0_pay74]
theorem p74 (q : Vec Ideal S1x1x512x128 .f32) (t : Fin 512) (d : Fin 128) : k0_pay74 q (ix2 t d) = q (ix4 0 0 t d) := by
  pointwise [k0_pay74]
theorem p75 (s : Vec Ideal S1x512x128 .f32) (t : Fin 512) : k0_pay75 s (ix2 t 0) = s (ix3 0 t 0) := by
  pointwise [k0_pay75]
theorem p76 (t : Fin 512) : k0_pay76 (F := Ideal) (ix2 t 0) = 0 := by pointwise [k0_pay76]
theorem p77 (t : Fin 512) (d : Fin 128) : k0_pay77 (F := Ideal) (ix2 t d) = 0 := by pointwise [k0_pay77]
theorem p84 (x : FVec Ideal S512x128 .f32) (t : Fin 512) (d : Fin 128) : k0_pay84 x (ix2 t d) = x (ix2 t d) := by
  pointwise [k0_pay84]
theorem one_bit (p : Prop) [Decidable p] :
    (FloatOps.sitofp FTy.f32 (BitVec.setWidth 32 (BitVec.ofBool (decide p))) : Ideal FTy.f32) = if p then (1 : EReal) else 0 := by
  show ((((BitVec.setWidth 32 (BitVec.ofBool (decide p))).toInt : ℤ) : ℝ) : EReal) = _
  by_cases h : p <;> simp [h]
theorem p85 (k n : Fin 256) : k0_pay85 (F := Ideal) (ix2 k n) = if k.val < n.val + 1 then (1 : EReal) else 0 := by
  pointwise [k0_pay85]
  rw [WordCmp.cmpi_sle_eq, WordCmp.toInt_ofNat_of_lt (by omega), WordCmp.toInt_ofNat_of_lt (by omega), one_bit]
  exact if_congr (by omega) rfl rfl
theorem p86 (k n : Fin 256) : k0_pay86 (F := Ideal) (ix2 k n) = if k.val < n.val then (1 : EReal) else 0 := by
  pointwise [k0_pay86]
  rw [WordCmp.cmpi_slt_eq, WordCmp.toInt_ofNat_of_lt (by omega), WordCmp.toInt_ofNat_of_lt (by omega), one_bit]
  exact if_congr (by omega) rfl rfl
theorem p87 (t : Fin 512) (n : Fin 256) : k0_pay87 (ix2 t n) = BitVec.ofNat 32 t.val - BitVec.ofNat 32 n.val := by
  pointwise [k0_pay87]
  rfl
theorem p93 (s : Fin 2048) (d : Fin 128) : k0_pay93 (F := Ideal) (ix2 s d) = 0 := by pointwise [k0_pay93]
theorem p94 (s : Fin 2048) (d : Fin 128) : k0_pay94 (F := Ideal) (ix2 s d) = 0 := by pointwise [k0_pay94]
theorem p1 (x : Vec Ideal S2048x128 .f32) (s : Fin 2048) (d : Fin 128) : k0_pay1 x (ix4 0 0 s d) = x (ix2 s d) := by
  pointwise [k0_pay1]
theorem p2 (x : Vec Ideal S2048x128 .f32) (s : Fin 2048) (d : Fin 128) : k0_pay2 x (ix4 0 0 s d) = x (ix2 s d) := by
  pointwise [k0_pay2]
theorem p95 (x : FVec Ideal S512x128 .bf16) (s : Fin 512) (d : Fin 128) : k0_pay95 x (ix4 0 0 s d) = x (ix2 s d) := by
  pointwise [k0_pay95]
theorem p89 (x : FVec Ideal S512x128 .f32) (s : Fin 512) (d : Fin 128) : k0_pay89 x (ix4 0 0 s d) = x (ix2 s d) := by
  pointwise [k0_pay89]
theorem p88 (d : Fin 128) : k0_pay88 (F := Ideal) (ix2 0 d) = 0 := by pointwise [k0_pay88]
theorem p91 (a : FVec Ideal S1x128 .f32) (x : FVec Ideal S512x128 .f32) (d : Fin 128) :
    k0_pay91 a x (ix2 0 d) = a (ix2 0 d) + ∑ t, x (ix2 t d) := by pointwise [k0_pay91]
theorem p92 (a : FVec Ideal S1x128 .f32) (d : Fin 128) : k0_pay92 a (ix3 0 0 d) = a (ix2 0 d) := by pointwise [k0_pay92]

end Cert.SbIdeal.Hand
-- ==== Proof.SbHead.lean ====
/- The head of the attention's backward call: the norm and the gate of every row, backward. -/
module

public import proofs.«01_k».proof.Proof.SbBlock
public import proofs.«01_k».proof.Proof.SbFrame
public import Idealize.ShloMosaic.Lib.WholeRead

@[expose] public section

set_option maxRecDepth 16384

noncomputable section

namespace Cert.SbMath

open Idealize.ShloMosaic Finset

/-- The float word of the norm's epsilon. -/
def eps : ℝ := 8796093 * (2 : ℝ) ^ (-43 : ℤ)

theorem word_eps : Ideal.ofBits FTy.f32 0x358637BD#32 = ((eps : ℝ) : EReal) := by
  unfold eps
  simp [Ideal.ofBits, Ideal.ieee, -EReal.coe_mul]
  try norm_num

/-- A row's mean square plus epsilon, and the reciprocal of its root. -/
def msq (O : Mat) (r : ℕ) : ℝ := (∑ d, O r d * O r d) * (1 / 128) + eps
@[inherit_doc msq]
def rn (O : Mat) (r : ℕ) : ℝ := (√(msq O r))⁻¹

theorem msq_pos (O : Mat) (r : ℕ) : 0 < msq O r := by
  unfold msq eps
  have : 0 ≤ ∑ d, O r d * O r d := Finset.sum_nonneg fun d _ => mul_self_nonneg _
  positivity

theorem rsqrt_coe {x : ℝ} (h : 0 < x) : Ideal.rsqrt (x : EReal) = (((√x)⁻¹ : ℝ) : EReal) := by
  rw [Ideal.rsqrt_coe, if_neg (not_lt.2 h.le), if_neg h.ne']

theorem rn_sq (O : Mat) (r : ℕ) : rn O r * rn O r = (msq O r)⁻¹ := by
  unfold rn
  rw [← mul_inv, Real.mul_self_sqrt (msq_pos O r).le]

/-- The gate, the gradient of what it multiplies, of the gate's argument, of the norm's input, and a row's part of the gain's. -/
def silu (Z : Mat) (r : ℕ) (d : Fin 128) : ℝ := Z r d * sg (Z r d)
@[inherit_doc silu]
def dgz (O Z Y : Mat) (g : Fin 128 → ℝ) (r : ℕ) (d : Fin 128) : ℝ :=
  Y r d * (O r d * rn O r * g d) * (sg (Z r d) * (1 + Z r d * (1 - sg (Z r d))))
@[inherit_doc silu]
def dgn (Z Y : Mat) (g : Fin 128 → ℝ) (r : ℕ) (d : Fin 128) : ℝ := Y r d * g d * silu Z r d
@[inherit_doc silu]
def dout (O Z Y : Mat) (g : Fin 128 → ℝ) (r : ℕ) (d : Fin 128) : ℝ :=
  rn O r * dgn Z Y g r d - O r d * (rn O r * rn O r * rn O r) * ((∑ e, dgn Z Y g r e * O r e) * (1 / 128))
@[inherit_doc silu]
def dgp (O Z Y : Mat) (r : ℕ) (d : Fin 128) : ℝ := Y r d * (O r d * rn O r) * silu Z r d

theorem exp_coe (x : ℝ) : Ideal.exp (x : EReal) = ((Real.exp x : ℝ) : EReal) := rfl

theorem sigm_coe (x : ℝ) : Ideal.div 1 (1 + Ideal.exp (0 - (x : EReal))) = ((sg x : ℝ) : EReal) := by
  rw [zero_sub_coe, exp_coe, one_coe, ← EReal.coe_add, Ideal.div_coe (exp_pos1 _).ne', ← EReal.coe_mul, one_mul]
  rfl

end Cert.SbMath

namespace Cert.SbIdeal.Hand

open Cert.SbIdeal Cert.SbIdeal.Gen Cert.SbMath Idealize.ShloMosaic Idealize.ShloMosaic.TcCoe Idealize.SL.Sem Finset

/-! ### Entry by entry -/

theorem p3 (v : Vec Ideal S1x512x128 .f32) (t : Fin 512) (d : Fin 128) : k0_pay3 v (ix2 t d) = v (ix3 0 t d) := by pointwise [k0_pay3]
theorem p4 (v : Vec Ideal S1x1x512x128 .f32) (t : Fin 512) (d : Fin 128) : k0_pay4 v (ix2 t d) = v (ix4 0 0 t d) := by pointwise [k0_pay4]
theorem p5 (v : Vec Ideal S1x1x512x128 .f32) (t : Fin 512) (d : Fin 128) : k0_pay5 v (ix2 t d) = v (ix4 0 0 t d) := by pointwise [k0_pay5]
theorem p6 (v : Vec Ideal S1x512x128 .f32) (t : Fin 512) : k0_pay6 v (ix2 t 0)
    = Ideal.rsqrt (Ideal.div (∑ d, k0_pay3 v (ix2 t d) * k0_pay3 v (ix2 t d)) (Ideal.ofBits FTy.f32 0x43000000#32) + Ideal.ofBits FTy.f32 0x358637BD#32) := by
  pointwise [k0_pay6]
theorem p7 (v : Vec Ideal S1x512x128 .f32) (t : Fin 512) (d : Fin 128) : k0_pay7 v (ix2 t d) = k0_pay3 v (ix2 t d) * k0_pay6 v (ix2 t 0) := by
  pointwise [k0_pay7]
theorem p8 (v : Vec Ideal S1x1x512x128 .f32) (t : Fin 512) (d : Fin 128) :
    k0_pay8 v (ix2 t d) = Ideal.div 1 (1 + Ideal.exp (0 - k0_pay4 v (ix2 t d))) := by
  rw [← word_one]
  pointwise [k0_pay8]
theorem p9 (v : Vec Ideal S1x1x512x128 .f32) (t : Fin 512) (d : Fin 128) : k0_pay9 v (ix2 t d) = k0_pay4 v (ix2 t d) * k0_pay8 v (ix2 t d) := by
  pointwise [k0_pay9]
theorem p10 (g : Vec Ideal S1x128 .f32) (o : Vec Ideal S1x512x128 .f32) (z y : Vec Ideal S1x1x512x128 .f32) (t : Fin 512) (d : Fin 128) :
    k0_pay10 g o z y (ix2 t d) = (k0_pay5 y (ix2 t d) * (k0_pay7 o (ix2 t d) * g (ix2 0 d)))
      * (k0_pay8 z (ix2 t d) * (1 + k0_pay4 z (ix2 t d) * (1 - k0_pay8 z (ix2 t d)))) := by
  rw [← word_one]
  pointwise [k0_pay10]
theorem p11 (o : Vec Ideal S1x512x128 .f32) (z y : Vec Ideal S1x1x512x128 .f32) (t : Fin 512) (d : Fin 128) :
    k0_pay11 o z y (ix2 t d) = k0_pay5 y (ix2 t d) * k0_pay7 o (ix2 t d) * k0_pay9 z (ix2 t d) := by
  pointwise [k0_pay11]
theorem p90 (g : Vec Ideal S1x128 .f32) (o y : FVec Ideal S512x128 .f32) (r : FVec Ideal S512x1 .f32) (s : FVec Ideal S512x128 .f32) (t : Fin 512) (d : Fin 128) :
    k0_pay90 g o y r s (ix2 t d) = r (ix2 t 0) * (y (ix2 t d) * g (ix2 0 d) * s (ix2 t d))
      - o (ix2 t d) * (r (ix2 t 0) * r (ix2 t 0) * r (ix2 t 0))
        * Ideal.div (∑ e, y (ix2 t e) * g (ix2 0 e) * s (ix2 t e) * o (ix2 t e)) (Ideal.ofBits FTy.f32 0x43000000#32) := by
  pointwise [k0_pay90]

/-! ### A block of rows -/

section block

variable {g : Vec Ideal S1x128 .f32} {o : Vec Ideal S1x512x128 .f32} {z y : Vec Ideal S1x1x512x128 .f32}
  {O Z Y : Mat} {G : Fin 128 → ℝ} {i : ℕ}
  (hg : ∀ d, g (ix2 0 d) = (G d : EReal)) (ho : ∀ (t : Fin 512) d, o (ix3 0 t d) = (O (512 * i + t.val) d : EReal))
  (hz : ∀ (t : Fin 512) d, z (ix4 0 0 t d) = (Z (512 * i + t.val) d : EReal)) (hy : ∀ (t : Fin 512) d, y (ix4 0 0 t d) = (Y (512 * i + t.val) d : EReal))

include ho in
theorem rinv_at (t : Fin 512) : k0_pay6 o (ix2 t 0) = (rn O (512 * i + t.val) : EReal) := by
  rw [p6, word_128, word_eps, Ideal.div_coe (by norm_num), Finset.sum_congr rfl (fun d _ => by rw [p3, ho, ← EReal.coe_mul]), ← Reals.coe_sum,
    ← EReal.coe_mul, ← EReal.coe_add]
  exact rsqrt_coe (msq_pos O _)

include hz in
theorem sig_at (t : Fin 512) (d : Fin 128) : k0_pay8 z (ix2 t d) = (sg (Z (512 * i + t.val) d) : EReal) := by
  rw [p8, p4, hz, sigm_coe]

include hz in
theorem silu_at (t : Fin 512) (d : Fin 128) : k0_pay9 z (ix2 t d) = (silu Z (512 * i + t.val) d : EReal) := by
  rw [p9, p4, hz, sig_at hz, ← EReal.coe_mul]; rfl

include ho in
theorem norm_at (t : Fin 512) (d : Fin 128) : k0_pay7 o (ix2 t d) = ((O (512 * i + t.val) d * rn O (512 * i + t.val) : ℝ) : EReal) := by
  rw [p7, p3, ho, rinv_at ho, ← EReal.coe_mul]

include hg ho hz hy in
theorem dz_at (t : Fin 512) (d : Fin 128) : k0_pay10 g o z y (ix2 t d) = (dgz O Z Y G (512 * i + t.val) d : EReal) := by
  rw [p10, p5, hy, norm_at ho, hg, sig_at hz, p4, hz, one_coe]
  simp only [← EReal.coe_mul, ← EReal.coe_sub, ← EReal.coe_add]
  rfl

include ho hz hy in
theorem dg_at (t : Fin 512) (d : Fin 128) : k0_pay11 o z y (ix2 t d) = (dgp O Z Y (512 * i + t.val) d : EReal) := by
  rw [p11, p5, hy, norm_at ho, silu_at hz]
  simp only [← EReal.coe_mul]
  rfl

include hg ho hz hy in
theorem do_at (t : Fin 512) (d : Fin 128) :
    k0_pay90 g (k0_pay3 o) (k0_pay5 y) (k0_pay6 o) (k0_pay9 z) (ix2 t d) = (dout O Z Y G (512 * i + t.val) d : EReal) := by
  rw [p90, word_128, Ideal.div_coe (by norm_num), rinv_at ho, p5, hy, hg, silu_at hz, p3, ho,
    Finset.sum_congr rfl (fun e _ => by rw [p5, hy, hg, silu_at hz, p3, ho, ← EReal.coe_mul, ← EReal.coe_mul, ← EReal.coe_mul]), ← Reals.coe_sum]
  simp only [← EReal.coe_mul, ← EReal.coe_sub, ← EReal.coe_add]
  rfl

end block

/-! ### The loop over the blocks -/

/-- A block of rows of the head's reads. -/
abbrev rows5 {F : FTy → Type} [FloatOps F] [Named F] (o : Ops) (b : Blk F) (k : Fin k0_t1_loop.trips) : Vec F S1x1x512x128 .f32 :=
  o.arg5.view.readAt (Elt F) (Rect.unit (s := S1x1x2048x128) (k0_off2 k) S1x1x512x128.size (k0_off2_inb k)).toLoadRect (o.harg5.unread b.zg)
@[inherit_doc rows5]
abbrev rows6 {F : FTy → Type} [FloatOps F] [Named F] (o : Ops) (b : Blk F) (k : Fin k0_t1_loop.trips) : Vec F S1x512x128 .f32 :=
  o.arg6.view.readAt (Elt F) (Rect.unit (s := S1x2048x128) (k0_off1 k) S1x512x128.size (k0_off1_inb k)).toLoadRect (o.harg6.unread b.o)
@[inherit_doc rows5]
abbrev rows8 {F : FTy → Type} [FloatOps F] [Named F] (o : Ops) (b : Blk F) (k : Fin k0_t1_loop.trips) : Vec F S1x1x512x128 .f32 :=
  o.arg8.view.readAt (Elt F) (Rect.unit (s := S1x1x2048x128) (k0_off2 k) S1x1x512x128.size (k0_off2_inb k)).toLoadRect (o.harg8.unread b.dy)
/-- The gain. -/
abbrev gain9 {F : FTy → Type} [FloatOps F] [Named F] (o : Ops) (b : Blk F) : Vec F S1x128 .f32 :=
  o.arg9.view.readAt (Elt F) (Rect.unit ![0, 0] S1x128.size inb_S1x128_S1x128_0_0).toLoadRect (o.harg9.unread b.g)

theorem trip1 {F : FTy → Type} [FloatOps F] [Named F] (c : Dev nD) (o : Ops) (b : Blk F) (k : Fin k0_t1_loop.trips) :
    st1 c o b (k.val + 1) = (k0_pay91 (st1 c o b k).1 (k0_pay11 (rows6 o b k) (rows5 o b k) (rows8 o b k)),
      ⟨Rect.unit (s := S4x1x2048x128) (k0_off4 k) S1x1x512x128.size (k0_off4_inb k), k0_pay89 (k0_pay10 (gain9 o b) (rows6 o b k) (rows5 o b k) (rows8 o b k))⟩ :: (st1 c o b k).2.1,
      ⟨Rect.unit (s := S2048x128) (k0_off3 k) S512x128.size (k0_off3_inb k), k0_pay90 (gain9 o b) (k0_pay3 (rows6 o b k)) (k0_pay5 (rows8 o b k)) (k0_pay6 (rows6 o b k)) (k0_pay9 (rows5 o b k))⟩ :: (st1 c o b k).2.2) := by
  unfold st1
  rw [st_k0_t1_succ]
  unfold tripR_k0_t1 tripL_k0_t1 trip_k0_t1
  rfl

theorem off1_eq : ∀ k : Fin k0_t1_loop.trips, k0_off1 k = ![0, 512 * k.val, 0] := by decide +kernel
theorem off2_eq : ∀ k : Fin k0_t1_loop.trips, k0_off2 k = ![0, 0, 512 * k.val, 0] := by decide +kernel

/-- The head's blocks are the rows `O`, `Z`, `Y` and the gain `G`. -/
structure Head (b : Blk Ideal) (O Z Y : Mat) (G : Fin 128 → ℝ) : Prop where
  o : ∀ (n : Fin 2048) d, b.o (ix3 0 n d) = (O n d : EReal)
  z : ∀ (n : Fin 2048) d, b.zg (ix4 0 0 n d) = (Z n d : EReal)
  y : ∀ (n : Fin 2048) d, b.dy (ix4 0 0 n d) = (Y n d : EReal)
  g : ∀ d, b.g (ix2 0 d) = (G d : EReal)

namespace Head

variable {c : Dev nD} {o : Ops} {b : Blk Ideal} {O Z Y : Mat} {G : Fin 128 → ℝ} (h : Head b O Z Y G)
include h

theorem k_lt (k : Fin k0_t1_loop.trips) (t : Fin 512) : 512 * k.val + t.val < 2048 := by
  have := k.isLt; have := trips1; omega

theorem r9 (d : Fin 128) : gain9 o b (ix2 0 d) = (G d : EReal) := by
  refine (Memref.IsWhole.readAt_unread o.harg9 _ _ _).trans (Eq.trans (congrArg b.g (funext fun a => Fin.ext ?_)) (h.g d))
  fin_cases a
  · rfl
  · show 0 + 1 * d.val = d.val; omega

theorem r6 (k : Fin k0_t1_loop.trips) (t : Fin 512) (d : Fin 128) : rows6 o b k (ix3 0 t d) = (O (512 * k.val + t.val) d : EReal) := by
  refine (Memref.IsWhole.readAt_unread o.harg6 _ _ _).trans (Eq.trans (congrArg b.o (funext fun a => Fin.ext ?_)) (h.o ⟨512 * k.val + t.val, h.k_lt k t⟩ d))
  refine (congrArg (· + _) (congrFun (off1_eq k) a)).trans ?_
  fin_cases a
  · rfl
  · show 512 * k.val + 1 * t.val = 512 * k.val + t.val; omega
  · show 0 + 1 * d.val = d.val; omega

theorem r5 (k : Fin k0_t1_loop.trips) (t : Fin 512) (d : Fin 128) : rows5 o b k (ix4 0 0 t d) = (Z (512 * k.val + t.val) d : EReal) := by
  refine (Memref.IsWhole.readAt_unread o.harg5 _ _ _).trans (Eq.trans (congrArg b.zg (funext fun a => Fin.ext ?_)) (h.z ⟨512 * k.val + t.val, h.k_lt k t⟩ d))
  refine (congrArg (· + _) (congrFun (off2_eq k) a)).trans ?_
  fin_cases a
  · rfl
  · rfl
  · show 512 * k.val + 1 * t.val = 512 * k.val + t.val; omega
  · show 0 + 1 * d.val = d.val; omega

theorem r8 (k : Fin k0_t1_loop.trips) (t : Fin 512) (d : Fin 128) : rows8 o b k (ix4 0 0 t d) = (Y (512 * k.val + t.val) d : EReal) := by
  refine (Memref.IsWhole.readAt_unread o.harg8 _ _ _).trans (Eq.trans (congrArg b.dy (funext fun a => Fin.ext ?_)) (h.y ⟨512 * k.val + t.val, h.k_lt k t⟩ d))
  refine (congrArg (· + _) (congrFun (off2_eq k) a)).trans ?_
  fin_cases a
  · rfl
  · rfl
  · show 512 * k.val + 1 * t.val = 512 * k.val + t.val; omega
  · show 0 + 1 * d.val = d.val; omega

/-- Before trip `n` the first `512 n` rows are written, and summed in the gain's gradient. -/
theorem loop (n : ℕ) (hn : n ≤ 4) :
    (∀ d, (st1 c o b n).1 (ix2 0 d) = ((∑ r ∈ range (512 * n), dgp O Z Y r d : ℝ) : EReal))
      ∧ (∀ (f : BufTy.Contents (Elt Ideal) o.arg11.view.ty) (s : Fin 2048) d, s.val < 512 * n →
          o.arg11.view.read (Elt Ideal) (o.arg11.view.writes (Elt Ideal) f (st1 c o b n).2.1) (ix4 3 0 s d) = (dgz O Z Y G s d : EReal))
      ∧ (∀ (f : BufTy.Contents (Elt Ideal) o.arg13.view.ty) (s : Fin 2048) d, s.val < 512 * n →
          o.arg13.view.read (Elt Ideal) (o.arg13.view.writes (Elt Ideal) f (st1 c o b n).2.2) (ix2 s d) = (dout O Z Y G s d : EReal)) := by
  induction n with
  | zero =>
    refine ⟨fun d => (p88 d).trans ?_, fun f s d hs => absurd hs (by omega), fun f s d hs => absurd hs (by omega)⟩
    rw [mul_zero, range_zero, sum_empty, EReal.coe_zero]
  | succ n ih =>
    obtain ⟨i0, i1, i2⟩ := ih (by omega)
    obtain ⟨k, rfl⟩ : ∃ k : Fin k0_t1_loop.trips, n = k.val := ⟨⟨n, by have := trips1; omega⟩, rfl⟩
    rw [trip1]
    refine ⟨fun d => ?_, fun f s d hs => ?_, fun f s d hs => ?_⟩
    · refine (p91 _ _ d).trans ?_
      rw [i0, Finset.sum_congr rfl (fun t _ => dg_at (h.r6 k) (h.r5 k) (h.r8 k) t d), ← Reals.coe_sum, ← EReal.coe_add,
        sum_whole (fun r => dgp O Z Y r d) (512 * k.val) 512, show 512 * k.val + 512 = 512 * (k.val + 1) by omega]
    · by_cases c1 : 512 * k.val ≤ s.val
      · have e : s.val = 512 * k.val + (s.val - 512 * k.val) := by omega
        refine (View.read_writes_cons_hit_of_coords _ _ (Rect.unit (s := S4x1x2048x128) (k0_off4 k) S1x1x512x128.size (k0_off4_inb k)) _ _
          (ix4 0 0 (⟨s.val - 512 * k.val, by omega⟩ : Fin 512) d) (ix4 3 0 s d) fun a => ?_).trans ((p89 _ _ d).trans ((dz_at h.r9 (h.r6 k) (h.r5 k) (h.r8 k) _ d).trans ?_))
        · refine Eq.trans ?_ (congrArg (· + _) (congrFun (off4_eq k) a)).symm
          fin_cases a
          · rfl
          · rfl
          · show s.val = 512 * k.val + 1 * (s.val - 512 * k.val); omega
          · show d.val = 0 + 1 * d.val; omega
        · simp only [← e]
      · refine (View.read_writes_cons_miss_of_axis _ _ _ _ _ (2 : Fin 4) (512 * k.val) 512 ?_ rfl rfl (Or.inl (by show s.val < _; omega))).trans (i1 f s d (by omega))
        exact congrFun (off4_eq k) 2
    · by_cases c1 : 512 * k.val ≤ s.val
      · have e : s.val = 512 * k.val + (s.val - 512 * k.val) := by omega
        refine (View.read_writes_cons_hit_of_coords _ _ (Rect.unit (s := S2048x128) (k0_off3 k) S512x128.size (k0_off3_inb k)) _ _
          (ix2 (⟨s.val - 512 * k.val, by omega⟩ : Fin 512) d) (ix2 s d) fun a => ?_).trans ((do_at h.r9 (h.r6 k) (h.r5 k) (h.r8 k) _ d).trans ?_)
        · refine Eq.trans ?_ (congrArg (· + _) (congrFun (off3_eq k) a)).symm
          fin_cases a
          · show s.val = 512 * k.val + 1 * (s.val - 512 * k.val); omega
          · show d.val = 0 + 1 * d.val; omega
        · simp only [← e]
      · refine (View.read_writes_cons_miss_of_axis _ _ _ _ _ (0 : Fin 2) (512 * k.val) 512 ?_ rfl rfl (Or.inl (by show s.val < _; omega))).trans (i2 f s d (by omega))
        exact congrFun (off3_eq k) 0

end Head

end Cert.SbIdeal.Hand
-- ==== Proof.SbTile.lean ====
/- One step of the attention's backward loop: two tiles of keys against a tile of queries. -/
module

public import proofs.«01_k».proof.Proof.SbBlock

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset

/-- What a step reads: the tile of queries and of the output's gradients, the total of its rows, two tiles of keys and
values, the first one's mask, the words of the second one's, and the sums over the keys before. -/
structure Step (F : FTy → Type) where
  q : FVec F S512x128 .bf16
  D : Vec F S512x128 .bf16
  s : FVec F S512x1 .f32
  k0 : Vec F S1x1x256x128 .f32
  k1 : Vec F S1x1x256x128 .f32
  v0 : Vec F S1x1x256x128 .f32
  v1 : Vec F S1x1x256x128 .f32
  M : IVec S512x256 1
  g : BitVec 32
  a : BitVec 32
  pre : FVec F S512x1 .f32
  preG : FVec F S512x1 .f32

namespace Step

variable {F : FTy → Type} [FloatOps F] [Named F] (x : Step F)

/-- The logits, their exponentials and the logarithms of one minus the gates, of both tiles. -/
abbrev T0 := k0_pay20 (k0_pay14 x.q x.k0) x.M (k0_pay19 (F := F))
@[inherit_doc T0]
abbrev E0 := k0_pay21 (k0_pay14 x.q x.k0) x.M (k0_pay19 (F := F))
@[inherit_doc T0]
abbrev L0 := k0_pay22 (k0_pay14 x.q x.k0) x.M (k0_pay19 (F := F))
@[inherit_doc T0]
abbrev T1 := k0_pay23 k0_pay87 x.g x.a (k0_pay15 x.q x.k1)
@[inherit_doc T0]
abbrev E1 := k0_pay24 k0_pay87 x.g x.a (k0_pay15 x.q x.k1)
@[inherit_doc T0]
abbrev L1 := k0_pay25 k0_pay87 x.g x.a (k0_pay15 x.q x.k1)
@[inherit_doc T0]
abbrev H0 := k0_pay26 (k0_pay14 x.q x.k0) x.M (k0_pay19 (F := F))
@[inherit_doc T0]
abbrev W0 := k0_pay27 (k0_pay14 x.q x.k0) x.M (k0_pay19 (F := F))
/-- The weights, and the weights times their gradients. -/
abbrev A0 := k0_pay28 k0_pay85 x.s x.pre x.T0 x.L0 x.H0 x.W0 (constant S512x256 .f32 0x00000000#32)
@[inherit_doc A0]
abbrev A1 := k0_pay31 k0_pay85 x.s x.pre x.L0 x.T1 x.L1
@[inherit_doc A0]
abbrev G0 := k0_pay29 k0_pay85 x.s x.pre (k0_pay16 x.D x.v0) x.T0 x.L0 x.H0 x.W0 (constant S512x256 .f32 0x00000000#32)
@[inherit_doc A0]
abbrev G1 := k0_pay32 k0_pay85 x.s x.pre (k0_pay17 x.D x.v1) x.L0 x.T1 x.L1
/-- Sums of the latter over the keys before. -/
abbrev P0 := k0_pay35 k0_pay85 k0_pay86 x.s x.pre x.preG (k0_pay16 x.D x.v0) x.T0 x.L0 x.H0 x.W0 (constant S512x256 .f32 0x00000000#32)
@[inherit_doc P0]
abbrev P1 := k0_pay34 k0_pay85 k0_pay86 x.s x.pre (k0_pay17 x.D x.v1) x.L0 x.T1 x.L1
@[inherit_doc P0]
abbrev S0 := k0_pay36 k0_pay85 x.s x.pre (k0_pay16 x.D x.v0) x.T0 x.L0 x.H0 x.W0 (constant S512x256 .f32 0x00000000#32)
/-- The gradients of the products of queries and keys. -/
abbrev Z0 := k0_pay38 x.T0 x.E0 x.G0 x.P0
@[inherit_doc Z0]
abbrev Z1 := k0_pay40 x.preG x.T1 x.E1 x.G1 x.P1 x.S0
/-- The sums over the keys, after the step. -/
abbrev pre' := k0_pay33 x.pre x.L0 x.L1
@[inherit_doc pre']
abbrev preG' := k0_pay39 x.preG x.G1 x.S0

end Step

/-- A row of the tile of queries, among all. -/
abbrev rw_ (i : ℕ) (t : Fin 512) : ℕ := 512 * i + t.val

/-- The step's reads are what the tile of queries `i` and the tiles of keys `a` and `a + 1` should be. -/
structure Good (x : Step Ideal) (Q K V D : Mat) (i a : ℕ) : Prop where
  hi : i < 4
  ha : a + 1 < 8
  fq : ∀ t d, x.q (ix2 t d) = (Q (rw_ i t) d : EReal)
  fD : ∀ t d, x.D (ix2 t d) = (D (rw_ i t) d : EReal)
  fs : ∀ t, x.s (ix2 t 0) = (((∑ j ∈ range 2048, ll Q K (rw_ i t) j) * (Real.log 2)⁻¹ : ℝ) : EReal)
  fk : ∀ n d, x.k0 (ix4 0 0 n d) = (K (256 * a + n.val) d : EReal)
  fk' : ∀ n d, x.k1 (ix4 0 0 n d) = (K (256 * (a + 1) + n.val) d : EReal)
  fv : ∀ n d, x.v0 (ix4 0 0 n d) = (V (256 * a + n.val) d : EReal)
  fv' : ∀ n d, x.v1 (ix4 0 0 n d) = (V (256 * (a + 1) + n.val) d : EReal)
  fM : ∀ t n, x.M (ix2 t n) = BitVec.ofBool (decide (256 * a + n.val < rw_ i t))
  fg : x.g = BitVec.ofNat 32 i
  fa : x.a = BitVec.ofNat 32 (a + 1)
  fp : ∀ t, x.pre (ix2 t 0) = (((∑ j ∈ range (256 * a), ll Q K (rw_ i t) j) * (Real.log 2)⁻¹ : ℝ) : EReal)
  fpG : ∀ t, x.preG (ix2 t 0) = ((∑ j ∈ range (256 * a), gg Q K V D (rw_ i t) j : ℝ) : EReal)

theorem dot_coe (f g : Fin 128 → EReal) (A B : Mat) (r s : ℕ) (hf : ∀ d, f d = (A r d : EReal)) (hg : ∀ d, g d = (B s d : EReal)) :
    ∑ d, f d * g d = ((dot A B r s : ℝ) : EReal) := by
  unfold dot
  rw [Reals.coe_sum]
  exact Finset.sum_congr rfl fun d _ => by rw [hf, hg, EReal.coe_mul]

theorem logit_coe (x : ℝ) : (x : EReal) * ((w * (Real.log 2)⁻¹ : ℝ) : EReal) = ((x * w * (Real.log 2)⁻¹ : ℝ) : EReal) := by
  rw [← EReal.coe_mul, mul_assoc]

/-- The running sum of a row: the entries of the tile up to one, split in a rounded part and the rest, after the sum before. -/
theorem row_incl (x : Fin 256 → EReal) (f : ℕ → ℝ) (C : ℕ) (p : EReal) (hx : ∀ k, x k = (f (C + k.val) : EReal))
    (hp : p = ((∑ j ∈ range C, f j : ℝ) : EReal)) (m : ℕ) (hm : m ≤ 256) :
    (∑ k, x k * (if k.val < m then (1 : EReal) else 0) + ∑ k, (x k - x k) * (if k.val < m then (1 : EReal) else 0)) + p
      = ((∑ j ∈ range (C + m), f j : ℝ) : EReal) := by
  have h2 : ∑ k : Fin 256, (x k - x k) * (if k.val < m then (1 : EReal) else 0) = ((0 : ℝ) : EReal) := by
    rw [Finset.sum_congr rfl (g := fun _ => (0 : EReal)), Finset.sum_const_zero]
    · rfl
    · intro k _
      rw [hx, sub_self_coe, EReal.coe_zero, zero_mul]
  rw [h2, EReal.coe_zero, add_zero, hp, Finset.sum_congr rfl (fun k _ => by rw [hx]), tri (fun k : Fin 256 => f (C + k.val)),
    ← EReal.coe_add, sum_block f C m hm]

theorem row_whole (x : Fin 256 → EReal) (f : ℕ → ℝ) (C : ℕ) (p : EReal) (hx : ∀ k, x k = (f (C + k.val) : EReal))
    (hp : p = ((∑ j ∈ range C, f j : ℝ) : EReal)) : p + ∑ k, x k = ((∑ j ∈ range (C + 256), f j : ℝ) : EReal) := by
  rw [hp, Finset.sum_congr rfl (fun k _ => hx k), ← Reals.coe_sum, ← EReal.coe_add, sum_whole f C 256]

variable {x : Step Ideal} {Q K V D : Mat} {i a : ℕ}

namespace Good

variable (h : Good x Q K V D i a)
include h

theorem t0 (t : Fin 512) (n : Fin 256) :
    x.T0 (ix2 t n) = lg (256 * a + n.val < rw_ i t) (zz Q K (rw_ i t) (256 * a + n.val)) := by
  unfold Step.T0 lg zz
  rw [p20, p14, h.fM, dot_coe _ _ Q K (rw_ i t) (256 * a + n.val) (h.fq t) (h.fk n), logit_coe]
  by_cases c : 256 * a + n.val < rw_ i t <;> simp [c]

theorem t1 (t : Fin 512) (n : Fin 256) :
    x.T1 (ix2 t n) = lg (256 * (a + 1) + n.val < rw_ i t) (zz Q K (rw_ i t) (256 * (a + 1) + n.val)) := by
  unfold Step.T1 lg zz
  rw [p23, p15, p87, h.fg, h.fa, mask_word h.ha h.hi t.isLt n.isLt,
    dot_coe _ _ Q K (rw_ i t) (256 * (a + 1) + n.val) (h.fq t) (h.fk' n), logit_coe]
  by_cases c : 256 * (a + 1) + n.val < 512 * i + t.val <;> simp [c]

theorem l0 (t : Fin 512) (n : Fin 256) :
    x.L0 (ix2 t n) = ((ll Q K (rw_ i t) (256 * a + n.val) * (Real.log 2)⁻¹ : ℝ) : EReal) := by
  unfold Step.L0
  rw [p22]
  exact (congrArg l1 (h.t0 t n)).trans (l1_lg _ _)

theorem l1' (t : Fin 512) (n : Fin 256) :
    x.L1 (ix2 t n) = ((ll Q K (rw_ i t) (256 * (a + 1) + n.val) * (Real.log 2)⁻¹ : ℝ) : EReal) := by
  unfold Step.L1
  rw [p25]
  exact (congrArg l1 (h.t1 t n)).trans (l1_lg _ _)

theorem pre_mid (t : Fin 512) :
    k0_pay30 x.pre x.L0 (ix2 t 0) = ((∑ j ∈ range (256 * (a + 1)), ll Q K (rw_ i t) j * (Real.log 2)⁻¹ : ℝ) : EReal) := by
  rw [p30, row_whole (fun n => x.L0 (ix2 t n)) (fun j => ll Q K (rw_ i t) j * (Real.log 2)⁻¹) (256 * a) _ (h.l0 t)
    ((h.fp t).trans (by rw [Finset.sum_mul]))]
  rfl

theorem a0 (t : Fin 512) (n : Fin 256) : x.A0 (ix2 t n) = (aa Q K (rw_ i t) (256 * a + n.val) : EReal) := by
  unfold Step.A0
  simp only [p28, p26, p27, p85]
  rw [row_incl (fun k => k0_pay22 (k0_pay14 x.q x.k0) x.M k0_pay19 (ix2 t k)) (fun j => ll Q K (rw_ i t) j * (Real.log 2)⁻¹) (256 * a) _
    (h.l0 t) ((h.fp t).trans (by rw [Finset.sum_mul])) (n.val + 1) (by omega), h.fs, ← Finset.sum_mul, h.t0, h.l0]
  exact wt_lg _ _ _ _ _ (fun c => if_pos c)

theorem a1 (t : Fin 512) (n : Fin 256) : x.A1 (ix2 t n) = (aa Q K (rw_ i t) (256 * (a + 1) + n.val) : EReal) := by
  unfold Step.A1
  simp only [p31, p85]
  rw [row_incl (fun k => x.L1 (ix2 t k)) (fun j => ll Q K (rw_ i t) j * (Real.log 2)⁻¹) (256 * (a + 1)) _
    (h.l1' t) (h.pre_mid t) (n.val + 1) (by omega), h.fs, ← Finset.sum_mul, h.t1, h.l1']
  exact wt_lg _ _ _ _ _ (fun c => if_pos c)

theorem g0 (t : Fin 512) (n : Fin 256) : x.G0 (ix2 t n) = (gg Q K V D (rw_ i t) (256 * a + n.val) : EReal) := by
  unfold Step.G0
  rw [p29, show k0_pay28 _ _ _ _ _ _ _ _ (ix2 t n) = _ from h.a0 t n, p16,
    dot_coe _ _ D V (rw_ i t) (256 * a + n.val) (h.fD t) (h.fv n), ← EReal.coe_mul]
  rfl

theorem g1 (t : Fin 512) (n : Fin 256) : x.G1 (ix2 t n) = (gg Q K V D (rw_ i t) (256 * (a + 1) + n.val) : EReal) := by
  unfold Step.G1
  rw [p32, show k0_pay31 _ _ _ _ _ _ (ix2 t n) = _ from h.a1 t n, p17,
    dot_coe _ _ D V (rw_ i t) (256 * (a + 1) + n.val) (h.fD t) (h.fv' n), ← EReal.coe_mul]
  rfl

theorem pre_out (t : Fin 512) :
    x.pre' (ix2 t 0) = (((∑ j ∈ range (256 * (a + 2)), ll Q K (rw_ i t) j) * (Real.log 2)⁻¹ : ℝ) : EReal) := by
  unfold Step.pre'
  rw [p33, row_whole (fun n => x.L1 (ix2 t n)) (fun j => ll Q K (rw_ i t) j * (Real.log 2)⁻¹) (256 * (a + 1)) _ (h.l1' t)
    (h.pre_mid t), Finset.sum_mul]
  rfl

theorem gmid (t : Fin 512) :
    x.preG (ix2 t 0) + x.S0 (ix2 t 0) = ((∑ j ∈ range (256 * (a + 1)), gg Q K V D (rw_ i t) j : ℝ) : EReal) := by
  unfold Step.S0
  rw [p36, row_whole (fun n => x.G0 (ix2 t n)) (fun j => gg Q K V D (rw_ i t) j) (256 * a) _ (h.g0 t) (h.fpG t)]
  rfl

theorem preG_out (t : Fin 512) :
    x.preG' (ix2 t 0) = ((∑ j ∈ range (256 * (a + 2)), gg Q K V D (rw_ i t) j : ℝ) : EReal) := by
  unfold Step.preG'
  rw [p39, row_whole (fun n => x.G1 (ix2 t n)) (fun j => gg Q K V D (rw_ i t) j) (256 * (a + 1)) _ (h.g1 t) (h.gmid t)]
  rfl

theorem g0_before (t : Fin 512) (n : Fin 256) :
    x.P0 (ix2 t n) = ((∑ j ∈ range (256 * a + n.val), gg Q K V D (rw_ i t) j : ℝ) : EReal) := by
  unfold Step.P0
  simp only [p35, p86]
  exact row_incl (fun k => x.G0 (ix2 t k)) (fun j => gg Q K V D (rw_ i t) j) (256 * a) _ (h.g0 t) (h.fpG t) n.val (by omega)

theorem g1_before (t : Fin 512) (n : Fin 256) :
    x.P1 (ix2 t n) + (x.preG (ix2 t 0) + x.S0 (ix2 t 0))
      = ((∑ j ∈ range (256 * (a + 1) + n.val), gg Q K V D (rw_ i t) j : ℝ) : EReal) := by
  rw [show x.P1 (ix2 t n) = _ from p34 _ _ _ _ _ _ _ _ t n]
  simp only [p86]
  exact row_incl (fun k => x.G1 (ix2 t k)) (fun j => gg Q K V D (rw_ i t) j) (256 * (a + 1)) _ (h.g1 t) (h.gmid t) n.val (by omega)

theorem z0 (t : Fin 512) (n : Fin 256) : x.Z0 (ix2 t n) = (dz Q K V D (rw_ i t) (256 * a + n.val) : EReal) := by
  rw [show x.Z0 (ix2 t n) = _ from p38 _ _ _ _ t n (p21 _ _ _ t n), h.t0, h.g0, h.g0_before, dz_lg]
  unfold dz gg aa
  by_cases c : 256 * a + n.val < rw_ i t <;> simp [c]

theorem z1 (t : Fin 512) (n : Fin 256) : x.Z1 (ix2 t n) = (dz Q K V D (rw_ i t) (256 * (a + 1) + n.val) : EReal) := by
  rw [show x.Z1 (ix2 t n) = _ from p40 _ _ _ _ _ _ t n (p24 _ _ _ _ t n), h.t1, h.g1, h.g1_before, dz_lg]
  unfold dz gg aa
  by_cases c : 256 * (a + 1) + n.val < rw_ i t <;> simp [c]

end Good

end Cert.SbIdeal.Hand
-- ==== Proof.SbTrip.lean ====
/- The inner loop's trip of the attention's backward call, by what it yields and stores. -/
module

public import proofs.«01_k».proof.Proof.SbTile
public import proofs.«01_k».proof.Proof.SbFrame

@[expose] public section

set_option maxRecDepth 16384

noncomputable section

namespace Cert.SbIdeal.Hand

open Cert.SbIdeal Cert.SbIdeal.Gen Cert.SbMath Idealize.ShloMosaic Idealize.ShloMosaic.TcCoe Idealize.SL.Sem

variable {F : FTy → Type} [FloatOps F] [Named F]

/-- What the inner loop runs at: the operands, the tile of queries, of the output's gradients and of the totals, the
outer loop's trip, the word of trips read, and the keys' and the values' buffers. -/
structure Inner (F : FTy → Type) where
  c : Dev nD
  o : Ops
  k : Fin k0_t2_loop.trips
  v42 : Vec F S1x1x512x128 .f32
  v46 : Vec F S512x128 .bf16
  v48 : Vec F S1x512x128 .f32
  v54 : BitVec 32
  x3 : BufTy.Contents (Elt F) o.arg3.view.ty
  x4 : BufTy.Contents (Elt F) o.arg4.view.ty

namespace Inner

/-- The two tiles of rows of a step, among the rows of the keys' and values' blocks, and of the running sums. -/
abbrev off (r : Inner F) (j : Fin (k0_t3_loop r.k r.v54).trips) (n : Fin 2) : Rect S1x1x2048x128 :=
  Rect.unit (s := S1x1x2048x128) (k0_off9 r.k r.v54 j (BitVec.ofNat 32 n.val)) S1x1x256x128.size (k0_off9_inb r.k r.v54 (chk_all _ _) j n)
@[inherit_doc off]
abbrev row (r : Inner F) (j : Fin (k0_t3_loop r.k r.v54).trips) (n : Fin 2) : Rect S2048x128 :=
  Rect.unit (s := S2048x128) (k0_off10 r.k r.v54 j (BitVec.ofNat 32 n.val)) S256x128.size (k0_off10_inb r.k r.v54 (chk_all _ _) j n)

/-- The word of a step. -/
abbrev word (r : Inner F) (j : Fin (k0_t3_loop r.k r.v54).trips) : BitVec 32 := Scalar.muli (Scf.iv 0#32 1#32 j) 2#32

/-- The step's reads. -/
abbrev step (r : Inner F) (j : Fin (k0_t3_loop r.k r.v54).trips) (acc : FVec F S512x128 .f32 × FVec F S512x1 .f32 × FVec F S512x1 .f32) : Step F :=
  ⟨k0_pay74 r.v42, r.v46, k0_pay75 r.v48,
    r.o.arg3.view.readAt (Elt F) (r.off j 0).toLoadRect r.x3, r.o.arg3.view.readAt (Elt F) (r.off j 1).toLoadRect r.x3,
    r.o.arg4.view.readAt (Elt F) (r.off j 0).toLoadRect r.x4, r.o.arg4.view.readAt (Elt F) (r.off j 1).toLoadRect r.x4,
    k0_pay18 k0_pay87 r.k (Scf.iv 0#32 1#32 r.k) r.v54 0#32 1#32 j, Scf.iv 0#32 1#32 r.k, Scalar.addi (r.word j) 1#32, acc.2.1, acc.2.2⟩

/-- The rows of the keys' gradients a step stores, the first tile and the second. -/
abbrev dk0 (r : Inner F) (j : Fin (k0_t3_loop r.k r.v54).trips) (x : Step F) (f14 : C14 F r.o) : Vec F S256x128 .f32 :=
  k0_pay42 x.q x.T0 x.E0 x.G0 x.P0 (r.o.arg14.view.readAt (Elt F) (r.row j 0).toLoadRect f14)
@[inherit_doc dk0]
abbrev dk1 (r : Inner F) (j : Fin (k0_t3_loop r.k r.v54).trips) (x : Step F) (f14 : C14 F r.o) : Vec F S256x128 .f32 :=
  k0_pay79 r.v42 x.Z1 (r.o.arg14.view.readAt (Elt F) (r.row j 1).toLoadRect
    (r.o.arg14.view.writes (Elt F) f14 [⟨r.row j 0, r.dk0 j x f14⟩]))
/-- The rows of the values' gradients. -/
abbrev dv0 (r : Inner F) (j : Fin (k0_t3_loop r.k r.v54).trips) (x : Step F) (f15 : C15 F r.o) : Vec F S256x128 .f32 :=
  k0_pay78 x.D x.A0 (r.o.arg15.view.readAt (Elt F) (r.row j 0).toLoadRect f15)
@[inherit_doc dv0]
abbrev dv1 (r : Inner F) (j : Fin (k0_t3_loop r.k r.v54).trips) (x : Step F) (f15 : C15 F r.o) : Vec F S256x128 .f32 :=
  k0_pay80 x.D x.A1 (r.o.arg15.view.readAt (Elt F) (r.row j 1).toLoadRect
    (r.o.arg15.view.writes (Elt F) f15 [⟨r.row j 0, r.dv0 j x f15⟩]))

/-- The inner loop's state before its trip `n`. -/
abbrev st3 (r : Inner F) (f14 : C14 F r.o) (f15 : C15 F r.o) (n : ℕ) :
    (FVec F S512x128 .f32 × FVec F S512x1 .f32 × FVec F S512x1 .f32) × List (View.Piece (Elt F) S2048x128 .f32) × List (View.Piece (Elt F) S2048x128 .f32) :=
  st_k0_t3 (F := F) Variants.none r.c none r.o.i r.o.arg2 r.o.harg2 r.o.arg3 r.o.harg3 r.o.arg4 r.o.harg4 r.o.arg5 r.o.harg5 r.o.arg6 r.o.harg6
    r.o.arg7 r.o.harg7 r.o.arg8 r.o.harg8 r.o.arg9 r.o.harg9 r.o.arg10 r.o.harg10 r.o.arg11 r.o.harg11 r.o.arg12 r.o.harg12 r.o.arg13 r.o.harg13
    r.o.arg14 r.o.harg14 r.o.arg15 r.o.harg15 k0_pay85 k0_pay86 k0_pay87 0#32 1#32 r.k (Scf.iv 0#32 1#32 r.k) r.v42 r.v46 r.v48 r.v54 (chk_all _ _)
    0#32 r.x3 r.x4 f14 f15 (k0_pay77, k0_pay76, k0_pay76) n

set_option maxHeartbeats 4000000 in
theorem st3_succ (r : Inner F) (f14 : C14 F r.o) (f15 : C15 F r.o) (j : Fin (k0_t3_loop r.k r.v54).trips)
    (acc : FVec F S512x128 .f32 × FVec F S512x1 .f32 × FVec F S512x1 .f32) (L14 L15 : List (View.Piece (Elt F) S2048x128 .f32))
    (e : r.st3 f14 f15 j.val = (acc, L14, L15)) (x : Step F) (hx : x = r.step j acc) (h14 : C14 F r.o) (h15 : C15 F r.o)
    (e14 : h14 = r.o.arg14.view.writes (Elt F) f14 L14) (e15 : h15 = r.o.arg15.view.writes (Elt F) f15 L15) :
    r.st3 f14 f15 (j.val + 1)
      = ((k0_pay41 acc.1 x.preG (k0_pay12 x.k0) (k0_pay13 x.k1) x.T0 x.E0 x.T1 x.E1 x.G0 x.G1 x.P1 x.P0 x.S0, x.pre', x.preG'),
        [⟨r.row j 1, r.dk1 j x h14⟩, ⟨r.row j 0, r.dk0 j x h14⟩] ++ L14, [⟨r.row j 1, r.dv1 j x h15⟩, ⟨r.row j 0, r.dv0 j x h15⟩] ++ L15) := by
  subst hx e14 e15
  unfold st3 at e ⊢
  rw [st_k0_t3_succ, e]
  unfold tripR_k0_t3 tripL_k0_t3 trip_k0_t3
  rfl

end Inner

end Cert.SbIdeal.Hand
-- ==== Proof.SbInner.lean ====
/- The inner loop of the attention's backward call, in the reals: the queries' gradients it yields, and the keys' and the
values' gradients it adds to. -/
module

public import proofs.«01_k».proof.Proof.SbTrip

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset

/-! ### Offsets and numbers of trips, where the word read is the diagonal's -/

theorem off9_eq : ∀ (k : Fin k0_t2_loop.trips) (j : Fin (k0_t3_loop k (BitVec.ofNat 32 (k.val + 1))).trips) (n : Fin 2),
    k0_off9 k (BitVec.ofNat 32 (k.val + 1)) j (BitVec.ofNat 32 n.val) = ![0, 0, 512 * j.val + 256 * n.val, 0] := by decide +kernel
theorem off10_eq : ∀ (k : Fin k0_t2_loop.trips) (j : Fin (k0_t3_loop k (BitVec.ofNat 32 (k.val + 1))).trips) (n : Fin 2),
    k0_off10 k (BitVec.ofNat 32 (k.val + 1)) j (BitVec.ofNat 32 n.val) = ![512 * j.val + 256 * n.val, 0] := by decide +kernel
theorem off9_of {k : Fin k0_t2_loop.trips} {v : BitVec 32} (e : v = BitVec.ofNat 32 (k.val + 1)) (j : Fin (k0_t3_loop k v).trips) (n : Fin 2) :
    k0_off9 k v j (BitVec.ofNat 32 n.val) = ![0, 0, 512 * j.val + 256 * n.val, 0] := by subst e; exact off9_eq k j n
theorem off10_of {k : Fin k0_t2_loop.trips} {v : BitVec 32} (e : v = BitVec.ofNat 32 (k.val + 1)) (j : Fin (k0_t3_loop k v).trips) (n : Fin 2) :
    k0_off10 k v j (BitVec.ofNat 32 n.val) = ![512 * j.val + 256 * n.val, 0] := by subst e; exact off10_eq k j n
theorem trips3 : ∀ k : Fin k0_t2_loop.trips, (k0_t3_loop k (BitVec.ofNat 32 (k.val + 1))).trips = k.val + 1 := by decide +kernel
theorem trips4 : ∀ k : Fin k0_t2_loop.trips, (k0_t4_loop k (BitVec.ofNat 32 (k.val + 1))).trips = 0 := by decide +kernel
theorem iv_nat : ∀ k : Fin k0_t2_loop.trips, Scf.iv 0#32 1#32 k = BitVec.ofNat 32 k.val := by decide +kernel
theorem iv_twice : ∀ j : Fin 4, Scalar.addi (Scalar.muli (Scf.iv 0#32 1#32 j.val) 2#32) 0#32 = BitVec.ofNat 32 (2 * j.val)
    ∧ Scalar.addi (Scalar.muli (Scf.iv 0#32 1#32 j.val) 2#32) 1#32 = BitVec.ofNat 32 (2 * j.val + 1) := by decide +kernel

/-! ### Two tiles of rows added to -/

section rows

variable {κ : Kind} {sp : Space} (v : View sig κ sp S2048x128 .f32) (f : v.ty.Contents (Elt Ideal)) {o0 o1 : Fin 2 → ℕ}
  (h0 : ∀ a, o0 a + S256x128.size a ≤ S2048x128.size a) (h1 : ∀ a, o1 a + S256x128.size a ≤ S2048x128.size a) (C : ℕ)
  (e0 : o0 = ![C, 0]) (e1 : o1 = ![C + 256, 0])

include e0 in
theorem rows_read (n : Fin 256) (d : Fin 128) (s : Fin 2048) (hs : s.val = C + n.val) :
    v.readAt (Elt Ideal) (Rect.unit (s := S2048x128) o0 S256x128.size h0).toLoadRect f (ix2 n d) = v.read (Elt Ideal) f (ix2 s d) := by
  subst e0
  refine congrArg (v.read (Elt Ideal) f) (funext fun a => Fin.ext ?_)
  fin_cases a
  · show C + 1 * n.val = s.val; omega
  · show 0 + 1 * d.val = d.val; omega

include e0 in
theorem rows_hit (w : Vec Ideal S256x128 .f32) (L : List (View.Piece (Elt Ideal) S2048x128 .f32)) (n : Fin 256) (d : Fin 128) (s : Fin 2048)
    (hs : s.val = C + n.val) :
    v.read (Elt Ideal) (v.writes (Elt Ideal) f (⟨Rect.unit (s := S2048x128) o0 S256x128.size h0, w⟩ :: L)) (ix2 s d) = w (ix2 n d) := by
  subst e0
  refine View.read_writes_cons_hit_of_coords v f (Rect.unit (s := S2048x128) ![C, 0] S256x128.size h0) w L (ix2 n d) (ix2 s d) fun a => ?_
  fin_cases a
  · show s.val = C + 1 * n.val; omega
  · show d.val = 0 + 1 * d.val; omega

include e0 in
theorem rows_miss (w : Vec Ideal S256x128 .f32) (L : List (View.Piece (Elt Ideal) S2048x128 .f32)) (d : Fin 128) (s : Fin 2048)
    (hs : s.val < C ∨ C + 256 ≤ s.val) :
    v.read (Elt Ideal) (v.writes (Elt Ideal) f (⟨Rect.unit (s := S2048x128) o0 S256x128.size h0, w⟩ :: L)) (ix2 s d)
      = v.read (Elt Ideal) (v.writes (Elt Ideal) f L) (ix2 s d) := by
  subst e0
  exact View.read_writes_cons_miss_of_axis _ _ _ _ _ (0 : Fin 2) C 256 rfl rfl rfl hs

include e0 e1 in
/-- Rows `C` to `C + 512` are added to, in two tiles. -/
theorem rows_add (B X : Mat) (w0 w1 : Vec Ideal S256x128 .f32)
    (hf : ∀ (s : Fin 2048) d, v.read (Elt Ideal) f (ix2 s d) = ((B s d + (if s.val < C then X s d else 0) : ℝ) : EReal))
    (hw0 : ∀ n d, w0 (ix2 n d) = v.readAt (Elt Ideal) (Rect.unit (s := S2048x128) o0 S256x128.size h0).toLoadRect f (ix2 n d) + ((X (C + n.val) d : ℝ) : EReal))
    (hw1 : ∀ n d, w1 (ix2 n d) = v.readAt (Elt Ideal) (Rect.unit (s := S2048x128) o1 S256x128.size h1).toLoadRect
      (v.writes (Elt Ideal) f [⟨Rect.unit (s := S2048x128) o0 S256x128.size h0, w0⟩]) (ix2 n d) + ((X (C + 256 + n.val) d : ℝ) : EReal))
    (s : Fin 2048) (d : Fin 128) :
    v.read (Elt Ideal) (v.writes (Elt Ideal) f [⟨Rect.unit (s := S2048x128) o1 S256x128.size h1, w1⟩, ⟨Rect.unit (s := S2048x128) o0 S256x128.size h0, w0⟩]) (ix2 s d)
      = ((B s d + (if s.val < C + 512 then X s d else 0) : ℝ) : EReal) := by
  by_cases c1 : C + 256 ≤ s.val ∧ s.val < C + 512
  · obtain ⟨n, hn⟩ : ∃ n : Fin 256, s.val = C + 256 + n.val := ⟨⟨s.val - (C + 256), by omega⟩, by simp only; omega⟩
    rw [rows_hit v f h1 (C + 256) e1 w1 _ n d s hn, hw1, rows_read v _ h1 (C + 256) e1 n d s hn, rows_miss v f h0 C e0 w0 [] d s (by omega),
      View.writes_nil, hf, if_neg (by omega), if_pos (by omega), ← hn, ← EReal.coe_add, add_zero]
  rw [rows_miss v f h1 (C + 256) e1 w1 _ d s (by omega)]
  by_cases c0 : C ≤ s.val ∧ s.val < C + 256
  · obtain ⟨n, hn⟩ : ∃ n : Fin 256, s.val = C + n.val := ⟨⟨s.val - C, by omega⟩, by simp only; omega⟩
    rw [rows_hit v f h0 C e0 w0 _ n d s hn, hw0, rows_read v _ h0 C e0 n d s hn,
      hf, if_neg (by omega), if_pos (by omega), ← hn, ← EReal.coe_add, add_zero]
  rw [rows_miss v f h0 C e0 w0 _ d s (by omega), View.writes_nil, hf]
  by_cases c : s.val < C
  · rw [if_pos c, if_pos (by omega)]
  · rw [if_neg c, if_neg (by omega)]

end rows

/-- A tile of keys or values, of a buffer of rows. -/
theorem tile_read {κ : Kind} {sp : Space} (v : View sig κ sp S1x1x2048x128 .f32) (f : v.ty.Contents (Elt Ideal)) {o : Fin 4 → ℕ}
    (h : ∀ a, o a + S1x1x256x128.size a ≤ S1x1x2048x128.size a) (C : ℕ) (e : o = ![0, 0, C, 0]) (n : Fin 256) (d : Fin 128) (hC : C + n.val < 2048) :
    v.readAt (Elt Ideal) (Rect.unit (s := S1x1x2048x128) o S1x1x256x128.size h).toLoadRect f (ix4 0 0 n d) = v.read (Elt Ideal) f (ix4 0 0 ⟨C + n.val, hC⟩ d) := by
  subst e
  refine congrArg (v.read (Elt Ideal) f) (funext fun a => Fin.ext ?_)
  fin_cases a
  · rfl
  · rfl
  · show C + 1 * n.val = C + n.val; omega
  · show 0 + 1 * d.val = d.val; omega

/-! ### The loop -/

/-- The inner loop's reads are what the rows of queries `512 k` on should be. -/
structure Sees (r : Inner Ideal) (Q K V D : Mat) : Prop where
  word : r.v54 = BitVec.ofNat 32 (r.k.val + 1)
  q : ∀ t d, r.v42 (ix4 0 0 t d) = (Q (rw_ r.k t) d : EReal)
  D : ∀ t d, r.v46 (ix2 t d) = (D (rw_ r.k t) d : EReal)
  s : ∀ t, r.v48 (ix3 0 t 0) = (((∑ j ∈ range 2048, ll Q K (rw_ r.k t) j) * (Real.log 2)⁻¹ : ℝ) : EReal)
  k : ∀ (n : Fin 2048) d, r.o.arg3.view.read (Elt Ideal) r.x3 (ix4 0 0 n d) = (K n d : EReal)
  v : ∀ (n : Fin 2048) d, r.o.arg4.view.read (Elt Ideal) r.x4 (ix4 0 0 n d) = (V n d : EReal)

/-- What a block of queries adds to a row of the keys' gradients, and of the values'. -/
def dkPart (Q K V D : Mat) (i : ℕ) : Mat := fun s d => ∑ t : Fin 512, dz Q K V D (rw_ i t) s * Q (rw_ i t) d
@[inherit_doc dkPart]
def dvPart (Q K D : Mat) (i : ℕ) : Mat := fun s d => ∑ t : Fin 512, aa Q K (rw_ i t) s * D (rw_ i t) d

namespace Sees

variable {r : Inner Ideal} {Q K V D : Mat} (h : Sees r Q K V D)
include h

theorem k_lt : r.k.val < 4 := by have := r.k.isLt; have := trips2; omega
theorem trips : (k0_t3_loop r.k r.v54).trips = r.k.val + 1 := by rw [h.word]; exact trips3 r.k
theorem j_lt (j : Fin (k0_t3_loop r.k r.v54).trips) : j.val < 4 := by have := j.isLt; have := h.trips; have := h.k_lt; omega

theorem off9 (j : Fin (k0_t3_loop r.k r.v54).trips) (n : Fin 2) :
    k0_off9 r.k r.v54 j (BitVec.ofNat 32 n.val) = ![0, 0, 512 * j.val + 256 * n.val, 0] := by
  exact off9_of h.word j n

theorem off10 (j : Fin (k0_t3_loop r.k r.v54).trips) (n : Fin 2) :
    k0_off10 r.k r.v54 j (BitVec.ofNat 32 n.val) = ![512 * j.val + 256 * n.val, 0] := by
  exact off10_of h.word j n

/-- What the loop has yielded before its trip `n`. -/
structure At (r : Inner Ideal) (Q K V D : Mat) (n : ℕ) (acc : FVec Ideal S512x128 .f32 × FVec Ideal S512x1 .f32 × FVec Ideal S512x1 .f32) : Prop where
  dq : ∀ t d, acc.1 (ix2 t d) = ((∑ s ∈ range (512 * n), dz Q K V D (rw_ r.k t) s * K s d : ℝ) : EReal)
  p : ∀ t, acc.2.1 (ix2 t 0) = (((∑ j ∈ range (512 * n), ll Q K (rw_ r.k t) j) * (Real.log 2)⁻¹ : ℝ) : EReal)
  g : ∀ t, acc.2.2 (ix2 t 0) = ((∑ j ∈ range (512 * n), gg Q K V D (rw_ r.k t) j : ℝ) : EReal)

theorem good (j : Fin (k0_t3_loop r.k r.v54).trips) (acc : FVec Ideal S512x128 .f32 × FVec Ideal S512x1 .f32 × FVec Ideal S512x1 .f32)
    (a : At r Q K V D j acc) : Good (r.step j acc) Q K V D r.k.val (2 * j.val) := by
  have hj := h.j_lt j
  have e : 256 * (2 * j.val) = 512 * j.val := by omega
  refine ⟨h.k_lt, by omega, fun t d => (p74 _ _ _).trans (h.q t d), h.D, fun t => (p75 _ _).trans (h.s t), ?_, ?_, ?_, ?_, ?_, iv_nat _,
    (iv_twice ⟨j.val, hj⟩).2, fun t => by rw [e]; exact a.p t, fun t => by rw [e]; exact a.g t⟩
  · intro n d
    refine (tile_read r.o.arg3.view r.x3 _ (512 * j.val + 256 * 0) (h.off9 j 0) n d (by omega)).trans ((h.k _ d).trans ?_)
    simp only [e]; rfl
  · intro n d
    refine (tile_read r.o.arg3.view r.x3 _ (512 * j.val + 256 * 1) (h.off9 j 1) n d (by omega)).trans ((h.k _ d).trans ?_)
    rw [show 256 * (2 * j.val + 1) + n.val = 512 * j.val + 256 * 1 + n.val by omega]
  · intro n d
    refine (tile_read r.o.arg4.view r.x4 _ (512 * j.val + 256 * 0) (h.off9 j 0) n d (by omega)).trans ((h.v _ d).trans ?_)
    simp only [e]; rfl
  · intro n d
    refine (tile_read r.o.arg4.view r.x4 _ (512 * j.val + 256 * 1) (h.off9 j 1) n d (by omega)).trans ((h.v _ d).trans ?_)
    rw [show 256 * (2 * j.val + 1) + n.val = 512 * j.val + 256 * 1 + n.val by omega]
  · intro t n
    refine (p18 _ _ _ _ _ _ _ t n).trans ?_
    rw [p87, iv_nat, (iv_twice ⟨j.val, hj⟩).1]
    exact mask_word (by omega) h.k_lt t.isLt n.isLt

theorem dq_step (j : Fin (k0_t3_loop r.k r.v54).trips) (acc : FVec Ideal S512x128 .f32 × FVec Ideal S512x1 .f32 × FVec Ideal S512x1 .f32)
    (a : At r Q K V D j acc) (x : Step Ideal) (g : Good x Q K V D r.k.val (2 * j.val)) (t : Fin 512) (d : Fin 128) :
    k0_pay41 acc.1 x.preG (k0_pay12 x.k0) (k0_pay13 x.k1) x.T0 x.E0 x.T1 x.E1 x.G0 x.G1 x.P1 x.P0 x.S0 (ix2 t d)
      = ((∑ s ∈ range (512 * (j.val + 1)), dz Q K V D (rw_ r.k t) s * K s d : ℝ) : EReal) := by
  have e0 : ∑ n : Fin 256, x.Z0 (ix2 t n) * k0_pay12 x.k0 (ix2 n d)
      = ((∑ n : Fin 256, dz Q K V D (rw_ r.k t) (256 * (2 * j.val) + n.val) * K (256 * (2 * j.val) + n.val) d : ℝ) : EReal) := by
    rw [Reals.coe_sum]
    exact Finset.sum_congr rfl fun n _ => by rw [g.z0, p12, g.fk, EReal.coe_mul]
  have e1 : ∑ n : Fin 256, x.Z1 (ix2 t n) * k0_pay13 x.k1 (ix2 n d)
      = ((∑ n : Fin 256, dz Q K V D (rw_ r.k t) (256 * (2 * j.val + 1) + n.val) * K (256 * (2 * j.val + 1) + n.val) d : ℝ) : EReal) := by
    rw [Reals.coe_sum]
    exact Finset.sum_congr rfl fun n _ => by rw [g.z1, p13, g.fk', EReal.coe_mul]
  rw [p41, show ∑ n : Fin 256, k0_pay38 _ _ _ _ (ix2 t n) * _ = _ from e0, show ∑ n : Fin 256, k0_pay40 _ _ _ _ _ _ (ix2 t n) * _ = _ from e1,
    a.dq, ← EReal.coe_add, ← EReal.coe_add, show 512 * j.val = 256 * (2 * j.val) by omega,
    sum_whole (fun s => dz Q K V D (rw_ r.k t) s * K s d) (256 * (2 * j.val)) 256,
    show 256 * (2 * j.val) + 256 = 256 * (2 * j.val + 1) by omega,
    sum_whole (fun s => dz Q K V D (rw_ r.k t) s * K s d) (256 * (2 * j.val + 1)) 256,
    show 256 * (2 * j.val + 1) + 256 = 512 * (j.val + 1) by omega]

/-- What the loop yields and what it adds to, before its trip `n`. -/
theorem loop (f14 : C14 Ideal r.o) (f15 : C15 Ideal r.o) (B14 B15 : Mat)
    (h14 : ∀ (s : Fin 2048) d, r.o.arg14.view.read (Elt Ideal) f14 (ix2 s d) = (B14 s d : EReal))
    (h15 : ∀ (s : Fin 2048) d, r.o.arg15.view.read (Elt Ideal) f15 (ix2 s d) = (B15 s d : EReal)) (n : ℕ) (hn : n ≤ r.k.val + 1) :
    At r Q K V D n (r.st3 f14 f15 n).1
      ∧ (∀ (s : Fin 2048) d, r.o.arg14.view.read (Elt Ideal) (r.o.arg14.view.writes (Elt Ideal) f14 (r.st3 f14 f15 n).2.1) (ix2 s d)
          = ((B14 s d + (if s.val < 512 * n then dkPart Q K V D r.k s d else 0) : ℝ) : EReal))
      ∧ (∀ (s : Fin 2048) d, r.o.arg15.view.read (Elt Ideal) (r.o.arg15.view.writes (Elt Ideal) f15 (r.st3 f14 f15 n).2.2) (ix2 s d)
          = ((B15 s d + (if s.val < 512 * n then dvPart Q K D r.k s d else 0) : ℝ) : EReal)) := by
  induction n with
  | zero =>
    refine ⟨⟨fun t d => (p77 t d).trans ?_, fun t => (p76 t).trans ?_, fun t => (p76 t).trans ?_⟩, fun s d => (h14 s d).trans ?_, fun s d => (h15 s d).trans ?_⟩
    · rw [mul_zero, range_zero, sum_empty, EReal.coe_zero]
    · rw [mul_zero, range_zero, sum_empty, zero_mul, EReal.coe_zero]
    · rw [mul_zero, range_zero, sum_empty, EReal.coe_zero]
    · rw [if_neg (by omega), add_zero]
    · rw [if_neg (by omega), add_zero]
  | succ n ih =>
    obtain ⟨ha, hk, hv⟩ := ih (by omega)
    have hj : n < (k0_t3_loop r.k r.v54).trips := by rw [h.trips]; omega
    obtain ⟨j, rfl⟩ : ∃ j : Fin (k0_t3_loop r.k r.v54).trips, n = j.val := ⟨⟨n, hj⟩, rfl⟩
    have hj4 := h.j_lt j
    generalize e : r.st3 f14 f15 j.val = S at ha hk hv
    obtain ⟨acc, L14, L15⟩ := S
    have g := h.good j acc ha
    generalize ex : r.step j acc = x at g
    generalize e14 : r.o.arg14.view.writes (Elt Ideal) f14 L14 = g14 at hk
    generalize e15 : r.o.arg15.view.writes (Elt Ideal) f15 L15 = g15 at hv
    rw [r.st3_succ f14 f15 j acc L14 L15 e x ex.symm g14 g15 e14.symm e15.symm]
    simp only [View.writes_append, e14, e15]
    have o0 : k0_off10 r.k r.v54 j (BitVec.ofNat 32 (0 : Fin 2).val) = ![512 * j.val, 0] := (h.off10 j 0).trans (by simp)
    have o1 : k0_off10 r.k r.v54 j (BitVec.ofNat 32 (1 : Fin 2).val) = ![512 * j.val + 256, 0] := (h.off10 j 1).trans (by simp)
    have m2 : 512 * (j.val + 1) = 256 * (2 * j.val + 2) := by omega
    refine ⟨⟨h.dq_step j acc ha x g, fun t => by rw [m2]; exact g.pre_out t, fun t => by rw [m2]; exact g.preG_out t⟩, fun s d => ?_, fun s d => ?_⟩
    · rw [show 512 * (j.val + 1) = 512 * j.val + 512 by omega]
      refine rows_add r.o.arg14.view g14 _ _ (512 * j.val) o0 o1 B14 (dkPart Q K V D r.k) _ _ hk (fun n d => ?_) (fun n d => ?_) s d
      · refine (p42 _ _ _ _ _ _ n d).trans (congrArg (_ + ·) ?_)
        unfold dkPart
        rw [Reals.coe_sum]
        refine Finset.sum_congr rfl fun t _ => ?_
        rw [show k0_pay38 x.T0 x.E0 x.G0 x.P0 (ix2 t n) = _ from g.z0 t n, g.fq, ← EReal.coe_mul, show 256 * (2 * j.val) = 512 * j.val by omega]
      · refine (p79 _ _ _ n d).trans (congrArg (_ + ·) ?_)
        unfold dkPart
        rw [Reals.coe_sum]
        refine Finset.sum_congr rfl fun t _ => ?_
        rw [g.z1 t n, h.q, ← EReal.coe_mul, show 256 * (2 * j.val + 1) = 512 * j.val + 256 by omega]
    · rw [show 512 * (j.val + 1) = 512 * j.val + 512 by omega]
      refine rows_add r.o.arg15.view g15 _ _ (512 * j.val) o0 o1 B15 (dvPart Q K D r.k) _ _ hv (fun n d => ?_) (fun n d => ?_) s d
      · refine (p78 _ _ _ n d).trans (congrArg (_ + ·) ?_)
        unfold dvPart
        rw [Reals.coe_sum]
        refine Finset.sum_congr rfl fun t _ => ?_
        rw [g.a0 t n, g.fD, ← EReal.coe_mul, show 256 * (2 * j.val) = 512 * j.val by omega]
      · refine (p80 _ _ _ n d).trans (congrArg (_ + ·) ?_)
        unfold dvPart
        rw [Reals.coe_sum]
        refine Finset.sum_congr rfl fun t _ => ?_
        rw [g.a1 t n, g.fD, ← EReal.coe_mul, show 256 * (2 * j.val + 1) = 512 * j.val + 256 by omega]

end Sees

end Cert.SbIdeal.Hand
-- ==== Proof.SbOuter.lean ====
/- The outer loop of the attention's backward call, in the reals: after its trips the running sums are the keys' and the
values' gradients, and the stored blocks the queries'. -/
module

public import proofs.«01_k».proof.Proof.SbInner

@[expose] public section

set_option maxRecDepth 16384

noncomputable section

namespace Cert.SbIdeal.Hand

open Idealize.ShloMosaic.Tactic Cert.SbIdeal Cert.SbIdeal.Gen Cert.SbMath Idealize.ShloMosaic Idealize.ShloMosaic.TcCoe Idealize.SL.Sem Finset
variable {F : FTy → Type} [FloatOps F] [Named F]

/-- What the inner loop of a trip runs at. -/
abbrev inner (c : Dev nD) (o : Ops) (x : Ins F o) (k : Fin k0_t2_loop.trips) : Inner F :=
  ⟨c, o, k, o.arg2.view.readAt (Elt F) (Rect.unit (s := S1x1x2048x128) (k0_off5 k) S1x1x512x128.size (k0_off5_inb k)).toLoadRect x.x2,
    o.arg13.view.readAt (Elt F) (Rect.unit (s := S2048x128) (k0_off6 k) S512x128.size (k0_off6_inb k)).toLoadRect x.x13,
    o.arg7.view.readAt (Elt F) (Rect.unit (s := S1x2048x128) (k0_off7 k) S1x512x128.size (k0_off7_inb k)).toLoadRect x.x7,
    trip.sl.v54 o x k, x.x3, x.x4⟩

/-- The inner loop's state at any word of its first trip, and the state of the loop past the diagonal. -/
abbrev st3w (r : Inner F) (w : BitVec 32) (f14 : C14 F r.o) (f15 : C15 F r.o) (n : ℕ) :
    (FVec F S512x128 .f32 × FVec F S512x1 .f32 × FVec F S512x1 .f32) × List (View.Piece (Elt F) S2048x128 .f32) × List (View.Piece (Elt F) S2048x128 .f32) :=
  st_k0_t3 (F := F) Variants.none r.c none r.o.i r.o.arg2 r.o.harg2 r.o.arg3 r.o.harg3 r.o.arg4 r.o.harg4 r.o.arg5 r.o.harg5 r.o.arg6 r.o.harg6
    r.o.arg7 r.o.harg7 r.o.arg8 r.o.harg8 r.o.arg9 r.o.harg9 r.o.arg10 r.o.harg10 r.o.arg11 r.o.harg11 r.o.arg12 r.o.harg12 r.o.arg13 r.o.harg13
    r.o.arg14 r.o.harg14 r.o.arg15 r.o.harg15 k0_pay85 k0_pay86 k0_pay87 0#32 1#32 r.k (Scf.iv 0#32 1#32 r.k) r.v42 r.v46 r.v48 r.v54 (chk_all _ _)
    w r.x3 r.x4 f14 f15 (k0_pay77, k0_pay76, k0_pay76) n
@[inherit_doc st3w]
abbrev st4w (r : Inner F) (w : BitVec 32) (f14 : C14 F r.o) (f15 : C15 F r.o) (S : FVec F S512x128 .f32 × FVec F S512x1 .f32 × FVec F S512x1 .f32) (n : ℕ) :
    (FVec F S512x128 .f32 × FVec F S512x1 .f32 × FVec F S512x1 .f32) × List (View.Piece (Elt F) S2048x128 .f32) × List (View.Piece (Elt F) S2048x128 .f32) :=
  st_k0_t4 (F := F) Variants.none r.c none r.o.i r.o.arg2 r.o.harg2 r.o.arg3 r.o.harg3 r.o.arg4 r.o.harg4 r.o.arg5 r.o.harg5 r.o.arg6 r.o.harg6
    r.o.arg7 r.o.harg7 r.o.arg8 r.o.harg8 r.o.arg9 r.o.harg9 r.o.arg10 r.o.harg10 r.o.arg11 r.o.harg11 r.o.arg12 r.o.harg12 r.o.arg13 r.o.harg13
    r.o.arg14 r.o.harg14 r.o.arg15 r.o.harg15 k0_pay85 k0_pay86 k0_pay87 0#32 1#32 r.k (Scf.iv 0#32 1#32 r.k) r.v42 r.v46 r.v48 r.v54 (chk_all _ _)
    w r.x3 r.x4 f14 f15 S n

/-- The inner loop's state after its trips, and after those past the diagonal. -/
abbrev st3e (r : Inner F) (f14 : C14 F r.o) (f15 : C15 F r.o) :=
  st3w r (k0_t3_loop r.k r.v54).lb f14 f15 (k0_t3_loop r.k r.v54).trips
@[inherit_doc st3e]
abbrev st4e (r : Inner F) (f14 : C14 F r.o) (f15 : C15 F r.o) :=
  st4w r (k0_t4_loop r.k r.v54).lb (r.o.arg14.view.writes (Elt F) f14 (st3e r f14 f15).2.1) (r.o.arg15.view.writes (Elt F) f15 (st3e r f14 f15).2.2)
    (st3e r f14 f15).1 (k0_t4_loop r.k r.v54).trips

theorem trip_dq (c : Dev nD) (o : Ops) (x : Ins F o) (k : Fin k0_t2_loop.trips) (f14 : C14 F o) (f15 : C15 F o) :
    (trip c o x k).1 f14 f15 = [⟨Rect.unit (s := S4x1x2048x128) (k0_off14 k) S1x1x512x128.size (k0_off14_inb k),
        k0_pay95 (k0_pay84 (st4e (inner c o x k) f14 f15).1.1)⟩] := by
  unfold trip
  sl_kernel_rfl

theorem trip_dk (c : Dev nD) (o : Ops) (x : Ins F o) (k : Fin k0_t2_loop.trips) (f14 : C14 F o) (f15 : C15 F o) :
    (trip c o x k).2.1 f14 f15 = o.arg14.view.writes (Elt F) f14 ((st4e (inner c o x k) f14 f15).2.1 ++ (st3e (inner c o x k) f14 f15).2.1) := by
  unfold trip
  sl_kernel_rfl

theorem trip_dv (c : Dev nD) (o : Ops) (x : Ins F o) (k : Fin k0_t2_loop.trips) (f14 : C14 F o) (f15 : C15 F o) :
    (trip c o x k).2.2.1 f14 f15 = o.arg15.view.writes (Elt F) f15 ((st4e (inner c o x k) f14 f15).2.2 ++ (st3e (inner c o x k) f14 f15).2.2) := by
  unfold trip
  sl_kernel_rfl

theorem fptosi_nat : ∀ n : Fin 4, Scalar.fptosi (F := Ideal) (φ := .f32) 32 (((n.val + 1 : ℕ) : ℝ) : EReal) = BitVec.ofNat 32 (n.val + 1) := by
  intro n
  show Ideal.fptosi 32 _ = _
  rw [Ideal.fptosi, Ideal.toIntClamped_coe, if_pos (Nat.cast_nonneg _), Int.floor_natCast]
  revert n
  decide +kernel

/-- The outer loop's reads are the rows of a head: the queries, keys and values, the gradients of the output, the totals of the
logarithms, and the numbers of trips. -/
structure Rows (c : Dev nD) (o : Ops) (x : Ins Ideal o) (Q K V D : Mat) : Prop where
  q : ∀ (n : Fin 2048) d, o.arg2.view.read (Elt Ideal) x.x2 (ix4 0 0 n d) = (Q n d : EReal)
  k : ∀ (n : Fin 2048) d, o.arg3.view.read (Elt Ideal) x.x3 (ix4 0 0 n d) = (K n d : EReal)
  v : ∀ (n : Fin 2048) d, o.arg4.view.read (Elt Ideal) x.x4 (ix4 0 0 n d) = (V n d : EReal)
  D : ∀ (n : Fin 2048) d, o.arg13.view.read (Elt Ideal) x.x13 (ix2 n d) = (D n d : EReal)
  s : ∀ n : Fin 2048, o.arg7.view.read (Elt Ideal) x.x7 (ix3 0 n 0) = (((∑ j ∈ range 2048, ll Q K n j) * (Real.log 2)⁻¹ : ℝ) : EReal)
  t : ∀ k : Fin 4, o.arg10.view.read (Elt Ideal) x.x10 (ix4 0 0 0 k) = (((k.val + 1 : ℕ) : ℝ) : EReal)

theorem off5_eq : ∀ k : Fin k0_t2_loop.trips, k0_off5 k = ![0, 0, 512 * k.val, 0] := by decide +kernel
theorem off6_eq : ∀ k : Fin k0_t2_loop.trips, k0_off6 k = ![512 * k.val, 0] := by decide +kernel
theorem off7_eq : ∀ k : Fin k0_t2_loop.trips, k0_off7 k = ![0, 512 * k.val, 0] := by decide +kernel
theorem off8_eq : ∀ k : Fin k0_t2_loop.trips, k0_off8 k = ![0, 0, 0, k.val] := by decide +kernel

theorem sum_far (f : ℕ → ℝ) {N M : ℕ} (h : N ≤ M) (hf : ∀ s, N ≤ s → f s = 0) : ∑ s ∈ range N, f s = ∑ s ∈ range M, f s :=
  Finset.sum_subset (Finset.range_subset_range.2 h) fun s _ hs => hf s (by simpa using hs)

namespace Rows

variable {c : Dev nD} {o : Ops} {x : Ins Ideal o} {Q K V D : Mat} (h : Rows c o x Q K V D)
include h

theorem word (k : Fin k0_t2_loop.trips) : trip.sl.v54 o x k = BitVec.ofNat 32 (k.val + 1) := by
  have hk : k.val < 4 := by have := k.isLt; have := trips2; omega
  refine Eq.trans ?_ (fptosi_nat ⟨k.val, hk⟩)
  rw [← h.t ⟨k.val, hk⟩]
  unfold trip.sl.v54
  refine congrArg (Scalar.fptosi 32) (congrArg (o.arg10.view.read (Elt Ideal) x.x10) (funext fun a => Fin.ext ?_))
  have e := congrFun (off8_eq k) a
  fin_cases a <;> exact e

theorem sees (k : Fin k0_t2_loop.trips) : Sees (inner c o x k) Q K V D := by
  have hk : k.val < 4 := by have := k.isLt; have := trips2; omega
  refine ⟨h.word k, fun t d => ?_, fun t d => ?_, fun t => ?_, h.k, h.v⟩
  · refine Eq.trans (congrArg (o.arg2.view.read (Elt Ideal) x.x2) (funext fun a => Fin.ext ?_)) (h.q ⟨rw_ k t, by unfold rw_; omega⟩ d)
    refine (congrArg (· + _) (congrFun (off5_eq k) a)).trans ?_
    fin_cases a
    · rfl
    · rfl
    · show 512 * k.val + 1 * t.val = rw_ k t; unfold rw_; omega
    · show 0 + 1 * d.val = d.val; omega
  · refine Eq.trans (congrArg (o.arg13.view.read (Elt Ideal) x.x13) (funext fun a => Fin.ext ?_)) (h.D ⟨rw_ k t, by unfold rw_; omega⟩ d)
    refine (congrArg (· + _) (congrFun (off6_eq k) a)).trans ?_
    fin_cases a
    · show 512 * k.val + 1 * t.val = rw_ k t; unfold rw_; omega
    · show 0 + 1 * d.val = d.val; omega
  · refine Eq.trans (congrArg (o.arg7.view.read (Elt Ideal) x.x7) (funext fun a => Fin.ext ?_)) (h.s ⟨rw_ k t, by unfold rw_; omega⟩)
    refine (congrArg (· + _) (congrFun (off7_eq k) a)).trans ?_
    fin_cases a
    · rfl
    · show 512 * k.val + 1 * t.val = rw_ k t; unfold rw_; omega
    · rfl

theorem st3e_eq (k : Fin k0_t2_loop.trips) (f14 : C14 Ideal o) (f15 : C15 Ideal o) :
    st3e (inner c o x k) f14 f15 = (inner c o x k).st3 f14 f15 (k.val + 1) := by
  have e : (k0_t3_loop k (trip.sl.v54 o x k)).lb = 0#32 := by
    rw [h.word k]
    revert k
    decide +kernel
  have e' := (h.sees k).trips
  unfold st3e
  rw [e']
  show st3w (inner c o x k) (k0_t3_loop k (trip.sl.v54 o x k)).lb f14 f15 (k.val + 1) = _
  rw [e]

theorem st4e_eq (k : Fin k0_t2_loop.trips) (f14 : C14 Ideal o) (f15 : C15 Ideal o) :
    st4e (inner c o x k) f14 f15 = ((st3e (inner c o x k) f14 f15).1, [], []) := by
  have e : (k0_t4_loop k (trip.sl.v54 o x k)).trips = 0 := by rw [h.word k]; exact trips4 k
  unfold st4e
  rw [show (k0_t4_loop (inner c o x k).k (inner c o x k).v54).trips = 0 from e]
  rfl

/-- What a trip stores of the queries' gradients. -/
theorem dq (k : Fin k0_t2_loop.trips) (f14 : C14 Ideal o) (f15 : C15 Ideal o)  (B14 B15 : Mat)
    (h14 : ∀ (s : Fin 2048) d, o.arg14.view.read (Elt Ideal) f14 (ix2 s d) = (B14 s d : EReal))
    (h15 : ∀ (s : Fin 2048) d, o.arg15.view.read (Elt Ideal) f15 (ix2 s d) = (B15 s d : EReal)) :
    ∃ w : Vec Ideal S1x1x512x128 .bf16, (trip c o x k).1 f14 f15 = [⟨Rect.unit (s := S4x1x2048x128) (k0_off14 k) S1x1x512x128.size (k0_off14_inb k), w⟩]
      ∧ ∀ t d, w (ix4 0 0 t d) = ((∑ s ∈ range 2048, dz Q K V D (rw_ k t) s * K s d : ℝ) : EReal) := by
  have hk : k.val < 4 := by have := k.isLt; have := trips2; omega
  refine ⟨_, trip_dq c o x k f14 f15, fun t d => ?_⟩
  rw [p95, p84, h.st4e_eq, h.st3e_eq]
  refine (((h.sees k).loop f14 f15 B14 B15 h14 h15 (k.val + 1) le_rfl).1.dq t d).trans (congrArg _ ?_)
  exact sum_far _ (by omega) fun s hs => by rw [dz_far Q K V D (show ¬ s < rw_ k t by unfold rw_; omega), zero_mul]

theorem dk (k : Fin k0_t2_loop.trips) (f14 : C14 Ideal o) (f15 : C15 Ideal o)
    (h14 : ∀ (s : Fin 2048) d, o.arg14.view.read (Elt Ideal) f14 (ix2 s d) = ((∑ r ∈ range (512 * k.val), dz Q K V D r s * Q r d : ℝ) : EReal))
    (h15 : ∀ (s : Fin 2048) d, o.arg15.view.read (Elt Ideal) f15 (ix2 s d) = ((∑ r ∈ range (512 * k.val), aa Q K r s * D r d : ℝ) : EReal)) :
    (∀ (s : Fin 2048) d, o.arg14.view.read (Elt Ideal) ((trip c o x k).2.1 f14 f15) (ix2 s d) = ((∑ r ∈ range (512 * (k.val + 1)), dz Q K V D r s * Q r d : ℝ) : EReal))
      ∧ (∀ (s : Fin 2048) d, o.arg15.view.read (Elt Ideal) ((trip c o x k).2.2.1 f14 f15) (ix2 s d) = ((∑ r ∈ range (512 * (k.val + 1)), aa Q K r s * D r d : ℝ) : EReal)) := by
  have L := (h.sees k).loop f14 f15 (fun s d => ∑ r ∈ range (512 * k.val), dz Q K V D r s * Q r d)
    (fun s d => ∑ r ∈ range (512 * k.val), aa Q K r s * D r d) h14 h15 (k.val + 1) le_rfl
  rw [trip_dk, trip_dv, h.st4e_eq, List.nil_append, List.nil_append, h.st3e_eq]
  refine ⟨fun s d => (L.2.1 s d).trans (congrArg _ ?_), fun s d => (L.2.2 s d).trans (congrArg _ ?_)⟩
  · rw [show 512 * (k.val + 1) = 512 * k.val + 512 by omega, ← sum_whole _ (512 * k.val) 512]
    refine congrArg (_ + ·) ?_
    split_ifs with hs
    · rfl
    · exact (Finset.sum_eq_zero fun t _ => by
        have := t.isLt
        rw [dz_far Q K V D (show ¬ s.val < 512 * k.val + t.val by omega), zero_mul]).symm
  · rw [show 512 * (k.val + 1) = 512 * k.val + 512 by omega, ← sum_whole _ (512 * k.val) 512]
    refine congrArg (_ + ·) ?_
    split_ifs with hs
    · rfl
    · exact (Finset.sum_eq_zero fun t _ => by
        have := t.isLt
        rw [aa_far Q K (show ¬ s.val < 512 * k.val + t.val by omega), zero_mul]).symm

/-- The outer loop before its trip `n`, the running sums at zero before it. -/
theorem loop (g14 : C14 Ideal o) (g15 : C15 Ideal o)
    (h14 : ∀ (s : Fin 2048) d, o.arg14.view.read (Elt Ideal) g14 (ix2 s d) = 0)
    (h15 : ∀ (s : Fin 2048) d, o.arg15.view.read (Elt Ideal) g15 (ix2 s d) = 0) (n : ℕ) (hn : n ≤ 4) :
    (∀ (s : Fin 2048) d, o.arg14.view.read (Elt Ideal) (st c o x g14 g15 n).2.1 (ix2 s d) = ((∑ r ∈ range (512 * n), dz Q K V D r s * Q r d : ℝ) : EReal))
      ∧ (∀ (s : Fin 2048) d, o.arg15.view.read (Elt Ideal) (st c o x g14 g15 n).2.2 (ix2 s d) = ((∑ r ∈ range (512 * n), aa Q K r s * D r d : ℝ) : EReal))
      ∧ (∀ (f : BufTy.Contents (Elt Ideal) o.arg11.view.ty) (s : Fin 2048) d, s.val < 512 * n →
          o.arg11.view.read (Elt Ideal) (o.arg11.view.writes (Elt Ideal) f (st c o x g14 g15 n).1) (ix4 0 0 s d) = ((∑ j ∈ range 2048, dz Q K V D s j * K j d : ℝ) : EReal))
      ∧ (∀ (f : BufTy.Contents (Elt Ideal) o.arg11.view.ty) (y : S4x1x2048x128.Idx), 1 ≤ (y 0).val →
          o.arg11.view.read (Elt Ideal) (o.arg11.view.writes (Elt Ideal) f (st c o x g14 g15 n).1) y = o.arg11.view.read (Elt Ideal) f y) := by
  induction n with
  | zero =>
    refine ⟨fun s d => (h14 s d).trans ?_, fun s d => (h15 s d).trans ?_, fun f s d hs => absurd hs (by omega), fun f y hy => rfl⟩
    · rw [mul_zero, range_zero, sum_empty, EReal.coe_zero]
    · rw [mul_zero, range_zero, sum_empty, EReal.coe_zero]
  | succ n ih =>
    obtain ⟨i14, i15, i0, i1⟩ := ih (by omega)
    obtain ⟨k, rfl⟩ : ∃ k : Fin k0_t2_loop.trips, n = k.val := ⟨⟨n, by have := trips2; omega⟩, rfl⟩
    rw [st_succ]
    obtain ⟨w, ew, hw⟩ := h.dq k _ _ (fun s d => ∑ r ∈ range (512 * k.val), dz Q K V D r s * Q r d) (fun s d => ∑ r ∈ range (512 * k.val), aa Q K r s * D r d) i14 i15
    obtain ⟨a14, a15⟩ := h.dk k _ _ i14 i15
    refine ⟨a14, a15, fun f s d hs => ?_, fun f y hy => ?_⟩
    · rw [ew]
      by_cases c1 : 512 * k.val ≤ s.val
      · have e : s.val = 512 * k.val + (s.val - 512 * k.val) := by omega
        refine (View.read_writes_cons_hit_of_coords _ _ (Rect.unit (s := S4x1x2048x128) (k0_off14 k) S1x1x512x128.size (k0_off14_inb k)) w _
          (ix4 0 0 (⟨s.val - 512 * k.val, by omega⟩ : Fin 512) d) (ix4 0 0 s d) fun a => ?_).trans ((hw _ d).trans ?_)
        · refine Eq.trans ?_ (congrArg (· + _) (congrFun (off14_eq k) a)).symm
          fin_cases a
          · rfl
          · rfl
          · show s.val = 512 * k.val + 1 * (s.val - 512 * k.val); omega
          · show d.val = 0 + 1 * d.val; omega
        · simp only [rw_, ← e]
      · refine (View.read_writes_cons_miss_of_axis _ _ _ _ _ (2 : Fin 4) (512 * k.val) 512 ?_ rfl rfl (Or.inl (by show s.val < _; omega))).trans (i0 f s d (by omega))
        exact congrFun (off14_eq k) 2
    · rw [ew]
      refine (View.read_writes_cons_miss_of_axis _ _ _ _ _ (0 : Fin 4) 0 1 ?_ rfl rfl (Or.inr (by omega))).trans (i1 f y hy)
      exact congrFun (off14_eq k) 0

end Rows

end Cert.SbIdeal.Hand
-- ==== Proof.SbBody.lean ====
/- What the attention's backward call leaves in its results' blocks. -/
module

public import proofs.«01_k».proof.Proof.SbHead
public import proofs.«01_k».proof.Proof.SbOuter
public import proofs.«01_k».proof.Proof.SbLaunch
public import Idealize.ShloMosaic.Lib.VecWindow

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset

/-- The body's blocks are the rows `Q`, `K`, `V`, `Z`, `O`, `Y`, the gain and the rows' sums. -/
structure Blocks (b : Blk Ideal) (Q K V Z O Y : Mat) (G : Fin 128 → ℝ) : Prop extends Head b O Z Y G where
  q : ∀ (n : Fin 2048) d, b.q (ix4 0 0 n d) = (Q n d : EReal)
  k : ∀ (n : Fin 2048) d, b.k (ix4 0 0 n d) = (K n d : EReal)
  v : ∀ (n : Fin 2048) d, b.v (ix4 0 0 n d) = (V n d : EReal)
  s : ∀ n : Fin 2048, b.tot (ix3 0 n 0) = (((∑ j ∈ range 2048, ll Q K n j) * (Real.log 2)⁻¹ : ℝ) : EReal)
  t : ∀ k : Fin 4, b.trips (ix4 0 0 0 k) = (((k.val + 1 : ℕ) : ℝ) : EReal)

/-- The gradients of a head's four parts, in the order they are stored. -/
def grads (Q K V Z O Y : Mat) (G : Fin 128 → ℝ) (p : Fin 4) (s : ℕ) (d : Fin 128) : ℝ :=
  match p with
  | 0 => ∑ j ∈ range 2048, dz Q K V (dout O Z Y G) s j * K j d
  | 1 => ∑ r ∈ range 2048, dz Q K V (dout O Z Y G) r s * Q r d
  | 2 => ∑ r ∈ range 2048, aa Q K r s * dout O Z Y G r d
  | 3 => dgz O Z Y G s d

section segs
variable {κ : Kind} {sp : Space} (v : View sig κ sp S4x1x2048x128 .bf16) (f : v.ty.Contents (Elt Ideal))
  (L : List (View.Piece (Elt Ideal) S4x1x2048x128 .bf16))

/-- A store of one of the block's four parts, read in that part and in another. -/
theorem seg_hit (C : Fin 4) (s : Fin 2048) (d : Fin 128) {h : ∀ a, (![C.val, 0, 0, 0] : Fin 4 → ℕ) a + S1x1x2048x128.size a ≤ S4x1x2048x128.size a}
    {w : Vec Ideal S1x1x2048x128 .bf16} :
    v.read (Elt Ideal) (v.writes (Elt Ideal) f (⟨Rect.unit (s := S4x1x2048x128) ![C.val, 0, 0, 0] S1x1x2048x128.size h, w⟩ :: L)) (ix4 C 0 s d) = w (ix4 0 0 s d) := by
  refine View.read_writes_cons_hit_of_coords v f (Rect.unit (s := S4x1x2048x128) ![C.val, 0, 0, 0] S1x1x2048x128.size h) w L (ix4 0 0 s d) (ix4 C 0 s d) fun a => ?_
  fin_cases a
  · show C.val = C.val + 1 * 0; omega
  · rfl
  · show s.val = 0 + 1 * s.val; omega
  · show d.val = 0 + 1 * d.val; omega
@[inherit_doc seg_hit]
theorem seg_miss (C p : Fin 4) (s : Fin 2048) (d : Fin 128) (hp : p ≠ C)
    {h : ∀ a, (![C.val, 0, 0, 0] : Fin 4 → ℕ) a + S1x1x2048x128.size a ≤ S4x1x2048x128.size a} {w : Vec Ideal S1x1x2048x128 .bf16} :
    v.read (Elt Ideal) (v.writes (Elt Ideal) f (⟨Rect.unit (s := S4x1x2048x128) ![C.val, 0, 0, 0] S1x1x2048x128.size h, w⟩ :: L)) (ix4 p 0 s d)
      = v.read (Elt Ideal) (v.writes (Elt Ideal) f L) (ix4 p 0 s d) := by
  have hp : p.val ≠ C.val := fun e => hp (Fin.ext e)
  exact View.read_writes_cons_miss_of_axis v f ⟨Rect.unit (s := S4x1x2048x128) ![C.val, 0, 0, 0] S1x1x2048x128.size h, w⟩ L (ix4 p 0 s d) (0 : Fin 4) C.val 1 rfl rfl rfl
    (by show p.val < C.val ∨ C.val + 1 ≤ p.val; omega)

end segs

namespace Blocks

variable {c : Dev nD} {o : Ops} {b : Blk Ideal} {Q K V Z O Y : Mat} {G : Fin 128 → ℝ} (h : Blocks b Q K V Z O Y G)
include h

theorem rows : Rows c o (ins c o b) Q K V (dout O Z Y G) where
  q n d := by rw [o.harg2.read_unread]; exact h.q n d
  k n d := by rw [o.harg3.read_unread]; exact h.k n d
  v n d := by rw [o.harg4.read_unread]; exact h.v n d
  D n d := by
    refine (h.toHead.loop _ trips1.le).2.2 _ n d ?_
    have := n.isLt; have := trips1; omega
  s n := by rw [o.harg7.read_unread]; exact h.s n
  t k := by rw [o.harg10.read_unread]; exact h.t k

omit h in
theorem zeros14 (s : Fin 2048) (d : Fin 128) : o.arg14.view.read (Elt Ideal) (zero14 o) (ix2 s d) = 0 :=
  (congrFun (View.read_writes_full o.arg14.view _ _ _ _) _).trans (p93 s d)
omit h in
theorem zeros15 (s : Fin 2048) (d : Fin 128) : o.arg15.view.read (Elt Ideal) (zero15 o) (ix2 s d) = 0 :=
  (congrFun (View.read_writes_full o.arg15.view _ _ _ _) _).trans (p94 s d)

/-- The gradients' block. -/
theorem grads_at (f : BufTy.Contents (Elt Ideal) o.arg11.view.ty) (p : Fin 4) (s : Fin 2048) (d : Fin 128) :
    o.arg11.view.read (Elt Ideal) (o.arg11.view.writes (Elt Ideal) f (L11 c o b)) (ix4 p 0 s d) = (grads Q K V Z O Y G p s d : EReal) := by
  obtain ⟨l0, l1, l2⟩ := h.toHead.loop (c := c) (o := o) _ trips1.le
  obtain ⟨m0, m1, m2, m3⟩ := (h.rows (c := c) (o := o)).loop (zero14 o) (zero15 o) zeros14 zeros15 _ trips2.le
  have hs := s.isLt
  have e1 := trips1
  have e2 := trips2
  unfold L11
  fin_cases p
  · refine (seg_miss _ _ _ 2 0 s d (by decide)).trans ((seg_miss _ _ _ 1 0 s d (by decide)).trans ?_)
    rw [View.writes_append]
    exact m2 _ s d (by omega)
  · refine (seg_miss _ _ _ 2 1 s d (by decide)).trans ((seg_hit _ _ _ 1 s d).trans ((p1 _ s d).trans ((congrFun (View.readAt_full _ _ _) _).trans ((m0 s d).trans ?_))))
    rw [e2]; rfl
  · refine (seg_hit _ _ _ 2 s d).trans ((p2 _ s d).trans ((congrFun (View.readAt_full _ _ _) _).trans ((m1 s d).trans ?_)))
    rw [e2]; rfl
  · refine (seg_miss _ _ _ 2 3 s d (by decide)).trans ((seg_miss _ _ _ 1 3 s d (by decide)).trans ?_)
    rw [View.writes_append]
    exact (m3 _ (ix4 3 0 s d) (show 1 ≤ 3 by omega)).trans (l1 _ s d (by omega))

/-- The gain's gradient's block. -/
theorem gain_at (f : BufTy.Contents (Elt Ideal) o.arg12.view.ty) (d : Fin 128) :
    o.arg12.view.read (Elt Ideal) (o.arg12.view.writes (Elt Ideal) f (L12 c o b)) (ix3 0 0 d) = ((∑ r ∈ range 2048, dgp O Z Y r d : ℝ) : EReal) := by
  obtain ⟨l0, l1, l2⟩ := h.toHead.loop (c := c) (o := o) _ trips1.le
  refine (congrFun (View.read_writes_full o.arg12.view _ _ _ _) _).trans ((p92 _ d).trans ((l0 d).trans ?_))
  rw [trips1]

end Blocks

end Cert.SbIdeal.Hand
-- ==== Proof.SbHost.lean ====
/- The operands of the attention's backward call: what the host lines hand the launch. -/
module

public import proofs.«01_k».proof.Proof.SbBody
public import proofs.«01_k».proof.Proof.Gen.SbRefIdeal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset
open Cert.SbRefIdeal.Read Idealize.ShloMosaic.StableHlo

variable (m : (ℓ : Loc nD τ sig) → Buf (Elt Ideal) ℓ)

/-- The rows' sums over the logarithm of two, -/
def tots (x : FVec Ideal S2x16x2048x2048 .f32) : FVec Ideal S2x16x2048 .f32 :=
  Host.divf (Host.reduceAdd x (constant S_ .f32 0x00000000#32) reducesTo_S2x16x2048x2048_S2x16x2048_d3 h_S_)
    (broadcastInDim S2x16x2048 ![] bcast_S_S2x16x2048 (Host.log (constant S_ .f32 0x40000000#32)))
/-- repeated along their head's columns, -/
def spread (x : FVec Ideal S2x16x2048 .f32) : FVec Ideal S2x2048x2048 .f32 :=
  shapeCast S2x2048x2048 (broadcastInDim S2x2048x16x128 ![0, 1, 2, 3] bcast_S2x2048x16x1_S2x2048x16x128_0_1_2_3
    (broadcastInDim S2x2048x16x1 ![0, 1, 2] bcast_S2x2048x16_S2x2048x16x1_0_1_2 (transpose S2x2048x16 [0, 2, 1] x transposes_S2x16x2048_S2x2048x16_0_2_1)))
    shapeCasts_S2x2048x16x128_S2x2048x2048
/-- and heads laid side by side. -/
def merged (x : FVec Ideal S2x16x2048x128 .f32) : FVec Ideal S2x2048x2048 .f32 :=
  shapeCast S2x2048x2048 (transpose S2x2048x16x128 [0, 2, 1, 3] x transposes_S2x16x2048x128_S2x2048x16x128_0_2_1_3) shapeCasts_S2x2048x16x128_S2x2048x2048

theorem V29 (c : Dev nD) : V m c main_v29 = merged (val_main_v29 (F := Ideal) (m ((c : Thread nD τ).loc main_arg0))) := by
  unfold V
  simp only [List.flatten_cons, List.flatten_nil, List.append_nil, List.cons_append, List.nil_append]
  set_option maxHeartbeats 1600000 in after_reads_simp
  rfl

theorem V49 (c : Dev nD) : V m c main_v49 = spread (tots (val_main_v22_0 (F := Ideal) (m ((c : Thread nD τ).loc main_arg0)))) := by
  unfold V
  simp only [List.flatten_cons, List.flatten_nil, List.append_nil, List.cons_append, List.nil_append]
  set_option maxHeartbeats 1600000 in after_reads_simp
  rfl

theorem spread_at (x) (b : Fin 2) (n : Fin 2048) (h : Fin 16) (d : Fin 128) : spread x (ix3 b n ⟨128 * h.val + d.val, by omega⟩) = x (ix3 b h n) := by
  pointwise [spread]
theorem merged_at (x) (b : Fin 2) (n : Fin 2048) (h : Fin 16) (d : Fin 128) : merged x (ix3 b n ⟨128 * h.val + d.val, by omega⟩) = x (ix4 b h n d) := by
  pointwise [merged]
theorem tots_at (x) (b : Fin 2) (n : Fin 2048) (h : Fin 16) : tots x (ix3 b h n) = Ideal.div (∑ j, x (ix4 b h n j)) (Ideal.log (Ideal.ofBits FTy.f32 0x40000000#32)) := by
  pointwise [tots]

theorem V56 (c : Dev nD) (p : Fin 8) (b : Fin 2) (n : Fin 2048) (d : Fin 2048) : (V m c main_v56 : FVec Ideal S8x2x2048x2048 .f32) (ix4 p b n d)
    = (m ((c : Thread nD τ).loc main_arg0) : FVec Ideal S2x2048x16384 .f32) (ix3 b n ⟨2048 * p.val + d.val, by omega⟩) := by
  unfold V
  simp only [List.flatten_cons, List.flatten_nil, List.append_nil, List.cons_append, List.nil_append]
  after_reads_simp
  pointwise []
  exact congrArg (fun i => (m ((c : Thread nD τ).loc main_arg0) : FVec Ideal S2x2048x16384 .f32) (ix3 b n i)) (Fin.ext (by
    show p.val * 2048 + d.val = 2048 * p.val + d.val
    omega))
theorem V58 (c : Dev nD) (p : Fin 2) (b : Fin 2) (n : Fin 2048) (d : Fin 2048) : (V m c main_v58 : FVec Ideal S2x2x2048x2048 .f32) (ix4 p b n d)
    = (m ((c : Thread nD τ).loc main_arg1) : FVec Ideal S2x2048x4096 .f32) (ix3 b n ⟨2048 * p.val + d.val, by omega⟩) := by
  unfold V
  simp only [List.flatten_cons, List.flatten_nil, List.append_nil, List.cons_append, List.nil_append]
  after_reads_simp
  pointwise []
  exact congrArg (fun i => (m ((c : Thread nD τ).loc main_arg1) : FVec Ideal S2x2048x4096 .f32) (ix3 b n i)) (Fin.ext (by
    show p.val * 2048 + d.val = 2048 * p.val + d.val
    omega))

theorem trips_word : ∀ k : Fin 4, (IntOp.addi (1#32) (BitVec.ofNat 32 k.val)).toInt = ((k.val + 1 : ℕ) : ℤ) := by
  decide +kernel

theorem V54 (c : Dev nD) (b : Fin 2) (h : Fin 16) (k : Fin 4) : (V m c main_v54 : FVec Ideal S2x16x1x4 .f32) (ix4 b h 0 k)
    = (((k.val + 1 : ℕ) : ℝ) : EReal) := by
  unfold V
  simp only [List.flatten_cons, List.flatten_nil, List.append_nil, List.cons_append, List.nil_append]
  after_reads_simp
  pointwise []
  show (((IntOp.addi (1#32) (BitVec.ofNat 32 k.val)).toInt : ℝ) : EReal) = _
  rw [trips_word, Int.cast_natCast]

/-- The array and the head of a grid point. -/
def bt (t : Fin cfg0.N) : Fin 2 := ⟨t.val / 16, by have := t.isLt; change t.val < 32 at this; omega⟩
def ht (t : Fin cfg0.N) : Fin 16 := ⟨t.val % 16, by omega⟩

theorem idx : ∀ t : Fin cfg0.N, win0_0.index t = ![0, (bt t).val, 0, (ht t).val] ∧ win0_1.index t = ![1, (bt t).val, 0, (ht t).val]
    ∧ win0_2.index t = ![2, (bt t).val, 0, (ht t).val] ∧ win0_3.index t = ![3, (bt t).val, 0, (ht t).val]
    ∧ win0_4.index t = ![(bt t).val, 0, (ht t).val] ∧ win0_5.index t = ![(bt t).val, 0, (ht t).val]
    ∧ win0_6.index t = ![0, (bt t).val, 0, (ht t).val] ∧ win0_7.index t = ![0, (ht t).val] ∧ win0_8.index t = ![(bt t).val, (ht t).val, 0, 0]
    ∧ win0_9.index t = ![0, (bt t).val, 0, (ht t).val] ∧ win0_10.index t = ![(bt t).val, 0, (ht t).val] := by
  decide +kernel

/-- Column `d` of head `h` in segment `p` of `A`. -/
abbrev col {A : ℕ} (p : ℕ) (h : Fin 16) (d : Fin 128) (hp : 2048 * p + 2048 ≤ A := by omega) : Fin A := ⟨2048 * p + (128 * h.val + d.val), by omega⟩

end Cert.SbIdeal.Hand
-- ==== Proof.SbReads.lean ====
/- The blocks of the attention's backward call at a grid point: read from its arrays. -/
module

public import proofs.«01_k».proof.Proof.SbHost

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset

/-- Column `d` of head `h` in segment `p`. -/
abbrev seg {A : ℕ} (p : ℕ) (h : Fin 16) (d : Fin 128) (hp : 2048 * p + 2048 ≤ A := by omega) : Fin A := ⟨2048 * p + (128 * h.val + d.val), by omega⟩

section
variable (t : Fin cfg0.N)

theorem rd0 (A : FVec Ideal S8x2x2048x2048 .f32) (n : Fin 2048) (d : Fin 128) :
    (win0_0.blk t).view.read (Elt Ideal) A (ix4 0 0 n d) = A (ix4 0 (bt t) n ⟨128 * (ht t).val + d.val, by omega⟩) := by
  refine congrArg A ?_
  blk_ext [idx t]
theorem rd1 (A : FVec Ideal S8x2x2048x2048 .f32) (n : Fin 2048) (d : Fin 128) :
    (win0_1.blk t).view.read (Elt Ideal) A (ix4 0 0 n d) = A (ix4 1 (bt t) n ⟨128 * (ht t).val + d.val, by omega⟩) := by
  refine congrArg A ?_
  blk_ext [idx t]
theorem rd2 (A : FVec Ideal S8x2x2048x2048 .f32) (n : Fin 2048) (d : Fin 128) :
    (win0_2.blk t).view.read (Elt Ideal) A (ix4 0 0 n d) = A (ix4 2 (bt t) n ⟨128 * (ht t).val + d.val, by omega⟩) := by
  refine congrArg A ?_
  blk_ext [idx t]
theorem rd3 (A : FVec Ideal S8x2x2048x2048 .f32) (n : Fin 2048) (d : Fin 128) :
    (win0_3.blk t).view.read (Elt Ideal) A (ix4 0 0 n d) = A (ix4 3 (bt t) n ⟨128 * (ht t).val + d.val, by omega⟩) := by
  refine congrArg A ?_
  blk_ext [idx t]
theorem rd4 (A : FVec Ideal S2x2048x2048 .f32) (n : Fin 2048) (d : Fin 128) :
    (win0_4.blk t).view.read (Elt Ideal) A (ix3 0 n d) = A (ix3 (bt t) n ⟨128 * (ht t).val + d.val, by omega⟩) := by
  refine congrArg A ?_
  blk_ext [idx t]
theorem rd5 (A : FVec Ideal S2x2048x2048 .f32) (n : Fin 2048) (d : Fin 128) :
    (win0_5.blk t).view.read (Elt Ideal) A (ix3 0 n d) = A (ix3 (bt t) n ⟨128 * (ht t).val + d.val, by omega⟩) := by
  refine congrArg A ?_
  blk_ext [idx t]
theorem rd6 (A : FVec Ideal S2x2x2048x2048 .f32) (n : Fin 2048) (d : Fin 128) :
    (win0_6.blk t).view.read (Elt Ideal) A (ix4 0 0 n d) = A (ix4 0 (bt t) n ⟨128 * (ht t).val + d.val, by omega⟩) := by
  refine congrArg A ?_
  blk_ext [idx t]
theorem rd7 (A : FVec Ideal S1x2048 .f32) (d : Fin 128) :
    (win0_7.blk t).view.read (Elt Ideal) A (ix2 0 d) = A (ix2 0 ⟨128 * (ht t).val + d.val, by omega⟩) := by
  refine congrArg A ?_
  blk_ext [idx t]
theorem rd8 (A : FVec Ideal S2x16x1x4 .f32) (k : Fin 4) :
    (win0_8.blk t).view.read (Elt Ideal) A (ix4 0 0 0 k) = A (ix4 (bt t) (ht t) 0 k) := by
  refine congrArg A ?_
  blk_ext [idx t]
theorem emb9 (p : Fin 4) (n : Fin 2048) (d : Fin 128) :
    (win0_9.blk t).view.emb (ix4 p 0 n d) = ix4 ⟨p.val, by omega⟩ (bt t) n ⟨128 * (ht t).val + d.val, by omega⟩ := by
  blk_ext [idx t]
theorem emb10 (d : Fin 128) : (win0_10.blk t).view.emb (ix3 0 0 d) = ix3 (bt t) 0 ⟨128 * (ht t).val + d.val, by omega⟩ := by
  blk_ext [idx t]
end

end Cert.SbIdeal.Hand
-- ==== Proof.SbGrid.lean ====
/- The blocks of the attention's backward call at a grid point, and the arrays it leaves. -/
module

public import proofs.«01_k».proof.Proof.SbReads

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset

variable (m : (ℓ : Loc nD τ sig) → Buf (Elt Ideal) ℓ) (c : Dev nD)

/-- The three arguments. -/
abbrev X0 : FVec Ideal S2x2048x16384 .f32 := m ((c : Thread nD τ).loc main_arg0)
@[inherit_doc X0]
abbrev X1 : FVec Ideal S2x2048x4096 .f32 := m ((c : Thread nD τ).loc main_arg1)
@[inherit_doc X0]
abbrev X2 : FVec Ideal S1x2048 .f32 := m ((c : Thread nD τ).loc main_arg2)

section
variable (t : Fin cfg0.N)

theorem rd_q : (blk m c t).q = (win0_0.blk t).view.read (Elt Ideal) (V m c main_v56) := rfl
theorem rd_k : (blk m c t).k = (win0_1.blk t).view.read (Elt Ideal) (V m c main_v56) := rfl
theorem rd_v : (blk m c t).v = (win0_2.blk t).view.read (Elt Ideal) (V m c main_v56) := rfl
theorem rd_zg : (blk m c t).zg = (win0_3.blk t).view.read (Elt Ideal) (V m c main_v56) := rfl
theorem rd_o : (blk m c t).o = (win0_4.blk t).view.read (Elt Ideal) (V m c main_v29) := rfl
theorem rd_tot : (blk m c t).tot = (win0_5.blk t).view.read (Elt Ideal) (V m c main_v49) := rfl
theorem rd_dy : (blk m c t).dy = (win0_6.blk t).view.read (Elt Ideal) (V m c main_v58) := rfl
theorem rd_g : (blk m c t).g = (win0_7.blk t).view.read (Elt Ideal) (V m c main_arg2) := rfl
theorem rd_trips : (blk m c t).trips = (win0_8.blk t).view.read (Elt Ideal) (V m c main_v54) := rfl
theorem blk_q (n : Fin 2048) (d : Fin 128) : (blk m c t).q (ix4 0 0 n d) = X0 m c (ix3 (bt t) n (seg 0 (ht t) d)) := by
  rw [rd_q, rd0]
  exact V56 m c 0 (bt t) n _
theorem blk_k (n : Fin 2048) (d : Fin 128) : (blk m c t).k (ix4 0 0 n d) = X0 m c (ix3 (bt t) n (seg 1 (ht t) d)) := by
  rw [rd_k, rd1]
  exact V56 m c 1 (bt t) n _
theorem blk_v (n : Fin 2048) (d : Fin 128) : (blk m c t).v (ix4 0 0 n d) = X0 m c (ix3 (bt t) n (seg 2 (ht t) d)) := by
  rw [rd_v, rd2]
  exact V56 m c 2 (bt t) n _
theorem blk_zg (n : Fin 2048) (d : Fin 128) : (blk m c t).zg (ix4 0 0 n d) = X0 m c (ix3 (bt t) n (seg 3 (ht t) d)) := by
  rw [rd_zg, rd3]
  exact V56 m c 3 (bt t) n _
theorem blk_o (n : Fin 2048) (d : Fin 128) : (blk m c t).o (ix3 0 n d)
    = Cert.SbRefIdeal.Read.val_main_v29 (F := Ideal) (X0 m c) (ix4 (bt t) (ht t) n d) := by
  rw [rd_o, rd4, V29]
  exact merged_at _ (bt t) n (ht t) d
theorem blk_tot (n : Fin 2048) : (blk m c t).tot (ix3 0 n 0)
    = Ideal.div (∑ j, Cert.SbRefIdeal.Read.val_main_v22_0 (F := Ideal) (X0 m c) (ix4 (bt t) (ht t) n j)) (Ideal.log (Ideal.ofBits FTy.f32 0x40000000#32)) := by
  rw [rd_tot, rd5, V49]
  exact (spread_at _ (bt t) n (ht t) 0).trans (tots_at _ (bt t) n (ht t))
theorem blk_dy (n : Fin 2048) (d : Fin 128) : (blk m c t).dy (ix4 0 0 n d) = X1 m c (ix3 (bt t) n (seg 0 (ht t) d)) := by
  rw [rd_dy, rd6]
  exact V58 m c 0 (bt t) n _
theorem blk_g (d : Fin 128) : (blk m c t).g (ix2 0 d) = X2 m c (ix2 0 ⟨128 * (ht t).val + d.val, by omega⟩) := by
  rw [rd_g, rd7]
  rfl
theorem blk_trips (k : Fin 4) : (blk m c t).trips (ix4 0 0 0 k) = (((k.val + 1 : ℕ) : ℝ) : EReal) := by
  rw [rd_trips, rd8]
  exact V54 m c (bt t) (ht t) k
end

end Cert.SbIdeal.Hand
-- ==== Proof.SbOut.lean ====
/- The arrays the attention's backward call leaves. -/
module

public import proofs.«01_k».proof.Proof.SbReads

@[expose] public section

set_option maxRecDepth 16384

noncomputable section

namespace Cert.SbIdeal.Hand

open Cert.SbIdeal Cert.SbIdeal.Gen Cert.SbMath Idealize.ShloMosaic Idealize.ShloMosaic.TcCoe Idealize.SL.Sem Finset

variable (m : (ℓ : Loc nD τ sig) → Buf (Elt Ideal) ℓ) (c : Dev nD)

/-- An array of gradients, at an index. -/
def arr9 (G : Fin 4 → Fin 2 → Fin 2048 → Fin 16 → Fin 128 → EReal) : FVec Ideal S8x2x2048x2048 .bf16 := fun j =>
  G ⟨(j 0).val % 4, by omega⟩ (j 1) (j 2) ⟨(j 3).val / 128, by have := (j 3).isLt; change (j 3).val < 2048 at this; omega⟩
    ⟨(j 3).val % 128, by omega⟩
theorem arr9_at (G) (p : Fin 4) (b : Fin 2) (n : Fin 2048) (h : Fin 16) (d : Fin 128) :
    arr9 G (ix4 ⟨p.val, by omega⟩ b n ⟨128 * h.val + d.val, by omega⟩) = G p b n h d := by
  have e1 : (⟨p.val % 4, by omega⟩ : Fin 4) = p := Fin.ext (by show p.val % 4 = p.val; omega)
  have e2 : (⟨(128 * h.val + d.val) / 128, by omega⟩ : Fin 16) = h := Fin.ext (by show (128 * h.val + d.val) / 128 = h.val; omega)
  have e3 : (⟨(128 * h.val + d.val) % 128, by omega⟩ : Fin 128) = d := Fin.ext (by show (128 * h.val + d.val) % 128 = d.val; omega)
  show G ⟨p.val % 4, _⟩ b n ⟨(128 * h.val + d.val) / 128, _⟩ ⟨(128 * h.val + d.val) % 128, _⟩ = _
  rw [e1, e2, e3]
@[inherit_doc arr9]
def arr10 (G : Fin 2 → Fin 16 → Fin 128 → EReal) : FVec Ideal S2x1x2048 .f32 := fun j =>
  G (j 0) ⟨(j 2).val / 128, by have := (j 2).isLt; change (j 2).val < 2048 at this; omega⟩ ⟨(j 2).val % 128, by omega⟩
theorem arr10_at (G) (b : Fin 2) (h : Fin 16) (d : Fin 128) : arr10 G (ix3 b 0 ⟨128 * h.val + d.val, by omega⟩) = G b h d := by
  have e2 : (⟨(128 * h.val + d.val) / 128, by omega⟩ : Fin 16) = h := Fin.ext (by show (128 * h.val + d.val) / 128 = h.val; omega)
  have e3 : (⟨(128 * h.val + d.val) % 128, by omega⟩ : Fin 128) = d := Fin.ext (by show (128 * h.val + d.val) % 128 = d.val; omega)
  show G b ⟨(128 * h.val + d.val) / 128, _⟩ ⟨(128 * h.val + d.val) % 128, _⟩ = _
  rw [e2, e3]

/-- What the launch leaves in the segments it writes, -/
theorem final9 (G : Fin 4 → Fin 2 → Fin 2048 → Fin 16 → Fin 128 → EReal)
    (hG : ∀ t p n d, out9 m c t (ix4 p 0 n d) = G p (bt t) n (ht t) d) :
    (dats m 0 c).arrAt 9 cfg0.N = fun i : S8x2x2048x2048.Idx => if (i 0).val / 4 = 0 then arr9 G i else (dats m 0 c).A 9 i := by
  refine (dats m 0 c).arrAt_eq_of_coversWhere 9 (arr9 G) (fun β => β (0 : Fin _) = 0) (by decide +kernel) (fun t hf y => ?_) (fun j => Iff.rfl)
  blk_simp
  idx_vars y
  obtain rfl : y1 = 0 := Subsingleton.elim _ _
  refine Eq.trans ?_ ((congrArg (arr9 G) (emb9 t y0 y2 y3)).trans (arr9_at G y0 (bt t) y2 (ht t) y3)).symm
  rw [after0_9]
  exact hG t y0 y2 y3
/-- and in the gradient of the gain. -/
theorem final10 (G : Fin 2 → Fin 16 → Fin 128 → EReal) (hG : ∀ t d, out10 m c t (ix3 0 0 d) = G (bt t) (ht t) d) :
    (dats m 0 c).arrAt 10 cfg0.N = arr10 G := by
  refine (dats m 0 c).arrAt_eq_of_covers 10 (arr10 G) (by decide +kernel) (fun t hf y => ?_)
  blk_simp
  idx_vars y
  obtain rfl : y0 = 0 := Subsingleton.elim _ _
  obtain rfl : y1 = 0 := Subsingleton.elim _ _
  refine Eq.trans ?_ ((congrArg (arr10 G) (emb10 t y2)).trans (arr10_at G (bt t) (ht t) y2)).symm
  rw [after0_10]
  exact hG t y2

end Cert.SbIdeal.Hand
-- ==== Proof.SbRef.lean ====
/- The attention of the reference, at real operands: the gates, the weights, and the weighted sum. -/
module

public import proofs.«01_k».proof.Proof.Gen.SbRefIdeal.Read
public import proofs.«01_k».proof.Proof.SbHead
public import Idealize.ShloMosaic.Lib.WordCmp
public import Idealize.ShloMosaic.Lib.Routing.Ops

@[expose] public section

set_option maxRecDepth 16384

noncomputable section

namespace Cert.SbRefIdeal.Grad

open Cert.SbRefIdeal Cert.SbRefIdeal.Gen Cert.SbRefIdeal.Read Cert.SbMath Idealize.ShloMosaic Idealize.ShloMosaic.TcCoe Idealize.SL.Sem Finset

/-! ## Sums along a window of the last axis -/

theorem foldl_coe {ι : Type} (l : List ι) (g : ι → EReal) (f : ι → ℝ) (hg : ∀ a ∈ l, g a = (f a : EReal)) (v : EReal) (z : ℝ) (hv : v = (z : EReal)) :
    l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by rw [hv, hg a List.mem_cons_self, EReal.coe_add]),
      List.map_cons, List.sum_cons, add_assoc]

theorem numel_row (N : ℕ) : (⟨4, ![1, 1, 1, N]⟩ : Shape).numel = N := by
  show ∏ a : Fin 4, (![1, 1, 1, N] : Fin 4 → ℕ) a = N
  simp [Fin.prod_univ_four]

theorem symm_row {N : ℕ} (n : Fin (⟨4, ![1, 1, 1, N]⟩ : Shape).numel) :
    (⟨4, ![1, 1, 1, N]⟩ : Shape).rowMajor.symm n = ix4 (0 : Fin 1) (0 : Fin 1) (0 : Fin 1) (n.cast (numel_row N)) :=
  ((⟨4, ![1, 1, 1, N]⟩ : Shape).rowMajor.symm_apply_eq).2 (Fin.ext (by
    rw [Shape.rowMajor_val_four]
    show n.val = ((0 * 1 + 0) * 1 + 0) * N + n.val
    omega))

theorem window_row {A B C N lo hi : ℕ} (x : (⟨4, ![A, B, C, N]⟩ : Shape).Idx → EReal) (f : ℕ → ℝ) (a : Fin A) (b : Fin B) (c : Fin C)
    (hx : ∀ i : Fin N, x (ix4 a b c i) = (f i.val : EReal)) (init : (⟨0, ![]⟩ : Shape).Idx → EReal) (hinit : ∀ i, init i = 0)
    (h : (⟨4, ![A, B, C, N]⟩ : Shape).ReduceWindows (![1, 1, 1, N] : Fin 4 → ℕ) ![1, 1, 1, 1] ![0, 0, 0, lo] ![0, 0, 0, hi] ⟨4, ![A, B, C, N]⟩)
    (hu : 0 < (⟨0, ![]⟩ : Shape).numel) (j : Fin N) :
    Host.reduceWindow (· + ·) ![1, 1, 1, N] ![1, 1, 1, 1] ![0, 0, 0, lo] ![0, 0, 0, hi] x init h hu (ix4 a b c j)
      = ((∑ n ∈ range N, if lo ≤ j.val + n ∧ j.val + n - lo < N then f (j.val + n - lo) else 0 : ℝ) : EReal) := by
  have hj := j.isLt
  unfold Host.reduceWindow
  refine (foldl_coe _ _ (fun n => if lo ≤ j.val + n.val ∧ j.val + n.val - lo < N then f (j.val + n.val - lo) else 0) (fun n _ => ?_) _ 0 (hinit _)).trans ?_
  · have hw : ∀ (q : Fin 4), q ≠ 3 → ((⟨4, ![1, 1, 1, N]⟩ : Shape).rowMajor.symm n q).val = 0 := by
      intro q hq
      rw [symm_row]
      match q, hq with
      | ⟨0, _⟩, _ => rfl
      | ⟨1, _⟩, _ => rfl
      | ⟨2, _⟩, _ => rfl
      | ⟨3, _⟩, h => exact absurd rfl h
    have hw3 : ((⟨4, ![1, 1, 1, N]⟩ : Shape).rowMajor.symm n 3).val = n.val := by rw [symm_row]; rfl
    have h0 := hw 0 (by decide)
    have h1 := hw 1 (by decide)
    have h2 := hw 2 (by decide)
    dsimp only
    split
    · next hin =>
      have h3 := hin 3
      change lo ≤ j.val * 1 + ((⟨4, ![1, 1, 1, N]⟩ : Shape).rowMajor.symm n 3).val
        ∧ j.val * 1 + ((⟨4, ![1, 1, 1, N]⟩ : Shape).rowMajor.symm n 3).val - lo < N at h3
      rw [hw3, Nat.mul_one] at h3
      rw [if_pos h3]
      refine (congrArg x (funext fun q => Fin.ext ?_)).trans (hx ⟨j.val + n.val - lo, h3.2⟩)
      match q with
      | ⟨0, _⟩ =>
        show a.val * 1 + ((⟨4, ![1, 1, 1, N]⟩ : Shape).rowMajor.symm n 0).val - 0 = a.val
        rw [h0]; omega
      | ⟨1, _⟩ =>
        show b.val * 1 + ((⟨4, ![1, 1, 1, N]⟩ : Shape).rowMajor.symm n 1).val - 0 = b.val
        rw [h1]; omega
      | ⟨2, _⟩ =>
        show c.val * 1 + ((⟨4, ![1, 1, 1, N]⟩ : Shape).rowMajor.symm n 2).val - 0 = c.val
        rw [h2]; omega
      | ⟨3, _⟩ =>
        show j.val * 1 + ((⟨4, ![1, 1, 1, N]⟩ : Shape).rowMajor.symm n 3).val - lo = j.val + n.val - lo
        rw [hw3, Nat.mul_one]
    · next hin =>
      rw [if_neg fun hle => hin fun q => by
        match q with
        | ⟨0, _⟩ =>
          show 0 ≤ a.val * 1 + ((⟨4, ![1, 1, 1, N]⟩ : Shape).rowMajor.symm n 0).val ∧ a.val * 1 + ((⟨4, ![1, 1, 1, N]⟩ : Shape).rowMajor.symm n 0).val - 0 < A
          rw [h0]; have := a.isLt; omega
        | ⟨1, _⟩ =>
          show 0 ≤ b.val * 1 + ((⟨4, ![1, 1, 1, N]⟩ : Shape).rowMajor.symm n 1).val ∧ b.val * 1 + ((⟨4, ![1, 1, 1, N]⟩ : Shape).rowMajor.symm n 1).val - 0 < B
          rw [h1]; have := b.isLt; omega
        | ⟨2, _⟩ =>
          show 0 ≤ c.val * 1 + ((⟨4, ![1, 1, 1, N]⟩ : Shape).rowMajor.symm n 2).val ∧ c.val * 1 + ((⟨4, ![1, 1, 1, N]⟩ : Shape).rowMajor.symm n 2).val - 0 < C
          rw [h2]; have := c.isLt; omega
        | ⟨3, _⟩ =>
          show lo ≤ j.val * 1 + ((⟨4, ![1, 1, 1, N]⟩ : Shape).rowMajor.symm n 3).val
            ∧ j.val * 1 + ((⟨4, ![1, 1, 1, N]⟩ : Shape).rowMajor.symm n 3).val - lo < N
          rw [hw3, Nat.mul_one]; exact hle]
      exact hinit _
  · rw [zero_add, Routing.map_finRange_val _ (fun n => if lo ≤ j.val + n ∧ j.val + n - lo < N then f (j.val + n - lo) else 0), numel_row]
    rfl

/-- The same of the host's windowed sum. -/
theorem sums_row {A B C N lo hi : ℕ} (x : FVec Ideal ⟨4, ![A, B, C, N]⟩ .f32) (f : ℕ → ℝ) (a : Fin A) (b : Fin B) (c : Fin C)
    (hx : ∀ i : Fin N, x (ix4 a b c i) = (f i.val : EReal)) (init : (⟨0, ![]⟩ : Shape).Idx → EReal) (hinit : ∀ i, init i = 0)
    (h : (⟨4, ![A, B, C, N]⟩ : Shape).ReduceWindows (![1, 1, 1, N] : Fin 4 → ℕ) ![1, 1, 1, 1] ![0, 0, 0, lo] ![0, 0, 0, hi] ⟨4, ![A, B, C, N]⟩)
    (hu : 0 < (⟨0, ![]⟩ : Shape).numel) (j : Fin N) :
    Host.reduceWindowAdd (F := Ideal) (φ := .f32) ![1, 1, 1, N] ![1, 1, 1, 1] ![0, 0, 0, lo] ![0, 0, 0, hi] x init h hu (ix4 a b c j)
      = ((∑ n ∈ range N, if lo ≤ j.val + n ∧ j.val + n - lo < N then f (j.val + n - lo) else 0 : ℝ) : EReal) :=
  window_row x f a b c hx (fun _ => init (Shape.Idx.first hu)) (fun _ => hinit _) h hu j

/-- The sum of what comes at or after an entry. -/
theorem window_after (f : ℕ → ℝ) {N j : ℕ} (hj : j < N) :
    (∑ n ∈ range N, if 0 ≤ j + n ∧ j + n - 0 < N then f (j + n - 0) else 0) = ∑ n ∈ range N, f n - ∑ n ∈ range j, f n := by
  obtain ⟨d, rfl⟩ : ∃ d, N = j + d := ⟨N - j, by omega⟩
  rw [Finset.sum_range_add f j d, add_sub_cancel_left, add_comm j d, Finset.sum_range_add _ d j]
  rw [Finset.sum_eq_zero (s := range j) fun n hn => if_neg (by omega), add_zero]
  exact Finset.sum_congr rfl fun n hn => by rw [if_pos (by have := Finset.mem_range.1 hn; omega), Nat.sub_zero]

/-- The sum of what comes at or before an entry. -/
theorem window_before (f : ℕ → ℝ) {M j : ℕ} (hj : j < M + 1) :
    (∑ n ∈ range (M + 1), if M ≤ j + n ∧ j + n - M < M + 1 then f (j + n - M) else 0) = ∑ n ∈ range (j + 1), f n := by
  obtain ⟨d, rfl⟩ : ∃ d, M = d + j := ⟨M - j, by omega⟩
  rw [show d + j + 1 = d + (j + 1) by omega, Finset.sum_range_add _ d (j + 1)]
  rw [Finset.sum_eq_zero (s := range d) fun n hn => if_neg (by have := Finset.mem_range.1 hn; omega), zero_add]
  exact Finset.sum_congr rfl fun n hn => by
    have := Finset.mem_range.1 hn
    rw [if_pos (by omega), show j + (d + n) - (d + j) = n by omega]

/-! ## The operands -/

section
variable (x0 : (⟨S2x2048x16384, .f32⟩ : BufTy).Contents (Elt Ideal)) (x1 : (⟨S2x2048x4096, .f32⟩ : BufTy).Contents (Elt Ideal)) (x2 : (⟨S1x2048, .f32⟩ : BufTy).Contents (Elt Ideal))
  (b : Fin 2) (h : Fin 16)

/-- One head's columns of the arguments, real. -/
structure Ins (Q K V Z Y : Mat) (G : Fin 128 → ℝ) : Prop where
  q : ∀ (n : Fin 2048) (d : Fin 128), x0 (ix3 b n ⟨2048 * 0 + (128 * h.val + d.val), by omega⟩) = (Q n.val d : EReal)
  k : ∀ (n : Fin 2048) (d : Fin 128), x0 (ix3 b n ⟨2048 * 1 + (128 * h.val + d.val), by omega⟩) = (K n.val d : EReal)
  v : ∀ (n : Fin 2048) (d : Fin 128), x0 (ix3 b n ⟨2048 * 2 + (128 * h.val + d.val), by omega⟩) = (V n.val d : EReal)
  z : ∀ (n : Fin 2048) (d : Fin 128), x0 (ix3 b n ⟨2048 * 3 + (128 * h.val + d.val), by omega⟩) = (Z n.val d : EReal)
  y : ∀ (n : Fin 2048) (d : Fin 128), x1 (ix3 b n ⟨2048 * 0 + (128 * h.val + d.val), by omega⟩) = (Y n.val d : EReal)
  g : ∀ d : Fin 128, x2 (ix2 0 ⟨128 * h.val + d.val, by omega⟩) = (G d : EReal)

theorem v6_at (n : Fin 2048) (d : Fin 128) : val_main_v6 x0 (ix4 b h n d) = x0 (ix3 b n ⟨2048 * 0 + (128 * h.val + d.val), by omega⟩) := by
  pointwise [val_main_v6, val_main_v5, val_main_v0]
  exact congrArg (fun i : Fin 16384 => x0 (ix3 b n i)) (Fin.ext (by dsimp only; omega))
theorem v8_at (n : Fin 2048) (d : Fin 128) : val_main_v8 x0 (ix4 b h n d) = x0 (ix3 b n ⟨2048 * 1 + (128 * h.val + d.val), by omega⟩) := by
  pointwise [val_main_v8, val_main_v7, val_main_v1]
  exact congrArg (fun i : Fin 16384 => x0 (ix3 b n i)) (Fin.ext (by dsimp only; omega))
theorem v10_at (n : Fin 2048) (d : Fin 128) : val_main_v10 x0 (ix4 b h n d) = x0 (ix3 b n ⟨2048 * 2 + (128 * h.val + d.val), by omega⟩) := by
  pointwise [val_main_v10, val_main_v9, val_main_v2]
  exact congrArg (fun i : Fin 16384 => x0 (ix3 b n i)) (Fin.ext (by dsimp only; omega))
theorem v13_at (r s : Fin 2048) : val_main_v13 x0 (ix4 b h r s)
    = (∑ d, val_main_v6 x0 (ix4 b h r d) * val_main_v8 x0 (ix4 b h s d)) * Ideal.ofBits FTy.f32 0x3DB504F3#32 := by
  pointwise [val_main_v13, val_main_v12, val_main_cst, val_main_v11]
theorem v19_at (r s : Fin 2048) : val_main_v19 (F := Ideal) (ix2 r s) = BitVec.ofBool (decide (s < r)) := by
  pointwise [val_main_v19, val_main_v18, val_main_v17, val_main_v16, val_main_v15, val_main_v14]
  rw [WordCmp.cmpi_slt_eq, WordCmp.toInt_ofNat_of_lt (by omega), WordCmp.toInt_ofNat_of_lt (by omega)]
  simp

/-- The larger of a number and zero, with its small correction. -/
def spl (x : EReal) : EReal := max x 0 + Ideal.log1p (Ideal.exp (-FloatOps.absf (F := Ideal) (φ := .f32) x))

theorem spl_coe (x : ℝ) : spl (x : EReal) = ((Real.log (1 + Real.exp x) : ℝ) : EReal) := by
  have e : Ideal.log1p (Ideal.exp (-FloatOps.absf (F := Ideal) (φ := .f32) (x : EReal))) = ((Real.log (1 + Real.exp (-|x|)) : ℝ) : EReal) := by
    show Ideal.log (1 + Ideal.exp (-max (x : EReal) (-(x : EReal)))) = _
    rw [abs_coe, ← EReal.coe_neg, exp_coe, one_coe, ← EReal.coe_add, log_coe (exp_pos1 _)]
  rw [spl, e, zero_coe, coe_max, ← EReal.coe_add, ← softplus x]

theorem word_top : Ideal.ofBits FTy.f32 0x7F800000#32 = ⊤ := by simp [Ideal.ofBits, Ideal.ieee]

theorem v21_a (r s : Fin 2048) : val_main_call0_v1_0 x0 (ix4 b h r s) = spl (- -val_main_v13 x0 (ix4 b h r s)) := by
  pointwise [val_main_call0_v1_0, val_main_call0_call0_v11, val_main_call0_call0_v10, val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0, val_main_call0_call0_cst, val_main_call0_v0, val_main_v20]
  exact if_neg (by simp)
theorem v21_0_at (r s : Fin 2048) : val_main_v21_0 x0 (ix4 b h r s) = -spl (- -val_main_v13 x0 (ix4 b h r s)) := by
  rw [← v21_a]
  pointwise [val_main_v21_0]
theorem v21_1_at (r s : Fin 2048) (x : ℝ) (hx : val_main_v13 x0 (ix4 b h r s) = (x : EReal)) : val_main_v21_1 x0 (ix4 b h r s) = ((sg x : ℝ) : EReal) := by
  pointwise [val_main_v21_1, val_main_call0_call0_v21, val_main_call0_call0_v20, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0]
  rw [v21_a, show val_main_call0_v0 x0 (ix4 b h r s) = - -val_main_v13 x0 (ix4 b h r s) by pointwise [val_main_call0_v0, val_main_v20], neg_neg, hx,
    spl_coe, word_top, if_neg (EReal.coe_ne_top _), if_neg (EReal.coe_ne_top _), ← EReal.coe_sub, exp_coe, exp_sub_softplus]
theorem v23_a (r s : Fin 2048) : val_main_call2_v1_0 x0 (ix4 b h r s) = spl (-val_main_v13 x0 (ix4 b h r s)) := by
  pointwise [val_main_call2_v1_0, val_main_call2_call0_v11, val_main_call2_call0_v10, val_main_call2_call0_v9, val_main_call2_call0_v8, val_main_call2_call0_v7, val_main_call2_call0_v6, val_main_call2_call0_v5,
    val_main_call2_call0_v4, val_main_call2_call0_v3, val_main_call2_call0_v2, val_main_call2_call0_v1, val_main_call2_call0_v0, val_main_call2_call0_cst, val_main_call2_v0]
  exact if_neg (by simp)
theorem v23_0_at (r s : Fin 2048) : val_main_v23_0 x0 (ix4 b h r s) = -spl (-val_main_v13 x0 (ix4 b h r s)) := by
  rw [← v23_a]
  pointwise [val_main_v23_0]
theorem v23_1_at (r s : Fin 2048) (x : ℝ) (hx : val_main_v13 x0 (ix4 b h r s) = (x : EReal)) : val_main_v23_1 x0 (ix4 b h r s) = ((sg (-x) : ℝ) : EReal) := by
  pointwise [val_main_v23_1, val_main_call2_call0_v21, val_main_call2_call0_v20, val_main_call2_call0_v19, val_main_call2_call0_cst_3, val_main_call2_call0_v18, val_main_call2_call0_v17, val_main_call2_call0_cst_2, val_main_call2_call0_v16, val_main_call2_call0_v15, val_main_call2_call0_cst_1, val_main_call2_call0_v14, val_main_call2_call0_v13, val_main_call2_call0_cst_0]
  rw [v23_a, show val_main_call2_v0 x0 (ix4 b h r s) = -val_main_v13 x0 (ix4 b h r s) by pointwise [val_main_call2_v0], hx, ← EReal.coe_neg,
    spl_coe, word_top, if_neg (EReal.coe_ne_top _), if_neg (EReal.coe_ne_top _), ← EReal.coe_sub, exp_coe, exp_sub_softplus]

theorem pick (p : Prop) [Decidable p] (x y : EReal) : Scalar.select (BitVec.ofBool (decide p)) x y = if p then x else y := by
  by_cases hp : p <;> simp [hp, Scalar.select]

theorem pick_lt (r s : Fin 2048) (x : ℝ) : (if s < r then (x : EReal) else 0) = ((if s.val < r.val then x else 0 : ℝ) : EReal) := by
  by_cases hp : s < r
  · rw [if_pos hp, if_pos (Fin.lt_def.1 hp)]
  · rw [if_neg hp, if_neg (fun q => hp (Fin.lt_def.2 q)), zero_coe]

theorem v22_0_at (r s : Fin 2048) : val_main_v22_0 x0 (ix4 b h r s) = if s < r then val_main_v21_0 x0 (ix4 b h r s) else 0 := by
  pointwise [val_main_v22_0, val_main_v22_1, val_main_call1_v2, val_main_call1_v0, val_main_cst_0]
  rw [v19_at, pick]
  exact congrArg (fun w : EReal => if s < r then _ else w) Ideal.ofBits_zero_f32
theorem v28_0_at (r s : Fin 2048) : val_main_v28_0 x0 (ix4 b h r s) = if s < r then val_main_v27 x0 (ix4 b h r s) else 0 := by
  pointwise [val_main_v28_0, val_main_v28_1, val_main_call4_v2, val_main_call4_v0, val_main_cst_1]
  rw [v19_at, pick]
  exact congrArg (fun w : EReal => if s < r then _ else w) Ideal.ofBits_zero_f32
theorem v27_at (r s : Fin 2048) : val_main_v27 x0 (ix4 b h r s) = Ideal.exp (val_main_v23_0 x0 (ix4 b h r s) + (val_main_v24 x0 (ix4 b h r s) - val_main_v22_0 x0 (ix4 b h r s))) := by
  pointwise [val_main_v27, val_main_v26, val_main_v25]
theorem v29_at (r : Fin 2048) (d : Fin 128) : val_main_v29 x0 (ix4 b h r d) = ∑ s, val_main_v28_0 x0 (ix4 b h r s) * val_main_v10 x0 (ix4 b h s d) := by
  pointwise [val_main_v29]

variable {x0 x1 x2 b h} {Q K V Z Y : Mat} {G : Fin 128 → ℝ} (I : Ins x0 x1 x2 b h Q K V Z Y G)
include I

theorem logit (r s : Fin 2048) : val_main_v13 x0 (ix4 b h r s) = ((zz Q K r.val s.val : ℝ) : EReal) := by
  rw [v13_at, word_w]
  simp only [v6_at, v8_at, I.q, I.k, ← EReal.coe_mul, ← Reals.coe_sum]
  rfl
theorem log1m (r s : Fin 2048) : val_main_v22_0 x0 (ix4 b h r s) = ((ll Q K r.val s.val : ℝ) : EReal) := by
  rw [v22_0_at, v21_0_at, neg_neg, logit I, spl_coe, ← EReal.coe_neg, pick_lt]
  rfl
theorem rest (r s : Fin 2048) : val_main_v24 x0 (ix4 b h r s)
    = ((∑ j ∈ range 2048, ll Q K r.val j - ∑ j ∈ range s.val, ll Q K r.val j : ℝ) : EReal) := by
  have e := sums_row (A := 2) (B := 16) (C := 2048) (N := 2048) (lo := 0) (hi := 2047) (val_main_v22_0 x0) (fun j => ll Q K r.val j) b h r (fun i => log1m I r i)
    (val_main_call3_v0 (F := Ideal)) (fun i => by pointwise [val_main_call3_v0, val_main_call3_cst])
    reduceWindows_S2x16x2048x2048_S2x16x2048x2048_w1s1p0_0_w1s1p0_0_w1s1p0_0_w2048s1p0_2047 h_S_ s
  rw [window_after _ s.isLt] at e
  exact e
theorem ewt (r s : Fin 2048) : val_main_v27 x0 (ix4 b h r s) = ((Real.exp (-Real.log (1 + Real.exp (-zz Q K r.val s.val))
    + (∑ j ∈ range 2048, ll Q K r.val j - ∑ j ∈ range (s.val + 1), ll Q K r.val j)) : ℝ) : EReal) := by
  rw [v27_at, rest I, log1m I, v23_0_at, logit I, ← EReal.coe_neg, spl_coe, ← EReal.coe_neg, ← EReal.coe_sub, ← EReal.coe_add, exp_coe, Finset.sum_range_succ _ s.val,
    sub_add_eq_sub_sub]
theorem weight (r s : Fin 2048) : val_main_v28_0 x0 (ix4 b h r s) = ((aa Q K r.val s.val : ℝ) : EReal) := by
  rw [v28_0_at, ewt I, pick_lt]
  rfl
/-- The weighted sum of the values. -/
def oo (Q K V : Mat) : Mat := fun r d => ∑ j ∈ range 2048, aa Q K r j * V j d
theorem attn (r : Fin 2048) (d : Fin 128) : val_main_v29 x0 (ix4 b h r d) = ((oo Q K V r.val d : ℝ) : EReal) := by
  rw [v29_at, oo, ← Fin.sum_univ_eq_sum_range (fun j => aa Q K r.val j * V j d) 2048]
  simp only [weight I, v10_at, I.v, ← EReal.coe_mul, ← Reals.coe_sum]
end

end Cert.SbRefIdeal.Grad
-- ==== Proof.SbRefBwd.lean ====
/- The gradient of the reference through its normed and gated output, at real operands. -/
module

public import proofs.«01_k».proof.Proof.SbRef

@[expose] public section

set_option maxRecDepth 16384

noncomputable section

namespace Cert.SbRefIdeal.Grad

open Cert.SbRefIdeal Cert.SbRefIdeal.Gen Cert.SbRefIdeal.Read Cert.SbMath Idealize.ShloMosaic Idealize.ShloMosaic.TcCoe Idealize.SL.Sem Finset

/-- A head's column among the merged ones. -/
abbrev ci (h : Fin 16) (d : Fin 128) : Fin 2048 := ⟨128 * h.val + d.val, by omega⟩

theorem fin_one' {M : Type*} [AddCommMonoid M] (f : Fin 1 → M) : ∑ i, f i = f 0 := by simp

section
variable (x0 : (⟨S2x2048x16384, .f32⟩ : BufTy).Contents (Elt Ideal)) (x1 : (⟨S2x2048x4096, .f32⟩ : BufTy).Contents (Elt Ideal)) (x2 : (⟨S1x2048, .f32⟩ : BufTy).Contents (Elt Ideal))
  (b : Fin 2) (h : Fin 16)

theorem v3_at (n : Fin 2048) (d : Fin 128) : val_main_v3 x0 (ix3 b n (ci h d)) = x0 (ix3 b n ⟨2048 * 3 + (128 * h.val + d.val), by omega⟩) := by
  pointwise [val_main_v3]
theorem v4_at (j : Fin 2048) : val_main_v4 x2 (ix3 b 0 j) = x2 (ix2 0 j) := by
  pointwise [val_main_v4]
theorem v49_at (n : Fin 2048) (d : Fin 128) : val_main_v49 x1 (ix3 b n (ci h d)) = x1 (ix3 b n ⟨2048 * 0 + (128 * h.val + d.val), by omega⟩) := by
  pointwise [val_main_v49]
theorem v36_at (n : Fin 2048) : val_main_v36 x0 (ix4 b h n 0)
    = Ideal.div (∑ d, val_main_v29 x0 (ix4 b h n d) * val_main_v29 x0 (ix4 b h n d)) (Ideal.ofBits FTy.f32 0x43000000#32) + Ideal.ofBits FTy.f32 0x358637BD#32 := by
  pointwise [val_main_v36, val_main_v35, val_main_cst_4, val_main_v34, val_main_v33, val_main_cst_3, val_main_v32, val_main_v31, val_main_cst_2, val_main_v30]
theorem v37_at (n : Fin 2048) : val_main_v37 x0 (ix4 b h n 0) = Ideal.rsqrt (val_main_v36 x0 (ix4 b h n 0)) := by
  pointwise [val_main_v37]
theorem v40_at (n : Fin 2048) : val_main_v40 x0 (ix4 b h n 0) = Ideal.ofBits FTy.f32 0xBF000000#32 * Ideal.div (val_main_v37 x0 (ix4 b h n 0)) (val_main_v36 x0 (ix4 b h n 0)) := by
  pointwise [val_main_v40, val_main_v39, val_main_cst_5, val_main_v38]
theorem v44_at (n : Fin 2048) (d : Fin 128) : val_main_v44 x0 (ix3 b n (ci h d)) = val_main_v29 x0 (ix4 b h n d) * val_main_v37 x0 (ix4 b h n 0) := by
  pointwise [val_main_v44, val_main_v43, val_main_v42, val_main_v41]
  rw [show (⟨(128 * h.val + d.val) / 128, by omega⟩ : Fin 16) = h from Fin.ext (by dsimp only; omega), show (⟨(128 * h.val + d.val) % 128, by omega⟩ : Fin 128) = d from Fin.ext (by dsimp only; omega)]
theorem v46_at (n : Fin 2048) (d : Fin 128) : val_main_v46 x0 x2 (ix3 b n (ci h d)) = val_main_v44 x0 (ix3 b n (ci h d)) * x2 (ix2 0 (ci h d)) := by
  have e : val_main_v45 x2 (ix3 b n (ci h d)) = x2 (ix2 0 (ci h d)) := by pointwise [val_main_v45, val_main_v4]
  rw [val_main_v46_apply, e]
  rfl
theorem v47_2_at (j : S2x2048x2048.Idx) : val_main_v47_2 x0 j = Ideal.div 1 (1 + Ideal.exp (-val_main_v3 x0 j)) := by
  rw [← word_one]
  rfl
theorem v47_1_at (j : S2x2048x2048.Idx) : val_main_v47_1 x0 j = val_main_v47_2 x0 j * (1 - val_main_v47_2 x0 j) := by
  rw [← word_one]
  rfl
theorem v47_0_at (j : S2x2048x2048.Idx) : val_main_v47_0 x0 j = val_main_v3 x0 j * val_main_v47_2 x0 j := rfl
theorem v51_at (j : S2x2048x2048.Idx) : val_main_v51 x0 x1 j = val_main_v49 x1 j * val_main_v47_0 x0 j := rfl
theorem v52_at (j : S2x2048x2048.Idx) : val_main_v52 x0 x1 x2 j = val_main_v46 x0 x2 j * val_main_v49 x1 j * val_main_v47_2 x0 j
    + val_main_v3 x0 j * (val_main_v46 x0 x2 j * val_main_v49 x1 j) * val_main_v47_1 x0 j := by
  rw [val_main_v52_apply, val_main_call6_v1_apply, val_main_call6_v2_apply, val_main_call6_v0_apply, val_main_v50_apply]
  rfl
theorem v54_at (j : Fin 2048) : val_main_v54 x0 x1 (ix2 b j) = ∑ n, val_main_v44 x0 (ix3 b n j) * val_main_v51 x0 x1 (ix3 b n j) := by
  rw [val_main_v54_apply, show val_main_cst_6 (F := Ideal) (Shape.Idx.first h_S_) = 0 from Ideal.ofBits_zero_f32, zero_add]
  refine Finset.sum_congr rfl fun n _ => ?_
  rw [show idx_main_v54 (ix2 b j) n = ix3 b n j from funext fun a => by fin_cases a <;> rfl, val_main_v53_apply]
  rfl
theorem v55_at (j : Fin 2048) : val_main_v55 x0 x1 (ix3 b 0 j) = val_main_v54 x0 x1 (ix2 b j) := by
  rw [val_main_v55_apply]
  refine congrArg _ (funext fun a => Fin.ext ?_)
  fin_cases a
  · show ((b.val * 1 + 0) * 2048 + j.val) / 2048 = b.val
    omega
  · show ((b.val * 1 + 0) * 2048 + j.val) % 2048 = j.val
    omega
theorem v59_at (n : Fin 2048) (d : Fin 128) : val_main_v59 x0 x1 x2 (ix4 b h n d) = val_main_v51 x0 x1 (ix3 b n (ci h d)) * x2 (ix2 0 (ci h d)) := by
  pointwise [val_main_v59, val_main_v58, val_main_v57, val_main_v56, val_main_v4]
  rw [show (⟨h.val * 128 + d.val, by omega⟩ : Fin 2048) = ci h d from Fin.ext (by dsimp only; omega)]
theorem v67_at (n : Fin 2048) : val_main_v67 x0 x1 x2 (ix4 b h n 0)
    = Ideal.div ((∑ d, val_main_v29 x0 (ix4 b h n d) * val_main_v59 x0 x1 x2 (ix4 b h n d)) * val_main_v40 x0 (ix4 b h n 0)) (Ideal.ofBits FTy.f32 0x43000000#32) := by
  pointwise [val_main_v67, val_main_v66, val_main_cst_8, val_main_v65, val_main_v62, val_main_v61, val_main_cst_7, val_main_v60]
theorem v73_at (n : Fin 2048) (d : Fin 128) : val_main_v73 x0 x1 x2 (ix4 b h n d)
    = val_main_v59 x0 x1 x2 (ix4 b h n d) * val_main_v37 x0 (ix4 b h n 0) + val_main_v29 x0 (ix4 b h n d) * val_main_v67 x0 x1 x2 (ix4 b h n 0)
      + val_main_v67 x0 x1 x2 (ix4 b h n 0) * val_main_v29 x0 (ix4 b h n d) := by
  pointwise [val_main_v73, val_main_v72, val_main_v71, val_main_v70, val_main_v69, val_main_v68, val_main_cst_9, val_main_v64, val_main_v63]
  try simp only [fin_one']

variable {x0 x1 x2 b h} {Q K V Z Y : Mat} {G : Fin 128 → ℝ} (I : Ins x0 x1 x2 b h Q K V Z Y G)
include I

theorem meansq (n : Fin 2048) : val_main_v36 x0 (ix4 b h n 0) = ((msq (oo Q K V) n.val : ℝ) : EReal) := by
  rw [v36_at, word_128, word_eps]
  simp only [attn I, ← EReal.coe_mul, ← Reals.coe_sum]
  rw [Ideal.div_coe (by norm_num), ← EReal.coe_mul, ← EReal.coe_add]
  rfl
theorem rstd (n : Fin 2048) : val_main_v37 x0 (ix4 b h n 0) = ((rn (oo Q K V) n.val : ℝ) : EReal) := by
  rw [v37_at, meansq I, rsqrt_coe (msq_pos _ _)]
  rfl
theorem half (n : Fin 2048) : val_main_v40 x0 (ix4 b h n 0) = ((-(1 / 2) * (rn (oo Q K V) n.val * (rn (oo Q K V) n.val * rn (oo Q K V) n.val)) : ℝ) : EReal) := by
  rw [v40_at, meansq I, rstd I, Reals.word_neg_half, Ideal.div_coe (msq_pos _ _).ne', ← EReal.coe_mul, ← EReal.coe_mul, rn_sq, one_div, one_div]
theorem gate (n : Fin 2048) (d : Fin 128) : val_main_v3 x0 (ix3 b n (ci h d)) = ((Z n.val d : ℝ) : EReal) := (v3_at x0 b h n d).trans (I.z n d)
theorem dy (n : Fin 2048) (d : Fin 128) : val_main_v49 x1 (ix3 b n (ci h d)) = ((Y n.val d : ℝ) : EReal) := (v49_at x1 b h n d).trans (I.y n d)
theorem gain (d : Fin 128) : x2 (ix2 0 (ci h d)) = ((G d : ℝ) : EReal) := I.g d
theorem sgm (n : Fin 2048) (d : Fin 128) : val_main_v47_2 x0 (ix3 b n (ci h d)) = ((sg (Z n.val d) : ℝ) : EReal) := by
  rw [v47_2_at, gate I, ← sigm_coe, zero_sub]
theorem normed (n : Fin 2048) (d : Fin 128) : val_main_v44 x0 (ix3 b n (ci h d)) = ((oo Q K V n.val d * rn (oo Q K V) n.val : ℝ) : EReal) := by
  rw [v44_at, attn I, rstd I, ← EReal.coe_mul]
theorem scaled (n : Fin 2048) (d : Fin 128) : val_main_v51 x0 x1 (ix3 b n (ci h d)) = ((Y n.val d * silu Z n.val d : ℝ) : EReal) := by
  rw [v51_at, v47_0_at, dy I, gate I, sgm I, ← EReal.coe_mul, ← EReal.coe_mul]
  rfl
theorem dgate (n : Fin 2048) (d : Fin 128) : val_main_v52 x0 x1 x2 (ix3 b n (ci h d)) = ((dgz (oo Q K V) Z Y G n.val d : ℝ) : EReal) := by
  rw [v52_at, v46_at, v47_1_at, dy I, gate I, sgm I, normed I, gain I, one_coe, ← EReal.coe_sub]
  simp only [← EReal.coe_mul, ← EReal.coe_add]
  refine congrArg (fun w : ℝ => (w : EReal)) ?_
  unfold dgz
  ring
theorem dgain (d : Fin 128) : val_main_v55 x0 x1 (ix3 b 0 (ci h d)) = ((∑ r ∈ range 2048, dgp (oo Q K V) Z Y r d : ℝ) : EReal) := by
  rw [v55_at, v54_at, ← Fin.sum_univ_eq_sum_range (fun r => dgp (oo Q K V) Z Y r d) 2048]
  simp only [normed I, scaled I, ← EReal.coe_mul, ← Reals.coe_sum]
  refine congrArg (fun w : ℝ => (w : EReal)) (Finset.sum_congr rfl fun r _ => ?_)
  unfold dgp
  ring
theorem dnormed (n : Fin 2048) (d : Fin 128) : val_main_v59 x0 x1 x2 (ix4 b h n d) = ((dgn Z Y G n.val d : ℝ) : EReal) := by
  rw [v59_at, scaled I, gain I, ← EReal.coe_mul]
  refine congrArg (fun w : ℝ => (w : EReal)) ?_
  unfold dgn
  ring
theorem pull (n : Fin 2048) : val_main_v67 x0 x1 x2 (ix4 b h n 0)
    = (((∑ d, oo Q K V n.val d * dgn Z Y G n.val d) * (-(1 / 2) * (rn (oo Q K V) n.val * (rn (oo Q K V) n.val * rn (oo Q K V) n.val))) * (1 / 128) : ℝ) : EReal) := by
  rw [v67_at, half I, word_128]
  simp only [attn I, dnormed I, ← EReal.coe_mul, ← Reals.coe_sum]
  rw [Ideal.div_coe (by norm_num), ← EReal.coe_mul]
theorem dattn (n : Fin 2048) (d : Fin 128) : val_main_v73 x0 x1 x2 (ix4 b h n d) = ((dout (oo Q K V) Z Y G n.val d : ℝ) : EReal) := by
  rw [v73_at, dnormed I, rstd I, attn I, pull I]
  simp only [← EReal.coe_mul, ← EReal.coe_add]
  refine congrArg (fun w : ℝ => (w : EReal)) ?_
  unfold dout
  rw [show (∑ e, dgn Z Y G n.val e * oo Q K V n.val e) = ∑ e, oo Q K V n.val e * dgn Z Y G n.val e from Finset.sum_congr rfl fun e _ => mul_comm _ _]
  ring
end

end Cert.SbRefIdeal.Grad
-- ==== Proof.SbRefAttn.lean ====
/- The gradient of the reference through its attention, at real operands, and its two results. -/
module

public import proofs.«01_k».proof.Proof.SbRefBwd
public import proofs.«01_k».proof.Proof.SbBody

@[expose] public section

set_option maxRecDepth 16384

noncomputable section

namespace Cert.SbRefIdeal.Grad

open Cert.SbRefIdeal Cert.SbRefIdeal.Gen Cert.SbRefIdeal.Read Cert.SbMath Idealize.ShloMosaic Idealize.ShloMosaic.TcCoe Idealize.SL.Sem Finset

section
variable (x0 : (⟨S2x2048x16384, .f32⟩ : BufTy).Contents (Elt Ideal)) (x1 : (⟨S2x2048x4096, .f32⟩ : BufTy).Contents (Elt Ideal)) (x2 : (⟨S1x2048, .f32⟩ : BufTy).Contents (Elt Ideal))
  (b : Fin 2) (h : Fin 16)

theorem v75_at (s : Fin 2048) (d : Fin 128) : val_main_v75 x0 x1 x2 (ix4 b h s d) = ∑ r, val_main_v73 x0 x1 x2 (ix4 b h r d) * val_main_v28_0 x0 (ix4 b h r s) := by
  pointwise [val_main_v75, val_main_v74]
theorem v76_at (r s : Fin 2048) : val_main_v76 x0 x1 x2 (ix4 b h r s) = ∑ d, val_main_v73 x0 x1 x2 (ix4 b h r d) * val_main_v10 x0 (ix4 b h s d) := by
  pointwise [val_main_v76]
theorem v78_at (r s : Fin 2048) : val_main_v78 x0 x1 x2 (ix4 b h r s) = (if s < r then val_main_v76 x0 x1 x2 (ix4 b h r s) else 0) * val_main_v27 x0 (ix4 b h r s) := by
  have e : val_main_v77 x0 x1 x2 (ix4 b h r s) = if s < r then val_main_v76 x0 x1 x2 (ix4 b h r s) else 0 := by
    pointwise [val_main_v77, val_main_v28_1, val_main_call7_v0, val_main_call7_cst]
    rw [v19_at, pick]
  rw [val_main_v78_apply, e]
  rfl
theorem v83_at (r s : Fin 2048) : val_main_v83 x0 x1 x2 (ix4 b h r s) = if s < r then -val_main_v78 x0 x1 x2 (ix4 b h r s) + val_main_v80 x0 x1 x2 (ix4 b h r s) else 0 := by
  have e : val_main_v81 x0 x1 x2 (ix4 b h r s) = -val_main_v78 x0 x1 x2 (ix4 b h r s) + val_main_v80 x0 x1 x2 (ix4 b h r s) := rfl
  rw [← e]
  pointwise [val_main_v83, val_main_v22_1, val_main_call10_v0, val_main_call10_cst]
  rw [v19_at, pick]
theorem v88_at (i : S2x16x2048x2048.Idx) : val_main_v88 x0 x1 x2 i
    = (-(-val_main_v78 x0 x1 x2 i * val_main_v23_1 x0 i) + - -(-val_main_v83 x0 x1 x2 i * val_main_v21_1 x0 i)) * Ideal.ofBits FTy.f32 0x3DB504F3#32 := by
  rw [val_main_v88_apply, val_main_v86_apply, val_main_v82_apply, val_main_call9_v1_apply, val_main_call9_v0_apply, val_main_v85_apply, val_main_v84_apply, val_main_call11_v1_apply,
    val_main_call11_v0_apply, val_main_v87_apply]
  rfl
theorem v89_at (s : Fin 2048) (d : Fin 128) : val_main_v89 x0 x1 x2 (ix4 b h s d) = ∑ r, val_main_v88 x0 x1 x2 (ix4 b h r s) * val_main_v6 x0 (ix4 b h r d) := by
  pointwise [val_main_v89]
theorem v90_at (r : Fin 2048) (d : Fin 128) : val_main_v90 x0 x1 x2 (ix4 b h r d) = ∑ s, val_main_v88 x0 x1 x2 (ix4 b h r s) * val_main_v8 x0 (ix4 b h s d) := by
  pointwise [val_main_v90]
theorem v97_at (n : Fin 2048) (d : Fin 128) : val_main_v97 x0 x1 x2 (ix4 0 b n (ci h d)) = val_main_v90 x0 x1 x2 (ix4 b h n d) := by
  pointwise [val_main_v97, val_main_v96, val_main_v95]
theorem v98_at (n : Fin 2048) (d : Fin 128) : val_main_v98 x0 x1 x2 (ix4 0 b n (ci h d)) = val_main_v89 x0 x1 x2 (ix4 b h n d) := by
  pointwise [val_main_v98, val_main_v94, val_main_v93]
theorem v99_at (n : Fin 2048) (d : Fin 128) : val_main_v99 x0 x1 x2 (ix4 0 b n (ci h d)) = val_main_v75 x0 x1 x2 (ix4 b h n d) := by
  pointwise [val_main_v99, val_main_v92, val_main_v91]
theorem v100_at (n j : Fin 2048) : val_main_v100 x0 x1 x2 (ix4 0 b n j) = val_main_v52 x0 x1 x2 (ix3 b n j) := by
  pointwise [val_main_v100]
theorem v104_at0 (n j : Fin 2048) : val_main_v104 x0 x1 x2 (ix4 0 b n j) = val_main_v97 x0 x1 x2 (ix4 0 b n j) := by
  pointwise [val_main_v104, val_main_v102, val_main_v101]
theorem v104_at1 (n j : Fin 2048) : val_main_v104 x0 x1 x2 (ix4 1 b n j) = val_main_v98 x0 x1 x2 (ix4 0 b n j) := by
  pointwise [val_main_v104, val_main_v102, val_main_v101]
theorem v104_at2 (n j : Fin 2048) : val_main_v104 x0 x1 x2 (ix4 2 b n j) = val_main_v99 x0 x1 x2 (ix4 0 b n j) := by
  pointwise [val_main_v104, val_main_v102, val_main_v101]
theorem v104_at3 (n j : Fin 2048) : val_main_v104 x0 x1 x2 (ix4 3 b n j) = val_main_v100 x0 x1 x2 (ix4 0 b n j) := by
  pointwise [val_main_v104, val_main_v102, val_main_v101]

variable {x0 x1 x2 b h} {Q K V Z Y : Mat} {G : Fin 128 → ℝ} (I : Ins x0 x1 x2 b h Q K V Z Y G)
include I

theorem dvals (s : Fin 2048) (d : Fin 128) : val_main_v75 x0 x1 x2 (ix4 b h s d)
    = ((∑ r ∈ range 2048, aa Q K r s.val * dout (oo Q K V) Z Y G r d : ℝ) : EReal) := by
  rw [v75_at, ← Fin.sum_univ_eq_sum_range (fun r => aa Q K r s.val * dout (oo Q K V) Z Y G r d) 2048]
  simp only [dattn I, weight I, ← EReal.coe_mul, ← Reals.coe_sum]
  exact congrArg (fun w : ℝ => (w : EReal)) (Finset.sum_congr rfl fun r _ => mul_comm _ _)
theorem dwts (r s : Fin 2048) : val_main_v76 x0 x1 x2 (ix4 b h r s) = ((dot (dout (oo Q K V) Z Y G) V r.val s.val : ℝ) : EReal) := by
  rw [v76_at]
  simp only [dattn I, v10_at, I.v, ← EReal.coe_mul, ← Reals.coe_sum]
  rfl
theorem pulls (r s : Fin 2048) : val_main_v78 x0 x1 x2 (ix4 b h r s) = ((gg Q K V (dout (oo Q K V) Z Y G) r.val s.val : ℝ) : EReal) := by
  rw [v78_at, dwts I, pick_lt, ewt I, ← EReal.coe_mul]
  refine congrArg (fun w : ℝ => (w : EReal)) ?_
  unfold gg aa
  split_ifs
  · exact mul_comm _ _
  · rw [zero_mul, zero_mul]
theorem pulled (r s : Fin 2048) : val_main_v80 x0 x1 x2 (ix4 b h r s) = ((∑ j ∈ range (s.val + 1), gg Q K V (dout (oo Q K V) Z Y G) r.val j : ℝ) : EReal) := by
  have e := sums_row (A := 2) (B := 16) (C := 2048) (N := 2048) (lo := 2047) (hi := 0) (val_main_v78 x0 x1 x2) (fun j => gg Q K V (dout (oo Q K V) Z Y G) r.val j) b h r
    (fun i => pulls I r i) (val_main_call8_v0 (F := Ideal)) (fun i => by pointwise [val_main_call8_v0, val_main_call8_cst])
    reduceWindows_S2x16x2048x2048_S2x16x2048x2048_w1s1p0_0_w1s1p0_0_w1s1p0_0_w2048s1p2047_0 h_S_ s
  rw [window_before (M := 2047) _ s.isLt] at e
  exact e
theorem before (r s : Fin 2048) : val_main_v83 x0 x1 x2 (ix4 b h r s)
    = ((if s.val < r.val then ∑ j ∈ range s.val, gg Q K V (dout (oo Q K V) Z Y G) r.val j else 0 : ℝ) : EReal) := by
  rw [v83_at, pulls I, pulled I, ← EReal.coe_neg, ← EReal.coe_add, Finset.sum_range_succ, pick_lt]
  refine congrArg (fun w : ℝ => ((if s.val < r.val then w else 0 : ℝ) : EReal)) ?_
  ring
theorem dprod (r s : Fin 2048) : val_main_v88 x0 x1 x2 (ix4 b h r s) = ((dz Q K V (dout (oo Q K V) Z Y G) r.val s.val : ℝ) : EReal) := by
  rw [v88_at, pulls I, before I, v23_1_at x0 b h r s _ (logit I r s), v21_1_at x0 b h r s _ (logit I r s), word_w, sg_neg]
  simp only [← EReal.coe_neg, ← EReal.coe_mul, ← EReal.coe_add]
  refine congrArg (fun w : ℝ => (w : EReal)) ?_
  unfold dz
  split_ifs with hs
  · ring
  · rw [show gg Q K V (dout (oo Q K V) Z Y G) r.val s.val = 0 from by rw [gg, aa_far Q K hs, zero_mul]]
    ring
theorem dkeys (s : Fin 2048) (d : Fin 128) : val_main_v89 x0 x1 x2 (ix4 b h s d)
    = ((∑ r ∈ range 2048, dz Q K V (dout (oo Q K V) Z Y G) r s.val * Q r d : ℝ) : EReal) := by
  rw [v89_at, ← Fin.sum_univ_eq_sum_range (fun r => dz Q K V (dout (oo Q K V) Z Y G) r s.val * Q r d) 2048]
  simp only [dprod I, v6_at, I.q, ← EReal.coe_mul, ← Reals.coe_sum]
theorem dqueries (r : Fin 2048) (d : Fin 128) : val_main_v90 x0 x1 x2 (ix4 b h r d)
    = ((∑ j ∈ range 2048, dz Q K V (dout (oo Q K V) Z Y G) r.val j * K j d : ℝ) : EReal) := by
  rw [v90_at, ← Fin.sum_univ_eq_sum_range (fun j => dz Q K V (dout (oo Q K V) Z Y G) r.val j * K j d) 2048]
  simp only [dprod I, v8_at, I.k, ← EReal.coe_mul, ← Reals.coe_sum]

/-- The four gradients, one behind the other. -/
theorem out_at (p : Fin 4) (n : Fin 2048) (d : Fin 128) : val_main_v104 x0 x1 x2 (ix4 (⟨p.val, by omega⟩ : Fin 8) b n (ci h d))
    = ((SbIdeal.Hand.grads Q K V Z (oo Q K V) Y G p n.val d : ℝ) : EReal) := by
  fin_cases p
  · exact (v104_at0 x0 x1 x2 b n _).trans ((v97_at x0 x1 x2 b h n d).trans (dqueries I n d))
  · exact (v104_at1 x0 x1 x2 b n _).trans ((v98_at x0 x1 x2 b h n d).trans (dkeys I n d))
  · exact (v104_at2 x0 x1 x2 b n _).trans ((v99_at x0 x1 x2 b h n d).trans (dvals I n d))
  · exact (v104_at3 x0 x1 x2 b n _).trans ((v100_at x0 x1 x2 b n _).trans (dgate I n d))
end

end Cert.SbRefIdeal.Grad
-- ==== Proof.SbAgree.lean ====
/- The attention's backward call and its reference, side by side, at finite arguments. -/
module

public import proofs.«01_k».proof.Defs
public import proofs.«01_k».proof.Proof.SbGrid
public import proofs.«01_k».proof.Proof.SbOut
public import proofs.«01_k».proof.Proof.SbRefAttn
public import proofs.«01_k».proof.Proof.Gen.Pre_sb_finite

@[expose] public section

set_option maxRecDepth 16384

noncomputable section

namespace Cert.SbClaim

open Idealize.ShloMosaic Idealize.ShloMosaic.TcCoe Idealize.SL.Sem Cert.SbMath Finset
open Cert.SbIdeal (nD τ sig cfg0)
open Cert.SbIdeal.Hand (X0 X1 X2 blk bt ht seg Blocks grads)
open Cert.SbRefIdeal.Read (val_main_v104 val_main_v55 val_main_v29 val_main_v22_0)
open Cert.SbRefIdeal.Grad (Ins oo ci)

/-- Rows of numbers read at every natural number, nothing past the last. -/
def rowsOf (f : Fin 2048 → Fin 128 → ℝ) : Mat := fun n d => if h : n < 2048 then f ⟨n, h⟩ d else 0
theorem rowsOf_at (f : Fin 2048 → Fin 128 → ℝ) (n : Fin 2048) (d : Fin 128) : rowsOf f n.val d = f n d := dif_pos n.isLt

section
variable (m : (ℓ : Loc nD τ sig) → Buf (Elt Ideal) ℓ) (c : Dev nD)

/-- Under the precondition the arguments are real. -/
theorem reals (h : Cert.Pre_SbIdeal_sb_finite m) :
    (∀ b n j, ∃ r : ℝ, X0 m c (ix3 b n j) = r) ∧ (∀ b n j, ∃ r : ℝ, X1 m c (ix3 b n j) = r) ∧ ∀ j, ∃ r : ℝ, X2 m c (ix2 0 j) = r := by
  have h1 := congrFun (h c) (fun a => a.elim0)
  dsimp only [Cert.Pre_sb_finite.fn] at h1
  obtain ⟨h1, h3⟩ := Reals.andi_one h1
  obtain ⟨h1, h2⟩ := Reals.andi_one h1
  haveI : Subsingleton Cert.Pre_sb_finite.S_.Idx := ⟨fun a b => funext fun i => i.elim0⟩
  exact ⟨fun b s d => Reals.finite_all _ _ _ _ _ _ _ h1 _, fun b s d => Reals.finite_all _ _ _ _ _ _ _ h2 _,
    fun d => Reals.finite_all _ _ _ _ _ _ _ h3 _⟩

/-- So each head's columns are rows of numbers. -/
theorem ins (h : Cert.Pre_SbIdeal_sb_finite m) (b : Fin 2) (hd : Fin 16) :
    ∃ (Q K V Z Y : Mat) (G : Fin 128 → ℝ), Ins (X0 m c) (X1 m c) (X2 m c) b hd Q K V Z Y G := by
  obtain ⟨h0, h1, h2⟩ := reals m c h
  choose f0 h0 using h0
  choose f1 h1 using h1
  choose f2 h2 using h2
  refine ⟨rowsOf fun n d => f0 b n (seg 0 hd d), rowsOf fun n d => f0 b n (seg 1 hd d), rowsOf fun n d => f0 b n (seg 2 hd d),
    rowsOf fun n d => f0 b n (seg 3 hd d), rowsOf fun n d => f1 b n (seg 0 hd d), fun d => f2 ⟨128 * hd.val + d.val, by omega⟩,
    ⟨fun n d => ?_, fun n d => ?_, fun n d => ?_, fun n d => ?_, fun n d => ?_, fun d => h2 _⟩⟩
  · rw [rowsOf_at]; exact h0 b n _
  · rw [rowsOf_at]; exact h0 b n _
  · rw [rowsOf_at]; exact h0 b n _
  · rw [rowsOf_at]; exact h0 b n _
  · rw [rowsOf_at]; exact h1 b n _

theorem word_two : Ideal.ofBits FTy.f32 0x40000000#32 = ((2 : ℝ) : EReal) := by
  simp [Ideal.ofBits, Ideal.ieee, -EReal.coe_mul]; norm_num

/-- The body's blocks at those numbers. -/
theorem blocks (t : Fin cfg0.N) {Q K V Z Y : Mat} {G : Fin 128 → ℝ} (I : Ins (X0 m c) (X1 m c) (X2 m c) (bt t) (ht t) Q K V Z Y G) :
    Blocks (blk m c t) Q K V Z (oo Q K V) Y G where
  o n d := (Cert.SbIdeal.Hand.blk_o m c t n d).trans (Cert.SbRefIdeal.Grad.attn I n d)
  z n d := (Cert.SbIdeal.Hand.blk_zg m c t n d).trans (I.z n d)
  y n d := (Cert.SbIdeal.Hand.blk_dy m c t n d).trans (I.y n d)
  g d := (Cert.SbIdeal.Hand.blk_g m c t d).trans (I.g d)
  q n d := (Cert.SbIdeal.Hand.blk_q m c t n d).trans (I.q n d)
  k n d := (Cert.SbIdeal.Hand.blk_k m c t n d).trans (I.k n d)
  v n d := (Cert.SbIdeal.Hand.blk_v m c t n d).trans (I.v n d)
  s n := by
    rw [Cert.SbIdeal.Hand.blk_tot, word_two, log_coe (by norm_num), ← Fin.sum_univ_eq_sum_range (fun j => ll Q K n.val j) 2048]
    simp only [Cert.SbRefIdeal.Grad.log1m I, ← Reals.coe_sum]
    rw [Ideal.div_coe log_two_ne, ← EReal.coe_mul, one_div]
  t k := Cert.SbIdeal.Hand.blk_trips m c t k

/-- The reference's first result by segment, batch, row, head and column, -/
def ref9 (p : Fin 4) (b : Fin 2) (n : Fin 2048) (hd : Fin 16) (d : Fin 128) : EReal :=
  val_main_v104 (F := Ideal) (X0 m c) (X1 m c) (X2 m c) (ix4 (⟨p.val, by omega⟩ : Fin 8) b n (ci hd d))
/-- and its second by batch, head and column. -/
def ref10 (b : Fin 2) (hd : Fin 16) (d : Fin 128) : EReal := val_main_v55 (F := Ideal) (X0 m c) (X1 m c) (ix3 b 0 (ci hd d))

variable (h : Cert.Pre_SbIdeal_sb_finite m)
include h

theorem out9_eq (t : Fin cfg0.N) (p : Fin 4) (n : Fin 2048) (d : Fin 128) :
    Cert.SbIdeal.Hand.out9 m c t (ix4 p 0 n d) = ref9 m c p (bt t) n (ht t) d := by
  obtain ⟨Q, K, V, Z, Y, G, I⟩ := ins m c h (bt t) (ht t)
  exact ((blocks m c t I).grads_at _ p n d).trans (Cert.SbRefIdeal.Grad.out_at I p n d).symm
theorem out10_eq (t : Fin cfg0.N) (d : Fin 128) : Cert.SbIdeal.Hand.out10 m c t (ix3 0 0 d) = ref10 m c (bt t) (ht t) d := by
  obtain ⟨Q, K, V, Z, Y, G, I⟩ := ins m c h (bt t) (ht t)
  exact ((blocks m c t I).gain_at _ d).trans (Cert.SbRefIdeal.Grad.dgain I d).symm

theorem grads_agree (i : Cert.SbIdeal.S8x2x2048x2048.Idx) (hi : (i 0).val < 4) :
    (Cert.SbIdeal.Hand.dats m 0 c).arrAt 9 cfg0.N i = val_main_v104 (F := Ideal) (X0 m c) (X1 m c) (X2 m c) i := by
  rw [Cert.SbIdeal.Hand.final9 m c (ref9 m c) (out9_eq m c h)]
  idx_vars i
  change i0.val < 4 at hi
  refine (if_pos (by show i0.val / 4 = 0; omega)).trans ?_
  have e := Cert.SbIdeal.Hand.arr9_at (ref9 m c) ⟨i0.val, hi⟩ i1 i2 ⟨i3.val / 128, by omega⟩ ⟨i3.val % 128, by omega⟩
  have e3 : (⟨128 * (i3.val / 128) + i3.val % 128, by omega⟩ : Fin 2048) = i3 := Fin.ext (by dsimp only; omega)
  rw [ref9, ci] at e
  dsimp only at e
  rw [e3] at e
  exact e
theorem gain_agree : (Cert.SbIdeal.Hand.dats m 0 c).arrAt 10 cfg0.N = val_main_v55 (F := Ideal) (X0 m c) (X1 m c) := by
  rw [Cert.SbIdeal.Hand.final10 m c (ref10 m c) (out10_eq m c h)]
  funext i
  idx_vars i
  obtain rfl : i1 = 0 := Subsingleton.elim _ _
  have e := Cert.SbIdeal.Hand.arr10_at (ref10 m c) i0 ⟨i2.val / 128, by omega⟩ ⟨i2.val % 128, by omega⟩
  have e3 : (⟨128 * (i2.val / 128) + i2.val % 128, by omega⟩ : Fin 2048) = i2 := Fin.ext (by dsimp only; omega)
  rw [ref10, ci] at e
  dsimp only at e
  rw [e3] at e
  exact e
end

end Cert.SbClaim
-- ==== Proof.SbClaim.lean ====
/- The claims of the attention's backward call. -/
module

public import proofs.«01_k».proof.Proof.SbBits
public import proofs.«01_k».proof.Proof.SbAgree
public import proofs.«01_k».proof.Proof.Gen.SbRefIdeal.Run
public import proofs.«01_k».proof.Proof.Gen.On_sb_written
public import Idealize.ShloMosaic.Lib.Quiescent

@[expose] public section

set_option maxRecDepth 16384

noncomputable section

namespace Cert.SbClaim

open Idealize.ShloMosaic Idealize.ShloMosaic.TcCoe Idealize.SL.Sem

theorem frame_ideal : Cert.quiescent_SbIdeal := fun m g _ => Cert.SbIdeal.Hand.frame m g
theorem frame_ideal_pre : Cert.quiescent_SbIdeal_pre_sb_finite := fun m g _ => Cert.SbIdeal.Hand.frame m g

theorem frame_ref : Cert.quiescent_SbRefIdeal := fun m g _ =>
  (θ_run Cert.SbRefIdeal.defs _ _).mono (fun _ h => ⟨fun c => (h c).2.2, sem_eq_zero_of_no_sems rfl _⟩)
    (Cert.SbRefIdeal.Value.run (F := Ideal) m g)
theorem frame_ref_pre : Cert.quiescent_SbRefIdeal_pre_sb_finite := fun m g _ => frame_ref m g trivial

theorem preserves : Cert.preserves_Sb_SbIdeal :=
  ⟨IdealRules.named_const.statement Cert.SbIdeal.κ "logit" .f32 0x3E0293EE#32 (((11863283 / 134217728) * (Real.log 2)⁻¹ : ℝ) : EReal) rfl,
    IdealRules.named_const.statement Cert.SbIdeal.κ "mask" .f32 0xF149F2CA#32 ⊥ rfl,
    IdealRules.named_const.statement Cert.SbIdeal.κ "log2e" .f32 0x3FB8AA3B#32 (((Real.log 2)⁻¹ : ℝ) : EReal) rfl⟩

/-- The first four segments are the ones compared. -/
theorem chosen (a0 : FVec Ideal Cert.On_sb_written.S2x2048x16384 .f32) (a1 : FVec Ideal Cert.On_sb_written.S2x2048x4096 .f32) (a2 : FVec Ideal Cert.On_sb_written.S1x2048 .f32)
    (i : Cert.On_sb_written.S8x2x2048x2048.Idx) (hi : (Cert.On_sb_written.fn (F := Ideal) a0 a1 a2).1 i = 1#1) : (i 0).val < 4 := by
  have h0 : (i 0).val < 8 := (i 0).isLt
  have e : IntOp.cmpi .slt (BitVec.ofNat 32 (i 0).val) 4#32 = 1#1 := hi
  rw [WordCmp.cmpi_slt_eq, WordCmp.toInt_ofNat_of_lt (by omega)] at e
  by_contra hn
  rw [decide_eq_false (by show ¬ ((i 0).val : ℤ) < 4; omega)] at e
  exact absurd e (by decide)

theorem algebraic : Cert.algebraic_SbIdeal_SbRefIdeal_on_sb_written_pre_sb_finite := by
  intro m g m' g' hpre hag
  refine ⟨fun c => (Cert.SbIdeal.Hand.dats m 0 c).arrAt 9 Cert.SbIdeal.cfg0.N,
    fun c => (Cert.SbIdeal.Hand.dats m 0 c).arrAt 10 Cert.SbIdeal.cfg0.N,
    (θ_run Cert.SbIdeal.defs _ _).mono (fun r h c => ⟨fun i _ => congrFun ((h.1 c).1 9) i, fun i _ => congrFun ((h.1 c).1 10) i, h.2.1 c⟩)
      (θ_run_and (Cert.SbIdeal.Hand.run_main m g) (Cert.SbIdeal.Hand.frame m g)),
    (θ_run Cert.SbRefIdeal.defs _ _).mono (fun r h c => ?_) (Cert.SbRefIdeal.Value.run (F := Ideal) m' g')⟩
  obtain ⟨h0, h1, hargs⟩ := h c
  obtain ⟨b0, b1, b2⟩ := hag c
  refine ⟨fun i hi => (congrFun h0 i).trans ?_, fun i _ => congrFun (h1.trans ?_) i, hargs⟩
  · refine (congrFun (Cert.SbRefIdeal.Read.val_main_v104_eq (StableHlo.launchContents m' c)) i).trans ?_
    refine (congrFun (congr (congr (congrArg Cert.SbRefIdeal.Read.val_main_v104 b0) b1) b2) i).trans ?_
    exact (grads_agree m c hpre i (chosen _ _ _ i hi)).symm
  · refine (Cert.SbRefIdeal.Read.val_main_v55_eq (StableHlo.launchContents m' c)).trans ?_
    exact (congr (congrArg Cert.SbRefIdeal.Read.val_main_v55 b0) b1).trans (gain_agree m c hpre).symm

end Cert.SbClaim
-- ==== Proof.SbFwdLoops.lean ====
/- The stick-breaking attention's forward call, idealized: the loop that walks the keys' blocks until its condition
   fails, and the loop over the blocks of query rows. -/
module

public import proofs.«01_k».proof.Proof.Gen.SbFwdIdeal.Loops
public import proofs.«01_k».proof.Proof.Gen.SbFwdIdeal.Launch
public import Idealize.ShloMosaic.Lib.Claim

@[expose] public section

set_option maxRecDepth 16384

noncomputable section

namespace Cert.SbFwdIdeal.Hand

open Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The variants: the trips still to run. -/
abbrev 𝒱₀ : Variants := Variants.nat

/-! ### The inner loop -/

/-- The side condition, at every block the loop may reach. -/
theorem chk_lit : ∀ (k : Fin k0_t1_loop.trips) (n : Fin 4), n.val ≤ k.val → k0_chk1 k (BitVec.ofNat 32 n.val) := by
  decide +kernel

theorem stops_lit : ∀ (k : Fin k0_t1_loop.trips), Scalar.cmpi .sle (BitVec.ofNat 32 (k.val + 1)) (Scf.iv 0#32 1#32 k) = 0#1 := by
  decide +kernel

theorem trips1 : k0_t1_loop.trips = 4 := by decide +kernel

theorem chk_of_le (k : Fin k0_t1_loop.trips) (n : ℕ) (h : n ≤ k.val) : k0_chk1 k (BitVec.ofNat 32 n) :=
  chk_lit k ⟨n, by have := k.isLt; have := trips1; omega⟩ h

/-- What the inner loop runs at. -/
structure Walk (F : FTy → Type) where
  c : Dev nD
  i : grid0.Coords
  k : Fin k0_t1_loop.trips
  (arg3 : Memref sig .tc .vmem S1x1x2048x128 .f32) (harg3 : arg3.IsWhole)
  (arg4 : Memref sig .tc .vmem S1x1x2048x128 .f32) (harg4 : arg4.IsWhole)
  x3 : BufTy.Contents (Elt F) arg3.view.ty
  x4 : BufTy.Contents (Elt F) arg4.view.ty
  q : FVec F S512x128 .bf16

namespace Walk

/-- The word of block `n`, counted back from the query's. -/
abbrev word (n : ℕ) : BitVec 32 := BitVec.ofNat 32 n

/-- The trip's number, and the count of half blocks it may walk. -/
abbrev own (w : Walk F) : BitVec 32 := Scf.iv 0#32 1#32 w.k
@[inherit_doc own]
abbrev ub (w : Walk F) : BitVec 32 := Scalar.muli (Scalar.addi w.own 1#32) 2#32

/-- The loop goes on at block `n`, the sum so far at `s`. -/
abbrev Goes (w : Walk F) (n : ℕ) (s : FVec F S512x1 .f32) : Prop :=
  Scalar.andi (Scalar.cmpi .sle (word n) w.own)
    (Scalar.ori (Scalar.cmpi .eq (word n) 0#32) (Scalar.cmpf .ogt (k0_pay5 s) (Named.named κ "dead" 0xC3200000#32))) = 1#1

/-- The rows of the keys and of the values it reads at block `n`, half `r`. -/
abbrev rect (w : Walk F) (n : ℕ) (h : k0_chk1 w.k (word n)) (r : Fin 2) : Rect S1x1x2048x128 :=
  Rect.unit (s := S1x1x2048x128) (k0_off2 w.k (word n) (BitVec.ofNat 32 r.val)) S1x1x256x128.size (k0_off2_inb w.k (word n) h r)
abbrev key (w : Walk F) (n : ℕ) (h : k0_chk1 w.k (word n)) (r : Fin 2) : Vec F S1x1x256x128 .f32 :=
  w.arg3.view.readAt (Elt F) (w.rect n h r).toLoadRect w.x3
abbrev val (w : Walk F) (n : ℕ) (h : k0_chk1 w.k (word n)) (r : Fin 2) : Vec F S1x1x256x128 .f32 :=
  w.arg4.view.readAt (Elt F) (w.rect n h r).toLoadRect w.x4

/-- The second half's number. -/
abbrev half (w : Walk F) (n : ℕ) : BitVec 32 := Scalar.subi (Scalar.subi w.ub 1#32) (Scalar.addi (Scalar.muli (word n) 2#32) 1#32)

/-- The logits of the two halves, and the sums' terms. -/
abbrev l0 (w : Walk F) (n : ℕ) (h : k0_chk1 w.k (word n)) : FVec F S512x256 .f32 := k0_pay18 w.q k0_pay2 (word n) w.own w.ub (w.key n h 0)
abbrev e0 (w : Walk F) (n : ℕ) (h : k0_chk1 w.k (word n)) : FVec F S512x256 .f32 := k0_pay19 w.q k0_pay2 (word n) w.own w.ub (w.key n h 0)
abbrev m0 (w : Walk F) (n : ℕ) (h : k0_chk1 w.k (word n)) : FVec F S512x256 .f32 := k0_pay20 w.q k0_pay2 (word n) w.own w.ub (w.key n h 0)
abbrev d1 (w : Walk F) (n : ℕ) (h : k0_chk1 w.k (word n)) : FVec F S512x256 .f32 := k0_pay17 w.q (w.key n h 1)
abbrev t0 (w : Walk F) (n : ℕ) (h : k0_chk1 w.k (word n)) : FVec F S512x256 .f32 := k0_pay21 (w.e0 n h) (w.m0 n h)
abbrev t1 (w : Walk F) (n : ℕ) (h : k0_chk1 w.k (word n)) : FVec F S512x256 .f32 := k0_pay23 k0_pay2 w.own (w.half n) (w.d1 n h)

/-- One step: the output's rows and the sum. -/
abbrev acc (w : Walk F) (n : ℕ) (h : k0_chk1 w.k (word n)) (a : FVec F S512x128 .f32) (s : FVec F S512x1 .f32) : FVec F S512x128 .f32 :=
  k0_pay7 a s (w.l0 n h) (w.t0 n h) (k0_pay22 k0_pay2 w.own (w.half n) (w.d1 n h)) (w.t1 n h) (k0_pay24 k0_pay1 (w.e0 n h) (w.m0 n h))
    (k0_pay26 k0_pay2 k0_pay1 w.own (w.half n) (w.d1 n h)) (k0_pay27 k0_pay2 k0_pay1 w.own (w.half n) (w.d1 n h)) (w.val n h 0) (w.val n h 1)
@[inherit_doc acc]
abbrev sum (w : Walk F) (n : ℕ) (h : k0_chk1 w.k (word n)) (s : FVec F S512x1 .f32) : FVec F S512x1 .f32 :=
  k0_pay8 s (w.t0 n h) (w.t1 n h)

/-- What the loop returns, entered at block `n` with at most `f` blocks to walk. -/
def after (w : Walk F) : ℕ → ℕ → FVec F S512x128 .f32 → FVec F S512x1 .f32 → BitVec 32 × FVec F S512x128 .f32 × FVec F S512x1 .f32
  | 0, n, a, s => (word n, a, s)
  | f + 1, n, a, s =>
    if h : k0_chk1 w.k (word n) ∧ w.Goes n s then w.after f (n + 1) (w.acc n h.1 a s) (w.sum n h.1 s) else (word n, a, s)

/-- What it reads, held. -/
def held (w : Walk F) : sProp 𝕄 :=
  iprop((w.arg3.view.loc (w.c : Thread nD τ) ↦[w.arg3.view.set]{fullShare} w.x3) ∗ (w.arg4.view.loc (w.c : Thread nD τ) ↦[w.arg4.view.set]{fullShare} w.x4))

/-- Its specification. -/
def spec (w : Walk F) (f n : ℕ) (a : FVec F S512x128 .f32) (s : FVec F S512x1 .f32) :
    sWPT 𝕄 (BitVec 32 × FVec F S512x128 .f32 × FVec F S512x1 .f32) := do
  sWPT.consume w.held
  sWPT.produce w.held
  pure (w.after f n a s)

theorem spec_apply (w : Walk F) (f n : ℕ) (a : FVec F S512x128 .f32) (s : FVec F S512x1 .f32) (K : _ → sProp 𝕄) :
    w.spec f n a s K = iprop(w.held ∗ (w.held -∗ K (w.after f n a s))) := rfl

theorem word_succ (n : ℕ) (h : n < 4) : Scalar.addi (word n) 1#32 = word (n + 1) := by
  have : ∀ n : Fin 4, Scalar.addi (word n.val) 1#32 = word (n.val + 1) := by decide
  exact this ⟨n, h⟩

set_option maxHeartbeats 1000000 in
theorem spec_le (w : Walk F) (E : Set ℕ) : ∀ f n, n + f = w.k.val + 1 → ∀ a s K, w.spec f n a s K
      ⊢ wp frame (wpE (defs₀ (F := F)) 𝒱₀ (w.c : Thread nD τ) (some f)) E
          (defs₀ (F := F) .tc 1 ⟨w.i, w.k, w.arg3, w.harg3, w.q, k0_pay2, k0_pay1, w.arg4, w.harg4, word n, a, s⟩) K := by
  intro f
  have hk := w.k.isLt
  have ht := trips1
  induction f with
  | zero =>
    intro n hn a s K
    rw [spec_apply]
    show _ ⊢ wp frame (wpE (defs₀ (F := F)) 𝒱₀ (w.c : Thread nD τ) (some 0)) E
      (cc0_while1 w.i w.k w.arg3 w.harg3 w.q k0_pay2 k0_pay1 w.arg4 w.harg4 (word n) a s) K
    rw [cc0_while1_eq_skeleton]; unfold cc0_while1_skel
    obtain rfl : n = w.k.val + 1 := by omega
    have htest : ¬ w.Goes (w.k.val + 1) s := by
      unfold Goes word own; rw [stops_lit]
      generalize Scalar.ori _ _ = x; revert x; decide
    dsimp only
    rw [if_neg htest]
    iintro ⟨H, Hk⟩
    simp only [Prog.pure_eq_ret]
    rw [wp_ret]; imodintro
    unfold after
    iapply Hk; iexact H
  | succ f ih =>
    intro n hn a s K
    rw [spec_apply]
    show _ ⊢ wp frame (wpE (defs₀ (F := F)) 𝒱₀ (w.c : Thread nD τ) (some (f + 1))) E
      (cc0_while1 w.i w.k w.arg3 w.harg3 w.q k0_pay2 k0_pay1 w.arg4 w.harg4 (word n) a s) K
    rw [cc0_while1_eq_skeleton]; unfold cc0_while1_skel
    have hc : k0_chk1 w.k (word n) := chk_of_le w.k n (by omega)
    by_cases hg : w.Goes n s
    · dsimp only
      rw [if_pos hg]
      simp only [k0_part2_eq_skeleton, k0_part3_eq_skeleton]; unfold k0_part2_skel k0_part3_skel
      unfold held
      iintro ⟨⟨H3, H4⟩, Hk⟩
      sl_exec (disch := exact hc)
      rw [word_succ n (by omega)]
      iapply (wp_call_spec 𝒱₀ (w.c : Thread nD τ) (some (f + 1)) E (w.spec f (n + 1) (w.acc n hc a s) (w.sum n hc s)) f
        (fun u hu => by cases hu; exact Nat.lt_succ_self f) (ih (n + 1) (by omega) (w.acc n hc a s) (w.sum n hc s)))
      rw [spec_apply]; unfold held
      isplitl [H3 H4]
      · isplitl [H3]; · iexact H3
        iexact H4
      iintro ⟨H3, H4⟩
      simp only [Prog.pure_eq_ret]
      rw [wp_ret]; imodintro
      rw [show w.after (f + 1) n a s = w.after f (n + 1) (w.acc n hc a s) (w.sum n hc s) from by rw [after, dif_pos ⟨hc, hg⟩]]
      iapply Hk
      isplitl [H3]; · iexact H3
      iexact H4
    · dsimp only
      rw [if_neg hg]
      iintro ⟨H, Hk⟩
      simp only [Prog.pure_eq_ret]
      rw [wp_ret]; imodintro
      unfold after
      rw [dif_neg fun h => hg h.2]
      iapply Hk; iexact H

end Walk

end Cert.SbFwdIdeal.Hand

end
-- ==== Proof.SbFwdBlock.lean ====
/- The stick-breaking attention's forward call: its operations, entry by entry. -/
module

public import proofs.«01_k».proof.Proof.SbMath
public import proofs.«01_k».proof.Proof.SbBlock
public import proofs.«01_k».proof.Proof.SbFwdLoops

@[expose] public section

set_option maxRecDepth 16384

noncomputable section

namespace Cert.SbFwdIdeal.Hand

open Cert.SbFwdIdeal Cert.SbFwdIdeal.Gen Cert.SbMath Idealize.ShloMosaic Idealize.ShloMosaic.TcCoe Idealize.SL.Sem

/-! ### The named constants -/

theorem dead_at : (Named.named κ "dead" 0xC3200000#32 : Ideal FTy.f32) = ⊥ :=
  IdealRules.named_const.ideal_named_scalar _ _ _ _ rfl
theorem logit_at : (Named.named κ "logit" 0x3E0293EE#32 : Ideal FTy.f32) = ((w * (Real.log 2)⁻¹ : ℝ) : EReal) :=
  IdealRules.named_const.ideal_named_scalar _ _ _ _ rfl
theorem mask_at : (Named.named κ "mask" 0xF149F2CA#32 : Ideal FTy.f32) = ⊥ :=
  IdealRules.named_const.ideal_named_scalar _ _ _ _ rfl
theorem log2e_at : (Named.named κ "log2e" 0x3FB8AA3B#32 : Ideal FTy.f32) = (((Real.log 2)⁻¹ : ℝ) : EReal) :=
  IdealRules.named_const.ideal_named_scalar _ _ _ _ rfl

/-! ### A tile -/

theorem f1 (k n : Fin 256) : k0_pay1 (F := Ideal) (ix2 k n) = if n.val < k.val then (1 : EReal) else 0 := by
  pointwise [k0_pay1]
  rw [WordCmp.cmpi_sgt_eq, WordCmp.toInt_ofNat_of_lt (by omega), WordCmp.toInt_ofNat_of_lt (by omega), Cert.SbIdeal.Hand.one_bit]
  exact if_congr (by omega) rfl rfl
theorem f2 (t : Fin 512) (n : Fin 256) : k0_pay2 (ix2 t n) = BitVec.ofNat 32 t.val - BitVec.ofNat 32 n.val := by
  pointwise [k0_pay2]
  rfl
/-- The largest of the sums so far, where one of them is a number. -/
theorem f5 (s : FVec Ideal S512x1 .f32) (h : ⊥ < s (ix2 0 0)) : ⊥ < k0_pay5 s := by
  have e : k0_pay5 s = Finset.fold max (Ideal.ofBits FTy.f32 0xFF800000#32) (fun x : Fin 512 × Fin 1 => s (ix2 x.1 0)) Finset.univ := by
    pointwise [k0_pay5]
  rw [e]
  exact (Finset.lt_fold_max _).2 (Or.inr ⟨(0, 0), Finset.mem_univ _, h⟩)
theorem f6 (s : FVec Ideal S512x1 .f32) (x : FVec Ideal S512x256 .f32) (t : Fin 512) : k0_pay6 s x (ix2 t 0) = s (ix2 t 0) + ∑ n, x (ix2 t n) := by
  pointwise [k0_pay6]
theorem f7 (a : FVec Ideal S512x128 .f32) (s : FVec Ideal S512x1 .f32) (l0 x0 l1 x1 p0 y z : FVec Ideal S512x256 .f32) (v0 v1 : Vec Ideal S1x1x256x128 .f32)
    (t : Fin 512) (d : Fin 128) :
    k0_pay7 a s l0 x0 l1 x1 p0 y z v0 v1 (ix2 t d)
      = a (ix2 t d) + ∑ m, Ideal.exp2 ((l0 (ix2 t m) + x0 (ix2 t m)) + (p0 (ix2 t m) + s (ix2 t 0))) * v0 (ix4 0 0 m d)
        + ∑ m, Ideal.exp2 ((l1 (ix2 t m) + x1 (ix2 t m)) + ((y (ix2 t m) + z (ix2 t m)) + k0_pay6 s x0 (ix2 t 0))) * v1 (ix4 0 0 m d) := by
  pointwise [k0_pay7]
  rfl
theorem f8 (s : FVec Ideal S512x1 .f32) (x y : FVec Ideal S512x256 .f32) (t : Fin 512) :
    k0_pay8 s x y (ix2 t 0) = k0_pay6 s x (ix2 t 0) + ∑ n, y (ix2 t n) := by
  pointwise [k0_pay8]
theorem f9 (v : Vec Ideal S1x1x512x128 .f32) (t : Fin 512) (d : Fin 128) : k0_pay9 v (ix2 t d) = v (ix4 0 0 t d) := by pointwise [k0_pay9]
theorem f10 (t : Fin 512) (d : Fin 128) : k0_pay10 (F := Ideal) (ix2 t d) = 0 := by pointwise [k0_pay10]
theorem f11 (t : Fin 512) : k0_pay11 (F := Ideal) (ix2 t 0) = 0 := by pointwise [k0_pay11]
theorem f17 (q : FVec Ideal S512x128 .bf16) (v : Vec Ideal S1x1x256x128 .f32) (t : Fin 512) (n : Fin 256) :
    k0_pay17 q v (ix2 t n) = ∑ d, q (ix2 t d) * v (ix4 0 0 n d) := by
  pointwise [k0_pay17]
theorem f18 (q : FVec Ideal S512x128 .bf16) (r : IVec S512x256 32) (b g u : BitVec 32) (v : Vec Ideal S1x1x256x128 .f32) (t : Fin 512) (n : Fin 256) :
    k0_pay18 q r b g u v (ix2 t n)
      = if IntOp.cmpi .sgt (r (ix2 t n)) (Scalar.subi (Scalar.subi u 1#32) (Scalar.addi (Scalar.muli b 2#32) 0#32) * 256#32 - g * 512#32) = 1#1
        then (∑ d, q (ix2 t d) * v (ix4 0 0 n d)) * ((w * (Real.log 2)⁻¹ : ℝ) : EReal) else ⊥ := by
  pointwise [k0_pay18, logit_at, mask_at]
  rfl
theorem f19 (q : FVec Ideal S512x128 .bf16) (r : IVec S512x256 32) (b g u : BitVec 32) (v : Vec Ideal S1x1x256x128 .f32) (t : Fin 512) (n : Fin 256) :
    k0_pay19 q r b g u v (ix2 t n) = ee (k0_pay18 q r b g u v (ix2 t n)) := by
  unfold ee
  pointwise [k0_pay19]
  rfl
theorem f20 (q : FVec Ideal S512x128 .bf16) (r : IVec S512x256 32) (b g u : BitVec 32) (v : Vec Ideal S1x1x256x128 .f32) (t : Fin 512) (n : Fin 256) :
    k0_pay20 q r b g u v (ix2 t n) = max (k0_pay18 q r b g u v (ix2 t n)) 0 := by
  pointwise [k0_pay20]
theorem f21 (e m : FVec Ideal S512x256 .f32) (t : Fin 512) (n : Fin 256) :
    k0_pay21 e m (ix2 t n) = 0 - (m (ix2 t n) + Ideal.log (1 + e (ix2 t n)) * (((Real.log 2)⁻¹ : ℝ) : EReal)) := by
  rw [← word_one]
  pointwise [k0_pay21, log2e_at]
theorem f22 (r : IVec S512x256 32) (g a : BitVec 32) (x : FVec Ideal S512x256 .f32) (t : Fin 512) (n : Fin 256) :
    k0_pay22 r g a x (ix2 t n)
      = if IntOp.cmpi .sgt (r (ix2 t n)) (a * 256#32 - g * 512#32) = 1#1 then x (ix2 t n) * ((w * (Real.log 2)⁻¹ : ℝ) : EReal) else ⊥ := by
  pointwise [k0_pay22, logit_at, mask_at]
  rfl
theorem f23 (r : IVec S512x256 32) (g a : BitVec 32) (x : FVec Ideal S512x256 .f32) (t : Fin 512) (n : Fin 256) :
    k0_pay23 r g a x (ix2 t n) = l1 (k0_pay22 r g a x (ix2 t n)) := by
  unfold l1 ee
  pointwise [k0_pay23, log2e_at]
  rfl
theorem f24 (u : FVec Ideal S256x256 .bf16) (e m : FVec Ideal S512x256 .f32) (t : Fin 512) (n : Fin 256) :
    k0_pay24 u e m (ix2 t n) = ∑ k, k0_pay21 e m (ix2 t k) * u (ix2 k n)
      + ∑ k, (k0_pay21 e m (ix2 t k) - k0_pay21 e m (ix2 t k)) * u (ix2 k n) := by
  pointwise [k0_pay24]
theorem f26 (r : IVec S512x256 32) (u : FVec Ideal S256x256 .bf16) (g a : BitVec 32) (x : FVec Ideal S512x256 .f32) (t : Fin 512) (n : Fin 256) :
    k0_pay26 r u g a x (ix2 t n) = ∑ k, k0_pay23 r g a x (ix2 t k) * u (ix2 k n) := by
  pointwise [k0_pay26, k0_pay25]
theorem f27 (r : IVec S512x256 32) (u : FVec Ideal S256x256 .bf16) (g a : BitVec 32) (x : FVec Ideal S512x256 .f32) (t : Fin 512) (n : Fin 256) :
    k0_pay27 r u g a x (ix2 t n) = ∑ k, (k0_pay23 r g a x (ix2 t k) - k0_pay23 r g a x (ix2 t k)) * u (ix2 k n) := by
  pointwise [k0_pay27, k0_pay25]

/-! ### The head -/

theorem f12 (v : FVec Ideal S512x128 .f32) (t : Fin 512) (d : Fin 128) : k0_pay12 v (ix3 0 t d) = v (ix2 t d) := by pointwise [k0_pay12]
theorem f13 (v : FVec Ideal S512x1 .f32) (t : Fin 512) (d : Fin 128) : k0_pay13 v (ix3 0 t d) = v (ix2 t 0) := by pointwise [k0_pay13]
theorem f14 (v : Vec Ideal S1x1x512x128 .f32) (t : Fin 512) (d : Fin 128) : k0_pay14 v (ix2 t d) = v (ix4 0 0 t d) := by pointwise [k0_pay14]
theorem f15 (g : Vec Ideal S1x128 .f32) (v : FVec Ideal S512x128 .f32) (t : Fin 512) (d : Fin 128) :
    k0_pay15 g v (ix2 t d) = v (ix2 t d)
      * Ideal.rsqrt (Ideal.div (∑ e, v (ix2 t e) * v (ix2 t e)) (Ideal.ofBits FTy.f32 0x43000000#32) + Ideal.ofBits FTy.f32 0x358637BD#32) * g (ix2 0 d) := by
  pointwise [k0_pay15]
theorem f3 (z n : FVec Ideal S512x128 .f32) (t : Fin 512) (d : Fin 128) :
    k0_pay3 z n k0_pay16 (ix4 0 0 t d) = n (ix2 t d) * (z (ix2 t d) * Ideal.div 1 (1 + Ideal.exp (0 - z (ix2 t d)))) := by
  rw [← word_one]
  pointwise [k0_pay3, k0_pay16]
theorem f4 (n : ℕ) (h : n ≤ 4) : k0_pay4 (F := Ideal) (Walk.word n) = ((n : ℝ) : EReal) := by
  show ((((BitVec.ofNat 32 n).toInt : ℤ) : ℝ) : EReal) = _
  rw [WordCmp.toInt_ofNat_of_lt (by omega)]
  rfl

end Cert.SbFwdIdeal.Hand

end
-- ==== Proof.SbFwdTile.lean ====
/- The stick-breaking attention's forward call: one step of the walk over the keys' blocks, and the whole walk. -/
module

public import proofs.«01_k».proof.Proof.SbFwdBlock
public import proofs.«01_k».proof.Proof.SbTile
public import proofs.«01_k».proof.Proof.SbHead

@[expose] public section

set_option maxRecDepth 16384

noncomputable section

namespace Cert.SbFwdIdeal.Hand

open Cert.SbFwdIdeal Cert.SbFwdIdeal.Gen Cert.SbMath Idealize.ShloMosaic Idealize.ShloMosaic.TcCoe Idealize.SL.Sem Finset
open Cert.SbIdeal.Hand (rw_ dot_coe logit_coe mask_word)

/-- The sum of a row's entries behind one, in a tile: the tile's, split in a rounded part and the rest, and those behind the tile. -/
theorem row_behind (x : Fin 256 → EReal) (f : ℕ → ℝ) (C : ℕ) (T : ℝ) (p : EReal) (hx : ∀ k, x k = (f (C + k.val) : EReal))
    (hp : p = ((T - ∑ j ∈ range (C + 256), f j : ℝ) : EReal)) (m : ℕ) (hm : m < 256) :
    (∑ k, x k * (if m < k.val then (1 : EReal) else 0) + ∑ k, (x k - x k) * (if m < k.val then (1 : EReal) else 0)) + p
      = ((T - ∑ j ∈ range (C + m + 1), f j : ℝ) : EReal) := by
  have h2 : ∑ k : Fin 256, (x k - x k) * (if m < k.val then (1 : EReal) else 0) = ((0 : ℝ) : EReal) := by
    rw [Finset.sum_congr rfl (g := fun _ => (0 : EReal)), Finset.sum_const_zero]
    · rfl
    · intro k _
      rw [hx, sub_self_coe, EReal.coe_zero, zero_mul]
  rw [h2, EReal.coe_zero, add_zero, hp, Finset.sum_congr rfl (fun k _ => by rw [hx]), tri (fun k : Fin 256 => f (C + k.val)), ← EReal.coe_add]
  refine congrArg _ ?_
  have e1 := sum_whole f C 256
  have e2 := sum_block f C (N := 256) (m + 1) (by omega)
  have e3 : ∑ k : Fin 256, f (C + k.val) = (∑ k : Fin 256, if k.val < m + 1 then f (C + k.val) else 0) + ∑ k : Fin 256, if m < k.val then f (C + k.val) else 0 := by
    rw [← Finset.sum_add_distrib]
    refine Finset.sum_congr rfl fun k _ => ?_
    by_cases h : k.val < m + 1
    · rw [if_pos h, if_neg (by omega), add_zero]
    · rw [if_neg h, if_pos (by omega), zero_add]
  rw [show C + m + 1 = C + (m + 1) by omega]
  linarith

theorem row_tile (x : Fin 256 → EReal) (f : ℕ → ℝ) (C : ℕ) (T : ℝ) (p : EReal) (hx : ∀ k, x k = (f (C + k.val) : EReal))
    (hp : p = ((T - ∑ j ∈ range (C + 256), f j : ℝ) : EReal)) : p + ∑ k, x k = ((T - ∑ j ∈ range C, f j : ℝ) : EReal) := by
  rw [hp, Finset.sum_congr rfl (fun k _ => hx k), ← Reals.coe_sum, ← EReal.coe_add, ← sum_whole f C 256]
  exact congrArg _ (by ring)

/-- The words of the two halves' tiles. -/
theorem half0_lit : ∀ (k : Fin k0_t1_loop.trips) (n : Fin 4), n.val ≤ k.val →
    Scalar.subi (Scalar.subi (Scalar.muli (Scalar.addi (Scf.iv 0#32 1#32 k) 1#32) 2#32) 1#32) (Scalar.addi (Scalar.muli (Walk.word n.val) 2#32) 0#32)
      = BitVec.ofNat 32 (2 * (k.val - n.val) + 1) := by decide +kernel
theorem half1_lit : ∀ (k : Fin k0_t1_loop.trips) (n : Fin 4), n.val ≤ k.val →
    Scalar.subi (Scalar.subi (Scalar.muli (Scalar.addi (Scf.iv 0#32 1#32 k) 1#32) 2#32) 1#32) (Scalar.addi (Scalar.muli (Walk.word n.val) 2#32) 1#32)
      = BitVec.ofNat 32 (2 * (k.val - n.val)) := by decide +kernel
theorem own_word : ∀ k : Fin k0_t1_loop.trips, Scf.iv 0#32 1#32 k = BitVec.ofNat 32 k.val := by decide +kernel
theorem off2_0_lit : ∀ (k : Fin k0_t1_loop.trips) (n : Fin 4), n.val ≤ k.val →
    k0_off2 k (Walk.word n.val) (BitVec.ofNat 32 (0 : Fin 2).val) = ![0, 0, 256 * (2 * (k.val - n.val) + 1), 0] := by decide +kernel
theorem off2_1_lit : ∀ (k : Fin k0_t1_loop.trips) (n : Fin 4), n.val ≤ k.val →
    k0_off2 k (Walk.word n.val) (BitVec.ofNat 32 (1 : Fin 2).val) = ![0, 0, 256 * (2 * (k.val - n.val)), 0] := by decide +kernel
theorem goes_lit : ∀ (k : Fin k0_t1_loop.trips) (n : Fin 4), n.val ≤ k.val → Scalar.cmpi .sle (Walk.word n.val) (Scf.iv 0#32 1#32 k) = 1#1 := by
  decide +kernel

section words

variable (k : Fin k0_t1_loop.trips) (n : ℕ) (h : n ≤ k.val)
include h

theorem lt_four : n < 4 := by have := k.isLt; have := trips1; omega
theorem half0_word : Scalar.subi (Scalar.subi (Scalar.muli (Scalar.addi (Scf.iv 0#32 1#32 k) 1#32) 2#32) 1#32) (Scalar.addi (Scalar.muli (Walk.word n) 2#32) 0#32)
    = BitVec.ofNat 32 (2 * (k.val - n) + 1) := half0_lit k ⟨n, lt_four k n h⟩ h
theorem half1_word : Scalar.subi (Scalar.subi (Scalar.muli (Scalar.addi (Scf.iv 0#32 1#32 k) 1#32) 2#32) 1#32) (Scalar.addi (Scalar.muli (Walk.word n) 2#32) 1#32)
    = BitVec.ofNat 32 (2 * (k.val - n)) := half1_lit k ⟨n, lt_four k n h⟩ h
theorem off2_0 : k0_off2 k (Walk.word n) (BitVec.ofNat 32 (0 : Fin 2).val) = ![0, 0, 256 * (2 * (k.val - n) + 1), 0] := off2_0_lit k ⟨n, lt_four k n h⟩ h
theorem off2_1 : k0_off2 k (Walk.word n) (BitVec.ofNat 32 (1 : Fin 2).val) = ![0, 0, 256 * (2 * (k.val - n)), 0] := off2_1_lit k ⟨n, lt_four k n h⟩ h
theorem goes_word : Scalar.cmpi .sle (Walk.word n) (Scf.iv 0#32 1#32 k) = 1#1 := goes_lit k ⟨n, lt_four k n h⟩ h

end words

/-- The walk's reads are the rows `Q`, `K` and `V`. -/
structure Fed (w : Walk Ideal) (Q K V : Mat) : Prop where
  fq : ∀ (t : Fin 512) d, w.q (ix2 t d) = (Q (512 * w.k.val + t.val) d : EReal)
  fk : ∀ (s : Fin 2048) d, w.arg3.view.read (Elt Ideal) w.x3 (ix4 0 0 s d) = (K s d : EReal)
  fv : ∀ (s : Fin 2048) d, w.arg4.view.read (Elt Ideal) w.x4 (ix4 0 0 s d) = (V s d : EReal)

/-- The row's sum and the output's row, the keys from `C` on walked. -/
structure Seen (Q K V : Mat) (i C : ℕ) (a : FVec Ideal S512x128 .f32) (s : FVec Ideal S512x1 .f32) : Prop where
  s : ∀ t : Fin 512, s (ix2 t 0) = (((∑ j ∈ range 2048, ll Q K (rw_ i t) j) * (Real.log 2)⁻¹ - ∑ j ∈ range C, ll Q K (rw_ i t) j * (Real.log 2)⁻¹ : ℝ) : EReal)
  a : ∀ (t : Fin 512) d, a (ix2 t d)
    = ((∑ j ∈ range 2048, aa Q K (rw_ i t) j * V j d - ∑ j ∈ range C, aa Q K (rw_ i t) j * V j d : ℝ) : EReal)

namespace Fed

variable {w : Walk Ideal} {Q K V : Mat} (h : Fed w Q K V) {n : ℕ} (hn : n ≤ w.k.val)
include h hn

theorem k_lt : w.k.val < 4 := by have := w.k.isLt; have := trips1; omega

theorem key0 (hc : k0_chk1 w.k (Walk.word n)) (m : Fin 256) (d : Fin 128) :
    w.key n hc 0 (ix4 0 0 m d) = (K (256 * (2 * (w.k.val - n) + 1) + m.val) d : EReal) := by
  have hk := h.k_lt hn
  refine Eq.trans (congrArg (w.arg3.view.read (Elt Ideal) w.x3) (funext fun a => Fin.ext ?_)) (h.fk ⟨256 * (2 * (w.k.val - n) + 1) + m.val, by omega⟩ d)
  refine (congrArg (· + _) (congrFun (off2_0 w.k n hn) a)).trans ?_
  fin_cases a
  · rfl
  · rfl
  · show 256 * (2 * (w.k.val - n) + 1) + 1 * m.val = 256 * (2 * (w.k.val - n) + 1) + m.val; omega
  · show 0 + 1 * d.val = d.val; omega
theorem key1 (hc : k0_chk1 w.k (Walk.word n)) (m : Fin 256) (d : Fin 128) :
    w.key n hc 1 (ix4 0 0 m d) = (K (256 * (2 * (w.k.val - n)) + m.val) d : EReal) := by
  have hk := h.k_lt hn
  refine Eq.trans (congrArg (w.arg3.view.read (Elt Ideal) w.x3) (funext fun a => Fin.ext ?_)) (h.fk ⟨256 * (2 * (w.k.val - n)) + m.val, by omega⟩ d)
  refine (congrArg (· + _) (congrFun (off2_1 w.k n hn) a)).trans ?_
  fin_cases a
  · rfl
  · rfl
  · show 256 * (2 * (w.k.val - n)) + 1 * m.val = 256 * (2 * (w.k.val - n)) + m.val; omega
  · show 0 + 1 * d.val = d.val; omega
theorem val0 (hc : k0_chk1 w.k (Walk.word n)) (m : Fin 256) (d : Fin 128) :
    w.val n hc 0 (ix4 0 0 m d) = (V (256 * (2 * (w.k.val - n) + 1) + m.val) d : EReal) := by
  have hk := h.k_lt hn
  refine Eq.trans (congrArg (w.arg4.view.read (Elt Ideal) w.x4) (funext fun a => Fin.ext ?_)) (h.fv ⟨256 * (2 * (w.k.val - n) + 1) + m.val, by omega⟩ d)
  refine (congrArg (· + _) (congrFun (off2_0 w.k n hn) a)).trans ?_
  fin_cases a
  · rfl
  · rfl
  · show 256 * (2 * (w.k.val - n) + 1) + 1 * m.val = 256 * (2 * (w.k.val - n) + 1) + m.val; omega
  · show 0 + 1 * d.val = d.val; omega
theorem val1 (hc : k0_chk1 w.k (Walk.word n)) (m : Fin 256) (d : Fin 128) :
    w.val n hc 1 (ix4 0 0 m d) = (V (256 * (2 * (w.k.val - n)) + m.val) d : EReal) := by
  have hk := h.k_lt hn
  refine Eq.trans (congrArg (w.arg4.view.read (Elt Ideal) w.x4) (funext fun a => Fin.ext ?_)) (h.fv ⟨256 * (2 * (w.k.val - n)) + m.val, by omega⟩ d)
  refine (congrArg (· + _) (congrFun (off2_1 w.k n hn) a)).trans ?_
  fin_cases a
  · rfl
  · rfl
  · show 256 * (2 * (w.k.val - n)) + 1 * m.val = 256 * (2 * (w.k.val - n)) + m.val; omega
  · show 0 + 1 * d.val = d.val; omega

theorem l0 (hc : k0_chk1 w.k (Walk.word n)) (t : Fin 512) (m : Fin 256) :
    w.l0 n hc (ix2 t m) = lg (256 * (2 * (w.k.val - n) + 1) + m.val < rw_ w.k.val t) (zz Q K (rw_ w.k.val t) (256 * (2 * (w.k.val - n) + 1) + m.val)) := by
  have hk := h.k_lt hn
  unfold Walk.l0 Walk.ub Walk.own lg zz
  rw [f18, f2, half0_word w.k n hn, own_word, mask_word (by omega) hk t.isLt m.isLt,
    dot_coe _ _ Q K (rw_ w.k.val t) (256 * (2 * (w.k.val - n) + 1) + m.val) (h.fq t) (h.key0 hn hc m), logit_coe]
  by_cases c : 256 * (2 * (w.k.val - n) + 1) + m.val < 512 * w.k.val + t.val <;> simp [c]

/-- The second half's logits. -/
abbrev L1 (w : Walk Ideal) (n : ℕ) (hc : k0_chk1 w.k (Walk.word n)) : FVec Ideal S512x256 .f32 := k0_pay22 k0_pay2 w.own (w.half n) (w.d1 n hc)

theorem l1' (hc : k0_chk1 w.k (Walk.word n)) (t : Fin 512) (m : Fin 256) :
    L1 w n hc (ix2 t m) = lg (256 * (2 * (w.k.val - n)) + m.val < rw_ w.k.val t) (zz Q K (rw_ w.k.val t) (256 * (2 * (w.k.val - n)) + m.val)) := by
  have hk := h.k_lt hn
  unfold L1 Walk.half Walk.d1 Walk.ub Walk.own lg zz
  rw [f22, f17, f2, half1_word w.k n hn, own_word, mask_word (by omega) hk t.isLt m.isLt,
    dot_coe _ _ Q K (rw_ w.k.val t) (256 * (2 * (w.k.val - n)) + m.val) (h.fq t) (h.key1 hn hc m), logit_coe]
  by_cases c : 256 * (2 * (w.k.val - n)) + m.val < 512 * w.k.val + t.val <;> simp [c]

theorem t0 (hc : k0_chk1 w.k (Walk.word n)) (t : Fin 512) (m : Fin 256) :
    w.t0 n hc (ix2 t m) = ((ll Q K (rw_ w.k.val t) (256 * (2 * (w.k.val - n) + 1) + m.val) * (Real.log 2)⁻¹ : ℝ) : EReal) := by
  unfold Walk.t0 Walk.m0 Walk.e0
  rw [f21, f20, f19]
  exact (congrArg l1 (h.l0 hn hc t m)).trans (l1_lg _ _)

theorem t1 (hc : k0_chk1 w.k (Walk.word n)) (t : Fin 512) (m : Fin 256) :
    w.t1 n hc (ix2 t m) = ((ll Q K (rw_ w.k.val t) (256 * (2 * (w.k.val - n)) + m.val) * (Real.log 2)⁻¹ : ℝ) : EReal) := by
  unfold Walk.t1
  rw [f23]
  exact (congrArg l1 (h.l1' hn hc t m)).trans (l1_lg _ _)

variable {a : FVec Ideal S512x128 .f32} {s : FVec Ideal S512x1 .f32} (S : Seen Q K V w.k.val (512 * (w.k.val + 1 - n)) a s)
include S

theorem mid (hc : k0_chk1 w.k (Walk.word n)) (t : Fin 512) : k0_pay6 s (w.t0 n hc) (ix2 t 0)
    = (((∑ j ∈ range 2048, ll Q K (rw_ w.k.val t) j) * (Real.log 2)⁻¹
        - ∑ j ∈ range (256 * (2 * (w.k.val - n) + 1)), ll Q K (rw_ w.k.val t) j * (Real.log 2)⁻¹ : ℝ) : EReal) := by
  rw [f6]
  refine row_tile (fun m => w.t0 n hc (ix2 t m)) (fun j => ll Q K (rw_ w.k.val t) j * (Real.log 2)⁻¹) _ _ _ (h.t0 hn hc t) ((S.s t).trans ?_)
  rw [show 512 * (w.k.val + 1 - n) = 256 * (2 * (w.k.val - n) + 1) + 256 by omega]

/-- The weights of the two halves' keys. -/
theorem w0 (hc : k0_chk1 w.k (Walk.word n)) (t : Fin 512) (m : Fin 256) :
    Ideal.exp2 ((w.l0 n hc (ix2 t m) + w.t0 n hc (ix2 t m)) + (k0_pay24 k0_pay1 (w.e0 n hc) (w.m0 n hc) (ix2 t m) + s (ix2 t 0)))
      = (aa Q K (rw_ w.k.val t) (256 * (2 * (w.k.val - n) + 1) + m.val) : EReal) := by
  rw [f24]
  simp only [f1]
  rw [row_behind (fun k => w.t0 n hc (ix2 t k)) (fun j => ll Q K (rw_ w.k.val t) j * (Real.log 2)⁻¹) (256 * (2 * (w.k.val - n) + 1))
    ((∑ j ∈ range 2048, ll Q K (rw_ w.k.val t) j) * (Real.log 2)⁻¹) _ (h.t0 hn hc t)
    ((S.s t).trans (by rw [show 512 * (w.k.val + 1 - n) = 256 * (2 * (w.k.val - n) + 1) + 256 by omega])) m.val m.isLt, ← Finset.sum_mul, EReal.coe_sub,
    h.l0 hn, h.t0 hn]
  exact wt_lg _ _ _ _ _ (fun c => if_pos c)

theorem w1 (hc : k0_chk1 w.k (Walk.word n)) (t : Fin 512) (m : Fin 256) :
    Ideal.exp2 ((L1 w n hc (ix2 t m) + w.t1 n hc (ix2 t m)) + ((k0_pay26 k0_pay2 k0_pay1 w.own (w.half n) (w.d1 n hc) (ix2 t m)
        + k0_pay27 k0_pay2 k0_pay1 w.own (w.half n) (w.d1 n hc) (ix2 t m)) + k0_pay6 s (w.t0 n hc) (ix2 t 0)))
      = (aa Q K (rw_ w.k.val t) (256 * (2 * (w.k.val - n)) + m.val) : EReal) := by
  rw [f26, f27]
  simp only [f1]
  rw [row_behind (fun k => w.t1 n hc (ix2 t k)) (fun j => ll Q K (rw_ w.k.val t) j * (Real.log 2)⁻¹) (256 * (2 * (w.k.val - n)))
    ((∑ j ∈ range 2048, ll Q K (rw_ w.k.val t) j) * (Real.log 2)⁻¹) _ (h.t1 hn hc t)
    ((h.mid hn S hc t).trans (by rw [show 256 * (2 * (w.k.val - n) + 1) = 256 * (2 * (w.k.val - n)) + 256 by omega])) m.val m.isLt, ← Finset.sum_mul, EReal.coe_sub,
    h.l1' hn, h.t1 hn]
  exact wt_lg _ _ _ _ _ (fun c => if_pos c)

/-- One step, its two halves. -/
theorem step (hc : k0_chk1 w.k (Walk.word n)) : Seen Q K V w.k.val (512 * (w.k.val + 1 - (n + 1))) (w.acc n hc a s) (w.sum n hc s) where
  s t := by
    unfold Walk.sum
    rw [f8]
    refine (row_tile (fun m => w.t1 n hc (ix2 t m)) (fun j => ll Q K (rw_ w.k.val t) j * (Real.log 2)⁻¹) (256 * (2 * (w.k.val - n)))
      ((∑ j ∈ range 2048, ll Q K (rw_ w.k.val t) j) * (Real.log 2)⁻¹) _ (h.t1 hn hc t) ((h.mid hn S hc t).trans ?_)).trans ?_
    · rw [show 256 * (2 * (w.k.val - n) + 1) = 256 * (2 * (w.k.val - n)) + 256 by omega]
    · rw [show 512 * (w.k.val + 1 - (n + 1)) = 256 * (2 * (w.k.val - n)) by omega]
  a t d := by
    unfold Walk.acc
    rw [f7]
    refine (row_tile _ (fun j => aa Q K (rw_ w.k.val t) j * V j d) (256 * (2 * (w.k.val - n))) (∑ j ∈ range 2048, aa Q K (rw_ w.k.val t) j * V j d) _
      (fun m => ?_) ?_).trans ?_
    · rw [show Ideal.exp2 _ = _ from h.w1 hn S hc t m, h.val1 hn, ← EReal.coe_mul]
    · refine (row_tile _ (fun j => aa Q K (rw_ w.k.val t) j * V j d) (256 * (2 * (w.k.val - n) + 1)) (∑ j ∈ range 2048, aa Q K (rw_ w.k.val t) j * V j d) _
        (fun m => ?_) ?_).trans ?_
      · rw [show Ideal.exp2 _ = _ from h.w0 hn S hc t m, h.val0 hn, ← EReal.coe_mul]
      · rw [S.a, show 512 * (w.k.val + 1 - n) = 256 * (2 * (w.k.val - n) + 1) + 256 by omega]
      · rw [show 256 * (2 * (w.k.val - n) + 1) = 256 * (2 * (w.k.val - n)) + 256 by omega]
    · rw [show 512 * (w.k.val + 1 - (n + 1)) = 256 * (2 * (w.k.val - n)) by omega]

/-- The walk goes on. -/
theorem goes : w.Goes n s := by
  have hk := h.k_lt hn
  unfold Walk.Goes Walk.own
  rw [goes_word w.k n hn, dead_at]
  have : Scalar.cmpf (F := Ideal) .ogt (k0_pay5 s) ⊥ = 1#1 := by
    have := f5 s (by rw [S.s 0]; exact EReal.bot_lt_coe _)
    show BitVec.ofBool (decide _) = 1#1
    rw [decide_eq_true this]; rfl
  rw [this]
  generalize Scalar.cmpi .eq (Walk.word n) 0#32 = x
  revert x; decide

end Fed

/-- Behind a tile of queries no key has a part. -/
theorem sum_far (f : ℕ → ℝ) (i : ℕ) (hi : i < 4) (t : Fin 512) (hf : ∀ j, ¬ j < rw_ i t → f j = 0) :
    ∑ j ∈ range 2048, f j - ∑ j ∈ range (512 * (i + 1)), f j = 0 := by
  rw [sub_eq_zero]
  refine (Finset.sum_subset (fun j hj => Finset.mem_range.2 ?_) fun j _ hj => hf j ?_).symm
  · have := Finset.mem_range.1 hj; omega
  · have := Finset.mem_range.not.1 hj; show ¬ j < 512 * i + t.val; omega

theorem seen_zero (Q K V : Mat) (i : ℕ) (hi : i < 4) : Seen Q K V i (512 * (i + 1)) k0_pay10 k0_pay11 where
  s t := by
    rw [f11, Finset.sum_mul, sum_far (fun j => ll Q K (rw_ i t) j * (Real.log 2)⁻¹) i hi t fun j hj => by rw [ll_far Q K hj, zero_mul]]
    rfl
  a t d := by
    rw [f10, sum_far (fun j => aa Q K (rw_ i t) j * V j d) i hi t fun j hj => by rw [aa_far Q K hj, zero_mul]]
    rfl

/-- The whole walk. -/
theorem Fed.walk {w : Walk Ideal} {Q K V : Mat} (h : Fed w Q K V) : ∀ f n a s, n + f = w.k.val + 1 →
    Seen Q K V w.k.val (512 * (w.k.val + 1 - n)) a s → (w.after f n a s).1 = Walk.word (w.k.val + 1)
      ∧ Seen Q K V w.k.val 0 (w.after f n a s).2.1 (w.after f n a s).2.2 := by
  intro f
  induction f with
  | zero =>
    intro n a s hf S
    obtain rfl : n = w.k.val + 1 := by omega
    rw [Nat.sub_self, Nat.mul_zero] at S
    exact ⟨rfl, S⟩
  | succ f ih =>
    intro n a s hf S
    have hn : n ≤ w.k.val := by omega
    have hc := chk_of_le w.k n hn
    rw [show w.after (f + 1) n a s = w.after f (n + 1) (w.acc n hc a s) (w.sum n hc s) from by rw [Walk.after, dif_pos ⟨hc, h.goes hn S⟩]]
    exact ih (n + 1) _ _ (by omega) (h.step hn S hc)

end Cert.SbFwdIdeal.Hand

end
-- ==== Proof.SbFwdFrame.lean ====
/- The stick-breaking attention's forward call, idealized: one block of query rows, and the body's run at a point. -/
module

public import proofs.«01_k».proof.Proof.SbFwdLoops

@[expose] public section

set_option maxRecDepth 16384

noncomputable section

namespace Cert.SbFwdIdeal.Hand

open Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's operands: a grid point and the buffers it is called with. -/
structure Ops where
  i : grid0.Coords
  (arg2 : Memref sig .tc .vmem S1x1x2048x128 .f32) (harg2 : arg2.IsWhole)
  (arg3 : Memref sig .tc .vmem S1x1x2048x128 .f32) (harg3 : arg3.IsWhole)
  (arg4 : Memref sig .tc .vmem S1x1x2048x128 .f32) (harg4 : arg4.IsWhole)
  (arg5 : Memref sig .tc .vmem S1x1x2048x128 .f32) (harg5 : arg5.IsWhole)
  (arg6 : Memref sig .tc .vmem S1x128 .f32) (harg6 : arg6.IsWhole)
  (arg7 : Memref sig .tc .vmem S1x2048x128 .f32) (harg7 : arg7.IsWhole)
  (arg8 : Memref sig .tc .vmem S1x2048x128 .f32) (harg8 : arg8.IsWhole)
  (arg9 : Memref sig .tc .vmem S1x1x2048x128 .bf16) (harg9 : arg9.IsWhole)
  (arg10 : Memref sig .tc .smem S1x1x1x4 .f32) (harg10 : arg10.IsWhole)

/-- The blocks the body reads. -/
structure Blk (F : FTy → Type) where
  q : Vec F S1x1x2048x128 .f32
  k : Vec F S1x1x2048x128 .f32
  v : Vec F S1x1x2048x128 .f32
  zg : Vec F S1x1x2048x128 .f32
  g : Vec F S1x128 .f32

/-- The rows of a trip, in the operands' blocks and the results'. -/
abbrev rows4 (k : Fin k0_t1_loop.trips) : Rect S1x1x2048x128 := Rect.unit (s := S1x1x2048x128) (k0_off1 k) S1x1x512x128.size (k0_off1_inb k)
@[inherit_doc rows4]
abbrev rows3 (k : Fin k0_t1_loop.trips) : Rect S1x2048x128 := Rect.unit (s := S1x2048x128) (k0_off3 k) S1x512x128.size (k0_off3_inb k)
@[inherit_doc rows4]
abbrev rows1 (k : Fin k0_t1_loop.trips) : Rect S1x1x1x4 := Rect.unit (s := S1x1x1x4) (k0_off4 k) S1x1x1x1.size (k0_off4_inb k)

/-- The inner loop of a trip. -/
abbrev walk (c : Dev nD) (o : Ops) (b : Blk F) (k : Fin k0_t1_loop.trips) : Walk F :=
  ⟨c, o.i, k, o.arg3, o.harg3, o.arg4, o.harg4, o.harg3.unread b.k, o.harg4.unread b.v,
    k0_pay9 (o.arg2.view.readAt (Elt F) (rows4 k).toLoadRect (o.harg2.unread b.q))⟩

/-- What it returns: the blocks walked, the output's rows, the sums. -/
abbrev res (c : Dev nD) (o : Ops) (b : Blk F) (k : Fin k0_t1_loop.trips) : BitVec 32 × FVec F S512x128 .f32 × FVec F S512x1 .f32 :=
  (walk c o b k).after (k.val + 1) 0 k0_pay10 k0_pay11

/-- What a trip stores. -/
abbrev p7 (c : Dev nD) (o : Ops) (b : Blk F) (k : Fin k0_t1_loop.trips) : View.Piece (Elt F) S1x2048x128 .f32 :=
  ⟨rows3 k, k0_pay12 (res c o b k).2.1⟩
@[inherit_doc p7]
abbrev p8 (c : Dev nD) (o : Ops) (b : Blk F) (k : Fin k0_t1_loop.trips) : View.Piece (Elt F) S1x2048x128 .f32 :=
  ⟨rows3 k, k0_pay13 (res c o b k).2.2⟩
@[inherit_doc p7]
abbrev p9 (c : Dev nD) (o : Ops) (b : Blk F) (k : Fin k0_t1_loop.trips) : View.Piece (Elt F) S1x1x2048x128 .bf16 :=
  ⟨rows4 k, k0_pay3 (k0_pay14 (o.arg5.view.readAt (Elt F) (rows4 k).toLoadRect (o.harg5.unread b.zg)))
    (k0_pay15 (o.arg6.view.readAt (Elt F) (Rect.unit ![0, 0] S1x128.size inb_S1x128_S1x128_0_0).toLoadRect (o.harg6.unread b.g)) (res c o b k).2.1) k0_pay16⟩
@[inherit_doc p7]
abbrev p10 (c : Dev nD) (o : Ops) (b : Blk F) (k : Fin k0_t1_loop.trips) : View.Piece (Elt F) S1x1x1x4 .f32 :=
  ⟨rows1 k, fun _ => k0_pay4 (res c o b k).1⟩

/-- The stores of the trips before `n`, last first. -/
def upTo {α : Type} (p : Fin k0_t1_loop.trips → α) : ℕ → List α
  | 0 => []
  | n + 1 => if h : n < k0_t1_loop.trips then p ⟨n, h⟩ :: upTo p n else upTo p n

theorem upTo_succ {α : Type} (p : Fin k0_t1_loop.trips → α) (k : Fin k0_t1_loop.trips) : upTo p (k.val + 1) = [p k] ++ upTo p k.val := by
  rw [upTo]; exact dif_pos k.isLt

theorem mem_upTo {α : Type} (p : Fin k0_t1_loop.trips → α) (j : Fin k0_t1_loop.trips) : ∀ n, j.val < n → n ≤ k0_t1_loop.trips → p j ∈ upTo p n := by
  intro n
  induction n with
  | zero => omega
  | succ n ih =>
    intro hj hn
    rw [upTo, dif_pos (show n < k0_t1_loop.trips from hn)]
    by_cases h : j.val = n
    · obtain rfl : j = ⟨n, hn⟩ := Fin.ext h
      exact List.mem_cons_self
    · exact List.mem_cons_of_mem _ (ih (by omega) (by omega))

/-- The buffers a trip reads, at their blocks, -/
abbrev Reads (c : Dev nD) (o : Ops) (b : Blk F) : sProp 𝕄 :=
  iprop((o.arg2.view.loc (c : Thread nD τ) ↦[o.arg2.view.set]{fullShare} o.harg2.unread b.q) ∗ (o.arg3.view.loc (c : Thread nD τ) ↦[o.arg3.view.set]{fullShare} o.harg3.unread b.k)
    ∗ (o.arg4.view.loc (c : Thread nD τ) ↦[o.arg4.view.set]{fullShare} o.harg4.unread b.v) ∗ (o.arg5.view.loc (c : Thread nD τ) ↦[o.arg5.view.set]{fullShare} o.harg5.unread b.zg))

/-- and those it writes, at what the trips before it left. -/
abbrev Writes (c : Dev nD) (o : Ops) (f7 : BufTy.Contents (Elt F) o.arg7.view.ty) (f8 : BufTy.Contents (Elt F) o.arg8.view.ty)
    (f9 : BufTy.Contents (Elt F) o.arg9.view.ty) (f10 : BufTy.Contents (Elt F) o.arg10.view.ty) : sProp 𝕄 :=
  iprop((o.arg7.view.loc (c : Thread nD τ) ↦[o.arg7.view.set]{fullShare} f7) ∗ (o.arg8.view.loc (c : Thread nD τ) ↦[o.arg8.view.set]{fullShare} f8)
    ∗ (o.arg9.view.loc (c : Thread nD τ) ↦[o.arg9.view.set]{fullShare} f9) ∗ (o.arg10.view.loc (c : Thread nD τ) ↦[o.arg10.view.set]{fullShare} f10))

/-- One trip's region. -/
abbrev t1Body (o : Ops) (v9 : Vec F S1x128 .f32) : Fin k0_t1_loop.trips → Unit → Prog (TpuEff nD τ sig (Elt F) (Λ₀ F) .tc) Unit :=
  k0_t1_body (F := F) o.i o.arg2 o.harg2 o.arg3 o.harg3 o.arg4 o.harg4 o.arg5 o.harg5 o.arg6 o.harg6 o.arg7 o.harg7
    o.arg8 o.harg8 o.arg9 o.harg9 o.arg10 o.harg10 v9

/-- The gain. -/
abbrev gain (o : Ops) (b : Blk F) : Vec F S1x128 .f32 :=
  o.arg6.view.readAt (Elt F) (Rect.unit ![0, 0] S1x128.size inb_S1x128_S1x128_0_0).toLoadRect (o.harg6.unread b.g)

set_option maxHeartbeats 4000000 in
/-- ONE TRIP. -/
theorem trip (c : Dev nD) (o : Ops) (b : Blk F) (k : Fin k0_t1_loop.trips) (E : Set ℕ) (f7 : BufTy.Contents (Elt F) o.arg7.view.ty) (f8 : BufTy.Contents (Elt F) o.arg8.view.ty)
    (f9 : BufTy.Contents (Elt F) o.arg9.view.ty) (f10 : BufTy.Contents (Elt F) o.arg10.view.ty) :
    iprop(Reads c o b ∗ Writes c o f7 f8 f9 f10)
      ⊢ wp frame (wpE (defs₀ (F := F)) 𝒱₀ (c : Thread nD τ) none) E (t1Body (F := F) o (gain o b) k ⟨⟩)
          (fun _ => iprop(Reads c o b ∗ Writes c o (o.arg7.view.writes (Elt F) f7 [p7 c o b k]) (o.arg8.view.writes (Elt F) f8 [p8 c o b k])
            (o.arg9.view.writes (Elt F) f9 [p9 c o b k]) (o.arg10.view.writes (Elt F) f10 [p10 c o b k]))) := by
  unfold t1Body k0_t1_body
  simp only [k0_part1_eq_skeleton]
  unfold k0_part1_skel
  iintro ⟨⟨H2, H3, H4, H5⟩, H7, H8, H9, H10⟩
  sl_exec
  iapply (wp_call_spec 𝒱₀ (c : Thread nD τ) none E ((walk c o b k).spec (k.val + 1) 0 k0_pay10 k0_pay11) (k.val + 1)
    (fun u hu => nomatch hu) ((walk c o b k).spec_le E (k.val + 1) 0 (Nat.zero_add _) k0_pay10 k0_pay11))
  rw [Walk.spec_apply]; unfold Walk.held
  isplitl [H3 H4]
  · isplitl [H3]; · iexact H3
    iexact H4
  iintro ⟨H3, H4⟩
  sl_exec
  sl_step
  isplitl [H2 H3 H4 H5]
  · isplitl [H2]; · iexact H2
    isplitl [H3]; · iexact H3
    isplitl [H4]; · iexact H4
    iexact H5
  isplitl [H7]; · iexact H7
  isplitl [H8]; · iexact H8
  isplitl [H9]; · iexact H9
  iexact H10

/-- THE INVARIANT before trip `n`. -/
abbrev inv (c : Dev nD) (o : Ops) (b : Blk F) (g7 : BufTy.Contents (Elt F) o.arg7.view.ty) (g8 : BufTy.Contents (Elt F) o.arg8.view.ty)
    (g9 : BufTy.Contents (Elt F) o.arg9.view.ty) (g10 : BufTy.Contents (Elt F) o.arg10.view.ty) (n : ℕ) (_ : Unit) : sProp 𝕄 :=
  iprop(Reads c o b ∗ ∃ f7, ∃ f8, ∃ f9, ∃ f10, ⌜f7 = o.arg7.view.writes (Elt F) g7 (upTo (p7 c o b) n) ∧ f8 = o.arg8.view.writes (Elt F) g8 (upTo (p8 c o b) n)
    ∧ f9 = o.arg9.view.writes (Elt F) g9 (upTo (p9 c o b) n) ∧ f10 = o.arg10.view.writes (Elt F) g10 (upTo (p10 c o b) n)⌝ ∗ Writes c o f7 f8 f9 f10)

theorem step (c : Dev nD) (o : Ops) (b : Blk F) (E : Set ℕ) (g7 : BufTy.Contents (Elt F) o.arg7.view.ty) (g8 : BufTy.Contents (Elt F) o.arg8.view.ty)
    (g9 : BufTy.Contents (Elt F) o.arg9.view.ty) (g10 : BufTy.Contents (Elt F) o.arg10.view.ty) (k : Fin k0_t1_loop.trips) (u : Unit) :
    inv c o b g7 g8 g9 g10 k.val u ⊢ wp frame (wpE (defs₀ (F := F)) 𝒱₀ (c : Thread nD τ) none) E (t1Body (F := F) o (gain o b) k u) (inv c o b g7 g8 g9 g10 (k.val + 1)) := by
  iintro ⟨HR, ⟨%f7, %f8, %f9, %f10, %h, HW⟩⟩
  iapply (wp_wand_r Idealize.ShloMosaic.frame (wpE (defs₀ (F := F)) 𝒱₀ (c : Thread nD τ) none) E)
  isplitl [HR HW]
  · iapply (trip c o b k E f7 f8 f9 f10)
    isplitl [HR]; · iexact HR
    iexact HW
  iintro %yld ⟨HR, HW⟩
  isplitl [HR]; · iexact HR
  iexists _; iexists _; iexists _; iexists _
  isplitr; swap; · iexact HW
  ipureintro
  obtain ⟨rfl, rfl, rfl, rfl⟩ := h
  simp only [upTo_succ, View.writes_append, and_self]

/-- The body's reads at their blocks. -/
abbrev BlkOwns (c : Dev nD) (o : Ops) (b : Blk F) : sProp 𝕄 :=
  iprop(owns (c : Thread nD τ) o.arg2 fullShare b.q ∗ owns (c : Thread nD τ) o.arg3 fullShare b.k ∗ owns (c : Thread nD τ) o.arg4 fullShare b.v
    ∗ owns (c : Thread nD τ) o.arg5 fullShare b.zg ∗ owns (c : Thread nD τ) o.arg6 fullShare b.g)

/-- A buffer it writes, at some contents. -/
abbrev Any {sp : Space} {s : Shape} {e : EltTy} (c : Dev nD) (a : Memref sig .tc sp s e) : sProp 𝕄 := iprop(∃ d, owns (c : Thread nD τ) a fullShare d)

/-- A buffer it has written. -/
abbrev Left {sp : Space} {s : Shape} {e : EltTy} (c : Dev nD) (a : Memref sig .tc sp s e) (L : List (View.Piece (Elt F) s e)) : sProp 𝕄 :=
  iprop(∃ f, a.view.loc (c : Thread nD τ) ↦[a.view.set]{fullShare} a.view.writes (Elt F) f L)

set_option maxHeartbeats 4000000 in
/-- THE BODY'S RUN. -/
theorem run (c : Dev nD) (o : Ops) (b : Blk F) (E : Set ℕ) (K : PUnit → sProp 𝕄) :
      iprop(BlkOwns c o b ∗ Any (F := F) c o.arg7 ∗ Any (F := F) c o.arg8 ∗ Any (F := F) c o.arg9 ∗ Any (F := F) c o.arg10
          ∗ (iprop(BlkOwns c o b ∗ Left c o.arg7 (upTo (p7 c o b) k0_t1_loop.trips) ∗ Left c o.arg8 (upTo (p8 c o b) k0_t1_loop.trips)
            ∗ Left c o.arg9 (upTo (p9 c o b) k0_t1_loop.trips) ∗ Left c o.arg10 (upTo (p10 c o b) k0_t1_loop.trips)) -∗ K ⟨⟩))
        ⊢ wp frame (wpE (defs₀ (F := F)) 𝒱₀ c none) E (cc0_sb_fwd o.i o.arg2 o.harg2 o.arg3 o.harg3 o.arg4 o.harg4 o.arg5 o.harg5
            o.arg6 o.harg6 o.arg7 o.harg7 o.arg8 o.harg8 o.arg9 o.harg9 o.arg10 o.harg10) K := by
  rw [cc0_sb_fwd_eq_skeleton]; unfold cc0_sb_fwd_skel
  unfold BlkOwns Any Left owns
  iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%d10, %f10, -, H10⟩, Hk⟩
  obtain rfl := o.harg2.eq_unread hf2; obtain rfl := o.harg3.eq_unread hf3; obtain rfl := o.harg4.eq_unread hf4
  obtain rfl := o.harg5.eq_unread hf5; obtain rfl := o.harg6.eq_unread hf6
  simp only [Prog.lift, Prog.bind_op, Prog.bind_ret]
  iapply (wp_load 𝒱₀ (c : Thread nD τ) none E (m := o.arg6) (View.setOn_subset_set _ _)) $$ H6; iintro H6
  iapply (Scf.wp_for_bind Idealize.ShloMosaic.frame (wpE (defs₀ (F := F)) 𝒱₀ (c : Thread nD τ) none) E _ _ _ k0_t1_ok PUnit.unit (t1Body o (gain o b))
    (inv c o b f7 f8 f9 f10) (step c o b E f7 f8 f9 f10)) $$ [H2 H3 H4 H5 H7 H8 H9 H10]
  · isplitl [H2 H3 H4 H5]
    · isplitl [H2]; · iexact H2
      isplitl [H3]; · iexact H3
      isplitl [H4]; · iexact H4
      iexact H5
    iexists f7; iexists f8; iexists f9; iexists f10
    isplitr; · ipureintro; exact ⟨rfl, rfl, rfl, rfl⟩
    isplitl [H7]; · iexact H7
    isplitl [H8]; · iexact H8
    isplitl [H9]; · iexact H9
    iexact H10
  iintro %acc ⟨⟨H2, H3, H4, H5⟩, ⟨%s7, %s8, %s9, %s10, %h, ⟨H7, H8, H9, H10⟩⟩⟩
  obtain ⟨rfl, rfl, rfl, rfl⟩ := h
  simp only [Prog.pure_eq_ret]
  rw [wp_ret]; imodintro
  iapply Hk
  isplitl [H2 H3 H4 H5 H6]
  · isplitl [H2]
    · iexists _; isplitr; · ipureintro; exact o.harg2.read_unread _
      iexact H2
    isplitl [H3]
    · iexists _; isplitr; · ipureintro; exact o.harg3.read_unread _
      iexact H3
    isplitl [H4]
    · iexists _; isplitr; · ipureintro; exact o.harg4.read_unread _
      iexact H4
    isplitl [H5]
    · iexists _; isplitr; · ipureintro; exact o.harg5.read_unread _
      iexact H5
    iexists _; isplitr; · ipureintro; exact o.harg6.read_unread _
    iexact H6
  isplitl [H7]; · iexists f7; iexact H7
  isplitl [H8]; · iexists f8; iexact H8
  isplitl [H9]; · iexists f9; iexact H9
  iexists f10; iexact H10

/-! ### The stores cover -/

theorem off1_eq : ∀ k : Fin k0_t1_loop.trips, k0_off1 k = ![0, 0, 512 * k.val, 0] := by decide +kernel
theorem off3_eq : ∀ k : Fin k0_t1_loop.trips, k0_off3 k = ![0, 512 * k.val, 0] := by decide +kernel
theorem off4_eq : ∀ k : Fin k0_t1_loop.trips, k0_off4 k = ![0, 0, 0, k.val] := by decide +kernel

theorem mem_rows3 (y : S1x2048x128.Idx) : ∃ k : Fin k0_t1_loop.trips, y ∈ (rows3 k).set := by
  have h0 : (y 0).val < 1 := (y 0).isLt
  have h1 : (y 1).val < 2048 := (y 1).isLt
  have h2 : (y 2).val < 128 := (y 2).isLt
  have ht := trips1
  refine ⟨⟨(y 1).val / 512, by omega⟩, ?_⟩
  rw [Rect.mem_set_unit]
  intro a
  simp only [off3_eq]
  fin_cases a
  · show 0 ≤ (y 0).val ∧ (y 0).val < 0 + 1; omega
  · show 512 * ((y 1).val / 512) ≤ (y 1).val ∧ (y 1).val < 512 * ((y 1).val / 512) + 512; omega
  · show 0 ≤ (y 2).val ∧ (y 2).val < 0 + 128; omega

theorem mem_rows4 (y : S1x1x2048x128.Idx) : ∃ k : Fin k0_t1_loop.trips, y ∈ (rows4 k).set := by
  have h0 : (y 0).val < 1 := (y 0).isLt
  have h1 : (y 1).val < 1 := (y 1).isLt
  have h2 : (y 2).val < 2048 := (y 2).isLt
  have h3 : (y 3).val < 128 := (y 3).isLt
  have ht := trips1
  refine ⟨⟨(y 2).val / 512, by omega⟩, ?_⟩
  rw [Rect.mem_set_unit]
  intro a
  simp only [off1_eq]
  fin_cases a
  · show 0 ≤ (y 0).val ∧ (y 0).val < 0 + 1; omega
  · show 0 ≤ (y 1).val ∧ (y 1).val < 0 + 1; omega
  · show 512 * ((y 2).val / 512) ≤ (y 2).val ∧ (y 2).val < 512 * ((y 2).val / 512) + 512; omega
  · show 0 ≤ (y 3).val ∧ (y 3).val < 0 + 128; omega

theorem mem_rows1 (y : S1x1x1x4.Idx) : ∃ k : Fin k0_t1_loop.trips, y ∈ (rows1 k).set := by
  have h0 : (y 0).val < 1 := (y 0).isLt
  have h1 : (y 1).val < 1 := (y 1).isLt
  have h2 : (y 2).val < 1 := (y 2).isLt
  have h3 : (y 3).val < 4 := (y 3).isLt
  have ht := trips1
  refine ⟨⟨(y 3).val, by omega⟩, ?_⟩
  rw [Rect.mem_set_unit]
  intro a
  simp only [off4_eq]
  fin_cases a
  · show 0 ≤ (y 0).val ∧ (y 0).val < 0 + 1; omega
  · show 0 ≤ (y 1).val ∧ (y 1).val < 0 + 1; omega
  · show 0 ≤ (y 2).val ∧ (y 2).val < 0 + 1; omega
  · show (y 3).val ≤ (y 3).val ∧ (y 3).val < (y 3).val + 1; omega

/-- One store a trip covers what the trips' rows cover. -/
theorem cover {s : Shape} {e : EltTy} (p : Fin k0_t1_loop.trips → View.Piece (Elt F) s e) (y : s.Idx) (h : ∃ k, y ∈ (p k).1.set) :
    ∃ x ∈ upTo p k0_t1_loop.trips, y ∈ x.1.set :=
  ⟨_, mem_upTo p h.choose _ h.choose.isLt le_rfl, h.choose_spec⟩

end Cert.SbFwdIdeal.Hand

end
-- ==== Proof.SbFwdBody.lean ====
/- What the stick-breaking attention's forward call leaves in its results' blocks. -/
module

public import proofs.«01_k».proof.Proof.SbFwdTile
public import proofs.«01_k».proof.Proof.SbFwdFrame
public import Idealize.ShloMosaic.Lib.WholeRead
public import Idealize.ShloMosaic.Lib.VecWindow

@[expose] public section

set_option maxRecDepth 16384

noncomputable section

namespace Cert.SbMath

/-- The normalized and gated output. -/
def gated (O Z : Mat) (G : Fin 128 → ℝ) (r : ℕ) (d : Fin 128) : ℝ := O r d * rn O r * G d * silu Z r d

/-- The output: each key's value at its weight. -/
def attn (Q K V : Mat) : Mat := fun r d => ∑ j ∈ Finset.range 2048, aa Q K r j * V j d

end Cert.SbMath

namespace Cert.SbFwdIdeal.Hand

open Cert.SbFwdIdeal Cert.SbFwdIdeal.Gen Cert.SbMath Idealize.ShloMosaic Idealize.ShloMosaic.TcCoe Idealize.SL.Sem Finset

/-- One place of the trips' stores: its own trip's store is read, the others are passed over. -/
theorem read_upTo {α β : Type} (p : Fin k0_t1_loop.trips → α) (rd : List α → β) (k : Fin k0_t1_loop.trips) (x : β)
    (hit : ∀ L, rd (p k :: L) = x) (miss : ∀ j : Fin k0_t1_loop.trips, k.val < j.val → ∀ L, rd (p j :: L) = rd L) :
    ∀ n, k.val < n → n ≤ k0_t1_loop.trips → rd (upTo p n) = x := by
  intro n
  induction n with
  | zero => omega
  | succ n ih =>
    intro hk hn
    rw [upTo, dif_pos (show n < k0_t1_loop.trips from hn)]
    by_cases h : k.val = n
    · obtain rfl : k = ⟨n, hn⟩ := Fin.ext h
      exact hit _
    · rw [miss ⟨n, hn⟩ (by show k.val < n; omega)]
      exact ih (by omega) (by omega)

/-- The body's blocks are the rows `Q`, `K`, `V`, `Z` and the gain. -/
structure Blocks (b : Blk Ideal) (Q K V Z : Mat) (G : Fin 128 → ℝ) : Prop where
  q : ∀ (n : Fin 2048) d, b.q (ix4 0 0 n d) = (Q n d : EReal)
  k : ∀ (n : Fin 2048) d, b.k (ix4 0 0 n d) = (K n d : EReal)
  v : ∀ (n : Fin 2048) d, b.v (ix4 0 0 n d) = (V n d : EReal)
  z : ∀ (n : Fin 2048) d, b.zg (ix4 0 0 n d) = (Z n d : EReal)
  g : ∀ d, b.g (ix2 0 d) = (G d : EReal)

namespace Blocks

variable {b : Blk Ideal} {Q K V Z : Mat} {G : Fin 128 → ℝ} (h : Blocks b Q K V Z G) (c : Dev nD) (o : Ops)
include h

theorem row_lt (k : Fin k0_t1_loop.trips) (t : Fin 512) : 512 * k.val + t.val < 2048 := by
  have := k.isLt; have := trips1; omega

theorem rows_at (x : Vec Ideal S1x1x2048x128 .f32) (k : Fin k0_t1_loop.trips) (t : Fin 512) (d : Fin 128) (a : Memref sig .tc .vmem S1x1x2048x128 .f32) (ha : a.IsWhole) :
    a.view.readAt (Elt Ideal) (rows4 k).toLoadRect (ha.unread x) (ix4 0 0 t d) = x (ix4 0 0 ⟨512 * k.val + t.val, h.row_lt k t⟩ d) := by
  refine (Memref.IsWhole.readAt_unread ha _ _ _).trans (congrArg x (funext fun a => Fin.ext ?_))
  refine (congrArg (· + _) (congrFun (off1_eq k) a)).trans ?_
  fin_cases a
  · rfl
  · rfl
  · show 512 * k.val + 1 * t.val = 512 * k.val + t.val; omega
  · show 0 + 1 * d.val = d.val; omega

theorem gain_at (d : Fin 128) : gain o b (ix2 0 d) = (G d : EReal) := by
  refine (Memref.IsWhole.readAt_unread o.harg6 _ _ _).trans (Eq.trans (congrArg b.g (funext fun a => Fin.ext ?_)) (h.g d))
  fin_cases a
  · rfl
  · show 0 + 1 * d.val = d.val; omega

theorem fed (k : Fin k0_t1_loop.trips) : Fed (walk c o b k) Q K V where
  fq t d := (f9 _ t d).trans ((h.rows_at _ k t d _ o.harg2).trans (h.q ⟨512 * k.val + t.val, h.row_lt k t⟩ d))
  fk s d := (congrFun (o.harg3.read_unread b.k) _).trans (h.k s d)
  fv s d := (congrFun (o.harg4.read_unread b.v) _).trans (h.v s d)

theorem walked (k : Fin k0_t1_loop.trips) : (res c o b k).1 = Walk.word (k.val + 1) ∧ Seen Q K V k.val 0 (res c o b k).2.1 (res c o b k).2.2 :=
  (h.fed c o k).walk (k.val + 1) 0 _ _ (Nat.zero_add _) (seen_zero Q K V k.val (by have := k.isLt; have := trips1; omega))

theorem o_at (k : Fin k0_t1_loop.trips) (t : Fin 512) (d : Fin 128) : (res c o b k).2.1 (ix2 t d) = (attn Q K V (512 * k.val + t.val) d : EReal) := by
  rw [(h.walked c o k).2.a, Finset.range_zero, Finset.sum_empty, sub_zero]
  rfl
theorem s_at (k : Fin k0_t1_loop.trips) (t : Fin 512) : (res c o b k).2.2 (ix2 t 0)
    = (((∑ j ∈ range 2048, ll Q K (512 * k.val + t.val) j) * (Real.log 2)⁻¹ : ℝ) : EReal) := by
  rw [(h.walked c o k).2.s, Finset.range_zero, Finset.sum_empty, sub_zero]

theorem norm_at (k : Fin k0_t1_loop.trips) (t : Fin 512) (d : Fin 128) : k0_pay15 (gain o b) (res c o b k).2.1 (ix2 t d)
    = ((attn Q K V (512 * k.val + t.val) d * rn (attn Q K V) (512 * k.val + t.val) * G d : ℝ) : EReal) := by
  rw [f15, h.gain_at]
  simp only [h.o_at c o k]
  rw [word_128, word_eps, Ideal.div_coe (by norm_num), Finset.sum_congr rfl (fun d _ => (EReal.coe_mul _ _).symm), ← Reals.coe_sum,
    ← EReal.coe_mul, ← EReal.coe_add,
    show Ideal.rsqrt (((∑ i, attn Q K V (512 * k.val + t.val) i * attn Q K V (512 * k.val + t.val) i) * (1 / 128) + eps : ℝ) : EReal) = _
      from rsqrt_coe (msq_pos (attn Q K V) (512 * k.val + t.val))]
  simp only [← EReal.coe_mul]
  rfl

theorem gated_at (k : Fin k0_t1_loop.trips) (t : Fin 512) (d : Fin 128) : (p9 c o b k).2 (ix4 0 0 t d)
    = (gated (attn Q K V) Z G (512 * k.val + t.val) d : EReal) := by
  show k0_pay3 _ (k0_pay15 (gain o b) _) _ _ = _
  rw [f3, f14, h.rows_at _ k t d _ o.harg5, h.z ⟨512 * k.val + t.val, h.row_lt k t⟩ d, sigm_coe, h.norm_at c o k]
  simp only [← EReal.coe_mul]
  rfl

end Blocks

/-- A row's trip, and its place there. -/
def kk (n : Fin 2048) : Fin k0_t1_loop.trips := ⟨n.val / 512, by rw [trips1]; omega⟩
@[inherit_doc kk]
def tt (n : Fin 2048) : Fin 512 := ⟨n.val % 512, by omega⟩
theorem kk_tt (n : Fin 2048) : 512 * (kk n).val + (tt n).val = n.val := by show 512 * (n.val / 512) + n.val % 512 = n.val; omega

section stores

variable (p3 : (k : Fin k0_t1_loop.trips) → Vec Ideal S1x512x128 .f32) (p4 : (k : Fin k0_t1_loop.trips) → Vec Ideal S1x1x512x128 .bf16)
  (p1 : (k : Fin k0_t1_loop.trips) → Vec Ideal S1x1x1x1 .f32)

theorem rows3_read {κ : Kind} {sp : Space} (v : View sig κ sp S1x2048x128 .f32) (f : v.ty.Contents (Elt Ideal)) (n : Fin 2048) (d : Fin 128) :
    v.read (Elt Ideal) (v.writes (Elt Ideal) f (upTo (fun k => (⟨rows3 k, p3 k⟩ : View.Piece (Elt Ideal) S1x2048x128 .f32)) k0_t1_loop.trips)) (ix3 0 n d)
      = p3 (kk n) (ix3 0 (tt n) d) := by
  refine read_upTo _ (fun L => v.read (Elt Ideal) (v.writes (Elt Ideal) f L) (ix3 0 n d)) (kk n) _ (fun L => ?_) (fun j hj L => ?_) _ (kk n).isLt le_rfl
  · refine View.read_writes_cons_hit_of_coords v f (rows3 (kk n)) _ L (ix3 0 (tt n) d) _ fun a => ?_
    refine Eq.trans ?_ (congrArg (· + _) (congrFun (off3_eq (kk n)) a)).symm
    have := kk_tt n
    fin_cases a
    · rfl
    · show n.val = 512 * (kk n).val + 1 * (tt n).val; omega
    · show d.val = 0 + 1 * d.val; omega
  · refine View.read_writes_cons_miss_of_axis _ _ _ _ _ (1 : Fin 3) (512 * j.val) 512 (congrFun (off3_eq j) 1) rfl rfl (Or.inl ?_)
    change n.val / 512 < j.val at hj
    show n.val < _; omega

theorem rows4_read {κ : Kind} {sp : Space} (v : View sig κ sp S1x1x2048x128 .bf16) (f : v.ty.Contents (Elt Ideal)) (n : Fin 2048) (d : Fin 128) :
    v.read (Elt Ideal) (v.writes (Elt Ideal) f (upTo (fun k => (⟨rows4 k, p4 k⟩ : View.Piece (Elt Ideal) S1x1x2048x128 .bf16)) k0_t1_loop.trips)) (ix4 0 0 n d)
      = p4 (kk n) (ix4 0 0 (tt n) d) := by
  refine read_upTo _ (fun L => v.read (Elt Ideal) (v.writes (Elt Ideal) f L) (ix4 0 0 n d)) (kk n) _ (fun L => ?_) (fun j hj L => ?_) _ (kk n).isLt le_rfl
  · refine View.read_writes_cons_hit_of_coords v f (rows4 (kk n)) _ L (ix4 0 0 (tt n) d) _ fun a => ?_
    refine Eq.trans ?_ (congrArg (· + _) (congrFun (off1_eq (kk n)) a)).symm
    have := kk_tt n
    fin_cases a
    · rfl
    · rfl
    · show n.val = 512 * (kk n).val + 1 * (tt n).val; omega
    · show d.val = 0 + 1 * d.val; omega
  · refine View.read_writes_cons_miss_of_axis _ _ _ _ _ (2 : Fin 4) (512 * j.val) 512 (congrFun (off1_eq j) 2) rfl rfl (Or.inl ?_)
    change n.val / 512 < j.val at hj
    show n.val < _; omega

theorem rows1_read {κ : Kind} {sp : Space} (v : View sig κ sp S1x1x1x4 .f32) (f : v.ty.Contents (Elt Ideal)) (k : Fin k0_t1_loop.trips) :
    v.read (Elt Ideal) (v.writes (Elt Ideal) f (upTo (fun k => (⟨rows1 k, p1 k⟩ : View.Piece (Elt Ideal) S1x1x1x4 .f32)) k0_t1_loop.trips)) (ix4 0 0 0 (k.cast trips1))
      = p1 k (ix4 0 0 0 0) := by
  refine read_upTo _ (fun L => v.read (Elt Ideal) (v.writes (Elt Ideal) f L) (ix4 0 0 0 (k.cast trips1))) k _ (fun L => ?_) (fun j hj L => ?_) _ k.isLt le_rfl
  · refine View.read_writes_cons_hit_of_coords v f (rows1 k) _ L (ix4 0 0 0 0) _ fun a => ?_
    refine Eq.trans ?_ (congrArg (· + _) (congrFun (off4_eq k) a)).symm
    fin_cases a
    · rfl
    · rfl
    · rfl
    · rfl
  · refine View.read_writes_cons_miss_of_axis _ _ _ _ _ (3 : Fin 4) j.val 1 (congrFun (off4_eq j) 3) rfl rfl (Or.inl ?_)
    show k.val < _; omega

end stores

end Cert.SbFwdIdeal.Hand

end
-- ==== Proof.SbFwdLaunch.lean ====
/- The stick-breaking attention's forward call, idealized: the launch. -/
module

public import proofs.«01_k».proof.Proof.Gen.SbFwdIdeal.Points
public import proofs.«01_k».proof.Proof.SbFwdFrame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.SbFwdIdeal.Hand

open Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The TensorCore's buffers when the region is entered: after the host's operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main up to the region. -/
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0] (by simp only [List.Forall]; exact hostOps0_sub)
    (by simp only [List.Forall]; exact hostOps0_fresh) main_chain

/-- No host operation before the region writes the arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
@[inherit_doc V_main_arg0]
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The body's operands at point `t`. -/
def ops (t : Fin (cfg0 (F := F)).N) : Ops where
  i := grid0.coords t
  arg2 := win0_0.stage ((cfg0 (F := F)).slots t 0)
  harg2 := hstage0_0 (((cfg0 (F := F)).slots t 0).cast nbuf0_0)
  arg3 := win0_1.stage ((cfg0 (F := F)).slots t 1)
  harg3 := hstage0_1 (((cfg0 (F := F)).slots t 1).cast nbuf0_1)
  arg4 := win0_2.stage ((cfg0 (F := F)).slots t 2)
  harg4 := hstage0_2 (((cfg0 (F := F)).slots t 2).cast nbuf0_2)
  arg5 := win0_3.stage ((cfg0 (F := F)).slots t 3)
  harg5 := hstage0_3 (((cfg0 (F := F)).slots t 3).cast nbuf0_3)
  arg6 := win0_4.stage ((cfg0 (F := F)).slots t 4)
  harg6 := hstage0_4 (((cfg0 (F := F)).slots t 4).cast nbuf0_4)
  arg7 := win0_5.stage ((cfg0 (F := F)).slots t 5)
  harg7 := hstage0_5 (((cfg0 (F := F)).slots t 5).cast nbuf0_5)
  arg8 := win0_6.stage ((cfg0 (F := F)).slots t 6)
  harg8 := hstage0_6 (((cfg0 (F := F)).slots t 6).cast nbuf0_6)
  arg9 := win0_7.stage ((cfg0 (F := F)).slots t 7)
  harg9 := hstage0_7 (((cfg0 (F := F)).slots t 7).cast nbuf0_7)
  arg10 := win0_8.stage ((cfg0 (F := F)).slots t 8)
  harg10 := hstage0_8 (((cfg0 (F := F)).slots t 8).cast nbuf0_8)

/-- The blocks it reads there. -/
def blk (c : Dev nD) (t : Fin (cfg0 (F := F)).N) : Blk F :=
  ⟨iblk m c 0 t, iblk m c 1 t, iblk m c 2 t, iblk m c 3 t, iblk m c 4 t⟩

/-- What it leaves in its results' buffers. -/
def out5 (c : Dev nD) (t : Fin (cfg0 (F := F)).N) : Vec F S1x2048x128 .f32 :=
  (ops t).arg7.view.read (Elt F) ((ops t).arg7.view.writes (Elt F) (ops t).arg7.view.junk (upTo (p7 c (ops t) (blk m c t)) k0_t1_loop.trips))
def out6 (c : Dev nD) (t : Fin (cfg0 (F := F)).N) : Vec F S1x2048x128 .f32 :=
  (ops t).arg8.view.read (Elt F) ((ops t).arg8.view.writes (Elt F) (ops t).arg8.view.junk (upTo (p8 c (ops t) (blk m c t)) k0_t1_loop.trips))
def out7 (c : Dev nD) (t : Fin (cfg0 (F := F)).N) : Vec F S1x1x2048x128 .bf16 :=
  (ops t).arg9.view.read (Elt F) ((ops t).arg9.view.writes (Elt F) (ops t).arg9.view.junk (upTo (p9 c (ops t) (blk m c t)) k0_t1_loop.trips))
def out8 (c : Dev nD) (t : Fin (cfg0 (F := F)).N) : Vec F S1x1x1x4 .f32 :=
  (ops t).arg10.view.read (Elt F) ((ops t).arg10.view.writes (Elt F) (ops t).arg10.view.junk (upTo (p10 c (ops t) (blk m c t)) k0_t1_loop.trips))

/-- The launch's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = out5 m c t := rfl
theorem after0_6 (c : Dev nD) (t : Fin (cfg0 (F := F)).N) : (dats m 0 c).after 6 t = out6 m c t := rfl
theorem after0_7 (c : Dev nD) (t : Fin (cfg0 (F := F)).N) : (dats m 0 c).after 7 t = out7 m c t := rfl
theorem after0_8 (c : Dev nD) (t : Fin (cfg0 (F := F)).N) : (dats m 0 c).after 8 t = out8 m c t := rfl

/-- An operand's buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
@[inherit_doc before0_0]
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
@[inherit_doc before0_0]
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
@[inherit_doc before0_0]
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
@[inherit_doc before0_0]
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- What the body is given at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ops t).arg2 fullShare ((dats m 0 c).before 0 t d))
    ∗ (∃ d, owns (c : Thread nD τ) (ops t).arg3 fullShare ((dats m 0 c).before 1 t d))
    ∗ (∃ d, owns (c : Thread nD τ) (ops t).arg4 fullShare ((dats m 0 c).before 2 t d))
    ∗ (∃ d, owns (c : Thread nD τ) (ops t).arg5 fullShare ((dats m 0 c).before 3 t d))
    ∗ (∃ d, owns (c : Thread nD τ) (ops t).arg6 fullShare ((dats m 0 c).before 4 t d))
    ∗ (∃ d, owns (c : Thread nD τ) (ops t).arg7 fullShare ((dats m 0 c).before 5 t d))
    ∗ (∃ d, owns (c : Thread nD τ) (ops t).arg8 fullShare ((dats m 0 c).before 6 t d))
    ∗ (∃ d, owns (c : Thread nD τ) (ops t).arg9 fullShare ((dats m 0 c).before 7 t d))
    ∗ (∃ d, owns (c : Thread nD τ) (ops t).arg10 fullShare ((dats m 0 c).before 8 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ops t).arg2 fullShare ((dats m 0 c).after 0 t)
    ∗ owns (c : Thread nD τ) (ops t).arg3 fullShare ((dats m 0 c).after 1 t)
    ∗ owns (c : Thread nD τ) (ops t).arg4 fullShare ((dats m 0 c).after 2 t)
    ∗ owns (c : Thread nD τ) (ops t).arg5 fullShare ((dats m 0 c).after 3 t)
    ∗ owns (c : Thread nD τ) (ops t).arg6 fullShare ((dats m 0 c).after 4 t)
    ∗ owns (c : Thread nD τ) (ops t).arg7 fullShare ((dats m 0 c).after 5 t)
    ∗ owns (c : Thread nD τ) (ops t).arg8 fullShare ((dats m 0 c).after 6 t)
    ∗ owns (c : Thread nD τ) (ops t).arg9 fullShare ((dats m 0 c).after 7 t)
    ∗ owns (c : Thread nD τ) (ops t).arg10 fullShare ((dats m 0 c).after 8 t))

set_option maxHeartbeats 2400000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (ops t) (blk m c t) Set.univ _)
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexists _; iexact H7
  isplitl [H8]; · iexists _; iexact H8
  iintro ⟨⟨H0, H1, H2, H3, H4⟩, ⟨%e5, H5⟩, ⟨%e6, H6⟩, ⟨%e7, H7⟩, ⟨%e8, H8⟩⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]
  · unfold owns out5; iexists _; isplitr; swap; · iexact H5
    ipureintro; exact View.read_writes_of_cover _ _ _ _ _ fun y => cover _ y (mem_rows3 y)
  isplitl [H6]
  · unfold owns out6; iexists _; isplitr; swap; · iexact H6
    ipureintro; exact View.read_writes_of_cover _ _ _ _ _ fun y => cover _ y (mem_rows3 y)
  isplitl [H7]
  · unfold owns out7; iexists _; isplitr; swap; · iexact H7
    ipureintro; exact View.read_writes_of_cover _ _ _ _ _ fun y => cover _ y (mem_rows4 y)
  unfold owns out8; iexists _; isplitr; swap; · iexact H8
  ipureintro; exact View.read_writes_of_cover _ _ _ _ _ fun y => cover _ y (mem_rows1 y)

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- THE LAUNCH. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) ((by decide : ∀ w : Fin 9, (spec0 w).arr.view.ref ≠ main_arg0)))).trans (V_main_arg0 m c),
      ((h.1 c).1 4).trans (((dats m 0 c).arrAt_in 4 rfl _).trans ((A_eq m c 4).trans (V_main_arg1 m c)))⟩, h.2⟩) (run_main_quiescent m ρ)

end Cert.SbFwdIdeal.Hand

end
-- ==== Proof.SbFwdGrid.lean ====
/- The blocks of the attention's forward call at a grid point, and the arrays it leaves. -/
module

public import proofs.«01_k».proof.Proof.SbFwdBody
public import proofs.«01_k».proof.Proof.SbFwdLaunch
public import proofs.«01_k».proof.Proof.SbReads
public import Idealize.ShloMosaic.Lib.Pipeline.ValueKit
public import Idealize.ShloMosaic.Lib.Pointwise
public import Idealize.ShloMosaic.Lib.StableHlo.RunRead

@[expose] public section

set_option maxRecDepth 16384

noncomputable section

namespace Cert.SbFwdIdeal.Hand

open Cert.SbFwdIdeal Cert.SbFwdIdeal.Gen Cert.SbMath Idealize.ShloMosaic Idealize.ShloMosaic.TcCoe Idealize.SL.Sem Finset
open Cert.SbIdeal.Hand (seg)

variable (m : (ℓ : Loc nD τ sig) → Buf (Elt Ideal) ℓ) (c : Dev nD)

/-- The two arguments. -/
abbrev X0 : FVec Ideal S2x2048x16384 .f32 := m ((c : Thread nD τ).loc main_arg0)
@[inherit_doc X0]
abbrev X1 : FVec Ideal S1x2048 .f32 := m ((c : Thread nD τ).loc main_arg1)

theorem V1 (p : Fin 8) (b : Fin 2) (n : Fin 2048) (d : Fin 2048) : (V m c main_v1 : FVec Ideal S8x2x2048x2048 .f32) (ix4 p b n d)
    = X0 m c (ix3 b n ⟨2048 * p.val + d.val, by omega⟩) := by
  unfold V
  simp only [List.flatten_cons, List.flatten_nil, List.append_nil, List.cons_append, List.nil_append]
  after_reads_simp
  pointwise []
  exact congrArg (fun i => (m ((c : Thread nD τ).loc main_arg0) : FVec Ideal S2x2048x16384 .f32) (ix3 b n i)) (Fin.ext (by
    show p.val * 2048 + d.val = 2048 * p.val + d.val
    omega))

/-- The array and the head of a grid point. -/
def bt (t : Fin (cfg0 (F := Ideal)).N) : Fin 2 := ⟨t.val / 16, by have := t.isLt; change t.val < 32 at this; omega⟩
def ht (t : Fin (cfg0 (F := Ideal)).N) : Fin 16 := ⟨t.val % 16, by omega⟩

theorem idx : ∀ t : Fin (cfg0 (F := Ideal)).N, win0_0.index t = ![0, (bt t).val, 0, (ht t).val] ∧ win0_1.index t = ![1, (bt t).val, 0, (ht t).val]
    ∧ win0_2.index t = ![2, (bt t).val, 0, (ht t).val] ∧ win0_3.index t = ![3, (bt t).val, 0, (ht t).val]
    ∧ win0_4.index t = ![0, (ht t).val] ∧ win0_5.index t = ![(bt t).val, 0, (ht t).val] ∧ win0_6.index t = ![(bt t).val, 0, (ht t).val]
    ∧ win0_7.index t = ![0, (bt t).val, 0, (ht t).val] ∧ win0_8.index t = ![(bt t).val, (ht t).val, 0, 0] := by
  decide +kernel

section
variable (t : Fin (cfg0 (F := Ideal)).N)

theorem rd0 (A : FVec Ideal S8x2x2048x2048 .f32) (n : Fin 2048) (d : Fin 128) :
    (win0_0.blk t).view.read (Elt Ideal) A (ix4 0 0 n d) = A (ix4 0 (bt t) n ⟨128 * (ht t).val + d.val, by omega⟩) := by
  refine congrArg A ?_
  blk_ext [idx t]
theorem rd1 (A : FVec Ideal S8x2x2048x2048 .f32) (n : Fin 2048) (d : Fin 128) :
    (win0_1.blk t).view.read (Elt Ideal) A (ix4 0 0 n d) = A (ix4 1 (bt t) n ⟨128 * (ht t).val + d.val, by omega⟩) := by
  refine congrArg A ?_
  blk_ext [idx t]
theorem rd2 (A : FVec Ideal S8x2x2048x2048 .f32) (n : Fin 2048) (d : Fin 128) :
    (win0_2.blk t).view.read (Elt Ideal) A (ix4 0 0 n d) = A (ix4 2 (bt t) n ⟨128 * (ht t).val + d.val, by omega⟩) := by
  refine congrArg A ?_
  blk_ext [idx t]
theorem rd3 (A : FVec Ideal S8x2x2048x2048 .f32) (n : Fin 2048) (d : Fin 128) :
    (win0_3.blk t).view.read (Elt Ideal) A (ix4 0 0 n d) = A (ix4 3 (bt t) n ⟨128 * (ht t).val + d.val, by omega⟩) := by
  refine congrArg A ?_
  blk_ext [idx t]
theorem rd4 (A : FVec Ideal S1x2048 .f32) (d : Fin 128) :
    (win0_4.blk t).view.read (Elt Ideal) A (ix2 0 d) = A (ix2 0 ⟨128 * (ht t).val + d.val, by omega⟩) := by
  refine congrArg A ?_
  blk_ext [idx t]
theorem emb5 (n : Fin 2048) (d : Fin 128) : (win0_5.blk t).view.emb (ix3 0 n d) = ix3 (bt t) n ⟨128 * (ht t).val + d.val, by omega⟩ := by
  blk_ext [idx t]
theorem emb6 (n : Fin 2048) (d : Fin 128) : (win0_6.blk t).view.emb (ix3 0 n d) = ix3 (bt t) n ⟨128 * (ht t).val + d.val, by omega⟩ := by
  blk_ext [idx t]
theorem emb7 (n : Fin 2048) (d : Fin 128) : (win0_7.blk t).view.emb (ix4 0 0 n d) = ix4 0 (bt t) n ⟨128 * (ht t).val + d.val, by omega⟩ := by
  blk_ext [idx t]
theorem emb8 (k : Fin 4) : (win0_8.blk t).view.emb (ix4 0 0 0 k) = ix4 (bt t) (ht t) 0 k := by
  blk_ext [idx t]

theorem rd_q : (blk m c t).q = (win0_0.blk t).view.read (Elt Ideal) (V m c main_v1) := rfl
theorem rd_k : (blk m c t).k = (win0_1.blk t).view.read (Elt Ideal) (V m c main_v1) := rfl
theorem rd_v : (blk m c t).v = (win0_2.blk t).view.read (Elt Ideal) (V m c main_v1) := rfl
theorem rd_zg : (blk m c t).zg = (win0_3.blk t).view.read (Elt Ideal) (V m c main_v1) := rfl
theorem rd_g : (blk m c t).g = (win0_4.blk t).view.read (Elt Ideal) (V m c main_arg1) := rfl
theorem blk_q (n : Fin 2048) (d : Fin 128) : (blk m c t).q (ix4 0 0 n d) = X0 m c (ix3 (bt t) n (seg 0 (ht t) d)) := by
  rw [rd_q, rd0]
  exact V1 m c 0 (bt t) n _
theorem blk_k (n : Fin 2048) (d : Fin 128) : (blk m c t).k (ix4 0 0 n d) = X0 m c (ix3 (bt t) n (seg 1 (ht t) d)) := by
  rw [rd_k, rd1]
  exact V1 m c 1 (bt t) n _
theorem blk_v (n : Fin 2048) (d : Fin 128) : (blk m c t).v (ix4 0 0 n d) = X0 m c (ix3 (bt t) n (seg 2 (ht t) d)) := by
  rw [rd_v, rd2]
  exact V1 m c 2 (bt t) n _
theorem blk_zg (n : Fin 2048) (d : Fin 128) : (blk m c t).zg (ix4 0 0 n d) = X0 m c (ix3 (bt t) n (seg 3 (ht t) d)) := by
  rw [rd_zg, rd3]
  exact V1 m c 3 (bt t) n _
theorem blk_g (d : Fin 128) : (blk m c t).g (ix2 0 d) = X1 m c (ix2 0 ⟨128 * (ht t).val + d.val, by omega⟩) := by
  rw [rd_g, rd4]
  exact congrFun (V_main_arg1 m c) _
end

/-- Rows by batch, row, head and column, as an array, -/
def arr3 (G : Fin 2 → Fin 2048 → Fin 16 → Fin 128 → EReal) : FVec Ideal S2x2048x2048 .f32 := fun j =>
  G (j 0) (j 1) ⟨(j 2).val / 128, by have := (j 2).isLt; change (j 2).val < 2048 at this; omega⟩ ⟨(j 2).val % 128, by omega⟩
theorem arr3_at (G) (b : Fin 2) (n : Fin 2048) (h : Fin 16) (d : Fin 128) : arr3 G (ix3 b n ⟨128 * h.val + d.val, by omega⟩) = G b n h d := by
  have e2 : (⟨(128 * h.val + d.val) / 128, by omega⟩ : Fin 16) = h := Fin.ext (by show (128 * h.val + d.val) / 128 = h.val; omega)
  have e3 : (⟨(128 * h.val + d.val) % 128, by omega⟩ : Fin 128) = d := Fin.ext (by show (128 * h.val + d.val) % 128 = d.val; omega)
  show G b n ⟨(128 * h.val + d.val) / 128, _⟩ ⟨(128 * h.val + d.val) % 128, _⟩ = _
  rw [e2, e3]
/-- in the array's first segment, -/
def arr4 (G : Fin 2 → Fin 2048 → Fin 16 → Fin 128 → EReal) : FVec Ideal S2x2x2048x2048 .bf16 := fun j => arr3 G (ix3 (j 1) (j 2) (j 3))
/-- and the trips of each head. -/
def arr1 (G : Fin 4 → EReal) : FVec Ideal S2x16x1x4 .f32 := fun j => G (j 3)

/-- What the launch leaves in its four results. -/
theorem final5 (G) (hG : ∀ t n d, out5 m c t (ix3 0 n d) = G (bt t) n (ht t) d) : (dats m 0 c).arrAt 5 (cfg0 (F := Ideal)).N = arr3 G := by
  refine (dats m 0 c).arrAt_eq_of_covers 5 (arr3 G) (by decide +kernel) (fun t hf y => ?_)
  blk_simp
  idx_vars y
  obtain rfl : y0 = 0 := Subsingleton.elim _ _
  refine Eq.trans ?_ ((congrArg (arr3 G) (emb5 t y1 y2)).trans (arr3_at G (bt t) y1 (ht t) y2)).symm
  rw [after0_5]
  exact hG t y1 y2
@[inherit_doc final5]
theorem final6 (G) (hG : ∀ t n d, out6 m c t (ix3 0 n d) = G (bt t) n (ht t) d) : (dats m 0 c).arrAt 6 (cfg0 (F := Ideal)).N = arr3 G := by
  refine (dats m 0 c).arrAt_eq_of_covers 6 (arr3 G) (by decide +kernel) (fun t hf y => ?_)
  blk_simp
  idx_vars y
  obtain rfl : y0 = 0 := Subsingleton.elim _ _
  refine Eq.trans ?_ ((congrArg (arr3 G) (emb6 t y1 y2)).trans (arr3_at G (bt t) y1 (ht t) y2)).symm
  rw [after0_6]
  exact hG t y1 y2
@[inherit_doc final5]
theorem final7 (G) (hG : ∀ t n d, out7 m c t (ix4 0 0 n d) = G (bt t) n (ht t) d) : (dats m 0 c).arrAt 7 (cfg0 (F := Ideal)).N
    = fun i : S2x2x2048x2048.Idx => if (i 0).val / 1 = 0 then arr4 G i else (dats m 0 c).A 7 i := by
  refine (dats m 0 c).arrAt_eq_of_coversWhere 7 (arr4 G) (fun β => β (0 : Fin _) = 0) (by decide +kernel) (fun t hf y => ?_) (fun j => Iff.rfl)
  blk_simp
  idx_vars y
  obtain rfl : y0 = 0 := Subsingleton.elim _ _
  obtain rfl : y1 = 0 := Subsingleton.elim _ _
  refine Eq.trans ?_ ((congrArg (arr4 G) (emb7 t y2 y3)).trans (arr3_at G (bt t) y2 (ht t) y3)).symm
  rw [after0_7]
  exact hG t y2 y3
@[inherit_doc final5]
theorem final8 (G) (hG : ∀ t k, out8 m c t (ix4 0 0 0 k) = G k) : (dats m 0 c).arrAt 8 (cfg0 (F := Ideal)).N = arr1 G := by
  refine (dats m 0 c).arrAt_eq_of_covers 8 (arr1 G) (by decide +kernel) (fun t hf y => ?_)
  blk_simp
  idx_vars y
  obtain rfl : y0 = 0 := Subsingleton.elim _ _
  obtain rfl : y1 = 0 := Subsingleton.elim _ _
  obtain rfl : y2 = 0 := Subsingleton.elim _ _
  refine Eq.trans ?_ (congrArg (arr1 G) (emb8 t y3)).symm
  rw [after0_8]
  exact hG t y3

end Cert.SbFwdIdeal.Hand

end
-- ==== Proof.SbFwdRef.lean ====
/- The attention's forward reference at real operands: the same stages as the gradient's reference, read from there. -/
module

public import proofs.«01_k».proof.Proof.SbRefBwd
public import proofs.«01_k».proof.Proof.SbHost
public import proofs.«01_k».proof.Proof.SbFwdBody
public import proofs.«01_k».proof.Proof.Gen.SbFwdRefIdeal.Read

@[expose] public section

set_option maxRecDepth 16384

noncomputable section

namespace Cert.SbFwdRefIdeal.Hand

open Cert.SbFwdRefIdeal Cert.SbFwdRefIdeal.Gen Cert.SbFwdRefIdeal.Read Cert.SbMath Idealize.ShloMosaic Idealize.ShloMosaic.TcCoe Idealize.SL.Sem Finset
open Cert.SbIdeal.Hand (spread tots merged spread_at tots_at merged_at)
open Cert.SbRefIdeal.Grad (Ins oo ci attn log1m)

variable (x0 : (⟨S2x2048x16384, .f32⟩ : BufTy).Contents (Elt Ideal)) (x1 : (⟨S1x2048, .f32⟩ : BufTy).Contents (Elt Ideal))

theorem v30_eq : val_main_v30 x0 = merged (Cert.SbRefIdeal.Read.val_main_v29 (F := Ideal) x0) := rfl
theorem v50_eq : val_main_v50 x0 = spread (tots (Cert.SbRefIdeal.Read.val_main_v22_0 (F := Ideal) x0)) := rfl
theorem v28_eq : val_main_v28 x0 = Cert.SbRefIdeal.Read.val_main_v29 (F := Ideal) x0 := rfl
theorem v3_eq : val_main_v3 x0 = Cert.SbRefIdeal.Read.val_main_v3 (F := Ideal) x0 := rfl
theorem silu_eq : val_main_call7_v5 x0 = Cert.SbRefIdeal.Read.val_main_v47_2 (F := Ideal) x0 := rfl

theorem v57_at (b : Fin 2) (h : Fin 16) (n : Fin 2048) : val_main_v57 x0 (ix4 b h n 0)
    = Ideal.div (∑ d, val_main_v28 x0 (ix4 b h n d) * val_main_v28 x0 (ix4 b h n d)) (Ideal.ofBits FTy.f32 0x43000000#32) + Ideal.ofBits FTy.f32 0x358637BD#32 := by
  pointwise [val_main_v57, val_main_v56, val_main_cst_8, val_main_v55, val_main_v54, val_main_cst_7, val_main_v53, val_main_v52, val_main_cst_6, val_main_v51]
theorem v58_at (b : Fin 2) (h : Fin 16) (n : Fin 2048) : val_main_v58 x0 (ix4 b h n 0) = Ideal.rsqrt (val_main_v57 x0 (ix4 b h n 0)) := by
  pointwise [val_main_v58]
theorem v62_at (b : Fin 2) (h : Fin 16) (n : Fin 2048) (d : Fin 128) : val_main_v62 x0 (ix3 b n (ci h d)) = val_main_v28 x0 (ix4 b h n d) * val_main_v58 x0 (ix4 b h n 0) := by
  pointwise [val_main_v62, val_main_v61, val_main_v60, val_main_v59]
  rw [show (⟨(128 * h.val + d.val) / 128, by omega⟩ : Fin 16) = h from Fin.ext (by dsimp only; omega), show (⟨(128 * h.val + d.val) % 128, by omega⟩ : Fin 128) = d from Fin.ext (by dsimp only; omega)]
theorem v64_at (b : Fin 2) (n : Fin 2048) (j : Fin 2048) : val_main_v64 x1 (ix3 b n j) = x1 (ix2 0 j) := by
  pointwise [val_main_v64, val_main_v63]
theorem v67_at (j : S2x2048x2048.Idx) : val_main_v67 x0 x1 j = val_main_v62 x0 j * val_main_v64 x1 j * (val_main_v3 x0 j * val_main_call7_v5 x0 j) := by
  rw [val_main_v67_apply, val_main_v65_apply, val_main_v66_apply]
  rfl
theorem v77_at (b : Fin 2) (n : Fin 2048) (j : Fin 2048) : val_main_v77 x0 x1 (ix4 0 b n j) = val_main_v67 x0 x1 (ix3 b n j) := by
  unfold val_main_v77
  pointwise [val_main_v75, val_main_v68]
theorem v73_at (b : Fin 2) (h : Fin 16) (k : Fin 4) : val_main_v73 (F := Ideal) (ix4 b h 0 k) = (((k.val + 1 : ℕ) : ℝ) : EReal) := by
  show (((IntOp.addi (1#32) (BitVec.ofNat 32 k.val)).toInt : ℝ) : EReal) = _
  rw [Cert.SbIdeal.Hand.trips_word, Int.cast_natCast]

theorem word_two : Ideal.ofBits FTy.f32 0x40000000#32 = ((2 : ℝ) : EReal) := by
  simp [Ideal.ofBits, Ideal.ieee, -EReal.coe_mul]; norm_num

section
variable {x0 x1} {X1 : (⟨Cert.SbRefIdeal.S2x2048x4096, .f32⟩ : BufTy).Contents (Elt Ideal)} {b : Fin 2} {h : Fin 16} {Q K V Z Y : Mat} {G : Fin 128 → ℝ}
  (I : Ins x0 X1 x1 b h Q K V Z Y G)
include I

/-- The attention's output, -/
theorem out_at (n : Fin 2048) (d : Fin 128) : val_main_v30 x0 (ix3 b n (ci h d)) = ((oo Q K V n.val d : ℝ) : EReal) := by
  rw [v30_eq]
  exact (merged_at _ b n h d).trans (attn I n d)
/-- the rows' sums, -/
theorem tot_at (n : Fin 2048) (d : Fin 128) : val_main_v50 x0 (ix3 b n (ci h d))
    = (((∑ j ∈ range 2048, ll Q K n.val j) * (Real.log 2)⁻¹ : ℝ) : EReal) := by
  rw [v50_eq]
  refine ((spread_at _ b n h d).trans (tots_at _ b n h)).trans ?_
  rw [word_two, log_coe (by norm_num), ← Fin.sum_univ_eq_sum_range (fun j => ll Q K n.val j) 2048]
  simp only [log1m I, ← Reals.coe_sum]
  rw [Ideal.div_coe log_two_ne, ← EReal.coe_mul, one_div]
/-- and the gated one. -/
theorem gated_at (n : Fin 2048) (d : Fin 128) : val_main_v77 x0 x1 (ix4 0 b n (ci h d)) = (gated (oo Q K V) Z G n.val d : EReal) := by
  have e := v57_at x0 b h n
  simp only [v28_eq, attn I, word_128, word_eps, ← EReal.coe_mul, ← Reals.coe_sum] at e
  rw [Ideal.div_coe (by norm_num), ← EReal.coe_mul, ← EReal.coe_add] at e
  rw [v77_at, v67_at, v62_at, v58_at, e, v64_at, v28_eq, attn I, v3_eq, silu_eq, Cert.SbRefIdeal.Grad.sgm I, Cert.SbRefIdeal.Grad.gate I, Cert.SbRefIdeal.Grad.gain I,
    show Ideal.rsqrt (((∑ i, oo Q K V n.val i * oo Q K V n.val i) * (1 / 128) + eps : ℝ) : EReal) = _ from rsqrt_coe (msq_pos (oo Q K V) n.val)]
  simp only [← EReal.coe_mul]
  rfl
end

end Cert.SbFwdRefIdeal.Hand

end
-- ==== Proof.SbFwdAgree.lean ====
/- The attention's forward call and its reference, side by side, at finite arguments. -/
module

public import proofs.«01_k».proof.Defs
public import proofs.«01_k».proof.Proof.SbFwdGrid
public import proofs.«01_k».proof.Proof.SbFwdRef
public import proofs.«01_k».proof.Proof.SbAgree
public import proofs.«01_k».proof.Proof.Gen.Pre_fwd_finite

@[expose] public section

set_option maxRecDepth 16384

noncomputable section

namespace Cert.SbFwdClaim

open Idealize.ShloMosaic Idealize.ShloMosaic.TcCoe Idealize.SL.Sem Cert.SbMath Finset
open Cert.SbFwdIdeal (nD τ sig cfg0)
open Cert.SbFwdIdeal.Hand
open Cert.SbFwdRefIdeal.Read (val_main_v30 val_main_v50 val_main_v77 val_main_v73)
open Cert.SbRefIdeal.Grad (Ins oo ci)
open Cert.SbClaim (rowsOf rowsOf_at)
open Cert.SbIdeal.Hand (seg)

variable (m : (ℓ : Loc nD τ sig) → Buf (Elt Ideal) ℓ) (c : Dev nD)

/-- Under the precondition the arguments are real. -/
theorem reals (h : Cert.Pre_SbFwdIdeal_fwd_finite m) : (∀ b n j, ∃ r : ℝ, X0 m c (ix3 b n j) = r) ∧ ∀ j, ∃ r : ℝ, X1 m c (ix2 0 j) = r := by
  have h1 := congrFun (h c) (fun a => a.elim0)
  dsimp only [Cert.Pre_fwd_finite.fn] at h1
  obtain ⟨h1, h2⟩ := Reals.andi_one h1
  haveI : Subsingleton Cert.Pre_fwd_finite.S_.Idx := ⟨fun a b => funext fun i => i.elim0⟩
  exact ⟨fun b s d => Reals.finite_all _ _ _ _ _ _ _ h1 _, fun d => Reals.finite_all _ _ _ _ _ _ _ h2 _⟩

/-- No gradient comes in here. -/
abbrev none : (⟨Cert.SbRefIdeal.S2x2048x4096, .f32⟩ : BufTy).Contents (Elt Ideal) := fun _ => ((0 : ℝ) : EReal)

/-- So each head's columns are rows of numbers. -/
theorem ins (h : Cert.Pre_SbFwdIdeal_fwd_finite m) (b : Fin 2) (hd : Fin 16) :
    ∃ (Q K V Z : Mat) (G : Fin 128 → ℝ), Ins (X0 m c) none (X1 m c) b hd Q K V Z (fun _ _ => 0) G := by
  obtain ⟨h0, h1⟩ := reals m c h
  choose f0 h0 using h0
  choose f1 h1 using h1
  refine ⟨rowsOf fun n d => f0 b n (seg 0 hd d), rowsOf fun n d => f0 b n (seg 1 hd d), rowsOf fun n d => f0 b n (seg 2 hd d),
    rowsOf fun n d => f0 b n (seg 3 hd d), fun d => f1 ⟨128 * hd.val + d.val, by omega⟩,
    ⟨fun n d => ?_, fun n d => ?_, fun n d => ?_, fun n d => ?_, fun n d => rfl, fun d => h1 _⟩⟩
  · rw [rowsOf_at]; exact h0 b n _
  · rw [rowsOf_at]; exact h0 b n _
  · rw [rowsOf_at]; exact h0 b n _
  · rw [rowsOf_at]; exact h0 b n _

/-- The body's blocks at those numbers. -/
theorem blocks (t : Fin (cfg0 (F := Ideal)).N) {Q K V Z Y : Mat} {G : Fin 128 → ℝ} (I : Ins (X0 m c) none (X1 m c) (bt t) (ht t) Q K V Z Y G) :
    Blocks (blk m c t) Q K V Z G where
  q n d := (blk_q m c t n d).trans (I.q n d)
  k n d := (blk_k m c t n d).trans (I.k n d)
  v n d := (blk_v m c t n d).trans (I.v n d)
  z n d := (blk_zg m c t n d).trans (I.z n d)
  g d := (blk_g m c t d).trans (I.g d)

section
variable (t : Fin (cfg0 (F := Ideal)).N)
/-- The trips' stores, read back. -/
theorem out5_at (n : Fin 2048) (d : Fin 128) : out5 m c t (ix3 0 n d) = (res c (ops t) (blk m c t) (kk n)).2.1 (ix2 (tt n) d) :=
  (rows3_read (fun k => Cert.SbFwdIdeal.Gen.k0_pay12 (res c (ops t) (blk m c t) k).2.1) _ _ n d).trans (f12 _ _ _)
@[inherit_doc out5_at]
theorem out6_at (n : Fin 2048) (d : Fin 128) : out6 m c t (ix3 0 n d) = (res c (ops t) (blk m c t) (kk n)).2.2 (ix2 (tt n) 0) :=
  (rows3_read (fun k => Cert.SbFwdIdeal.Gen.k0_pay13 (res c (ops t) (blk m c t) k).2.2) _ _ n d).trans (f13 _ _ _)
@[inherit_doc out5_at]
theorem out7_at (n : Fin 2048) (d : Fin 128) : out7 m c t (ix4 0 0 n d) = (p9 c (ops t) (blk m c t) (kk n)).2 (ix4 0 0 (tt n) d) :=
  rows4_read (fun k => (p9 c (ops t) (blk m c t) k).2) _ _ n d
@[inherit_doc out5_at]
theorem out8_at (k : Fin Cert.SbFwdIdeal.k0_t1_loop.trips) : out8 m c t (ix4 0 0 0 (k.cast trips1))
    = Cert.SbFwdIdeal.Gen.k0_pay4 (F := Ideal) (res c (ops t) (blk m c t) k).1 :=
  rows1_read (fun k => fun _ => Cert.SbFwdIdeal.Gen.k0_pay4 (F := Ideal) (res c (ops t) (blk m c t) k).1) _ _ k
end

variable (h : Cert.Pre_SbFwdIdeal_fwd_finite m)
include h

theorem out5_eq (t : Fin (cfg0 (F := Ideal)).N) (n : Fin 2048) (d : Fin 128) :
    out5 m c t (ix3 0 n d) = val_main_v30 (F := Ideal) (X0 m c) (ix3 (bt t) n (ci (ht t) d)) := by
  obtain ⟨Q, K, V, Z, G, I⟩ := ins m c h (bt t) (ht t)
  rw [out5_at, (blocks m c t I).o_at, kk_tt]
  exact (Cert.SbFwdRefIdeal.Hand.out_at I n d).symm
theorem out6_eq (t : Fin (cfg0 (F := Ideal)).N) (n : Fin 2048) (d : Fin 128) :
    out6 m c t (ix3 0 n d) = val_main_v50 (F := Ideal) (X0 m c) (ix3 (bt t) n (ci (ht t) d)) := by
  obtain ⟨Q, K, V, Z, G, I⟩ := ins m c h (bt t) (ht t)
  rw [out6_at, (blocks m c t I).s_at, kk_tt]
  exact (Cert.SbFwdRefIdeal.Hand.tot_at I n d).symm
theorem out7_eq (t : Fin (cfg0 (F := Ideal)).N) (n : Fin 2048) (d : Fin 128) :
    out7 m c t (ix4 0 0 n d) = val_main_v77 (F := Ideal) (X0 m c) (X1 m c) (ix4 0 (bt t) n (ci (ht t) d)) := by
  obtain ⟨Q, K, V, Z, G, I⟩ := ins m c h (bt t) (ht t)
  rw [out7_at, (blocks m c t I).gated_at, kk_tt]
  exact (Cert.SbFwdRefIdeal.Hand.gated_at I n d).symm
theorem out8_eq (t : Fin (cfg0 (F := Ideal)).N) (k : Fin 4) : out8 m c t (ix4 0 0 0 k) = (((k.val + 1 : ℕ) : ℝ) : EReal) := by
  obtain ⟨Q, K, V, Z, G, I⟩ := ins m c h (bt t) (ht t)
  have e := out8_at m c t (k.cast trips1.symm)
  rw [((blocks m c t I).walked c (ops t) _).1, f4 _ (by show k.val + 1 ≤ 4; omega)] at e
  exact e

/-- The attention's output, -/
theorem out_agree : (dats m 0 c).arrAt 5 (cfg0 (F := Ideal)).N = val_main_v30 (F := Ideal) (X0 m c) := by
  rw [final5 m c (fun b n hd d => val_main_v30 (F := Ideal) (X0 m c) (ix3 b n (ci hd d))) (out5_eq m c h)]
  funext i
  idx_vars i
  have e3 : (⟨128 * (i2.val / 128) + i2.val % 128, by omega⟩ : Fin 2048) = i2 := Fin.ext (by dsimp only; omega)
  exact congrArg (fun j => val_main_v30 (F := Ideal) (X0 m c) (ix3 i0 i1 j)) e3
/-- the rows' sums, -/
theorem tot_agree : (dats m 0 c).arrAt 6 (cfg0 (F := Ideal)).N = val_main_v50 (F := Ideal) (X0 m c) := by
  rw [final6 m c (fun b n hd d => val_main_v50 (F := Ideal) (X0 m c) (ix3 b n (ci hd d))) (out6_eq m c h)]
  funext i
  idx_vars i
  have e3 : (⟨128 * (i2.val / 128) + i2.val % 128, by omega⟩ : Fin 2048) = i2 := Fin.ext (by dsimp only; omega)
  exact congrArg (fun j => val_main_v50 (F := Ideal) (X0 m c) (ix3 i0 i1 j)) e3
/-- the gated output -/
theorem gated_agree (i : Cert.SbFwdIdeal.S2x2x2048x2048.Idx) (hi : (i 0).val < 1) :
    (dats m 0 c).arrAt 7 (cfg0 (F := Ideal)).N i = val_main_v77 (F := Ideal) (X0 m c) (X1 m c) i := by
  rw [final7 m c (fun b n hd d => val_main_v77 (F := Ideal) (X0 m c) (X1 m c) (ix4 0 b n (ci hd d))) (out7_eq m c h)]
  idx_vars i
  change i0.val < 1 at hi
  obtain rfl : i0 = 0 := Fin.ext (by show i0.val = 0; omega)
  have e3 : (⟨128 * (i3.val / 128) + i3.val % 128, by omega⟩ : Fin 2048) = i3 := Fin.ext (by dsimp only; omega)
  exact (if_pos rfl).trans (congrArg (fun j => val_main_v77 (F := Ideal) (X0 m c) (X1 m c) (ix4 0 i1 i2 j)) e3)
/-- and the trips. -/
theorem trips_agree : (dats m 0 c).arrAt 8 (cfg0 (F := Ideal)).N = val_main_v73 (F := Ideal) := by
  rw [final8 m c (fun k => (((k.val + 1 : ℕ) : ℝ) : EReal)) (out8_eq m c h)]
  funext i
  idx_vars i
  obtain rfl : i2 = 0 := Subsingleton.elim _ _
  exact (Cert.SbFwdRefIdeal.Hand.v73_at i0 i1 i3).symm

end Cert.SbFwdClaim

end
-- ==== Proof.SbFwdClaim.lean ====
/- The claims of the attention's forward call. -/
module

public import proofs.«01_k».proof.Proof.SbFwdTextLaunch
public import proofs.«01_k».proof.Proof.SbFwdAgree
public import proofs.«01_k».proof.Proof.Gen.SbFwdRefIdeal.Run
public import proofs.«01_k».proof.Proof.Gen.On_fwd_written
public import proofs.«01_k».proof.Proof.Gen.SbFwd
public import Idealize.ShloMosaic.Lib.Quiescent

@[expose] public section

set_option maxRecDepth 16384

noncomputable section

namespace Cert.SbFwdClaim

open Idealize.ShloMosaic Idealize.ShloMosaic.TcCoe Idealize.SL.Sem

theorem frame : Cert.quiescent_SbFwd := fun m g _ => Cert.SbFwd.Hand.frame m g
theorem frame_ideal : Cert.quiescent_SbFwdIdeal := fun m g _ => Cert.SbFwdIdeal.Hand.frame m g
theorem frame_ideal_pre : Cert.quiescent_SbFwdIdeal_pre_fwd_finite := fun m g _ => Cert.SbFwdIdeal.Hand.frame m g

theorem frame_ref : Cert.quiescent_SbFwdRefIdeal := fun m g _ =>
  (θ_run Cert.SbFwdRefIdeal.defs _ _).mono (fun _ h => ⟨fun c => (h c).2.2.2.2, sem_eq_zero_of_no_sems rfl _⟩)
    (Cert.SbFwdRefIdeal.Value.run (F := Ideal) m g)
theorem frame_ref_pre : Cert.quiescent_SbFwdRefIdeal_pre_fwd_finite := fun m g _ => frame_ref m g trivial

theorem preserves : Cert.preserves_SbFwd_SbFwdIdeal :=
  ⟨IdealRules.named_const.statement Cert.SbFwdIdeal.κ "dead" .f32 0xC3200000#32 ⊥ rfl,
    IdealRules.named_const.statement Cert.SbFwdIdeal.κ "logit" .f32 0x3E0293EE#32 (((11863283 / 134217728) * (Real.log 2)⁻¹ : ℝ) : EReal) rfl,
    IdealRules.named_const.statement Cert.SbFwdIdeal.κ "mask" .f32 0xF149F2CA#32 ⊥ rfl,
    IdealRules.named_const.statement Cert.SbFwdIdeal.κ "log2e" .f32 0x3FB8AA3B#32 (((Real.log 2)⁻¹ : ℝ) : EReal) rfl⟩

/-- Of the gated output the first segment is the one compared. -/
theorem chosen (a0 : FVec Ideal Cert.On_fwd_written.S2x2048x16384 .f32) (a1 : FVec Ideal Cert.On_fwd_written.S1x2048 .f32)
    (i : Cert.On_fwd_written.S2x2x2048x2048.Idx) (hi : (Cert.On_fwd_written.fn (F := Ideal) a0 a1).2.2.1 i = 1#1) : (i 0).val < 1 := by
  have h0 : (i 0).val < 2 := (i 0).isLt
  have e : IntOp.cmpi .slt (BitVec.ofNat 32 (i 0).val) 1#32 = 1#1 := hi
  rw [WordCmp.cmpi_slt_eq, WordCmp.toInt_ofNat_of_lt (by omega)] at e
  by_contra hn
  rw [decide_eq_false (by show ¬ ((i 0).val : ℤ) < 1; omega)] at e
  exact absurd e (by decide)

theorem algebraic : Cert.algebraic_SbFwdIdeal_SbFwdRefIdeal_on_fwd_written_pre_fwd_finite := by
  intro m g m' g' hpre hag
  refine ⟨fun c => (Cert.SbFwdIdeal.Hand.dats m 0 c).arrAt 5 (Cert.SbFwdIdeal.cfg0 (F := Ideal)).N,
    fun c => (Cert.SbFwdIdeal.Hand.dats m 0 c).arrAt 6 (Cert.SbFwdIdeal.cfg0 (F := Ideal)).N,
    fun c => (Cert.SbFwdIdeal.Hand.dats m 0 c).arrAt 7 (Cert.SbFwdIdeal.cfg0 (F := Ideal)).N,
    fun c => (Cert.SbFwdIdeal.Hand.dats m 0 c).arrAt 8 (Cert.SbFwdIdeal.cfg0 (F := Ideal)).N,
    (θ_run Cert.SbFwdIdeal.defs _ _).mono (fun r h c => ⟨fun i _ => congrFun ((h.1 c).1 5) i, fun i _ => congrFun ((h.1 c).1 6) i,
        fun i _ => congrFun ((h.1 c).1 7) i, fun i _ => congrFun ((h.1 c).1 8) i, h.2.1 c⟩)
      (θ_run_and (Cert.SbFwdIdeal.Hand.run_main m g) (Cert.SbFwdIdeal.Hand.frame m g)),
    (θ_run Cert.SbFwdRefIdeal.defs _ _).mono (fun r h c => ?_) (Cert.SbFwdRefIdeal.Value.run (F := Ideal) m' g')⟩
  obtain ⟨h0, h1, h2, h3, hargs⟩ := h c
  obtain ⟨b0, b1⟩ := hag c
  refine ⟨fun i _ => congrFun (h0.trans ?_) i, fun i _ => congrFun (h1.trans ?_) i, fun i hi => (congrFun h2 i).trans ?_,
    fun i _ => congrFun (h3.trans ?_) i, hargs⟩
  · refine (Cert.SbFwdRefIdeal.Read.val_main_v30_eq m' c).trans ?_
    exact (congrArg Cert.SbFwdRefIdeal.Read.val_main_v30 b0).trans (out_agree m c hpre).symm
  · refine (Cert.SbFwdRefIdeal.Read.val_main_v50_eq m' c).trans ?_
    exact (congrArg Cert.SbFwdRefIdeal.Read.val_main_v50 b0).trans (tot_agree m c hpre).symm
  · refine (congrFun (Cert.SbFwdRefIdeal.Read.val_main_v77_eq m' c) i).trans ?_
    refine (congrFun (congr (congrArg Cert.SbFwdRefIdeal.Read.val_main_v77 b0) b1) i).trans ?_
    exact (gated_agree m c hpre i (chosen _ _ i hi)).symm
  · exact (Cert.SbFwdRefIdeal.Read.val_main_v73_eq).trans (trips_agree m c hpre).symm

end Cert.SbFwdClaim

end
-- ==== Proof.NormFwdClaim.lean ====
module

public import proofs.«01_k».proof.Defs
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.NormFwdClaim

open Cert.NormFwdIdeal Cert.NormFwdIdeal.Gen Idealize.ShloMosaic Idealize.ShloMosaic.TcCoe Idealize.SL.Sem

theorem frame : Cert.quiescent_NormFwd := fun m g _ => Cert.NormFwd.Gen.frame m g
theorem frame_ideal : Cert.quiescent_NormFwdIdeal := fun m g _ => Cert.NormFwdIdeal.Gen.frame m g
theorem frame_ref : Cert.quiescent_NormFwdRefIdeal := fun m g _ =>
  (θ_run Cert.NormFwdRefIdeal.defs _ _).mono (fun _ h => ⟨fun c => (h c).2, sem_eq_zero_of_no_sems rfl _⟩)
    (Cert.NormFwdRefIdeal.Value.run (F := Ideal) m g)

/-- One entry of the output: the normalised row times the weight, scaled and shifted. -/
def entry (x : Fin 4096 → EReal) (g sc sh : EReal) (d : Fin 4096) : EReal :=
  x d * Ideal.rsqrt (Ideal.div (∑ k, x k * x k) (Ideal.ofBits FTy.f32 0x45800000#32) + Ideal.ofBits FTy.f32 0x358637BD#32)
    * g * (1 + sc) + sh

theorem ref_at (x : (⟨S2x2048x4096, .f32⟩ : BufTy).Contents (Elt Ideal)) (g : (⟨S1x4096, .f32⟩ : BufTy).Contents (Elt Ideal))
    (md : (⟨S2x12288, .f32⟩ : BufTy).Contents (Elt Ideal)) (b : Fin 2) (s : Fin 2048) (d : Fin 4096) :
    Cert.NormFwdRefIdeal.Read.val_main_v25 (F := Ideal) x g md (ix3 b s d)
      = entry (fun k => x (ix3 b s k)) (g (ix2 0 d)) (md (ix2 b ⟨4096 + d.val, by omega⟩)) (md (ix2 b ⟨d.val, by omega⟩)) d := by
  simp only [entry]
  pointwise [Cert.NormFwdRefIdeal.Read.val_main_v25, Cert.NormFwdRefIdeal.Read.val_main_v24,
    Cert.NormFwdRefIdeal.Read.val_main_v23, Cert.NormFwdRefIdeal.Read.val_main_v22, Cert.NormFwdRefIdeal.Read.val_main_v21,
    Cert.NormFwdRefIdeal.Read.val_main_v20, Cert.NormFwdRefIdeal.Read.val_main_v19, Cert.NormFwdRefIdeal.Read.val_main_v18,
    Cert.NormFwdRefIdeal.Read.val_main_v17, Cert.NormFwdRefIdeal.Read.val_main_v16, Cert.NormFwdRefIdeal.Read.val_main_v15,
    Cert.NormFwdRefIdeal.Read.val_main_v14, Cert.NormFwdRefIdeal.Read.val_main_v13, Cert.NormFwdRefIdeal.Read.val_main_v12,
    Cert.NormFwdRefIdeal.Read.val_main_v11, Cert.NormFwdRefIdeal.Read.val_main_v10, Cert.NormFwdRefIdeal.Read.val_main_v9,
    Cert.NormFwdRefIdeal.Read.val_main_v8, Cert.NormFwdRefIdeal.Read.val_main_v7, Cert.NormFwdRefIdeal.Read.val_main_v6,
    Cert.NormFwdRefIdeal.Read.val_main_v5, Cert.NormFwdRefIdeal.Read.val_main_v4, Cert.NormFwdRefIdeal.Read.val_main_v3,
    Cert.NormFwdRefIdeal.Read.val_main_v1, Cert.NormFwdRefIdeal.Read.val_main_v0, Cert.NormFwdRefIdeal.Read.val_main_cst,
    Cert.NormFwdRefIdeal.Read.val_main_cst_0, Cert.NormFwdRefIdeal.Read.val_main_cst_1,
    Cert.NormFwdRefIdeal.Read.val_main_cst_2]

section
variable (m : (ℓ : Loc nD τ sig) → Buf (Elt Ideal) ℓ)

/-- The three arguments, entry by entry. -/
abbrev X (c : Dev nD) (b : Fin 2) (s : Fin 2048) (d : Fin 4096) : EReal := m ((c : Thread nD τ).loc main_arg0) (ix3 b s d)
@[inherit_doc X]
abbrev GN (c : Dev nD) (d : Fin 4096) : EReal := m ((c : Thread nD τ).loc main_arg1) (ix2 0 d)
@[inherit_doc X]
abbrev SC (c : Dev nD) (b : Fin 2) (d : Fin 4096) : EReal :=
  m ((c : Thread nD τ).loc main_arg2) (ix2 b ⟨4096 + d.val, by omega⟩)
@[inherit_doc X]
abbrev SH (c : Dev nD) (b : Fin 2) (d : Fin 4096) : EReal := m ((c : Thread nD τ).loc main_arg2) (ix2 b ⟨d.val, by omega⟩)

theorem pay (x : Vec Ideal S1x256x4096 .f32) (g : Vec Ideal S1x4096 .f32) (sc sh : Vec Ideal S1x1x4096 .f32)
    (i : Fin 256) (d : Fin 4096) :
    k0_pay1 x g sc sh (ix3 0 i d)
      = entry (fun k => x (ix3 0 i k)) (g (ix2 0 d)) (sc (ix3 0 0 d)) (sh (ix3 0 0 d)) d := by
  simp only [entry]
  pointwise [k0_pay1]

theorem scale_entry (c : Dev nD) (b : Fin 2) (d : Fin 4096) : V m c main_v3 (ix3 b 0 d) = SC m c b d := by
  simp only [SC]
  entry_read; pointwise []

theorem shift_entry (c : Dev nD) (b : Fin 2) (d : Fin 4096) : V m c main_v1 (ix3 b 0 d) = SH m c b d := by
  simp only [SH]
  entry_read; pointwise []

theorem idx : ∀ t : Fin cfg0.N, win0_0.index t = ![t.val / 8, t.val % 8, 0] ∧ win0_1.index t = ![0, 0] ∧
    win0_2.index t = ![t.val / 8, 0, 0] ∧ win0_3.index t = ![t.val / 8, 0, 0] ∧
    win0_4.index t = ![t.val / 8, t.val % 8, 0] := by
  decide +kernel

theorem lt16 (t : Fin cfg0.N) : t.val < 16 := lt_of_lt_of_eq t.isLt (show cfg0.N = 16 from N_0)

/-- The batch of a grid point, and a row of its tile. -/
def bOf (t : Fin cfg0.N) : Fin 2 := ⟨t.val / 8, by have := lt16 t; omega⟩
@[inherit_doc bOf]
def sOf (t : Fin cfg0.N) (i : Fin 256) : Fin 2048 := ⟨256 * (t.val % 8) + i.val, by omega⟩

theorem iblk0 (c : Dev nD) (t : Fin cfg0.N) (i : Fin 256) (d : Fin 4096) :
    iblk m c 0 t (ix3 0 i d) = X m c (bOf t) (sOf t i) d := by
  simp only [X, bOf, sOf]
  blk_point [iblk, V, idx t]
theorem iblk1 (c : Dev nD) (t : Fin cfg0.N) (d : Fin 4096) : iblk m c 1 t (ix2 0 d) = GN m c d := by
  simp only [GN]
  blk_point [iblk, V, idx t]
theorem iblk2 (c : Dev nD) (t : Fin cfg0.N) (d : Fin 4096) : iblk m c 2 t (ix3 0 0 d) = SC m c (bOf t) d := by
  rw [← scale_entry]
  simp only [bOf]
  blk_point [iblk, idx t]
theorem iblk3 (c : Dev nD) (t : Fin cfg0.N) (d : Fin 4096) : iblk m c 3 t (ix3 0 0 d) = SH m c (bOf t) d := by
  rw [← shift_entry]
  simp only [bOf]
  blk_point [iblk, idx t]

theorem emb4 (t : Fin cfg0.N) (i : Fin 256) (d : Fin 4096) :
    ((View.whole main_v6).slice (win0_4.rect t)).emb (ix3 0 i d) = ix3 (bOf t) (sOf t i) d := by
  simp only [bOf, sOf]
  blk_ext [idx t]

theorem final (c : Dev nD) : (dats m 0 c).arrAt 4 cfg0.N
    = fun j : S2x2048x4096.Idx => entry (X m c (j 0) (j 1)) (GN m c (j 2)) (SC m c (j 0) (j 2)) (SH m c (j 0) (j 2)) (j 2) := by
  refine (dats m 0 c).arrAt_eq_of_covers 4 _ (by decide +kernel) fun t hf y => ?_
  blk_simp
  rw [after0_4]
  frame_out
  idx_vars y
  obtain rfl : y0 = 0 := Subsingleton.elim _ _
  rw [pay, emb4]
  simp only [iblk0, iblk1, iblk2, iblk3]
  rfl

theorem agree (c : Dev nD) : (dats m 0 c).arrAt 4 cfg0.N
    = Cert.NormFwdRefIdeal.Read.val_main_v25 (F := Ideal) (m ((c.tc : Thread _ _).loc main_arg0))
        (m ((c.tc : Thread _ _).loc main_arg1)) (m ((c.tc : Thread _ _).loc main_arg2)) := by
  rw [final]
  funext j
  idx_vars j
  exact (ref_at _ _ _ j0 j1 j2).symm

end

theorem algebraic : Cert.algebraic_NormFwdIdeal_NormFwdRefIdeal := by
  intro m g m' g' _ hag
  refine ⟨fun c => (dats m 0 c).arrAt 4 cfg0.N, Cert.NormFwdIdeal.Value.run_blocks m g,
    (θ_run Cert.NormFwdRefIdeal.defs _ _).mono (fun r h c => ?_) (Cert.NormFwdRefIdeal.Value.run (F := Ideal) m' g')⟩
  obtain ⟨h0, hargs⟩ := h c
  obtain ⟨a0, a1, a2⟩ := hag c
  refine ⟨h0.trans ?_, hargs⟩
  rw [Cert.NormFwdRefIdeal.Read.val_main_v25_eq, a0, a1, a2]
  exact (agree m c).symm

end Cert.NormFwdClaim
-- ==== Proof.ModClaim.lean ====
module

public import proofs.«01_k».proof.Defs
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.ModClaim

open Cert.ModIdeal Cert.ModIdeal.Gen Idealize.ShloMosaic Idealize.ShloMosaic.TcCoe Idealize.SL.Sem

theorem frame : Cert.quiescent_Mod := fun m g _ => Cert.Mod.Gen.frame m g
theorem frame_ideal : Cert.quiescent_ModIdeal := fun m g _ => Cert.ModIdeal.Gen.frame m g
theorem frame_ref : Cert.quiescent_ModRefIdeal := fun m g _ =>
  (θ_run Cert.ModRefIdeal.defs _ _).mono (fun _ h => ⟨fun c => (h c).2, sem_eq_zero_of_no_sems rfl _⟩)
    (Cert.ModRefIdeal.Value.run (F := Ideal) m g)

/-- The gate `x · σ(x)`. -/
def silu (x : EReal) : EReal := x * Ideal.div 1 (1 + Ideal.exp (-x))

theorem ref_at (x : (⟨S16x4096, .f32⟩ : BufTy).Contents (Elt Ideal)) (w : (⟨S4096x3072, .f32⟩ : BufTy).Contents (Elt Ideal))
    (b : (⟨S1x3072, .f32⟩ : BufTy).Contents (Elt Ideal)) (i : Fin 16) (j : Fin 3072) :
    Cert.ModRefIdeal.Read.val_main_v3 (F := Ideal) x w b (ix2 i j)
      = (∑ k : Fin 4096, silu (x (ix2 i k)) * w (ix2 k j)) + b (ix2 0 j) := by
  simp only [silu]
  pointwise [Cert.ModRefIdeal.Read.val_main_v3, Cert.ModRefIdeal.Read.val_main_v2, Cert.ModRefIdeal.Read.val_main_v1,
    Cert.ModRefIdeal.Read.val_main_v0, Cert.ModRefIdeal.Read.val_main_call0_v5, Cert.ModRefIdeal.Read.val_main_call0_v4,
    Cert.ModRefIdeal.Read.val_main_call0_v3, Cert.ModRefIdeal.Read.val_main_call0_v2,
    Cert.ModRefIdeal.Read.val_main_call0_v1, Cert.ModRefIdeal.Read.val_main_call0_v0, Cert.ModRefIdeal.Read.val_main_call0_cst,
    Cert.ModRefIdeal.Read.val_main_call0_cst_0]

section
variable (m : (ℓ : Loc nD τ sig) → Buf (Elt Ideal) ℓ)

/-- The three arguments, entry by entry. -/
abbrev C (c : Dev nD) (i : Fin 16) (k : Fin 4096) : EReal := m ((c : Thread nD τ).loc main_arg0) (ix2 i k)
@[inherit_doc C]
abbrev W (c : Dev nD) (k : Fin 4096) (j : Fin 3072) : EReal := m ((c : Thread nD τ).loc main_arg1) (ix2 k j)
@[inherit_doc C]
abbrev B (c : Dev nD) (j : Fin 3072) : EReal := m ((c : Thread nD τ).loc main_arg2) (ix2 0 j)

/-- A tile's share of the product. -/
def part (x : Vec Ideal S16x1024 .f32) (w : Vec Ideal S1024x512 .f32) (i : Fin 16) (j : Fin 512) : EReal :=
  ∑ k : Fin 1024, silu (x (ix2 i k)) * w (ix2 k j)

theorem pay_first (x : Vec Ideal S16x1024 .f32) (w : Vec Ideal S1024x512 .f32) (i : Fin 16) (j : Fin 512) :
    k0_pay1 x w (ix2 i j) = part x w i j := by
  simp only [part, silu]
  pointwise [k0_pay1]
  simp only [zero_sub]

theorem pay_middle (a : Vec Ideal S16x512 .f32) (x : Vec Ideal S16x1024 .f32) (w : Vec Ideal S1024x512 .f32)
    (i : Fin 16) (j : Fin 512) : k0_pay2 a x w (ix2 i j) = a (ix2 i j) + part x w i j := by
  simp only [part, silu]
  pointwise [k0_pay2]
  simp only [zero_sub]

theorem pay_last (a : Vec Ideal S16x512 .f32) (x : Vec Ideal S16x1024 .f32) (w : Vec Ideal S1024x512 .f32)
    (b : Vec Ideal S1x512 .f32) (i : Fin 16) (j : Fin 512) :
    k0_pay3 a x w b (ix2 i j) = a (ix2 i j) + part x w i j + b (ix2 0 j) := by
  simp only [part, silu]
  pointwise [k0_pay3]
  simp only [zero_sub]

theorem idx : ∀ t : Fin cfg0.N, win0_0.index t = ![0, t.val % 4] ∧ win0_1.index t = ![t.val % 4, t.val / 4] ∧
    win0_2.index t = ![0, t.val / 4] ∧ win0_3.index t = ![0, t.val / 4] := by
  decide +kernel

theorem lt24 (t : Fin cfg0.N) : t.val < 24 := lt_of_lt_of_eq t.isLt (show cfg0.N = 24 from N_0)

/-- A column of a grid point's tile, and a term of its share of the sum. -/
def jOf (t : Fin cfg0.N) (j : Fin 512) : Fin 3072 := ⟨512 * (t.val / 4) + j.val, by have := lt24 t; omega⟩
@[inherit_doc jOf]
def kOf (t : Fin cfg0.N) (k : Fin 1024) : Fin 4096 := ⟨1024 * (t.val % 4) + k.val, by omega⟩

theorem iblk0 (c : Dev nD) (t : Fin cfg0.N) (i : Fin 16) (k : Fin 1024) : iblk m c 0 t (ix2 i k) = C m c i (kOf t k) := by
  simp only [C, kOf]
  blk_point [iblk, V, idx t]
theorem iblk1 (c : Dev nD) (t : Fin cfg0.N) (k : Fin 1024) (j : Fin 512) :
    iblk m c 1 t (ix2 k j) = W m c (kOf t k) (jOf t j) := by
  simp only [W, kOf, jOf]
  blk_point [iblk, V, idx t]
theorem iblk2 (c : Dev nD) (t : Fin cfg0.N) (j : Fin 512) : iblk m c 2 t (ix2 0 j) = B m c (jOf t j) := by
  simp only [B, jOf]
  blk_point [iblk, V, idx t]

/-- The share of a grid point. -/
def share (c : Dev nD) (t : Fin cfg0.N) (i : Fin 16) (j : Fin 512) : EReal :=
  ∑ k : Fin 1024, silu (C m c i (kOf t k)) * W m c (kOf t k) (jOf t j)

theorem part_at (c : Dev nD) (t : Fin cfg0.N) (i : Fin 16) (j : Fin 512) :
    part (iblk m c 0 t) (iblk m c 1 t) i j = share m c t i j := by
  simp only [part, share, iblk0, iblk1]

theorem reset (c : Dev nD) (t : Fin cfg0.N) (h : t.val % 4 = 0) (i : Fin 16) (j : Fin 512) :
    (outsAt0 m c t.val t.isLt).2 (ix2 i j) = share m c t i j := by
  rw [outsAt0_A m c t h (by omega) (by omega)]; frame_out; rw [pay_first, part_at]

theorem step (c : Dev nD) (t : Fin cfg0.N) (h : 1 ≤ t.val % 4 ∧ t.val % 4 ≤ 2) (i : Fin 16) (j : Fin 512) :
    (outsAt0 m c t.val t.isLt).2 (ix2 i j)
      = (outsAt0 m c (t.val - 1) (by have := t.isLt; omega)).2 (ix2 i j) + share m c t i j := by
  rw [outsAt0_B m c t (by omega) h (by omega)]; frame_out; rw [pay_middle, part_at]
  exact congrArg (· + share m c t i j) (congrFun ((Memref.isWhole_whole cc0_scratch0).read_unread _) _)

theorem finish (c : Dev nD) (t : Fin cfg0.N) (h : t.val % 4 = 3) (i : Fin 16) (j : Fin 512) :
    (outsAt0 m c t.val t.isLt).1 (ix2 i j)
      = (outsAt0 m c (t.val - 1) (by have := t.isLt; omega)).2 (ix2 i j) + share m c t i j + B m c (jOf t j) := by
  rw [outsAt0_C m c t (by omega) (by omega) h]; frame_out; rw [pay_last, part_at, iblk2]
  exact congrArg (· + share m c t i j + B m c (jOf t j)) (congrFun ((Memref.isWhole_whole cc0_scratch0).read_unread _) _)

theorem total (c : Dev nD) (t : Fin cfg0.N) (h : t.val % 4 = 3) (i : Fin 16) (j : Fin 512) :
    (outsAt0 m c t.val t.isLt).1 (ix2 i j)
      = (∑ k : Fin 4096, silu (C m c i k) * W m c k (jOf t j)) + B m c (jOf t j) := by
  have hN := t.isLt
  have hs : ∀ s : Fin 4, 4 * (t.val / 4) + s.val < cfg0.N := fun s => by have := s.isLt; omega
  have e : ∑ s : Fin 4, share m c ⟨4 * (t.val / 4) + s.val, hs s⟩ i j = ∑ k : Fin 4096, silu (C m c i k) * W m c k (jOf t j) := by
    unfold share
    refine Fin.sum_mul_add_congr (f := fun k => silu (C m c i k) * W m c k (jOf t j)) fun s k hl => ?_
    have ek : kOf ⟨4 * (t.val / 4) + s.val, hs s⟩ k = ⟨s.val * 1024 + k.val, hl⟩ := by
      apply Fin.ext; simp only [kOf]; omega
    have ej : jOf ⟨4 * (t.val / 4) + s.val, hs s⟩ j = jOf t j := by
      apply Fin.ext; simp only [jOf]; omega
    rw [ek, ej]
  rw [finish m c t h, ← e, Fin.sum_univ_four]
  have e2 := step m c ⟨t.val - 1, by omega⟩ (by dsimp only; omega) i j
  have e1 := step m c ⟨t.val - 1 - 1, by omega⟩ (by dsimp only; omega) i j
  have e0 := reset m c ⟨t.val - 1 - 1 - 1, by omega⟩ (by dsimp only; omega) i j
  dsimp only at e2 e1 e0
  rw [e2, e1, e0]
  congr 1
  refine congrArg₂ (· + ·) (congrArg₂ (· + ·) (congrArg₂ (· + ·) ?_ ?_) ?_) ?_ <;>
    exact congrArg (fun s => share m c s i j) (Fin.ext (by dsimp only [Fin.isValue, Fin.val_zero, Fin.val_one]; omega))

theorem emb3 (t : Fin cfg0.N) (i : Fin 16) (j : Fin 512) :
    ((View.whole main_v0).slice (win0_3.rect t)).emb (ix2 i j) = ix2 i (jOf t j) := by
  simp only [jOf]
  blk_ext [idx t]

theorem final (c : Dev nD) : (dats m 0 c).arrAt 3 cfg0.N
    = fun j : S16x3072.Idx => (∑ k : Fin 4096, silu (C m c (j 0) k) * W m c k (j 1)) + B m c (j 1) := by
  refine (dats m 0 c).arrAt_eq_of_covers 3 _ (by decide +kernel) fun t hf y => ?_
  blk_simp
  rw [after0_3]
  idx_vars y
  rw [total m c t ((flush0_3 t).mp hf), emb3]
  rfl

theorem agree (c : Dev nD) : (dats m 0 c).arrAt 3 cfg0.N
    = Cert.ModRefIdeal.Read.val_main_v3 (F := Ideal) (m ((c.tc : Thread _ _).loc main_arg0))
        (m ((c.tc : Thread _ _).loc main_arg1)) (m ((c.tc : Thread _ _).loc main_arg2)) := by
  rw [final]
  funext j
  idx_vars j
  exact (ref_at _ _ _ j0 j1).symm

end

theorem algebraic : Cert.algebraic_ModIdeal_ModRefIdeal := by
  intro m g m' g' _ hag
  refine ⟨fun c => (dats m 0 c).arrAt 3 cfg0.N, Cert.ModIdeal.Value.run_blocks m g,
    (θ_run Cert.ModRefIdeal.defs _ _).mono (fun r h c => ?_) (Cert.ModRefIdeal.Value.run (F := Ideal) m' g')⟩
  obtain ⟨h0, hargs⟩ := h c
  obtain ⟨a0, a1, a2⟩ := hag c
  refine ⟨h0.trans ?_, hargs⟩
  rw [Cert.ModRefIdeal.Read.val_main_v3_eq, a0, a1, a2]
  exact (agree m c).symm

end Cert.ModClaim
-- ==== Proof.Tokens.lean ====
module

public import Idealize.ShloMosaic.Lib.Pipeline.ValueKit
public import Idealize.ShloMosaic.Lib.Pointwise
public import Idealize.ShloMosaic.PureOps.Ideal.Laws

@[expose] public section

noncomputable section

/-! The layout of the step's activations: the tokens of both sequences in one axis, the features in groups of 2048. -/

namespace Cert.Tokens

open Idealize.ShloMosaic

/-- A token's sequence and its place there; a feature from its group and its place there. -/
def seqOf (t : Fin 4096) : Fin 2 := ⟨t.val / 2048, by omega⟩
@[inherit_doc seqOf]
def placeOf (t : Fin 4096) : Fin 2048 := ⟨t.val % 2048, by omega⟩
@[inherit_doc seqOf]
def feature {n N : ℕ} (h : N = n * 2048) (g : Fin n) (e : Fin 2048) : Fin N := ⟨g.val * 2048 + e.val, by omega⟩

/-- A sum over all tokens is the sum over sequences and places. -/
theorem sum_tokens (f : Fin 2 → Fin 2048 → EReal) : ∑ t : Fin 4096, f (seqOf t) (placeOf t) = ∑ b : Fin 2, ∑ s : Fin 2048, f b s := by
  symm
  refine Fin.sum_mul_add_congr (f := fun t => f (seqOf t) (placeOf t)) fun b s hl => ?_
  have hb : seqOf ⟨b.val * 2048 + s.val, hl⟩ = b := by apply Fin.ext; simp only [seqOf]; omega
  have hs : placeOf ⟨b.val * 2048 + s.val, hl⟩ = s := by apply Fin.ext; simp only [placeOf]; omega
  rw [hb, hs]

end Cert.Tokens
-- ==== Proof.OutClaim.lean ====
module

public import proofs.«01_k».proof.Defs
public import proofs.«01_k».proof.Proof.Tokens
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.OutClaim

open Cert.Tokens Cert.OutIdeal Cert.OutIdeal.Gen Idealize.ShloMosaic Idealize.ShloMosaic.TcCoe Idealize.SL.Sem

theorem frame : Cert.quiescent_Out := fun m g _ => Cert.Out.Gen.frame m g
theorem frame_ideal : Cert.quiescent_OutIdeal := fun m g _ => Cert.OutIdeal.Gen.frame m g
theorem frame_ref : Cert.quiescent_OutRefIdeal := fun m g _ =>
  (θ_run Cert.OutRefIdeal.defs _ _).mono (fun _ h => ⟨fun c => (h c).2, sem_eq_zero_of_no_sems rfl _⟩)
    (Cert.OutRefIdeal.Value.run (F := Ideal) m g)

theorem ref_at (y : (⟨S2x2048x4096, .f32⟩ : BufTy).Contents (Elt Ideal)) (w : (⟨S4096x4096, .f32⟩ : BufTy).Contents (Elt Ideal))
    (t d : Fin 4096) :
    Cert.OutRefIdeal.Read.val_main_v1 (F := Ideal) y w (ix2 t d)
      = ∑ e : Fin 4096, y (ix3 (seqOf t) (placeOf t) e) * w (ix2 e d) := by
  simp only [seqOf, placeOf]
  pointwise [Cert.OutRefIdeal.Read.val_main_v1, Cert.OutRefIdeal.Read.val_main_v0]

section
variable (m : (ℓ : Loc nD τ sig) → Buf (Elt Ideal) ℓ)

/-- The two arguments: a token's features, and w_out. -/
abbrev Y (c : Dev nD) (t e : Fin 4096) : EReal := m ((c : Thread nD τ).loc main_arg0) (ix3 (seqOf t) (placeOf t) e)
@[inherit_doc Y]
abbrev WO (c : Dev nD) (e d : Fin 4096) : EReal := m ((c : Thread nD τ).loc main_arg1) (ix2 e d)

theorem pay_first (y : Vec Ideal S1x1024x2048 .bf16) (w : Vec Ideal S2048x1024 .bf16) (i j : Fin 1024) :
    k0_pay1 y w (ix2 i j) = ∑ e : Fin 2048, y (ix3 0 i e) * w (ix2 e j) := by
  pointwise [k0_pay1]

theorem pay_last (a : Vec Ideal S1024x1024 .f32) (y : Vec Ideal S1x1024x2048 .bf16) (w : Vec Ideal S2048x1024 .bf16)
    (i j : Fin 1024) : k0_pay2 a y w (ix2 i j) = a (ix2 i j) + ∑ e : Fin 2048, y (ix3 0 i e) * w (ix2 e j) := by
  pointwise [k0_pay2]

theorem grouped (c : Dev nD) (g : Fin 2) (t : Fin 4096) (e : Fin 2048) : V m c main_v2 (ix3 g t e) = Y m c t (feature rfl g e) := by
  simp only [Y, seqOf, placeOf, feature]
  entry_read; pointwise []

theorem weight (c : Dev nD) (e d : Fin 4096) : V m c main_v3 (ix2 e d) = WO m c e d := by
  simp only [WO]
  entry_read; pointwise []

theorem idx : ∀ t : Fin cfg0.N, win0_0.index t = ![t.val % 2, t.val / 8, 0] ∧ win0_1.index t = ![t.val % 2, t.val / 2 % 4] ∧
    win0_2.index t = ![t.val / 8, t.val / 2 % 4] := by
  decide +kernel

theorem lt32 (t : Fin cfg0.N) : t.val < 32 := lt_of_lt_of_eq t.isLt (show cfg0.N = 32 from N_0)

/-- A grid point's tile: its tokens and its columns; and the group of features that it sums over. -/
def tOf (t : Fin cfg0.N) (i : Fin 1024) : Fin 4096 := ⟨1024 * (t.val / 8) + i.val, by have := lt32 t; omega⟩
@[inherit_doc tOf]
def cOf (t : Fin cfg0.N) (j : Fin 1024) : Fin 4096 := ⟨1024 * (t.val / 2 % 4) + j.val, by omega⟩
@[inherit_doc tOf]
def gOf (t : Fin cfg0.N) : Fin 2 := ⟨t.val % 2, by omega⟩

theorem iblk0 (c : Dev nD) (t : Fin cfg0.N) (i : Fin 1024) (e : Fin 2048) :
    iblk m c 0 t (ix3 0 i e) = Y m c (tOf t i) (feature rfl (gOf t) e) := by
  rw [← grouped]
  simp only [tOf, gOf]
  blk_point [iblk, idx t]

theorem iblk1 (c : Dev nD) (t : Fin cfg0.N) (e : Fin 2048) (j : Fin 1024) :
    iblk m c 1 t (ix2 e j) = WO m c (feature rfl (gOf t) e) (cOf t j) := by
  rw [← weight]
  simp only [feature, gOf, cOf]
  blk_point [iblk, idx t]

/-- A group's share of one entry. -/
def share (c : Dev nD) (g : Fin 2) (t d : Fin 4096) : EReal :=
  ∑ e : Fin 2048, Y m c t (feature rfl g e) * WO m c (feature rfl g e) d

theorem first (c : Dev nD) (t : Fin cfg0.N) (h : t.val % 2 = 0) (i j : Fin 1024) :
    (outsAt0 m c t.val t.isLt).2 (ix2 i j) = share m c (gOf t) (tOf t i) (cOf t j) := by
  rw [outsAt0_A m c t h (by omega)]; frame_out; rw [pay_first]
  simp only [iblk0, iblk1, share]

theorem last (c : Dev nD) (t : Fin cfg0.N) (h : t.val % 2 = 1) (i j : Fin 1024) :
    (outsAt0 m c t.val t.isLt).1 (ix2 i j)
      = (outsAt0 m c (t.val - 1) (by have := t.isLt; omega)).2 (ix2 i j) + share m c (gOf t) (tOf t i) (cOf t j) := by
  rw [outsAt0_B m c t (by omega) h]; frame_out; rw [pay_last]
  simp only [iblk0, iblk1]
  exact congrArg (· + share m c (gOf t) (tOf t i) (cOf t j)) (congrFun ((Memref.isWhole_whole cc0_scratch0).read_unread _) _)

theorem total (c : Dev nD) (t : Fin cfg0.N) (h : t.val % 2 = 1) (i j : Fin 1024) :
    (outsAt0 m c t.val t.isLt).1 (ix2 i j) = ∑ e : Fin 4096, Y m c (tOf t i) e * WO m c e (cOf t j) := by
  have e0 := first m c ⟨t.val - 1, by have := t.isLt; omega⟩ (by dsimp only; omega) i j
  dsimp only at e0
  have hg0 : gOf ⟨t.val - 1, by have := t.isLt; omega⟩ = 0 := by apply Fin.ext; simp only [gOf]; exact (by omega : (t.val - 1) % 2 = 0)
  have hg1 : gOf t = 1 := by apply Fin.ext; simp only [gOf]; exact h
  have ht : tOf ⟨t.val - 1, by have := t.isLt; omega⟩ i = tOf t i := by apply Fin.ext; simp only [tOf]; omega
  have hc : cOf ⟨t.val - 1, by have := t.isLt; omega⟩ j = cOf t j := by apply Fin.ext; simp only [cOf]; omega
  rw [last m c t h, e0, hg0, hg1, ht, hc, ← Fin.sum_univ_two fun g => share m c g (tOf t i) (cOf t j)]
  exact Fin.sum_mul_add_congr (f := fun e => Y m c (tOf t i) e * WO m c e (cOf t j)) fun _ _ _ => rfl

theorem emb2 (t : Fin cfg0.N) (i j : Fin 1024) :
    ((View.whole main_v4).slice (win0_2.rect t)).emb (ix2 i j) = ix2 (tOf t i) (cOf t j) := by
  simp only [tOf, cOf]
  blk_ext [idx t]

theorem final (c : Dev nD) : (dats m 0 c).arrAt 2 cfg0.N
    = fun j : S4096x4096.Idx => ∑ e : Fin 4096, Y m c (j 0) e * WO m c e (j 1) := by
  refine (dats m 0 c).arrAt_eq_of_covers 2 _ (by decide +kernel) fun t hf y => ?_
  blk_simp
  rw [after0_2]
  idx_vars y
  rw [total m c t ((flush0_2 t).mp hf), emb2]
  rfl

theorem agree (c : Dev nD) : (dats m 0 c).arrAt 2 cfg0.N
    = Cert.OutRefIdeal.Read.val_main_v1 (F := Ideal) (m ((c.tc : Thread _ _).loc main_arg0))
        (m ((c.tc : Thread _ _).loc main_arg1)) := by
  rw [final]
  funext j
  idx_vars j
  exact (ref_at _ _ j0 j1).symm

end

theorem algebraic : Cert.algebraic_OutIdeal_OutRefIdeal := by
  intro m g m' g' _ hag
  refine ⟨fun c => (dats m 0 c).arrAt 2 cfg0.N, Cert.OutIdeal.Value.run_blocks m g,
    (θ_run Cert.OutRefIdeal.defs _ _).mono (fun r h c => ?_) (Cert.OutRefIdeal.Value.run (F := Ideal) m' g')⟩
  obtain ⟨h0, hargs⟩ := h c
  obtain ⟨a0, a1⟩ := hag c
  refine ⟨h0.trans ?_, hargs⟩
  rw [Cert.OutRefIdeal.Read.val_main_v1_eq, a0, a1]
  exact (agree m c).symm

end Cert.OutClaim
-- ==== Proof.OutDyClaim.lean ====
module

public import proofs.«01_k».proof.Defs
public import proofs.«01_k».proof.Proof.Tokens
public import proofs.«01_k».proof.Proof.Gen.OutDy.Frame
public import proofs.«01_k».proof.Proof.Gen.OutDyIdeal.Value
public import proofs.«01_k».proof.Proof.Gen.OutDyRefIdeal.Run
public import proofs.«01_k».proof.Proof.Gen.OutDyRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.OutDyClaim

open Cert.Tokens Cert.OutDyIdeal Cert.OutDyIdeal.Gen Idealize.ShloMosaic Idealize.ShloMosaic.TcCoe Idealize.SL.Sem

theorem frame : Cert.quiescent_OutDy := fun m g _ => Cert.OutDy.Gen.frame m g
theorem frame_ideal : Cert.quiescent_OutDyIdeal := fun m g _ => Cert.OutDyIdeal.Gen.frame m g
theorem frame_ref : Cert.quiescent_OutDyRefIdeal := fun m g _ =>
  (θ_run Cert.OutDyRefIdeal.defs _ _).mono (fun _ h => ⟨fun c => (h c).2, sem_eq_zero_of_no_sems rfl _⟩)
    (Cert.OutDyRefIdeal.Value.run (F := Ideal) m g)

/-- A group's row of w_out. -/
abbrev row (g : Fin 2) (e : Fin 2048) : Fin 4096 := feature rfl g e

theorem ref_at (dout : (⟨S2x2048x4096, .f32⟩ : BufTy).Contents (Elt Ideal)) (w : (⟨S4096x4096, .f32⟩ : BufTy).Contents (Elt Ideal))
    (g : Fin 2) (t : Fin 4096) (e : Fin 2048) :
    Cert.OutDyRefIdeal.Read.val_main_v4 (F := Ideal) dout w (ix3 g t e)
      = ∑ d : Fin 4096, dout (ix3 (seqOf t) (placeOf t) d) * w (ix2 (row g e) d) := by
  simp only [seqOf, placeOf, row, feature]
  pointwise [Cert.OutDyRefIdeal.Read.val_main_v4, Cert.OutDyRefIdeal.Read.val_main_v3, Cert.OutDyRefIdeal.Read.val_main_v2]

section
variable (m : (ℓ : Loc nD τ sig) → Buf (Elt Ideal) ℓ)

/-- The two arguments, entry by entry: a token's cotangent, and a group's row of w_out. -/
abbrev DO (c : Dev nD) (t d : Fin 4096) : EReal := m ((c : Thread nD τ).loc main_arg0) (ix3 (seqOf t) (placeOf t) d)
@[inherit_doc DO]
abbrev WO (c : Dev nD) (e d : Fin 4096) : EReal := m ((c : Thread nD τ).loc main_arg1) (ix2 e d)

theorem pay (x w : Vec Ideal S1024x4096 .bf16) (i j : Fin 1024) :
    k0_pay1 x w (ix3 0 i j) = ∑ d : Fin 4096, x (ix2 i d) * w (ix2 j d) := by
  pointwise [k0_pay1]

theorem tokens (c : Dev nD) (t d : Fin 4096) : V m c main_v1 (ix2 t d) = DO m c t d := by
  simp only [DO, seqOf, placeOf]
  entry_read; pointwise []

theorem weight (c : Dev nD) (e d : Fin 4096) : V m c main_v2 (ix2 e d) = WO m c e d := by
  simp only [WO]
  entry_read; pointwise []

theorem idx : ∀ t : Fin cfg0.N, win0_0.index t = ![t.val / 4, 0] ∧ win0_1.index t = ![t.val % 4, 0] ∧
    win0_2.index t = ![t.val % 4 / 2, t.val / 4, t.val % 2] := by
  decide +kernel

theorem lt16 (t : Fin cfg0.N) : t.val < 16 := lt_of_lt_of_eq t.isLt (show cfg0.N = 16 from N_0)

/-- A grid point's tile: its tokens, its group, the features there. -/
def tOf (t : Fin cfg0.N) (i : Fin 1024) : Fin 4096 := ⟨1024 * (t.val / 4) + i.val, by have := lt16 t; omega⟩
@[inherit_doc tOf]
def gOf (t : Fin cfg0.N) : Fin 2 := ⟨t.val % 4 / 2, by omega⟩
@[inherit_doc tOf]
def eOf (t : Fin cfg0.N) (j : Fin 1024) : Fin 2048 := ⟨1024 * (t.val % 2) + j.val, by omega⟩

theorem iblk0 (c : Dev nD) (t : Fin cfg0.N) (i : Fin 1024) (d : Fin 4096) : iblk m c 0 t (ix2 i d) = DO m c (tOf t i) d := by
  rw [← tokens]
  simp only [tOf]
  blk_point [iblk, idx t]

theorem iblk1 (c : Dev nD) (t : Fin cfg0.N) (j : Fin 1024) (d : Fin 4096) :
    iblk m c 1 t (ix2 j d) = WO m c (row (gOf t) (eOf t j)) d := by
  have e : row (gOf t) (eOf t j) = ⟨1024 * (t.val % 4) + j.val, by omega⟩ := by
    apply Fin.ext; simp only [row, feature, gOf, eOf]; omega
  rw [← weight, e]
  blk_point [iblk, idx t]

theorem emb2 (t : Fin cfg0.N) (i j : Fin 1024) :
    ((View.whole main_v3).slice (win0_2.rect t)).emb (ix3 0 i j) = ix3 (gOf t) (tOf t i) (eOf t j) := by
  simp only [gOf, tOf, eOf]
  blk_ext [idx t]

theorem final (c : Dev nD) : (dats m 0 c).arrAt 2 cfg0.N
    = fun j : S2x4096x2048.Idx => ∑ d : Fin 4096, DO m c (j 1) d * WO m c (row (j 0) (j 2)) d := by
  refine (dats m 0 c).arrAt_eq_of_covers 2 _ (by decide +kernel) fun t hf y => ?_
  blk_simp
  rw [after0_2]
  frame_out
  idx_vars y
  obtain rfl : y0 = 0 := Subsingleton.elim _ _
  rw [pay, emb2]
  simp only [iblk0, iblk1]
  rfl

theorem agree (c : Dev nD) : (dats m 0 c).arrAt 2 cfg0.N
    = Cert.OutDyRefIdeal.Read.val_main_v4 (F := Ideal) (m ((c.tc : Thread _ _).loc main_arg0))
        (m ((c.tc : Thread _ _).loc main_arg1)) := by
  rw [final]
  funext j
  idx_vars j
  exact (ref_at _ _ j0 j1 j2).symm

end

theorem algebraic : Cert.algebraic_OutDyIdeal_OutDyRefIdeal := by
  intro m g m' g' _ hag
  refine ⟨fun c => (dats m 0 c).arrAt 2 cfg0.N, Cert.OutDyIdeal.Value.run_blocks m g,
    (θ_run Cert.OutDyRefIdeal.defs _ _).mono (fun r h c => ?_) (Cert.OutDyRefIdeal.Value.run (F := Ideal) m' g')⟩
  obtain ⟨h0, hargs⟩ := h c
  obtain ⟨a0, a1⟩ := hag c
  refine ⟨h0.trans ?_, hargs⟩
  rw [Cert.OutDyRefIdeal.Read.val_main_v4_eq, a0, a1]
  exact (agree m c).symm

end Cert.OutDyClaim
-- ==== Proof.OutDwClaim.lean ====
module

public import proofs.«01_k».proof.Defs
public import proofs.«01_k».proof.Proof.Tokens
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.OutDwClaim

open Cert.Tokens Cert.OutDwIdeal Cert.OutDwIdeal.Gen Idealize.ShloMosaic Idealize.ShloMosaic.TcCoe Idealize.SL.Sem

theorem frame : Cert.quiescent_OutDw := fun m g _ => Cert.OutDw.Gen.frame m g
theorem frame_ideal : Cert.quiescent_OutDwIdeal := fun m g _ => Cert.OutDwIdeal.Gen.frame m g
theorem frame_ref : Cert.quiescent_OutDwRefIdeal := fun m g _ =>
  (θ_run Cert.OutDwRefIdeal.defs _ _).mono (fun _ h => ⟨fun c => (h c).2, sem_eq_zero_of_no_sems rfl _⟩)
    (Cert.OutDwRefIdeal.Value.run (F := Ideal) m g)

theorem ref_at (y dout : (⟨S2x2048x4096, .f32⟩ : BufTy).Contents (Elt Ideal)) (e d : Fin 4096) :
    Cert.OutDwRefIdeal.Read.val_main_v4 (F := Ideal) y dout (ix2 e d)
      = ∑ t : Fin 4096, y (ix3 (seqOf t) (placeOf t) e) * dout (ix3 (seqOf t) (placeOf t) d) := by
  rw [sum_tokens fun b s => y (ix3 b s e) * dout (ix3 b s d)]
  pointwise [Cert.OutDwRefIdeal.Read.val_main_v4, Cert.OutDwRefIdeal.Read.val_main_v3, Cert.OutDwRefIdeal.Read.val_main_v2]
  exact Finset.sum_congr rfl fun _ _ => Finset.sum_congr rfl fun _ _ => mul_comm _ _

section
variable (m : (ℓ : Loc nD τ sig) → Buf (Elt Ideal) ℓ)

/-- The two arguments at a token. -/
abbrev Y (c : Dev nD) (t e : Fin 4096) : EReal := m ((c : Thread nD τ).loc main_arg0) (ix3 (seqOf t) (placeOf t) e)
@[inherit_doc Y]
abbrev DO (c : Dev nD) (t d : Fin 4096) : EReal := m ((c : Thread nD τ).loc main_arg1) (ix3 (seqOf t) (placeOf t) d)

theorem pay (y : Vec Ideal S1x4096x1024 .bf16) (x : Vec Ideal S4096x1024 .bf16) (i j : Fin 1024) :
    k0_pay1 y x (ix2 i j) = ∑ t : Fin 4096, y (ix3 0 t i) * x (ix2 t j) := by
  pointwise [k0_pay1]

theorem grouped (c : Dev nD) (g : Fin 2) (t : Fin 4096) (e : Fin 2048) : V m c main_v2 (ix3 g t e) = Y m c t (feature rfl g e) := by
  simp only [Y, seqOf, placeOf, feature]
  entry_read; pointwise []

theorem tokens (c : Dev nD) (t d : Fin 4096) : V m c main_v4 (ix2 t d) = DO m c t d := by
  simp only [DO, seqOf, placeOf]
  entry_read; pointwise []

theorem idx : ∀ t : Fin cfg0.N, win0_0.index t = ![t.val / 8, 0, t.val / 4 % 2] ∧ win0_1.index t = ![0, t.val % 4] ∧
    win0_2.index t = ![t.val / 4, t.val % 4] := by
  decide +kernel

theorem lt16 (t : Fin cfg0.N) : t.val < 16 := lt_of_lt_of_eq t.isLt (show cfg0.N = 16 from N_0)

/-- A grid point's tile: its rows and its columns of w_out. -/
def rOf (t : Fin cfg0.N) (i : Fin 1024) : Fin 4096 := ⟨1024 * (t.val / 4) + i.val, by have := lt16 t; omega⟩
@[inherit_doc rOf]
def cOf (t : Fin cfg0.N) (j : Fin 1024) : Fin 4096 := ⟨1024 * (t.val % 4) + j.val, by omega⟩

theorem iblk0 (c : Dev nD) (t : Fin cfg0.N) (k : Fin 4096) (i : Fin 1024) : iblk m c 0 t (ix3 0 k i) = Y m c k (rOf t i) := by
  have ht := lt16 t
  have e : rOf t i = feature rfl (⟨t.val / 8, by omega⟩ : Fin 2) ⟨1024 * (t.val / 4 % 2) + i.val, by omega⟩ := by
    apply Fin.ext; simp only [rOf, feature]; omega
  rw [e, ← grouped]
  blk_point [iblk, idx t]

theorem iblk1 (c : Dev nD) (t : Fin cfg0.N) (k : Fin 4096) (j : Fin 1024) : iblk m c 1 t (ix2 k j) = DO m c k (cOf t j) := by
  rw [← tokens]
  simp only [cOf]
  blk_point [iblk, idx t]

theorem emb2 (t : Fin cfg0.N) (i j : Fin 1024) :
    ((View.whole main_v5).slice (win0_2.rect t)).emb (ix2 i j) = ix2 (rOf t i) (cOf t j) := by
  simp only [rOf, cOf]
  blk_ext [idx t]

theorem final (c : Dev nD) : (dats m 0 c).arrAt 2 cfg0.N
    = fun j : S4096x4096.Idx => ∑ t : Fin 4096, Y m c t (j 0) * DO m c t (j 1) := by
  refine (dats m 0 c).arrAt_eq_of_covers 2 _ (by decide +kernel) fun t hf y => ?_
  blk_simp
  rw [after0_2]
  frame_out
  idx_vars y
  rw [pay, emb2]
  simp only [iblk0, iblk1]
  rfl

theorem agree (c : Dev nD) : (dats m 0 c).arrAt 2 cfg0.N
    = Cert.OutDwRefIdeal.Read.val_main_v4 (F := Ideal) (m ((c.tc : Thread _ _).loc main_arg0))
        (m ((c.tc : Thread _ _).loc main_arg1)) := by
  rw [final]
  funext j
  idx_vars j
  exact (ref_at _ _ j0 j1).symm

end

theorem algebraic : Cert.algebraic_OutDwIdeal_OutDwRefIdeal := by
  intro m g m' g' _ hag
  refine ⟨fun c => (dats m 0 c).arrAt 2 cfg0.N, Cert.OutDwIdeal.Value.run_blocks m g,
    (θ_run Cert.OutDwRefIdeal.defs _ _).mono (fun r h c => ?_) (Cert.OutDwRefIdeal.Value.run (F := Ideal) m' g')⟩
  obtain ⟨h0, hargs⟩ := h c
  obtain ⟨a0, a1⟩ := hag c
  refine ⟨h0.trans ?_, hargs⟩
  rw [Cert.OutDwRefIdeal.Read.val_main_v4_eq, a0, a1]
  exact (agree m c).symm

end Cert.OutDwClaim
-- ==== Proof.InDwClaim.lean ====
module

public import proofs.«01_k».proof.Defs
public import proofs.«01_k».proof.Proof.Tokens
public import proofs.«01_k».proof.Proof.Gen.InDw.Frame
public import proofs.«01_k».proof.Proof.Gen.InDwIdeal.Value
public import proofs.«01_k».proof.Proof.Gen.InDwRefIdeal.Run
public import proofs.«01_k».proof.Proof.Gen.InDwRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.InDwClaim

open Cert.Tokens Cert.InDwIdeal Cert.InDwIdeal.Gen Idealize.ShloMosaic Idealize.ShloMosaic.TcCoe Idealize.SL.Sem

theorem frame : Cert.quiescent_InDw := fun m g _ => Cert.InDw.Gen.frame m g
theorem frame_ideal : Cert.quiescent_InDwIdeal := fun m g _ => Cert.InDwIdeal.Gen.frame m g
theorem frame_ref : Cert.quiescent_InDwRefIdeal := fun m g _ =>
  (θ_run Cert.InDwRefIdeal.defs _ _).mono (fun _ h => ⟨fun c => (h c).2, sem_eq_zero_of_no_sems rfl _⟩)
    (Cert.InDwRefIdeal.Value.run (F := Ideal) m g)

theorem ref_at (h : (⟨S2x2048x4096, .f32⟩ : BufTy).Contents (Elt Ideal)) (dp : (⟨S2x2048x16384, .f32⟩ : BufTy).Contents (Elt Ideal))
    (n : Fin 4) (d e : Fin 4096) :
    Cert.InDwRefIdeal.Read.val_main_v6 (F := Ideal) h dp (ix3 n d e)
      = ∑ t : Fin 4096, h (ix3 (seqOf t) (placeOf t) d) * dp (ix3 (seqOf t) (placeOf t) ⟨n.val * 4096 + e.val, by omega⟩) := by
  rw [sum_tokens fun b s => h (ix3 b s d) * dp (ix3 b s ⟨n.val * 4096 + e.val, by omega⟩)]
  pointwise [Cert.InDwRefIdeal.Read.val_main_v6, Cert.InDwRefIdeal.Read.val_main_v5, Cert.InDwRefIdeal.Read.val_main_v4,
    Cert.InDwRefIdeal.Read.val_main_v3, Cert.InDwRefIdeal.Read.val_main_v2]
  exact Finset.sum_congr rfl fun _ _ => Finset.sum_congr rfl fun _ _ => mul_comm _ _

section
variable (m : (ℓ : Loc nD τ sig) → Buf (Elt Ideal) ℓ)

/-- The two arguments at a token: the modulated input, and the cotangent of the projection. -/
abbrev HI (c : Dev nD) (t d : Fin 4096) : EReal := m ((c : Thread nD τ).loc main_arg0) (ix3 (seqOf t) (placeOf t) d)
@[inherit_doc HI]
abbrev DP (c : Dev nD) (t : Fin 4096) (e : Fin 16384) : EReal :=
  m ((c : Thread nD τ).loc main_arg1) (ix3 (seqOf t) (placeOf t) e)

theorem pay (x : Vec Ideal S4096x1024 .bf16) (p : Vec Ideal S1x4096x1024 .bf16) (i j : Fin 1024) :
    k0_pay1 x p (ix3 0 i j) = ∑ t : Fin 4096, x (ix2 t i) * p (ix3 0 t j) := by
  pointwise [k0_pay1]

theorem tokens (c : Dev nD) (t d : Fin 4096) : V m c main_v1 (ix2 t d) = HI m c t d := by
  simp only [HI, seqOf, placeOf]
  entry_read; pointwise []

theorem segment (c : Dev nD) (g : Fin 8) (t : Fin 4096) (e : Fin 2048) : V m c main_v4 (ix3 g t e) = DP m c t (feature rfl g e) := by
  simp only [DP, seqOf, placeOf, feature]
  entry_read; pointwise []

theorem idx : ∀ t : Fin cfg0.N, win0_0.index t = ![0, t.val / 16] ∧ win0_1.index t = ![t.val % 16 / 2, 0, t.val % 2] ∧
    win0_2.index t = ![t.val % 16 / 4, t.val / 16, t.val % 4] := by
  decide +kernel

theorem lt64 (t : Fin cfg0.N) : t.val < 64 := lt_of_lt_of_eq t.isLt (show cfg0.N = 64 from N_0)

/-- A grid point's tile: the chip whose columns of w_in it lies in, its rows and its columns there. -/
def nOf (t : Fin cfg0.N) : Fin 4 := ⟨t.val % 16 / 4, by omega⟩
@[inherit_doc nOf]
def rOf (t : Fin cfg0.N) (i : Fin 1024) : Fin 4096 := ⟨1024 * (t.val / 16) + i.val, by have := lt64 t; omega⟩
@[inherit_doc nOf]
def cOf (t : Fin cfg0.N) (j : Fin 1024) : Fin 4096 := ⟨1024 * (t.val % 4) + j.val, by omega⟩

/-- A chip's column among all columns of w_in. -/
def col (n : Fin 4) (e : Fin 4096) : Fin 16384 := ⟨n.val * 4096 + e.val, by omega⟩

theorem iblk0 (c : Dev nD) (t : Fin cfg0.N) (k : Fin 4096) (i : Fin 1024) : iblk m c 0 t (ix2 k i) = HI m c k (rOf t i) := by
  rw [← tokens]
  simp only [rOf]
  blk_point [iblk, idx t]

theorem iblk1 (c : Dev nD) (t : Fin cfg0.N) (k : Fin 4096) (j : Fin 1024) :
    iblk m c 1 t (ix3 0 k j) = DP m c k (col (nOf t) (cOf t j)) := by
  have e : col (nOf t) (cOf t j) = feature rfl (⟨t.val % 16 / 2, by omega⟩ : Fin 8) ⟨1024 * (t.val % 2) + j.val, by omega⟩ := by
    apply Fin.ext; simp only [col, nOf, cOf, feature]; omega
  rw [e, ← segment]
  blk_point [iblk, idx t]

theorem emb2 (t : Fin cfg0.N) (i j : Fin 1024) :
    ((View.whole main_v5).slice (win0_2.rect t)).emb (ix3 0 i j) = ix3 (nOf t) (rOf t i) (cOf t j) := by
  simp only [nOf, rOf, cOf]
  blk_ext [idx t]

theorem final (c : Dev nD) : (dats m 0 c).arrAt 2 cfg0.N
    = fun j : S4x4096x4096.Idx => ∑ t : Fin 4096, HI m c t (j 1) * DP m c t (col (j 0) (j 2)) := by
  refine (dats m 0 c).arrAt_eq_of_covers 2 _ (by decide +kernel) fun t hf y => ?_
  blk_simp
  rw [after0_2]
  frame_out
  idx_vars y
  obtain rfl : y0 = 0 := Subsingleton.elim _ _
  rw [pay, emb2]
  simp only [iblk0, iblk1]
  rfl

theorem agree (c : Dev nD) : (dats m 0 c).arrAt 2 cfg0.N
    = Cert.InDwRefIdeal.Read.val_main_v6 (F := Ideal) (m ((c.tc : Thread _ _).loc main_arg0))
        (m ((c.tc : Thread _ _).loc main_arg1)) := by
  rw [final]
  funext j
  idx_vars j
  exact (ref_at _ _ j0 j1 j2).symm

end

theorem algebraic : Cert.algebraic_InDwIdeal_InDwRefIdeal := by
  intro m g m' g' _ hag
  refine ⟨fun c => (dats m 0 c).arrAt 2 cfg0.N, Cert.InDwIdeal.Value.run_blocks m g,
    (θ_run Cert.InDwRefIdeal.defs _ _).mono (fun r h c => ?_) (Cert.InDwRefIdeal.Value.run (F := Ideal) m' g')⟩
  obtain ⟨h0, hargs⟩ := h c
  obtain ⟨a0, a1⟩ := hag c
  refine ⟨h0.trans ?_, hargs⟩
  rw [Cert.InDwRefIdeal.Read.val_main_v6_eq, a0, a1]
  exact (agree m c).symm

end Cert.InDwClaim
-- ==== Proof.InDxClaim.lean ====
module

public import proofs.«01_k».proof.Defs
public import proofs.«01_k».proof.Proof.Tokens
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.InDxClaim

open Cert.Tokens Cert.InDxIdeal Cert.InDxIdeal.Gen Idealize.ShloMosaic Idealize.ShloMosaic.TcCoe Idealize.SL.Sem

theorem frame : Cert.quiescent_InDx := fun m g _ => Cert.InDx.Gen.frame m g
theorem frame_ideal : Cert.quiescent_InDxIdeal := fun m g _ => Cert.InDxIdeal.Gen.frame m g
theorem frame_ref : Cert.quiescent_InDxRefIdeal := fun m g _ =>
  (θ_run Cert.InDxRefIdeal.defs _ _).mono (fun _ h => ⟨fun c => (h c).2, sem_eq_zero_of_no_sems rfl _⟩)
    (Cert.InDxRefIdeal.Value.run (F := Ideal) m g)

theorem ref_at (dp : (⟨S2x2048x16384, .f32⟩ : BufTy).Contents (Elt Ideal)) (w : (⟨S4096x16384, .f32⟩ : BufTy).Contents (Elt Ideal))
    (t d : Fin 4096) :
    Cert.InDxRefIdeal.Read.val_main_v3 (F := Ideal) dp w (ix2 t d)
      = ∑ f : Fin 16384, dp (ix3 (seqOf t) (placeOf t) f) * w (ix2 d f) := by
  simp only [seqOf, placeOf]
  pointwise [Cert.InDxRefIdeal.Read.val_main_v3, Cert.InDxRefIdeal.Read.val_main_v2]

section
variable (m : (ℓ : Loc nD τ sig) → Buf (Elt Ideal) ℓ)

/-- The two arguments, entry by entry: a token's cotangent, and a row of w_in. -/
abbrev DP (c : Dev nD) (t : Fin 4096) (f : Fin 16384) : EReal := m ((c : Thread nD τ).loc main_arg0) (ix3 (seqOf t) (placeOf t) f)
@[inherit_doc DP]
abbrev WI (c : Dev nD) (d : Fin 4096) (f : Fin 16384) : EReal := m ((c : Thread nD τ).loc main_arg1) (ix2 d f)

/-- Two tiles' share of the product: the sum over the features the tiles hold. -/
def part (x w : Vec Ideal S1x1024x2048 .bf16) (i j : Fin 1024) : EReal :=
  ∑ e : Fin 2048, x (ix3 0 i e) * w (ix3 0 j e)

theorem pay_first (x w x' w' : Vec Ideal S1x1024x2048 .bf16) (i j : Fin 1024) :
    k0_pay1 x w x' w' (ix2 i j) = part x w i j + part x' w' i j := by
  simp only [part]
  pointwise [k0_pay1]

theorem pay_middle (a : Vec Ideal S1024x1024 .f32) (x w x' w' : Vec Ideal S1x1024x2048 .bf16) (i j : Fin 1024) :
    k0_pay2 a x w x' w' (ix2 i j) = a (ix2 i j) + (part x w i j + part x' w' i j) := by
  simp only [part]
  pointwise [k0_pay2]

theorem pay_last (a : Vec Ideal S1024x1024 .f32) (x w x' w' : Vec Ideal S1x1024x2048 .bf16) (i j : Fin 1024) :
    k0_pay3 a x w x' w' (ix2 i j) = a (ix2 i j) + (part x w i j + part x' w' i j) := by
  simp only [part]
  pointwise [k0_pay3]

theorem tokens (c : Dev nD) (g : Fin 8) (t : Fin 4096) (e : Fin 2048) : V m c main_v2 (ix3 g t e) = DP m c t (feature rfl g e) := by
  simp only [DP, seqOf, placeOf, feature]
  entry_read; pointwise []

theorem weight (c : Dev nD) (s : Fin 4) (d : Fin 4096) (f : Fin 4096) :
    V m c main_v5 (ix3 s d f) = WI m c d ⟨s.val * 4096 + f.val, by omega⟩ := by
  simp only [WI]
  entry_read; pointwise []

theorem idx : ∀ t : Fin cfg0.N, win0_0.index t = ![t.val % 4, t.val / 16, 0] ∧ win0_1.index t = ![t.val % 4, t.val / 4 % 4, 0] ∧
    win0_2.index t = ![t.val / 16, t.val / 4 % 4] := by
  decide +kernel

theorem lt64 (t : Fin cfg0.N) : t.val < 64 := lt_of_lt_of_eq t.isLt (show cfg0.N = 64 from N_0)

/-- A grid point's tile: its tokens and its columns. -/
def tOf (t : Fin cfg0.N) (i : Fin 1024) : Fin 4096 := ⟨1024 * (t.val / 16) + i.val, by have := lt64 t; omega⟩
@[inherit_doc tOf]
def dOf (t : Fin cfg0.N) (j : Fin 1024) : Fin 4096 := ⟨1024 * (t.val / 4 % 4) + j.val, by omega⟩

/-- The group a grid point's half takes. -/
def gOf (t : Fin cfg0.N) (h : Fin 2) : Fin 8 := ⟨2 * (t.val % 4) + h.val, by omega⟩

theorem iblk0 (c : Dev nD) (t : Fin cfg0.N) (h : Fin 2) (i : Fin 1024) (e : Fin 2048) :
    iblk m c 0 t (ix3 h i e) = DP m c (tOf t i) (feature rfl (gOf t h) e) := by
  rw [← tokens]
  simp only [tOf, gOf]
  blk_point [iblk, idx t]

theorem iblk1 (c : Dev nD) (t : Fin cfg0.N) (j : Fin 1024) (f : Fin 4096) :
    iblk m c 1 t (ix3 0 j f) = WI m c (dOf t j) ⟨t.val % 4 * 4096 + f.val, by omega⟩ := by
  rw [show WI m c (dOf t j) ⟨t.val % 4 * 4096 + f.val, by omega⟩ = _ from (weight m c ⟨t.val % 4, by omega⟩ (dOf t j) f).symm]
  simp only [dOf]
  blk_point [iblk, idx t]

/-- The tiles a grid point reads: the two groups of its tokens, and the two halves of its rows of w_in. -/
theorem load0 (x : Vec Ideal S2x1024x2048 .bf16) (i : Fin 1024) (e : Fin 2048) :
    View.ld x (Rect.unit ![0, 0, 0] ![1, 1024, 2048] inb_S2x1024x2048_S1x1024x2048_0_0_0) (ix3 0 i e) = x (ix3 0 i e) := by
  refine congrArg x ?_
  blk_ext [] <;> exact (Rect.idx_unit_val _ _ _ _ _).trans (by simp)
theorem load1 (x : Vec Ideal S2x1024x2048 .bf16) (i : Fin 1024) (e : Fin 2048) :
    View.ld x (Rect.unit ![1, 0, 0] ![1, 1024, 2048] inb_S2x1024x2048_S1x1024x2048_1_0_0) (ix3 0 i e) = x (ix3 1 i e) := by
  refine congrArg x ?_
  blk_ext [] <;> exact (Rect.idx_unit_val _ _ _ _ _).trans (by simp)
theorem left (w : Vec Ideal S1x1024x4096 .bf16) (j : Fin 1024) (e : Fin 2048) :
    View.ld w (Rect.unit ![0, 0, 0] ![1, 1024, 2048] inb_S1x1024x4096_S1x1024x2048_0_0_0) (ix3 0 j e)
      = w (ix3 0 j ⟨e.val, by omega⟩) := by
  refine congrArg w ?_
  blk_ext [] <;> exact (Rect.idx_unit_val _ _ _ _ _).trans (by simp)
theorem right (w : Vec Ideal S1x1024x4096 .bf16) (j : Fin 1024) (e : Fin 2048) :
    View.ld w (Rect.unit ![0, 0, 2048] ![1, 1024, 2048] inb_S1x1024x4096_S1x1024x2048_0_0_2048) (ix3 0 j e)
      = w (ix3 0 j ⟨2048 + e.val, by omega⟩) := by
  refine congrArg w ?_
  blk_ext [] <;> exact (Rect.idx_unit_val _ _ _ _ _).trans (by simp)

/-- A group's share of an entry of the result. -/
def share (c : Dev nD) (t d : Fin 4096) (g : Fin 8) : EReal :=
  ∑ e : Fin 2048, DP m c t (feature rfl g e) * WI m c d (feature rfl g e)

theorem part_left (c : Dev nD) (t : Fin cfg0.N) (i j : Fin 1024) :
    part (View.ld (iblk m c 0 t) (Rect.unit ![0, 0, 0] ![1, 1024, 2048] inb_S2x1024x2048_S1x1024x2048_0_0_0))
      (View.ld (iblk m c 1 t) (Rect.unit ![0, 0, 0] ![1, 1024, 2048] inb_S1x1024x4096_S1x1024x2048_0_0_0)) i j
      = share m c (tOf t i) (dOf t j) (gOf t 0) := by
  refine Finset.sum_congr rfl fun e _ => ?_
  rw [load0, left, iblk0, iblk1]
  refine congrArg (fun f => DP m c (tOf t i) _ * WI m c (dOf t j) f) (Fin.ext ?_)
  simp only [feature, gOf, Fin.isValue, Fin.val_zero]
  omega

theorem part_right (c : Dev nD) (t : Fin cfg0.N) (i j : Fin 1024) :
    part (View.ld (iblk m c 0 t) (Rect.unit ![1, 0, 0] ![1, 1024, 2048] inb_S2x1024x2048_S1x1024x2048_1_0_0))
      (View.ld (iblk m c 1 t) (Rect.unit ![0, 0, 2048] ![1, 1024, 2048] inb_S1x1024x4096_S1x1024x2048_0_0_2048)) i j
      = share m c (tOf t i) (dOf t j) (gOf t 1) := by
  refine Finset.sum_congr rfl fun e _ => ?_
  rw [load1, right, iblk0, iblk1]
  refine congrArg (fun f => DP m c (tOf t i) _ * WI m c (dOf t j) f) (Fin.ext ?_)
  simp only [feature, gOf, Fin.isValue, Fin.val_one]
  omega

/-- What a grid point adds. -/
def added (c : Dev nD) (t : Fin cfg0.N) (i j : Fin 1024) : EReal :=
  share m c (tOf t i) (dOf t j) (gOf t 0) + share m c (tOf t i) (dOf t j) (gOf t 1)

theorem reset (c : Dev nD) (t : Fin cfg0.N) (h : t.val % 4 = 0) (i j : Fin 1024) :
    (outsAt0 m c t.val t.isLt).2 (ix2 i j) = added m c t i j := by
  rw [outsAt0_A m c t h (by omega) (by omega)]; frame_out; rw [pay_first]
  exact congrArg₂ (· + ·) (part_left m c t i j) (part_right m c t i j)

theorem step (c : Dev nD) (t : Fin cfg0.N) (h : 1 ≤ t.val % 4 ∧ t.val % 4 ≤ 2) (i j : Fin 1024) :
    (outsAt0 m c t.val t.isLt).2 (ix2 i j)
      = (outsAt0 m c (t.val - 1) (by have := t.isLt; omega)).2 (ix2 i j) + added m c t i j := by
  rw [outsAt0_B m c t (by omega) h (by omega)]; frame_out; rw [pay_middle]
  exact congrArg₂ (· + ·) (congrFun ((Memref.isWhole_whole cc0_scratch0).read_unread _) _)
    (congrArg₂ (· + ·) (part_left m c t i j) (part_right m c t i j))

theorem finish (c : Dev nD) (t : Fin cfg0.N) (h : t.val % 4 = 3) (i j : Fin 1024) :
    (outsAt0 m c t.val t.isLt).1 (ix2 i j)
      = (outsAt0 m c (t.val - 1) (by have := t.isLt; omega)).2 (ix2 i j) + added m c t i j := by
  rw [outsAt0_C m c t (by omega) (by omega) h]; frame_out; rw [pay_last]
  exact congrArg₂ (· + ·) (congrFun ((Memref.isWhole_whole cc0_scratch0).read_unread _) _)
    (congrArg₂ (· + ·) (part_left m c t i j) (part_right m c t i j))

/-- What the `k`th of a tile's points adds, from the last of them. -/
theorem added_at (c : Dev nD) (t : Fin cfg0.N) (h : t.val % 4 = 3) (s : Fin cfg0.N) (k : ℕ) (hk : k ≤ 3)
    (hs : s.val = t.val - 3 + k) (i j : Fin 1024) :
    added m c s i j = share m c (tOf t i) (dOf t j) ⟨2 * k, by omega⟩ + share m c (tOf t i) (dOf t j) ⟨2 * k + 1, by omega⟩ := by
  have et : tOf s i = tOf t i := by apply Fin.ext; simp only [tOf]; omega
  have ed : dOf s j = dOf t j := by apply Fin.ext; simp only [dOf]; omega
  have g0 : gOf s 0 = ⟨2 * k, by omega⟩ := by apply Fin.ext; simp only [gOf, Fin.isValue, Fin.val_zero]; omega
  have g1 : gOf s 1 = ⟨2 * k + 1, by omega⟩ := by apply Fin.ext; simp only [gOf, Fin.isValue, Fin.val_one]; omega
  rw [added, et, ed, g0, g1]

theorem total (c : Dev nD) (t : Fin cfg0.N) (h : t.val % 4 = 3) (i j : Fin 1024) :
    (outsAt0 m c t.val t.isLt).1 (ix2 i j) = ∑ f : Fin 16384, DP m c (tOf t i) f * WI m c (dOf t j) f := by
  have hN := t.isLt
  have e : ∑ g : Fin 8, share m c (tOf t i) (dOf t j) g = ∑ f : Fin 16384, DP m c (tOf t i) f * WI m c (dOf t j) f :=
    Fin.sum_mul_add_congr (f := fun f => DP m c (tOf t i) f * WI m c (dOf t j) f) fun g e hl => rfl
  rw [finish m c t h, ← e, Fin.sum_univ_eight]
  have e2 := step m c ⟨t.val - 1, by omega⟩ (by dsimp only; omega) i j
  have e1 := step m c ⟨t.val - 1 - 1, by omega⟩ (by dsimp only; omega) i j
  have e0 := reset m c ⟨t.val - 1 - 1 - 1, by omega⟩ (by dsimp only; omega) i j
  dsimp only at e2 e1 e0
  rw [e2, e1, e0, added_at m c t h t 3 (by omega) (by omega), added_at m c t h ⟨t.val - 1, by omega⟩ 2 (by omega) (by dsimp only; omega),
    added_at m c t h ⟨t.val - 1 - 1, by omega⟩ 1 (by omega) (by dsimp only; omega),
    added_at m c t h ⟨t.val - 1 - 1 - 1, by omega⟩ 0 (by omega) (by dsimp only; omega)]
  generalize share m c (tOf t i) (dOf t j) = p
  simp only [← add_assoc]
  rfl

theorem emb2 (t : Fin cfg0.N) (i j : Fin 1024) :
    ((View.whole main_v6).slice (win0_2.rect t)).emb (ix2 i j) = ix2 (tOf t i) (dOf t j) := by
  simp only [tOf, dOf]
  blk_ext [idx t]

theorem final (c : Dev nD) : (dats m 0 c).arrAt 2 cfg0.N
    = fun p : S4096x4096.Idx => ∑ f : Fin 16384, DP m c (p 0) f * WI m c (p 1) f := by
  refine (dats m 0 c).arrAt_eq_of_covers 2 _ (by decide +kernel) fun t hf y => ?_
  blk_simp
  rw [after0_2]
  idx_vars y
  rw [total m c t ((flush0_2 t).mp hf), emb2]
  rfl

theorem agree (c : Dev nD) : (dats m 0 c).arrAt 2 cfg0.N
    = Cert.InDxRefIdeal.Read.val_main_v3 (F := Ideal) (m ((c.tc : Thread _ _).loc main_arg0))
        (m ((c.tc : Thread _ _).loc main_arg1)) := by
  rw [final]
  funext p
  idx_vars p
  exact (ref_at _ _ p0 p1).symm

end

theorem algebraic : Cert.algebraic_InDxIdeal_InDxRefIdeal := by
  intro m g m' g' _ hag
  refine ⟨fun c => (dats m 0 c).arrAt 2 cfg0.N, Cert.InDxIdeal.Value.run_blocks m g,
    (θ_run Cert.InDxRefIdeal.defs _ _).mono (fun r h c => ?_) (Cert.InDxRefIdeal.Value.run (F := Ideal) m' g')⟩
  obtain ⟨h0, hargs⟩ := h c
  obtain ⟨a0, a1⟩ := hag c
  refine ⟨h0.trans ?_, hargs⟩
  rw [Cert.InDxRefIdeal.Read.val_main_v3_eq, a0, a1]
  exact (agree m c).symm

end Cert.InDxClaim
-- ==== Proof.Moments.lean ====
module

public import Idealize.ShloMosaic.PureOps.Ideal.Laws

@[expose] public section

noncomputable section

namespace Cert.Moments

open Idealize.ShloMosaic

/-! The optimiser's step on one entry: the gradient `g`, the weight `w`, the two moments `a` and `b` before it. The
constants are the numbers the step was written with, as the 32-bit floats nearest to them. -/

/-- The first moment after the step: `0.9 a + 0.1 g`. -/
def first (g a : EReal) : EReal := Ideal.ofBits .f32 0x3F666666#32 * a + Ideal.ofBits .f32 0x3DCCCCCD#32 * g

/-- The second moment after the step: `0.999 b + 0.001 g²`. -/
def second (g b : EReal) : EReal := Ideal.ofBits .f32 0x3F7FBE77#32 * b + Ideal.ofBits .f32 0x3A83126F#32 * (g * g)

/-- The weight's change: minus the rate, times the corrected first moment over the root of the corrected second, and the
decay of the weight itself. -/
def change (w g a b : EReal) : EReal :=
  Ideal.ofBits .f32 0xBA83126F#32 *
    (Ideal.div (Ideal.div (first g a) (Ideal.ofBits .f32 0x3F26BD02#32))
        (Ideal.sqrt (Ideal.div (second g b) (Ideal.ofBits .f32 0x3C231ACC#32)) + Ideal.ofBits .f32 0x322BCC77#32)
      + Ideal.ofBits .f32 0x3C23D70A#32 * w)

end Cert.Moments
-- ==== Proof.AdamClaim.lean ====
module

public import proofs.«01_k».proof.Defs
public import proofs.«01_k».proof.Proof.Moments
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.AdamClaim

open Cert.Moments Cert.AdamIdeal Cert.AdamIdeal.Gen Idealize.ShloMosaic Idealize.ShloMosaic.TcCoe Idealize.SL.Sem

theorem frame : Cert.quiescent_Adam := fun m g _ => Cert.Adam.Gen.frame m g
theorem frame_ideal : Cert.quiescent_AdamIdeal := fun m g _ => Cert.AdamIdeal.Gen.frame m g
theorem frame_ref : Cert.quiescent_AdamRefIdeal := fun m g _ =>
  (θ_run Cert.AdamRefIdeal.defs _ _).mono (fun _ h => ⟨fun c => (h c).2.2.2.2, sem_eq_zero_of_no_sems rfl _⟩)
    (Cert.AdamRefIdeal.Value.run (F := Ideal) m g)

theorem pay_m (g a : Vec Ideal S256x2048 .f32) (i : Fin 256) (j : Fin 2048) :
    k0_pay1 g a (ix2 i j) = first (g (ix2 i j)) (a (ix2 i j)) := by
  simp only [first]
  pointwise [k0_pay1]

theorem pay_v (g b : Vec Ideal S256x2048 .f32) (i : Fin 256) (j : Fin 2048) :
    k0_pay2 g b (ix2 i j) = second (g (ix2 i j)) (b (ix2 i j)) := by
  simp only [second]
  pointwise [k0_pay2]

theorem pay_d (g w a b : Vec Ideal S256x2048 .f32) (i : Fin 256) (j : Fin 2048) :
    k0_pay3 g w a b (ix2 i j) = change (w (ix2 i j)) (g (ix2 i j)) (a (ix2 i j)) (b (ix2 i j)) := by
  simp only [change, first, second]
  pointwise [k0_pay3, k0_pay2, k0_pay1]

section
open Cert.AdamRefIdeal.Read

theorem ref_m (g a : (⟨S4096x4096, .f32⟩ : BufTy).Contents (Elt Ideal)) (i j : Fin 4096) :
    val_main_v4 (F := Ideal) g a (ix2 i j) = first (g (ix2 i j)) (a (ix2 i j)) := by
  simp only [first]
  pointwise [val_main_v0, val_main_v1, val_main_v2, val_main_v3, val_main_v4, val_main_cst, val_main_cst_0]

theorem ref_v (g b : (⟨S4096x4096, .f32⟩ : BufTy).Contents (Elt Ideal)) (i j : Fin 4096) :
    val_main_v10 (F := Ideal) g b (ix2 i j) = second (g (ix2 i j)) (b (ix2 i j)) := by
  simp only [second]
  pointwise [val_main_v5, val_main_v6, val_main_v7, val_main_v8, val_main_v9, val_main_v10, val_main_cst_1, val_main_cst_2]

theorem ref_d (w g a b : (⟨S4096x4096, .f32⟩ : BufTy).Contents (Elt Ideal)) (i j : Fin 4096) :
    val_main_v23 (F := Ideal) w g a b (ix2 i j) = change (w (ix2 i j)) (g (ix2 i j)) (a (ix2 i j)) (b (ix2 i j)) := by
  rw [change, ← ref_m, ← ref_v]
  pointwise [val_main_v11, val_main_v12, val_main_v13, val_main_v14, val_main_v15, val_main_v16, val_main_v17,
    val_main_v18, val_main_v19, val_main_v20, val_main_v21, val_main_v22, val_main_v23, val_main_cst_3, val_main_cst_4,
    val_main_cst_5, val_main_cst_6, val_main_cst_7]

end

section
variable (m : (ℓ : Loc nD τ sig) → Buf (Elt Ideal) ℓ)

/-- The four arguments: the weight, its gradient and the two moments. -/
abbrev W (c : Dev nD) : S4096x4096.Idx → EReal := m ((c : Thread nD τ).loc main_arg0)
@[inherit_doc W]
abbrev G (c : Dev nD) : S4096x4096.Idx → EReal := m ((c : Thread nD τ).loc main_arg1)
@[inherit_doc W]
abbrev A (c : Dev nD) : S4096x4096.Idx → EReal := m ((c : Thread nD τ).loc main_arg2)
@[inherit_doc W]
abbrev B (c : Dev nD) : S4096x4096.Idx → EReal := m ((c : Thread nD τ).loc main_arg3)

theorem idx : ∀ t : Fin cfg0.N, win0_0.index t = ![t.val / 2, t.val % 2] ∧ win0_1.index t = ![t.val / 2, t.val % 2] ∧
    win0_2.index t = ![t.val / 2, t.val % 2] ∧ win0_3.index t = ![t.val / 2, t.val % 2] ∧
    win0_4.index t = ![t.val / 2, t.val % 2] ∧ win0_5.index t = ![t.val / 2, t.val % 2] ∧
    win0_6.index t = ![t.val / 2, t.val % 2] ∧ win0_7.index t = ![t.val / 2, t.val % 2] := by
  decide +kernel

theorem lt32 (t : Fin cfg0.N) : t.val < 32 := lt_of_lt_of_eq t.isLt (show cfg0.N = 32 from N_0)

/-- The entry a grid point's tile has at `(i, j)`. -/
def at2 (t : Fin cfg0.N) (i : Fin 256) (j : Fin 2048) : S4096x4096.Idx :=
  ix2 ⟨256 * (t.val / 2) + i.val, by have := lt32 t; omega⟩ ⟨2048 * (t.val % 2) + j.val, by omega⟩

theorem iblk0 (c : Dev nD) (t : Fin cfg0.N) (i : Fin 256) (j : Fin 2048) : iblk m c 0 t (ix2 i j) = W m c (at2 t i j) := by
  simp only [W, at2]
  blk_point [iblk, V, idx t]
theorem iblk1 (c : Dev nD) (t : Fin cfg0.N) (i : Fin 256) (j : Fin 2048) : iblk m c 1 t (ix2 i j) = G m c (at2 t i j) := by
  simp only [G, at2]
  blk_point [iblk, V, idx t]
theorem iblk2 (c : Dev nD) (t : Fin cfg0.N) (i : Fin 256) (j : Fin 2048) : iblk m c 2 t (ix2 i j) = A m c (at2 t i j) := by
  simp only [A, at2]
  blk_point [iblk, V, idx t]
theorem iblk3 (c : Dev nD) (t : Fin cfg0.N) (i : Fin 256) (j : Fin 2048) : iblk m c 3 t (ix2 i j) = B m c (at2 t i j) := by
  simp only [B, at2]
  blk_point [iblk, V, idx t]

theorem emb4 (t : Fin cfg0.N) (i : Fin 256) (j : Fin 2048) :
    ((View.whole main_v0_0).slice (win0_4.rect t)).emb (ix2 i j) = at2 t i j := by
  simp only [at2]
  blk_ext [idx t]
theorem emb5 (t : Fin cfg0.N) (i : Fin 256) (j : Fin 2048) :
    ((View.whole main_v0_1).slice (win0_5.rect t)).emb (ix2 i j) = at2 t i j := by
  simp only [at2]
  blk_ext [idx t]
theorem emb6 (t : Fin cfg0.N) (i : Fin 256) (j : Fin 2048) :
    ((View.whole main_v0_2).slice (win0_6.rect t)).emb (ix2 i j) = at2 t i j := by
  simp only [at2]
  blk_ext [idx t]
theorem emb7 (t : Fin cfg0.N) (i : Fin 256) (j : Fin 2048) :
    ((View.whole main_v0_3).slice (win0_7.rect t)).emb (ix2 i j) = at2 t i j := by
  simp only [at2]
  blk_ext [idx t]

theorem final_g (c : Dev nD) : (dats m 0 c).arrAt 4 cfg0.N = G m c := by
  refine (dats m 0 c).arrAt_eq_of_covers 4 _ (by decide +kernel) fun t hf y => ?_
  blk_simp
  rw [after0_4]
  frame_out
  idx_vars y
  rw [emb4, iblk1]

theorem final_d (c : Dev nD) : (dats m 0 c).arrAt 5 cfg0.N
    = fun p : S4096x4096.Idx => change (W m c p) (G m c p) (A m c p) (B m c p) := by
  refine (dats m 0 c).arrAt_eq_of_covers 5 _ (by decide +kernel) fun t hf y => ?_
  blk_simp
  rw [after0_5]
  frame_out
  idx_vars y
  rw [pay_d, emb5, iblk0, iblk1, iblk2, iblk3]

theorem final_m (c : Dev nD) : (dats m 0 c).arrAt 6 cfg0.N = fun p : S4096x4096.Idx => first (G m c p) (A m c p) := by
  refine (dats m 0 c).arrAt_eq_of_covers 6 _ (by decide +kernel) fun t hf y => ?_
  blk_simp
  rw [after0_6]
  frame_out
  idx_vars y
  rw [pay_m, emb6, iblk1, iblk2]

theorem final_v (c : Dev nD) : (dats m 0 c).arrAt 7 cfg0.N = fun p : S4096x4096.Idx => second (G m c p) (B m c p) := by
  refine (dats m 0 c).arrAt_eq_of_covers 7 _ (by decide +kernel) fun t hf y => ?_
  blk_simp
  rw [after0_7]
  frame_out
  idx_vars y
  rw [pay_v, emb7, iblk1, iblk3]

end

theorem algebraic : Cert.algebraic_AdamIdeal_AdamRefIdeal := by
  intro m g m' g' _ hag
  refine ⟨fun c => (dats m 0 c).arrAt 4 cfg0.N, fun c => (dats m 0 c).arrAt 5 cfg0.N,
    fun c => (dats m 0 c).arrAt 6 cfg0.N, fun c => (dats m 0 c).arrAt 7 cfg0.N, Cert.AdamIdeal.Value.run_blocks m g,
    (θ_run Cert.AdamRefIdeal.defs _ _).mono (fun r h c => ?_) (Cert.AdamRefIdeal.Value.run (F := Ideal) m' g')⟩
  obtain ⟨h0, h1, h2, h3, hargs⟩ := h c
  obtain ⟨a0, a1, a2, a3⟩ := hag c
  refine ⟨h0.trans ?_, h1.trans ?_, h2.trans ?_, h3.trans ?_, hargs⟩
  · rw [a1]
    exact (final_g m c).symm
  · rw [Cert.AdamRefIdeal.Read.val_main_v23_eq, a0, a1, a2, a3]
    refine Eq.trans ?_ (final_d m c).symm
    funext p
    idx_vars p
    exact ref_d _ _ _ _ p0 p1
  · rw [Cert.AdamRefIdeal.Read.val_main_v4_eq, a1, a2]
    refine Eq.trans ?_ (final_m m c).symm
    funext p
    idx_vars p
    exact ref_m _ _ p0 p1
  · rw [Cert.AdamRefIdeal.Read.val_main_v10_eq, a1, a3]
    refine Eq.trans ?_ (final_v m c).symm
    funext p
    idx_vars p
    exact ref_v _ _ p0 p1

end Cert.AdamClaim
-- ==== Proof.WadaClaim.lean ====
module

public import proofs.«01_k».proof.Defs
public import proofs.«01_k».proof.Proof.Moments
public import proofs.«01_k».proof.Proof.Gen.Wada.Frame
public import proofs.«01_k».proof.Proof.Gen.WadaIdeal.Value
public import proofs.«01_k».proof.Proof.Gen.WadaRefIdeal.Run
public import proofs.«01_k».proof.Proof.Gen.WadaRefIdeal.Read
public import Idealize.ShloMosaic.Lib.Pipeline.ValueKit
public import Idealize.ShloMosaic.Lib.Pointwise
public import Idealize.ShloMosaic.PureOps.Ideal.Laws
public import Idealize.ShloMosaic.Lib.Quiescent

@[expose] public section

set_option maxRecDepth 16384

noncomputable section

namespace Cert.WadaClaim

open Cert.Moments Cert.WadaIdeal Cert.WadaIdeal.Gen Idealize.ShloMosaic Idealize.ShloMosaic.TcCoe Idealize.SL.Sem

theorem frame : Cert.quiescent_Wada := fun m g _ => Cert.Wada.Gen.frame m g
theorem frame_ideal : Cert.quiescent_WadaIdeal := fun m g _ => Cert.WadaIdeal.Gen.frame m g
theorem frame_ref : Cert.quiescent_WadaRefIdeal := fun m g _ =>
  (θ_run Cert.WadaRefIdeal.defs _ _).mono (fun _ h => ⟨fun c => (h c).2.2.2.2, sem_eq_zero_of_no_sems rfl _⟩)
    (Cert.WadaRefIdeal.Value.run (F := Ideal) m g)

/-- The gate `x · σ(x)`. -/
def gate (x : EReal) : EReal := x * Ideal.div 1 (1 + Ideal.exp (-x))

/-- The gradient at a tile's entry: the sum over the sequences of the gated condition times the modulation's cotangent. -/
def grad (x : Vec Ideal S512x16 .f32) (y : Vec Ideal S16x1024 .f32) (i : Fin 512) (j : Fin 1024) : EReal :=
  ∑ s : Fin 16, gate (x (ix2 i s)) * y (ix2 s j)

theorem pay_g (x : Vec Ideal S512x16 .f32) (y : Vec Ideal S16x1024 .f32) (i : Fin 512) (j : Fin 1024) :
    k0_pay2 x y (ix2 i j) = grad x y i j := by
  simp only [grad, gate]
  pointwise [k0_pay2]
  simp only [zero_sub]

theorem pay_m (x : Vec Ideal S512x16 .f32) (y : Vec Ideal S16x1024 .f32) (a : Vec Ideal S512x1024 .f32) (i : Fin 512)
    (j : Fin 1024) : k0_pay3 x y a (ix2 i j) = first (grad x y i j) (a (ix2 i j)) := by
  rw [first, ← pay_g]
  pointwise [k0_pay3]

theorem pay_v (x : Vec Ideal S512x16 .f32) (y : Vec Ideal S16x1024 .f32) (b : Vec Ideal S512x1024 .f32) (i : Fin 512)
    (j : Fin 1024) : k0_pay4 x y b (ix2 i j) = second (grad x y i j) (b (ix2 i j)) := by
  rw [second, ← pay_g]
  pointwise [k0_pay4]

theorem pay_d (x : Vec Ideal S512x16 .f32) (y : Vec Ideal S16x1024 .f32) (w a b : Vec Ideal S512x1024 .f32) (i : Fin 512)
    (j : Fin 1024) :
    k0_pay1 w (k0_pay5 x y a) (k0_pay6 x y b) (Scalar.ofBits .f32 0x322BCC77#32) (ix2 i j)
      = change (w (ix2 i j)) (grad x y i j) (a (ix2 i j)) (b (ix2 i j)) := by
  rw [change, ← pay_m, ← pay_v]
  pointwise [k0_pay1, k0_pay5, k0_pay6]

section
open Cert.WadaRefIdeal.Read

/-- The gradient at an entry of the whole array, the reference's product in its own order. -/
def whole (x : (⟨S16x4096, .f32⟩ : BufTy).Contents (Elt Ideal)) (y : (⟨S16x3072, .f32⟩ : BufTy).Contents (Elt Ideal))
    (i : Fin 4096) (j : Fin 3072) : EReal := ∑ s : Fin 16, gate (x (ix2 s i)) * y (ix2 s j)

theorem ref_g (x : (⟨S16x4096, .f32⟩ : BufTy).Contents (Elt Ideal)) (y : (⟨S16x3072, .f32⟩ : BufTy).Contents (Elt Ideal))
    (i : Fin 4096) (j : Fin 3072) : val_main_v3 (F := Ideal) x y (ix2 i j) = whole x y i j := by
  trans ∑ s : Fin 16, y (ix2 s j) * gate (x (ix2 s i))
  · simp only [gate]
    pointwise [val_main_v3, val_main_v2, val_main_v0, val_main_call0_v0, val_main_call0_v1, val_main_call0_v2,
      val_main_call0_v3, val_main_call0_v4, val_main_call0_v5, val_main_call0_cst, val_main_call0_cst_0]
  · exact Finset.sum_congr rfl fun _ _ => mul_comm _ _

variable (x : (⟨S16x4096, .f32⟩ : BufTy).Contents (Elt Ideal)) (y : (⟨S16x3072, .f32⟩ : BufTy).Contents (Elt Ideal))
  (w a b : (⟨S4096x3072, .f32⟩ : BufTy).Contents (Elt Ideal)) (i : Fin 4096) (j : Fin 3072)

theorem ref_m : val_main_v8 (F := Ideal) x y a (ix2 i j) = first (whole x y i j) (a (ix2 i j)) := by
  rw [first, ← ref_g]
  pointwise [val_main_v4, val_main_v5, val_main_v6, val_main_v7, val_main_v8, val_main_cst, val_main_cst_0]

theorem ref_v : val_main_v14 (F := Ideal) x y b (ix2 i j) = second (whole x y i j) (b (ix2 i j)) := by
  rw [second, ← ref_g]
  pointwise [val_main_v9, val_main_v10, val_main_v11, val_main_v12, val_main_v13, val_main_v14, val_main_cst_1, val_main_cst_2]

theorem ref_d : val_main_v27 (F := Ideal) x y w a b (ix2 i j)
    = change (w (ix2 i j)) (whole x y i j) (a (ix2 i j)) (b (ix2 i j)) := by
  rw [change, ← ref_m, ← ref_v]
  pointwise [val_main_v15, val_main_v16, val_main_v17, val_main_v18, val_main_v19, val_main_v20, val_main_v21, val_main_v22,
    val_main_v23, val_main_v24, val_main_v25, val_main_v26, val_main_v27, val_main_cst_3, val_main_cst_4, val_main_cst_5,
    val_main_cst_6, val_main_cst_7]

end

section
variable (m : (ℓ : Loc nD τ sig) → Buf (Elt Ideal) ℓ)

/-- The five arguments: the condition, the modulation's cotangent, the weight and the two moments. -/
abbrev C (c : Dev nD) : S16x4096.Idx → EReal := m ((c : Thread nD τ).loc main_arg0)
@[inherit_doc C]
abbrev Y (c : Dev nD) : S16x3072.Idx → EReal := m ((c : Thread nD τ).loc main_arg1)
@[inherit_doc C]
abbrev W (c : Dev nD) : S4096x3072.Idx → EReal := m ((c : Thread nD τ).loc main_arg2)
@[inherit_doc C]
abbrev A (c : Dev nD) : S4096x3072.Idx → EReal := m ((c : Thread nD τ).loc main_arg3)
@[inherit_doc C]
abbrev B (c : Dev nD) : S4096x3072.Idx → EReal := m ((c : Thread nD τ).loc main_arg4)

/-- The condition on its side, as the call takes it. -/
theorem turned (c : Dev nD) (i : Fin 4096) (s : Fin 16) : V m c main_v0 (ix2 i s) = C m c (ix2 s i) := by
  simp only [C]
  entry_read; pointwise []

theorem idx : ∀ t : Fin cfg0.N, win0_0.index t = ![t.val / 3, 0] ∧ win0_1.index t = ![0, t.val % 3] ∧
    win0_2.index t = ![t.val / 3, t.val % 3] ∧ win0_3.index t = ![t.val / 3, t.val % 3] ∧
    win0_4.index t = ![t.val / 3, t.val % 3] ∧ win0_5.index t = ![t.val / 3, t.val % 3] ∧
    win0_6.index t = ![t.val / 3, t.val % 3] ∧ win0_7.index t = ![t.val / 3, t.val % 3] ∧
    win0_8.index t = ![t.val / 3, t.val % 3] := by
  decide +kernel

theorem lt24 (t : Fin cfg0.N) : t.val < 24 := lt_of_lt_of_eq t.isLt (show cfg0.N = 24 from N_0)

/-- A row and a column of a grid point's tile. -/
def iOf (t : Fin cfg0.N) (i : Fin 512) : Fin 4096 := ⟨512 * (t.val / 3) + i.val, by have := lt24 t; omega⟩
@[inherit_doc iOf]
def jOf (t : Fin cfg0.N) (j : Fin 1024) : Fin 3072 := ⟨1024 * (t.val % 3) + j.val, by omega⟩

theorem iblk0 (c : Dev nD) (t : Fin cfg0.N) (i : Fin 512) (s : Fin 16) : iblk m c 0 t (ix2 i s) = C m c (ix2 s (iOf t i)) := by
  rw [← turned]
  simp only [iOf]
  blk_point [iblk, idx t]
theorem iblk1 (c : Dev nD) (t : Fin cfg0.N) (s : Fin 16) (j : Fin 1024) : iblk m c 1 t (ix2 s j) = Y m c (ix2 s (jOf t j)) := by
  simp only [Y, jOf]
  blk_point [iblk, V, idx t]
theorem iblk2 (c : Dev nD) (t : Fin cfg0.N) (i : Fin 512) (j : Fin 1024) :
    iblk m c 2 t (ix2 i j) = W m c (ix2 (iOf t i) (jOf t j)) := by
  simp only [W, iOf, jOf]
  blk_point [iblk, V, idx t]
theorem iblk3 (c : Dev nD) (t : Fin cfg0.N) (i : Fin 512) (j : Fin 1024) :
    iblk m c 3 t (ix2 i j) = A m c (ix2 (iOf t i) (jOf t j)) := by
  simp only [A, iOf, jOf]
  blk_point [iblk, V, idx t]
theorem iblk4 (c : Dev nD) (t : Fin cfg0.N) (i : Fin 512) (j : Fin 1024) :
    iblk m c 4 t (ix2 i j) = B m c (ix2 (iOf t i) (jOf t j)) := by
  simp only [B, iOf, jOf]
  blk_point [iblk, V, idx t]

theorem grad_at (c : Dev nD) (t : Fin cfg0.N) (i : Fin 512) (j : Fin 1024) :
    grad (iblk m c 0 t) (iblk m c 1 t) i j = whole (C m c) (Y m c) (iOf t i) (jOf t j) := by
  simp only [grad, whole, iblk0, iblk1]

theorem emb5 (t : Fin cfg0.N) (i : Fin 512) (j : Fin 1024) :
    ((View.whole main_v1_0).slice (win0_5.rect t)).emb (ix2 i j) = ix2 (iOf t i) (jOf t j) := by
  simp only [iOf, jOf]
  blk_ext [idx t]
theorem emb6 (t : Fin cfg0.N) (i : Fin 512) (j : Fin 1024) :
    ((View.whole main_v1_1).slice (win0_6.rect t)).emb (ix2 i j) = ix2 (iOf t i) (jOf t j) := by
  simp only [iOf, jOf]
  blk_ext [idx t]
theorem emb7 (t : Fin cfg0.N) (i : Fin 512) (j : Fin 1024) :
    ((View.whole main_v1_2).slice (win0_7.rect t)).emb (ix2 i j) = ix2 (iOf t i) (jOf t j) := by
  simp only [iOf, jOf]
  blk_ext [idx t]
theorem emb8 (t : Fin cfg0.N) (i : Fin 512) (j : Fin 1024) :
    ((View.whole main_v1_3).slice (win0_8.rect t)).emb (ix2 i j) = ix2 (iOf t i) (jOf t j) := by
  simp only [iOf, jOf]
  blk_ext [idx t]

theorem final_g (c : Dev nD) : (dats m 0 c).arrAt 5 cfg0.N
    = fun p : S4096x3072.Idx => whole (C m c) (Y m c) (p 0) (p 1) := by
  refine (dats m 0 c).arrAt_eq_of_covers 5 _ (by decide +kernel) fun t hf y => ?_
  blk_simp
  rw [after0_5]
  frame_out
  idx_vars y
  rw [pay_g, emb5, grad_at]
  rfl

theorem final_d (c : Dev nD) : (dats m 0 c).arrAt 6 cfg0.N
    = fun p : S4096x3072.Idx => change (W m c p) (whole (C m c) (Y m c) (p 0) (p 1)) (A m c p) (B m c p) := by
  refine (dats m 0 c).arrAt_eq_of_covers 6 _ (by decide +kernel) fun t hf y => ?_
  blk_simp
  rw [after0_6]
  frame_out
  idx_vars y
  rw [pay_d, emb6, grad_at, iblk2, iblk3, iblk4]
  rfl

theorem final_m (c : Dev nD) : (dats m 0 c).arrAt 7 cfg0.N
    = fun p : S4096x3072.Idx => first (whole (C m c) (Y m c) (p 0) (p 1)) (A m c p) := by
  refine (dats m 0 c).arrAt_eq_of_covers 7 _ (by decide +kernel) fun t hf y => ?_
  blk_simp
  rw [after0_7]
  frame_out
  idx_vars y
  rw [pay_m, emb7, grad_at, iblk3]
  rfl

theorem final_v (c : Dev nD) : (dats m 0 c).arrAt 8 cfg0.N
    = fun p : S4096x3072.Idx => second (whole (C m c) (Y m c) (p 0) (p 1)) (B m c p) := by
  refine (dats m 0 c).arrAt_eq_of_covers 8 _ (by decide +kernel) fun t hf y => ?_
  blk_simp
  rw [after0_8]
  frame_out
  idx_vars y
  rw [pay_v, emb8, grad_at, iblk4]
  rfl

end

theorem algebraic : Cert.algebraic_WadaIdeal_WadaRefIdeal := by
  intro m g m' g' _ hag
  refine ⟨fun c => (dats m 0 c).arrAt 5 cfg0.N, fun c => (dats m 0 c).arrAt 6 cfg0.N,
    fun c => (dats m 0 c).arrAt 7 cfg0.N, fun c => (dats m 0 c).arrAt 8 cfg0.N, Cert.WadaIdeal.Value.run_blocks m g,
    (θ_run Cert.WadaRefIdeal.defs _ _).mono (fun r h c => ?_) (Cert.WadaRefIdeal.Value.run (F := Ideal) m' g')⟩
  obtain ⟨h0, h1, h2, h3, hargs⟩ := h c
  obtain ⟨a0, a1, a2, a3, a4⟩ := hag c
  refine ⟨h0.trans ?_, h1.trans ?_, h2.trans ?_, h3.trans ?_, hargs⟩
  · rw [Cert.WadaRefIdeal.Read.val_main_v3_eq, a0, a1]
    refine Eq.trans ?_ (final_g m c).symm
    funext p
    idx_vars p
    exact ref_g _ _ p0 p1
  · rw [Cert.WadaRefIdeal.Read.val_main_v27_eq, a0, a1, a2, a3, a4]
    refine Eq.trans ?_ (final_d m c).symm
    funext p
    idx_vars p
    exact ref_d _ _ _ _ _ p0 p1
  · rw [Cert.WadaRefIdeal.Read.val_main_v8_eq, a0, a1, a3]
    refine Eq.trans ?_ (final_m m c).symm
    funext p
    idx_vars p
    exact ref_m _ _ _ p0 p1
  · rw [Cert.WadaRefIdeal.Read.val_main_v14_eq, a0, a1, a4]
    refine Eq.trans ?_ (final_v m c).symm
    funext p
    idx_vars p
    exact ref_v _ _ _ p0 p1

end Cert.WadaClaim
-- ==== Proof.SmallHost.lean ====
module

public import proofs.«01_k».proof.Proof.Moments
public import proofs.«01_k».proof.Proof.Gen.Small.Frame
public import proofs.«01_k».proof.Proof.Gen.SmallIdeal.Value
public import proofs.«01_k».proof.Proof.Gen.SmallRefIdeal.Run
public import proofs.«01_k».proof.Proof.Gen.SmallRefIdeal.Read
public import Idealize.ShloMosaic.Lib.Pipeline.ValueKit
public import Idealize.ShloMosaic.Lib.Pointwise
public import Idealize.ShloMosaic.PureOps.Ideal.Laws
public import Idealize.ShloMosaic.Lib.Quiescent
public import Idealize.ShloMosaic.Lib.StableHlo.ReadAt

@[expose] public section

set_option maxRecDepth 16384

noncomputable section

namespace Cert.SmallHost

open Cert.Moments Cert.SmallIdeal Cert.SmallIdeal.Gen Idealize.ShloMosaic Idealize.ShloMosaic.TcCoe Idealize.SL.Sem

section
open Cert.SmallRefIdeal.Read

theorem ref_g0 (x : (⟨S8x2x12288, .f32⟩ : BufTy).Contents (Elt Ideal)) (s d : (⟨S8x2x2048, .f32⟩ : BufTy).Contents (Elt Ideal))
    (n f : (⟨S8x1x4096, .f32⟩ : BufTy).Contents (Elt Ideal)) (j : Fin 12288) :
    val_main_v13 (F := Ideal) x s d n f (ix2 0 j) = ∑ e : Fin 8, ∑ i : Fin 2, x (ix3 e i j) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1, val_main_cst_2, val_main_cst_3, val_main_cst_4, val_main_cst_5, val_main_cst_6]

/-- What one device adds to the second row: its part of the two gains behind the first half, its two norms' before. -/
def share (s d : S8x2x2048.Idx → EReal) (n f : S8x1x4096.Idx → EReal) (e : Fin 8) (i : Fin 2) (j : Fin 12288) : EReal :=
  (if h : 8192 ≤ j.val ∧ j.val - 8192 < 4096 then
      if h' : j.val - 8192 < 2048 then s (ix3 e i ⟨j.val - 8192, h'⟩) else d (ix3 e i ⟨j.val - 8192 - 2048, by omega⟩)
    else 0) +
  (if h : i.val < 1 ∧ j.val < 8192 then
      if h' : j.val < 4096 then n (ix3 e 0 ⟨j.val, h'⟩) else f (ix3 e 0 ⟨j.val - 4096, by omega⟩)
    else 0)

theorem ref_g1 (x : (⟨S8x2x12288, .f32⟩ : BufTy).Contents (Elt Ideal)) (s d : (⟨S8x2x2048, .f32⟩ : BufTy).Contents (Elt Ideal))
    (n f : (⟨S8x1x4096, .f32⟩ : BufTy).Contents (Elt Ideal)) (j : Fin 12288) :
    val_main_v13 (F := Ideal) x s d n f (ix2 1 j) = ∑ e : Fin 8, ∑ i : Fin 2, share s d n f e i j := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1, val_main_cst_2, val_main_cst_3, val_main_cst_4, val_main_cst_5, val_main_cst_6]
  have hj := j.isLt
  by_cases h1 : j.val < 4096
  · have h2 : j.val < 8192 := by omega
    have h3 : ¬ 8192 ≤ j.val := by omega
    simp [share, h1, h2, h3, Fin.sum_univ_two]
  · by_cases h2 : j.val < 8192
    · have h3 : ¬ 8192 ≤ j.val := by omega
      have h4 : j.val - 4096 < 4096 := by omega
      simp [share, h1, h2, h3, h4, Fin.sum_univ_two]
    · have h3 : 8192 ≤ j.val := by omega
      have h4 : ¬ j.val - 4096 < 4096 := by omega
      have h5 : j.val - 8192 < 4096 := by omega
      have h6 : j.val - 4096 - 4096 = j.val - 8192 := by omega
      by_cases h7 : j.val - 8192 < 2048
      · simp [share, h1, h2, h3, h4, h5, h6, h7, Fin.sum_univ_two]
      · simp [share, h1, h2, h3, h4, h5, h6, h7, Fin.sum_univ_two]

theorem ref_l (x : (⟨S8x1x128, .f32⟩ : BufTy).Contents (Elt Ideal)) (j : Fin 128) :
    val_main_v62 (F := Ideal) x (ix2 0 j) = ∑ e : Fin 8, x (ix3 e 0 j) := by
  pointwise [val_main_v62, val_main_cst_16]

end

section
open Cert.SmallRefIdeal.Read
variable (m : (ℓ : Loc nD τ sig) → Buf (Elt Ideal) ℓ) (c : Dev nD)

theorem host_w : V m c main_v12 = val_main_v21 (F := Ideal) (m ((c : Thread nD τ).loc main_arg6)) (m ((c : Thread nD τ).loc main_arg7)) (m ((c : Thread nD τ).loc main_arg8)) (m ((c : Thread nD τ).loc main_arg9)) (m ((c : Thread nD τ).loc main_arg10)) := by
  funext p
  idx_vars p
  obtain rfl | rfl : p0 = 0 ∨ p0 = 1 := by omega
  all_goals
    unfold V
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
    iterate 6 (try after_reads_at)
    pointwise [val_main_v21, val_main_v14, val_main_v15, val_main_v16, val_main_v17, val_main_v18, val_main_v19, val_main_v20]
    try rfl

theorem host_m : V m c main_v16 = val_main_v29 (F := Ideal) (m ((c : Thread nD τ).loc main_arg11)) (m ((c : Thread nD τ).loc main_arg12)) (m ((c : Thread nD τ).loc main_arg13)) (m ((c : Thread nD τ).loc main_arg14)) (m ((c : Thread nD τ).loc main_arg15)) := by
  funext p
  idx_vars p
  obtain rfl | rfl : p0 = 0 ∨ p0 = 1 := by omega
  all_goals
    unfold V
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
    iterate 6 (try after_reads_at)
    pointwise [val_main_v29, val_main_v22, val_main_v23, val_main_v24, val_main_v25, val_main_v26, val_main_v27, val_main_v28]
    try rfl

theorem host_v : V m c main_v20 = val_main_v37 (F := Ideal) (m ((c : Thread nD τ).loc main_arg16)) (m ((c : Thread nD τ).loc main_arg17)) (m ((c : Thread nD τ).loc main_arg18)) (m ((c : Thread nD τ).loc main_arg19)) (m ((c : Thread nD τ).loc main_arg20)) := by
  funext p
  idx_vars p
  obtain rfl | rfl : p0 = 0 ∨ p0 = 1 := by omega
  all_goals
    unfold V
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
    iterate 6 (try after_reads_at)
    pointwise [val_main_v37, val_main_v30, val_main_v31, val_main_v32, val_main_v33, val_main_v34, val_main_v35, val_main_v36]
    try rfl

theorem host_g0 (e : Fin 8) (j : Fin 12288) : V m c main_v8 (ix3 e 0 j) = (m ((c : Thread nD τ).loc main_arg0) : S8x2x12288.Idx → EReal) (ix3 e 0 j) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  iterate 6 (try after_reads_at)
  try rfl

theorem host_g1 (e : Fin 8) (j : Fin 12288) : V m c main_v8 (ix3 e 1 j) = (m ((c : Thread nD τ).loc main_arg0) : S8x2x12288.Idx → EReal) (ix3 e 1 j) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  iterate 6 (try after_reads_at)
  try rfl

theorem host_g2 (e : Fin 8) (i : Fin 2) (j : Fin 12288) : V m c main_v8 (ix3 e ⟨2 + i.val, by omega⟩ j) = share (m ((c : Thread nD τ).loc main_arg1)) (m ((c : Thread nD τ).loc main_arg2)) (m ((c : Thread nD τ).loc main_arg3)) (m ((c : Thread nD τ).loc main_arg4)) e i j := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  iterate 6 (try after_reads_at)
  have z : (FloatOps.sitofp (F := Ideal) FTy.f32 0#32 : EReal) = 0 := by simp [FloatOps.sitofp]
  simp only [share, z]
  refine congrArg₂ (· + ·) rfl ?_
  by_cases h : i.val < 1 ∧ j.val < 8192
  · obtain rfl : i = 0 := by omega
    rfl
  · rw [dif_neg h, dif_neg h]

theorem host_g4 (e : Fin 8) (j : Fin 128) : V m c main_v8 (ix3 e 4 ⟨j.val, by omega⟩) = (m ((c : Thread nD τ).loc main_arg5) : S8x1x128.Idx → EReal) (ix3 e 0 j) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  iterate 6 (try after_reads_at)
  try rfl

end

end Cert.SmallHost
-- ==== Proof.SmallClaim.lean ====
module

public import proofs.«01_k».proof.Defs
public import proofs.«01_k».proof.Proof.Moments
public import proofs.«01_k».proof.Proof.SmallHost
public import proofs.«01_k».proof.Proof.Gen.Small.Frame
public import proofs.«01_k».proof.Proof.Gen.SmallIdeal.Value
public import proofs.«01_k».proof.Proof.Gen.SmallRefIdeal.Run
public import proofs.«01_k».proof.Proof.Gen.SmallRefIdeal.Read
public import Idealize.ShloMosaic.Lib.Pipeline.ValueKit
public import Idealize.ShloMosaic.Lib.Pipeline.ReadBack
public import Idealize.ShloMosaic.Lib.Pointwise
public import Idealize.ShloMosaic.PureOps.Ideal.Laws
public import Idealize.ShloMosaic.Lib.Quiescent

@[expose] public section

set_option maxRecDepth 16384

noncomputable section

namespace Cert.SmallClaim

open Cert.Moments Cert.SmallHost Cert.SmallIdeal Cert.SmallIdeal.Gen Idealize.ShloMosaic Idealize.ShloMosaic.TcCoe Idealize.SL.Sem

theorem frame : Cert.quiescent_Small := fun m g _ => Cert.Small.Gen.frame m g
theorem frame_ideal : Cert.quiescent_SmallIdeal := fun m g _ => Cert.SmallIdeal.Gen.frame m g
theorem frame_ref : Cert.quiescent_SmallRefIdeal := fun m g _ =>
  (θ_run Cert.SmallRefIdeal.defs _ _).mono (fun _ h => ⟨fun c => (h c).2.2.2.2.2, sem_eq_zero_of_no_sems rfl _⟩)
    (Cert.SmallRefIdeal.Value.run (F := Ideal) m g)

theorem add16 (a0 a1 a2 a3 a4 a5 a6 a7 a8 a9 a10 a11 a12 a13 a14 a15 : Vec Ideal S1x1x12288 .f32) (j : Fin 12288) :
    k0_pay2 (k0_pay1 a0 a1 a2 a3 a4 a5 a6 a7 a8 a9) a10 a11 a12 a13 a14 a15 (ix2 0 j) = a0 (ix3 0 0 j) + a1 (ix3 0 0 j) + a2 (ix3 0 0 j) + a3 (ix3 0 0 j) + a4 (ix3 0 0 j) + a5 (ix3 0 0 j) + a6 (ix3 0 0 j) + a7 (ix3 0 0 j) + a8 (ix3 0 0 j) + a9 (ix3 0 0 j) + a10 (ix3 0 0 j) + a11 (ix3 0 0 j) + a12 (ix3 0 0 j) + a13 (ix3 0 0 j) + a14 (ix3 0 0 j) + a15 (ix3 0 0 j) := by
  pointwise [k0_pay2, k0_pay1]
theorem add16' (a0 a1 a2 a3 a4 a5 a6 a7 a8 a9 a10 a11 a12 a13 a14 a15 : Vec Ideal S1x1x12288 .f32) (j : Fin 12288) :
    k0_pay5 (k0_pay4 (k0_pay3 a0 a1 a2) a3 a4 a5 a6 a7 a8 a9 a10 a11 a12) a13 a14 a15 (ix2 0 j) = a0 (ix3 0 0 j) + a1 (ix3 0 0 j) + a2 (ix3 0 0 j) + a3 (ix3 0 0 j) + a4 (ix3 0 0 j) + a5 (ix3 0 0 j) + a6 (ix3 0 0 j) + a7 (ix3 0 0 j) + a8 (ix3 0 0 j) + a9 (ix3 0 0 j) + a10 (ix3 0 0 j) + a11 (ix3 0 0 j) + a12 (ix3 0 0 j) + a13 (ix3 0 0 j) + a14 (ix3 0 0 j) + a15 (ix3 0 0 j) := by
  pointwise [k0_pay5, k0_pay4, k0_pay3]
theorem add8 (a0 a1 a2 a3 a4 a5 a6 a7 : Vec Ideal S1x1x128 .f32) (j : Fin 128) :
    k0_pay7 (k0_pay6 a0 a1 a2 a3 a4 a5 a6) a7 (ix2 0 j) = a0 (ix3 0 0 j) + a1 (ix3 0 0 j) + a2 (ix3 0 0 j) + a3 (ix3 0 0 j) + a4 (ix3 0 0 j) + a5 (ix3 0 0 j) + a6 (ix3 0 0 j) + a7 (ix3 0 0 j) := by
  pointwise [k0_pay7, k0_pay6]

/-- Row `r` of device `e`'s block in the gathered operand, -/
def wide (x : S8x8x12288.Idx → EReal) (e r : ℕ) (h : ∀ a, (![e, r, 0] : Fin 3 → ℕ) a + S1x1x12288.size a ≤ S8x8x12288.size a) :
    Vec Ideal S1x1x12288 .f32 := View.ld (Val := Elt Ideal) (e' := .f32) x (Rect.unit ![e, r, 0] ![1, 1, 12288] h)
/-- and the front of its fifth. -/
def narrow (x : S8x8x12288.Idx → EReal) (e : ℕ) (h : ∀ a, (![e, 4, 0] : Fin 3 → ℕ) a + S1x1x128.size a ≤ S8x8x12288.size a) :
    Vec Ideal S1x1x128 .f32 := View.ld (Val := Elt Ideal) (e' := .f32) x (Rect.unit ![e, 4, 0] ![1, 1, 128] h)

theorem wide_at (x : S8x8x12288.Idx → EReal) (e r : ℕ) (he : e < 8) (hr : r < 8) (h) (j : Fin 12288) :
    wide x e r h (ix3 0 0 j) = x (ix3 ⟨e, he⟩ ⟨r, hr⟩ j) := by
  refine congrArg x ?_
  blk_ext [] <;> exact (Rect.idx_unit_val _ _ _ _ _).trans (by simp)
theorem narrow_at (x : S8x8x12288.Idx → EReal) (e : ℕ) (he : e < 8) (h) (j : Fin 128) :
    narrow x e h (ix3 0 0 j) = x (ix3 ⟨e, he⟩ 4 ⟨j.val, by omega⟩) := by
  refine congrArg x ?_
  blk_ext [] <;> exact (Rect.idx_unit_val _ _ _ _ _).trans (by simp)

/-- The two rows of the summed gradient and the summed loss, as the body adds them up. -/
def upper (x : S8x8x12288.Idx → EReal) : FVec Ideal S1x12288 .f32 := k0_pay2
    (k0_pay1 (wide x 0 0 inb_S8x8x12288_S1x1x12288_0_0_0) (wide x 0 1 inb_S8x8x12288_S1x1x12288_0_1_0) (wide x 1 0 inb_S8x8x12288_S1x1x12288_1_0_0) (wide x 1 1 inb_S8x8x12288_S1x1x12288_1_1_0) (wide x 2 0 inb_S8x8x12288_S1x1x12288_2_0_0) (wide x 2 1 inb_S8x8x12288_S1x1x12288_2_1_0) (wide x 3 0 inb_S8x8x12288_S1x1x12288_3_0_0) (wide x 3 1 inb_S8x8x12288_S1x1x12288_3_1_0) (wide x 4 0 inb_S8x8x12288_S1x1x12288_4_0_0) (wide x 4 1 inb_S8x8x12288_S1x1x12288_4_1_0))
    (wide x 5 0 inb_S8x8x12288_S1x1x12288_5_0_0) (wide x 5 1 inb_S8x8x12288_S1x1x12288_5_1_0) (wide x 6 0 inb_S8x8x12288_S1x1x12288_6_0_0) (wide x 6 1 inb_S8x8x12288_S1x1x12288_6_1_0) (wide x 7 0 inb_S8x8x12288_S1x1x12288_7_0_0) (wide x 7 1 inb_S8x8x12288_S1x1x12288_7_1_0)
@[inherit_doc upper]
def lower (x : S8x8x12288.Idx → EReal) : FVec Ideal S1x12288 .f32 := k0_pay5
    (k0_pay4 (k0_pay3 (wide x 0 2 inb_S8x8x12288_S1x1x12288_0_2_0) (wide x 0 3 inb_S8x8x12288_S1x1x12288_0_3_0) (wide x 1 2 inb_S8x8x12288_S1x1x12288_1_2_0))
      (wide x 1 3 inb_S8x8x12288_S1x1x12288_1_3_0) (wide x 2 2 inb_S8x8x12288_S1x1x12288_2_2_0) (wide x 2 3 inb_S8x8x12288_S1x1x12288_2_3_0) (wide x 3 2 inb_S8x8x12288_S1x1x12288_3_2_0) (wide x 3 3 inb_S8x8x12288_S1x1x12288_3_3_0) (wide x 4 2 inb_S8x8x12288_S1x1x12288_4_2_0) (wide x 4 3 inb_S8x8x12288_S1x1x12288_4_3_0) (wide x 5 2 inb_S8x8x12288_S1x1x12288_5_2_0) (wide x 5 3 inb_S8x8x12288_S1x1x12288_5_3_0) (wide x 6 2 inb_S8x8x12288_S1x1x12288_6_2_0))
    (wide x 6 3 inb_S8x8x12288_S1x1x12288_6_3_0) (wide x 7 2 inb_S8x8x12288_S1x1x12288_7_2_0) (wide x 7 3 inb_S8x8x12288_S1x1x12288_7_3_0)
@[inherit_doc upper]
def total (x : S8x8x12288.Idx → EReal) : FVec Ideal S1x128 .f32 := k0_pay7
    (k0_pay6 (narrow x 0 inb_S8x8x12288_S1x1x128_0_4_0) (narrow x 1 inb_S8x8x12288_S1x1x128_1_4_0) (narrow x 2 inb_S8x8x12288_S1x1x128_2_4_0) (narrow x 3 inb_S8x8x12288_S1x1x128_3_4_0) (narrow x 4 inb_S8x8x12288_S1x1x128_4_4_0) (narrow x 5 inb_S8x8x12288_S1x1x128_5_4_0) (narrow x 6 inb_S8x8x12288_S1x1x128_6_4_0))
    (narrow x 7 inb_S8x8x12288_S1x1x128_7_4_0)

theorem upper_at (x : S8x8x12288.Idx → EReal) (j : Fin 12288) : upper x (ix2 0 j)
    = ∑ e : Fin 8, ∑ i : Fin 2, x (ix3 e ⟨i.val, by omega⟩ j) := by
  refine (add16 _ _ _ _ _ _ _ _ _ _ _ _ _ _ _ _ j).trans ?_
  simp only [Fin.sum_univ_eight, Fin.sum_univ_two, ← add_assoc]
  iterate 15 refine congrArg₂ (· + ·) ?_ (wide_at x _ _ (by decide) (by decide) _ j)
  exact wide_at x _ _ (by decide) (by decide) _ j
theorem lower_at (x : S8x8x12288.Idx → EReal) (j : Fin 12288) : lower x (ix2 0 j)
    = ∑ e : Fin 8, ∑ i : Fin 2, x (ix3 e ⟨2 + i.val, by omega⟩ j) := by
  refine (add16' _ _ _ _ _ _ _ _ _ _ _ _ _ _ _ _ j).trans ?_
  simp only [Fin.sum_univ_eight, Fin.sum_univ_two, ← add_assoc]
  iterate 15 refine congrArg₂ (· + ·) ?_ (wide_at x _ _ (by decide) (by decide) _ j)
  exact wide_at x _ _ (by decide) (by decide) _ j
theorem total_at (x : S8x8x12288.Idx → EReal) (j : Fin 128) : total x (ix2 0 j)
    = ∑ e : Fin 8, x (ix3 e 4 ⟨j.val, by omega⟩) := by
  refine (add8 _ _ _ _ _ _ _ _ j).trans ?_
  simp only [Fin.sum_univ_eight]
  iterate 7 refine congrArg₂ (· + ·) ?_ (narrow_at x _ (by decide) _ j)
  exact narrow_at x _ (by decide) _ j

/-- The two rows as they lie in the gradient's buffer. -/
def rows (x : S8x8x12288.Idx → EReal) : Vec Ideal S2x12288 .f32 := View.canon (Val := Elt Ideal) (e := .f32)
  [⟨Rect.unit ![1, 0] ![1, 12288] inb_S2x12288_S1x12288_1_0, lower x⟩, ⟨Rect.unit ![0, 0] ![1, 12288] inb_S2x12288_S1x12288_0_0, upper x⟩]

theorem rows_1 (x : S8x8x12288.Idx → EReal) (j : Fin 12288) : rows x (ix2 1 j) = lower x (ix2 0 j) := by
  have e : (ix2 1 j : S2x12288.Idx) = (Rect.unit (s := S2x12288) ![1, 0] ![1, 12288] inb_S2x12288_S1x12288_1_0).emb (ix2 0 j) := by
    symm
    blk_ext [] <;> exact (Rect.idx_unit_val _ _ _ _ _).trans (by simp)
  rw [rows, e]
  exact View.canon_cons_emb _ _ _ _
theorem rows_0 (x : S8x8x12288.Idx → EReal) (j : Fin 12288) : rows x (ix2 0 j) = upper x (ix2 0 j) := by
  have e : (ix2 0 j : S2x12288.Idx) = (Rect.unit (s := S2x12288) ![0, 0] ![1, 12288] inb_S2x12288_S1x12288_0_0).emb (ix2 0 j) := by
    symm
    blk_ext [] <;> exact (Rect.idx_unit_val _ _ _ _ _).trans (by simp)
  rw [rows, View.canon_cons_of_not_mem]
  · rw [e]
    exact View.canon_cons_emb _ _ _ _
  · rw [Rect.mem_set_unit]
    intro h
    have := (h 0).1
    exact absurd this (show ¬ (1 : ℕ) ≤ 0 by omega)
/-- Read back whole, the buffer gives the two rows. -/
theorem rows_read (x : S8x8x12288.Idx → EReal) : (View.whole cc0_stg4_0).readCov (Val := Elt Ideal)
    [⟨Rect.unit ![1, 0] ![1, 12288] inb_S2x12288_S1x12288_1_0, lower x⟩, ⟨Rect.unit ![0, 0] ![1, 12288] inb_S2x12288_S1x12288_0_0, upper x⟩]
    (Rect.unit ![0, 0] ![2, 12288] inb_S2x12288_S2x12288_0_0).toLoadRect = rows x := by
  refine (View.readCov_eq_canon' _ _ _).trans ?_
  funext y
  refine congrArg (rows x) ?_
  blk_ext [] <;> exact (Rect.idx_unit_val _ _ _ _ _).trans (by simp)

theorem pay_m (g a : Vec Ideal S2x12288 .f32) (i : Fin 2) (j : Fin 12288) :
    k0_pay9 g a (ix2 i j) = first (g (ix2 i j)) (a (ix2 i j)) := by
  simp only [first]
  pointwise [k0_pay9, k0_pay8]
theorem pay_v (g b : Vec Ideal S2x12288 .f32) (i : Fin 2) (j : Fin 12288) :
    k0_pay10 g b (ix2 i j) = second (g (ix2 i j)) (b (ix2 i j)) := by
  simp only [second]
  pointwise [k0_pay10, k0_pay8]
theorem pay_d (w g a b : Vec Ideal S2x12288 .f32) (i : Fin 2) (j : Fin 12288) :
    k0_pay11 w g a b (ix2 i j) = change (w (ix2 i j)) (g (ix2 i j)) (a (ix2 i j)) (b (ix2 i j)) := by
  rw [change, ← pay_m, ← pay_v]
  pointwise [k0_pay11]

section
variable (m : (ℓ : Loc nD τ sig) → Buf (Elt Ideal) ℓ)

open Cert.SmallRefIdeal.Read in
/-- The summed gradient, the weights and the two moments, in the packed layout, and the summed loss. -/
def G (c : Dev nD) : S2x12288.Idx → EReal := val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4))
open Cert.SmallRefIdeal.Read in
@[inherit_doc G]
def W (c : Dev nD) : S2x12288.Idx → EReal := val_main_v21 (F := Ideal) (m ((c : Thread nD τ).loc main_arg6)) (m ((c : Thread nD τ).loc main_arg7)) (m ((c : Thread nD τ).loc main_arg8)) (m ((c : Thread nD τ).loc main_arg9)) (m ((c : Thread nD τ).loc main_arg10))
open Cert.SmallRefIdeal.Read in
@[inherit_doc G]
def A (c : Dev nD) : S2x12288.Idx → EReal := val_main_v29 (F := Ideal) (m ((c : Thread nD τ).loc main_arg11)) (m ((c : Thread nD τ).loc main_arg12)) (m ((c : Thread nD τ).loc main_arg13)) (m ((c : Thread nD τ).loc main_arg14)) (m ((c : Thread nD τ).loc main_arg15))
open Cert.SmallRefIdeal.Read in
@[inherit_doc G]
def B (c : Dev nD) : S2x12288.Idx → EReal := val_main_v37 (F := Ideal) (m ((c : Thread nD τ).loc main_arg16)) (m ((c : Thread nD τ).loc main_arg17)) (m ((c : Thread nD τ).loc main_arg18)) (m ((c : Thread nD τ).loc main_arg19)) (m ((c : Thread nD τ).loc main_arg20))
open Cert.SmallRefIdeal.Read in
@[inherit_doc G]
def T (c : Dev nD) : S1x128.Idx → EReal := val_main_v62 (F := Ideal) (m ((c : Thread nD τ).loc main_arg5))

theorem rows_G (c : Dev nD) : rows (V m c main_v8) = G m c := by
  funext p
  idx_vars p
  obtain rfl | rfl : p0 = 0 ∨ p0 = 1 := by omega
  · refine ((rows_0 _ _).trans (upper_at _ _)).trans (Eq.trans ?_ (ref_g0 _ _ _ _ _ p1).symm)
    refine Finset.sum_congr rfl fun e _ => ?_
    rw [Fin.sum_univ_two, Fin.sum_univ_two]
    exact congrArg₂ (· + ·) (host_g0 m c e p1) (host_g1 m c e p1)
  · refine ((rows_1 _ _).trans (lower_at _ _)).trans (Eq.trans ?_ (ref_g1 _ _ _ _ _ p1).symm)
    exact Finset.sum_congr rfl fun e _ => Finset.sum_congr rfl fun i _ => host_g2 m c e i p1
theorem total_T (c : Dev nD) : total (V m c main_v8) = T m c := by
  funext p
  idx_vars p
  obtain rfl : p0 = 0 := by omega
  refine (total_at _ _).trans (Eq.trans ?_ (ref_l _ p1).symm)
  exact Finset.sum_congr rfl fun e _ => host_g4 m c e p1

theorem idx : ∀ t : Fin cfg0.N, win0_0.index t = ![0, 0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] := by
  decide +kernel

theorem iblk0 (c : Dev nD) (t : Fin cfg0.N) : iblk m c 0 t = V m c main_v8 := by
  funext y
  idx_vars y
  generalize h : V m c main_v8 = v
  subst h
  blk_point [iblk, idx t]
theorem iblk1 (c : Dev nD) (t : Fin cfg0.N) : iblk m c 1 t = W m c := by
  refine Eq.trans ?_ (host_w m c)
  funext y
  idx_vars y
  blk_point [iblk, idx t]
theorem iblk2 (c : Dev nD) (t : Fin cfg0.N) : iblk m c 2 t = A m c := by
  refine Eq.trans ?_ (host_m m c)
  funext y
  idx_vars y
  blk_point [iblk, idx t]
theorem iblk3 (c : Dev nD) (t : Fin cfg0.N) : iblk m c 3 t = B m c := by
  refine Eq.trans ?_ (host_v m c)
  funext y
  idx_vars y
  blk_point [iblk, idx t]

theorem emb4 (t : Fin cfg0.N) (y : S2x12288.Idx) : ((View.whole main_v21_0).slice (win0_4.rect t)).emb y = y := by
  idx_vars y
  blk_ext [idx t]
theorem emb5 (t : Fin cfg0.N) (y : S2x12288.Idx) : ((View.whole main_v21_1).slice (win0_5.rect t)).emb y = y := by
  idx_vars y
  blk_ext [idx t]
theorem emb6 (t : Fin cfg0.N) (y : S2x12288.Idx) : ((View.whole main_v21_2).slice (win0_6.rect t)).emb y = y := by
  idx_vars y
  blk_ext [idx t]
theorem emb7 (t : Fin cfg0.N) (y : S2x12288.Idx) : ((View.whole main_v21_3).slice (win0_7.rect t)).emb y = y := by
  idx_vars y
  blk_ext [idx t]
theorem emb8 (t : Fin cfg0.N) (y : S1x128.Idx) : ((View.whole main_v21_4).slice (win0_8.rect t)).emb y = y := by
  idx_vars y
  blk_ext [idx t]

theorem fin_g (c : Dev nD) : (dats m 0 c).arrAt 4 cfg0.N = G m c := by
  refine (dats m 0 c).arrAt_eq_of_covers 4 _ (by decide +kernel) fun t hf y => ?_
  blk_simp
  rw [after0_4]
  unfold outsAt0
  dsimp only
  unfold out0_A_4
  frame_out
  simp only [read_unread_whole]
  rw [iblk0]
  exact (congrFun (rows_G m c) y).trans (congrArg (G m c) (emb4 t y).symm)

theorem fin_d (c : Dev nD) : (dats m 0 c).arrAt 5 cfg0.N = fun p : S2x12288.Idx => change (W m c p) (G m c p) (A m c p) (B m c p) := by
  refine (dats m 0 c).arrAt_eq_of_covers 5 _ (by decide +kernel) fun t hf y => ?_
  blk_simp
  rw [after0_5]
  frame_out
  simp only [read_unread_whole]
  rw [iblk0, iblk1, iblk2, iblk3, emb5 t y]
  idx_vars y
  have h := rows_G m c
  generalize V m c main_v8 = x at h ⊢
  generalize G m c = g at h ⊢
  generalize W m c = w
  generalize A m c = a
  generalize B m c = b
  subst h
  have key : ∀ r, r = rows x → k0_pay11 w r a b (ix2 y0 y1) = change (w (ix2 y0 y1)) (rows x (ix2 y0 y1)) (a (ix2 y0 y1)) (b (ix2 y0 y1)) := by
    rintro _ rfl
    exact pay_d w _ a b y0 y1
  refine key _ ?_
  exact rows_read x

theorem fin_m (c : Dev nD) : (dats m 0 c).arrAt 6 cfg0.N = fun p : S2x12288.Idx => first (G m c p) (A m c p) := by
  refine (dats m 0 c).arrAt_eq_of_covers 6 _ (by decide +kernel) fun t hf y => ?_
  blk_simp
  rw [after0_6]
  frame_out
  simp only [read_unread_whole]
  rw [iblk0, iblk2, emb6 t y]
  idx_vars y
  have h := rows_G m c
  generalize V m c main_v8 = x at h ⊢
  generalize G m c = g at h ⊢
  generalize A m c = a
  subst h
  exact (congrArg (fun r => k0_pay9 r a (ix2 y0 y1)) (rows_read x)).trans (pay_m _ a y0 y1)

theorem fin_v (c : Dev nD) : (dats m 0 c).arrAt 7 cfg0.N = fun p : S2x12288.Idx => second (G m c p) (B m c p) := by
  refine (dats m 0 c).arrAt_eq_of_covers 7 _ (by decide +kernel) fun t hf y => ?_
  blk_simp
  rw [after0_7]
  frame_out
  simp only [read_unread_whole]
  rw [iblk0, iblk3, emb7 t y]
  idx_vars y
  have h := rows_G m c
  generalize V m c main_v8 = x at h ⊢
  generalize G m c = g at h ⊢
  generalize B m c = b
  subst h
  exact (congrArg (fun r => k0_pay10 r b (ix2 y0 y1)) (rows_read x)).trans (pay_v _ b y0 y1)

theorem fin_l (c : Dev nD) : (dats m 0 c).arrAt 8 cfg0.N = T m c := by
  refine (dats m 0 c).arrAt_eq_of_covers 8 _ (by decide +kernel) fun t hf y => ?_
  blk_simp
  rw [after0_8]
  frame_out
  simp only [read_unread_whole]
  rw [iblk0, emb8 t y]
  exact congrFun (total_T m c) y

open Cert.SmallRefIdeal.Read in
theorem ref_m (c : Dev nD) (p : S2x12288.Idx) : val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) (m ((c : Thread nD τ).loc main_arg15)) p = first (G m c p) (A m c p) := by
  simp only [first, G, A]
  pointwise [val_main_v38, val_main_v39, val_main_v40, val_main_v41, val_main_v42, val_main_cst_7, val_main_cst_8]

open Cert.SmallRefIdeal.Read in
theorem ref_v (c : Dev nD) (p : S2x12288.Idx) : val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg16)) (m ((c : Thread nD τ).loc main_arg17)) (m ((c : Thread nD τ).loc main_arg18)) (m ((c : Thread nD τ).loc main_arg19)) (m ((c : Thread nD τ).loc main_arg20)) p = second (G m c p) (B m c p) := by
  simp only [second, G, B]
  pointwise [val_main_v43, val_main_v44, val_main_v45, val_main_v46, val_main_v47, val_main_v48, val_main_cst_9, val_main_cst_10]

open Cert.SmallRefIdeal.Read in
theorem ref_d (c : Dev nD) (p : S2x12288.Idx) : val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) p
    = change (W m c p) (G m c p) (A m c p) (B m c p) := by
  rw [change, ← ref_m, ← ref_v]
  simp only [W]
  pointwise [val_main_v49, val_main_v50, val_main_v51, val_main_v52, val_main_v53, val_main_v54, val_main_v55, val_main_v56, val_main_v57,
    val_main_v58, val_main_v59, val_main_v60, val_main_v61, val_main_cst_11, val_main_cst_12, val_main_cst_13, val_main_cst_14, val_main_cst_15]

end

set_option maxHeartbeats 2000000 in
theorem algebraic : Cert.algebraic_SmallIdeal_SmallRefIdeal := by
  intro m g m' g' _ hag
  refine ⟨fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, Cert.SmallIdeal.Value.run_blocks m g,
    (θ_run Cert.SmallRefIdeal.defs _ _).mono (fun r h c => ?_) (Cert.SmallRefIdeal.Value.run (F := Ideal) m' g')⟩
  obtain ⟨h0, h1, h2, h3, h4, hargs⟩ := h c
  obtain ⟨a0, a1, a2, a3, a4, a5, a6, a7, a8, a9, a10, a11, a12, a13, a14, a15, a16, a17, a18, a19, a20⟩ := hag c
  refine ⟨h0.trans ?_, h1.trans ?_, h2.trans ?_, h3.trans ?_, h4.trans ?_, hargs⟩
  · rw [Cert.SmallRefIdeal.Read.val_main_v13_eq, a0, a1, a2, a3, a4]
    exact (fin_g m c).symm
  · rw [Cert.SmallRefIdeal.Read.val_main_v61_eq, a0, a1, a2, a3, a4, a6, a7, a8, a9, a10, a11, a12, a13, a14, a15, a16, a17, a18, a19, a20]
    refine Eq.trans ?_ (fin_d m c).symm
    exact funext fun p => ref_d m c p
  · rw [Cert.SmallRefIdeal.Read.val_main_v42_eq, a0, a1, a2, a3, a4, a11, a12, a13, a14, a15]
    refine Eq.trans ?_ (fin_m m c).symm
    exact funext fun p => ref_m m c p
  · rw [Cert.SmallRefIdeal.Read.val_main_v48_eq, a0, a1, a2, a3, a4, a16, a17, a18, a19, a20]
    refine Eq.trans ?_ (fin_v m c).symm
    exact funext fun p => ref_v m c p
  · rw [Cert.SmallRefIdeal.Read.val_main_v62_eq, a5]
    exact (fin_l m c).symm

end Cert.SmallClaim
-- ==== Proof.lean ====
module

public import proofs.«01_k».proof.Defs
public import proofs.«01_k».proof.Proof.NormClaim
public import proofs.«01_k».proof.Proof.LossClaim
public import proofs.«01_k».proof.Proof.SbClaim
public import proofs.«01_k».proof.Proof.SbFwdClaim
public import proofs.«01_k».proof.Proof.NormFwdClaim
public import proofs.«01_k».proof.Proof.ModClaim
public import proofs.«01_k».proof.Proof.OutClaim
public import proofs.«01_k».proof.Proof.OutDyClaim
public import proofs.«01_k».proof.Proof.OutDwClaim
public import proofs.«01_k».proof.Proof.InDwClaim
public import proofs.«01_k».proof.Proof.InDxClaim
public import proofs.«01_k».proof.Proof.AdamClaim
public import proofs.«01_k».proof.Proof.WadaClaim
public import proofs.«01_k».proof.Proof.SmallClaim
public import Idealize.ShloMosaic.Adequacy
public import Idealize.ShloMosaic.Init

@[expose] public section

namespace Cert.Proof

/-- Every claim of the certificate, each from the module of its pair. -/
theorem claim : Cert.Claim :=
  ⟨Cert.Norm.Gen.facts, Cert.NormIdeal.Gen.facts, Cert.NormRefIdeal.Gen.facts, Cert.Loss.Gen.facts, Cert.LossIdeal.Gen.facts, Cert.LossRefIdeal.Gen.facts, Cert.Sb.Gen.facts, Cert.SbIdeal.Gen.facts, Cert.SbRefIdeal.Gen.facts, Cert.SbFwd.Gen.facts, Cert.SbFwdIdeal.Gen.facts, Cert.SbFwdRefIdeal.Gen.facts, Cert.NormFwd.Gen.facts, Cert.NormFwdIdeal.Gen.facts, Cert.NormFwdRefIdeal.Gen.facts, Cert.Mod.Gen.facts, Cert.ModIdeal.Gen.facts, Cert.ModRefIdeal.Gen.facts, Cert.Out.Gen.facts, Cert.OutIdeal.Gen.facts, Cert.OutRefIdeal.Gen.facts, Cert.OutDy.Gen.facts, Cert.OutDyIdeal.Gen.facts, Cert.OutDyRefIdeal.Gen.facts, Cert.OutDw.Gen.facts, Cert.OutDwIdeal.Gen.facts, Cert.OutDwRefIdeal.Gen.facts, Cert.InDw.Gen.facts, Cert.InDwIdeal.Gen.facts, Cert.InDwRefIdeal.Gen.facts, Cert.InDx.Gen.facts, Cert.InDxIdeal.Gen.facts, Cert.InDxRefIdeal.Gen.facts, Cert.Adam.Gen.facts, Cert.AdamIdeal.Gen.facts, Cert.AdamRefIdeal.Gen.facts, Cert.Wada.Gen.facts, Cert.WadaIdeal.Gen.facts, Cert.WadaRefIdeal.Gen.facts, Cert.Small.Gen.facts, Cert.SmallIdeal.Gen.facts, Cert.SmallRefIdeal.Gen.facts, Cert.Pre_norm_finite.Gen.facts, Cert.Pre_loss_finite.Gen.facts, Cert.Pre_sb_finite.Gen.facts, Cert.Pre_fwd_finite.Gen.facts, Cert.On_sb_written.Gen.facts, Cert.On_fwd_written.Gen.facts,
    Cert.NormClaim.frame,
    Cert.NormClaim.frame_ideal,
    Cert.NormClaim.frame_ideal_pre,
    Cert.NormClaim.frame_ref,
    Cert.NormClaim.frame_ref_pre,
    Cert.LossClaim.frame,
    Cert.LossClaim.frame_ideal,
    Cert.LossClaim.frame_ideal_pre,
    Cert.LossClaim.frame_ref,
    Cert.LossClaim.frame_ref_pre,
    Cert.SbClaim.frame,
    Cert.SbClaim.frame_ideal,
    Cert.SbClaim.frame_ideal_pre,
    Cert.SbClaim.frame_ref,
    Cert.SbClaim.frame_ref_pre,
    Cert.SbFwdClaim.frame,
    Cert.SbFwdClaim.frame_ideal,
    Cert.SbFwdClaim.frame_ideal_pre,
    Cert.SbFwdClaim.frame_ref,
    Cert.SbFwdClaim.frame_ref_pre,
    Cert.NormFwdClaim.frame,
    Cert.NormFwdClaim.frame_ideal,
    Cert.NormFwdClaim.frame_ref,
    Cert.ModClaim.frame,
    Cert.ModClaim.frame_ideal,
    Cert.ModClaim.frame_ref,
    Cert.OutClaim.frame,
    Cert.OutClaim.frame_ideal,
    Cert.OutClaim.frame_ref,
    Cert.OutDyClaim.frame,
    Cert.OutDyClaim.frame_ideal,
    Cert.OutDyClaim.frame_ref,
    Cert.OutDwClaim.frame,
    Cert.OutDwClaim.frame_ideal,
    Cert.OutDwClaim.frame_ref,
    Cert.InDwClaim.frame,
    Cert.InDwClaim.frame_ideal,
    Cert.InDwClaim.frame_ref,
    Cert.InDxClaim.frame,
    Cert.InDxClaim.frame_ideal,
    Cert.InDxClaim.frame_ref,
    Cert.AdamClaim.frame,
    Cert.AdamClaim.frame_ideal,
    Cert.AdamClaim.frame_ref,
    Cert.WadaClaim.frame,
    Cert.WadaClaim.frame_ideal,
    Cert.WadaClaim.frame_ref,
    Cert.SmallClaim.frame,
    Cert.SmallClaim.frame_ideal,
    Cert.SmallClaim.frame_ref,
    trivial,
    Cert.NormClaim.algebraic,
    trivial,
    Cert.LossClaim.algebraic,
    Cert.SbClaim.preserves,
    Cert.SbClaim.algebraic,
    Cert.SbFwdClaim.preserves,
    Cert.SbFwdClaim.algebraic,
    trivial,
    Cert.NormFwdClaim.algebraic,
    trivial,
    Cert.ModClaim.algebraic,
    trivial,
    Cert.OutClaim.algebraic,
    trivial,
    Cert.OutDyClaim.algebraic,
    trivial,
    Cert.OutDwClaim.algebraic,
    trivial,
    Cert.InDwClaim.algebraic,
    trivial,
    Cert.InDxClaim.algebraic,
    trivial,
    Cert.AdamClaim.algebraic,
    trivial,
    Cert.WadaClaim.algebraic,
    trivial,
    Cert.SmallClaim.algebraic⟩

end Cert.Proof
